-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)) (v6 : (c : Dev Cert.Kernel3Ideal.nD) → Buf (Elt Ideal) ((c.tc : Thread Cert.Kernel3Ideal.nD Cert.Kernel3Ideal.τ).loc Cert.Kernel3Ideal.main_v31_6)) (v7 : (c : Dev Cert.Kernel3Ideal.nD) → Buf (Elt Ideal) ((c.tc : Thread Cert.Kernel3Ideal.nD Cert.Kernel3Ideal.τ).loc Cert.Kernel3Ideal.main_v31_7)) (v8 : (c : Dev Cert.Kernel3Ideal.nD) → Buf (Elt Ideal) ((c.tc : Thread Cert.Kernel3Ideal.nD Cert.Kernel3Ideal.τ).loc Cert.Kernel3Ideal.main_v31_8)) (v9 : (c : Dev Cert.Kernel3Ideal.nD) → Buf (Elt Ideal) ((c.tc : Thread Cert.Kernel3Ideal.nD Cert.Kernel3Ideal.τ).loc Cert.Kernel3Ideal.main_v31_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_v31_6) = v6 c
          ∧ r.2.mem ((c.tc : Thread Cert.Kernel3Ideal.nD Cert.Kernel3Ideal.τ).loc Cert.Kernel3Ideal.main_v31_7) = v7 c
          ∧ r.2.mem ((c.tc : Thread Cert.Kernel3Ideal.nD Cert.Kernel3Ideal.τ).loc Cert.Kernel3Ideal.main_v31_8) = v8 c
          ∧ r.2.mem ((c.tc : Thread Cert.Kernel3Ideal.nD Cert.Kernel3Ideal.τ).loc Cert.Kernel3Ideal.main_v31_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v138) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_v150) = v2 c
          ∧ r.2.mem ((c.tc : Thread Cert.Reference3Ideal.nD Cert.Reference3Ideal.τ).loc Cert.Reference3Ideal.main_v143) = v3 c
          ∧ r.2.mem ((c.tc : Thread Cert.Reference3Ideal.nD Cert.Reference3Ideal.τ).loc Cert.Reference3Ideal.main_v146) = v4 c
          ∧ r.2.mem ((c.tc : Thread Cert.Reference3Ideal.nD Cert.Reference3Ideal.τ).loc Cert.Reference3Ideal.main_v149) = v5 c
          ∧ r.2.mem ((c.tc : Thread Cert.Reference3Ideal.nD Cert.Reference3Ideal.τ).loc Cert.Reference3Ideal.main_v151) = v6 c
          ∧ r.2.mem ((c.tc : Thread Cert.Reference3Ideal.nD Cert.Reference3Ideal.τ).loc Cert.Reference3Ideal.main_v22) = v7 c
          ∧ r.2.mem ((c.tc : Thread Cert.Reference3Ideal.nD Cert.Reference3Ideal.τ).loc Cert.Reference3Ideal.main_v133) = v8 c
          ∧ r.2.mem ((c.tc : Thread Cert.Reference3Ideal.nD Cert.Reference3Ideal.τ).loc Cert.Reference3Ideal.main_v152) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v57) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x512 : Shape := ⟨3, ![4, 4096, 512]⟩
abbrev S4x16x512x256 : Shape := ⟨4, ![4, 16, 512, 256]⟩
abbrev S4x4096x8 : Shape := ⟨3, ![4, 4096, 8]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  bcast_S_S4x16x512x256 : S_.BroadcastsInDim S4x16x512x256 (![] : Fin 0 → Fin S4x16x512x256.rank)
  bcast_S_S4x4096x8 : S_.BroadcastsInDim S4x4096x8 (![] : Fin 0 → Fin S4x4096x8.rank)

variable [Facts]

def fn {F : FTy → Type} [FloatOps F] (main_arg0 : FVec F S4x4096x512 .bf16) (main_arg1 : FVec F S4x16x512x256 .bf16) (main_arg2 : FVec F S4x4096x512 .bf16) (main_arg3 : FVec F S4x4096x8 .f32) : IVec S4x4096x512 1 × IVec S4x16x512x256 1 × IVec S4x4096x512 1 × IVec S4x4096x8 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x16x512x256 .f32 := (extf .f32 · bitsLt_bf16_f32) main_arg1
  let main_v5 : FVec F S4x16x512x256 .f32 := Host.absf main_v4
  let main_cst_0 : FVec F S_ .f32 := constant S_ .f32 0x7F800000#32
  let main_v6 : FVec F S4x16x512x256 .f32 := broadcastInDim S4x16x512x256 ![] bcast_S_S4x16x512x256 main_cst_0
  let main_v7 : IVec S4x16x512x256 1 := cmpf .olt main_v5 main_v6
  let main_v8 : FVec F S4x4096x512 .f32 := (extf .f32 · bitsLt_bf16_f32) main_arg2
  let main_v9 : FVec F S4x4096x512 .f32 := Host.absf main_v8
  let main_cst_1 : FVec F S_ .f32 := constant S_ .f32 0x7F800000#32
  let main_v10 : FVec F S4x4096x512 .f32 := broadcastInDim S4x4096x512 ![] bcast_S_S4x4096x512 main_cst_1
  let main_v11 : IVec S4x4096x512 1 := cmpf .olt main_v9 main_v10
  let main_v12 : FVec F S4x4096x8 .f32 := Host.absf main_arg3
  let main_cst_2 : FVec F S_ .f32 := constant S_ .f32 0x7F800000#32
  let main_v13 : FVec F S4x4096x8 .f32 := broadcastInDim S4x4096x8 ![] bcast_S_S4x4096x8 main_cst_2
  let main_v14 : IVec S4x4096x8 1 := cmpf .olt main_v12 main_v13
  (main_v3, main_v7, main_v11, main_v14)
-- ==== Kernel.lean ====
abbrev S4x4096x512 : Shape := ⟨3, ![4, 4096, 512]⟩
abbrev S4x16x512x256 : Shape := ⟨4, ![4, 16, 512, 256]⟩
abbrev S4x4096x8 : Shape := ⟨3, ![4, 4096, 8]⟩
abbrev S4x8x4096 : Shape := ⟨3, ![4, 8, 4096]⟩
abbrev S1x256x512 : Shape := ⟨3, ![1, 256, 512]⟩
abbrev S1x1x512x256 : Shape := ⟨4, ![1, 1, 512, 256]⟩
abbrev S1x256x8 : Shape := ⟨3, ![1, 256, 8]⟩
abbrev S1x8x256 : Shape := ⟨3, ![1, 8, 256]⟩
abbrev S4x128x256 : Shape := ⟨3, ![4, 128, 256]⟩
abbrev S4x1x1 : Shape := ⟨3, ![4, 1, 1]⟩
abbrev S128x128 : Shape := ⟨2, ![128, 128]⟩
abbrev S1x128x8 : Shape := ⟨3, ![1, 128, 8]⟩
abbrev S128x8 : Shape := ⟨2, ![128, 8]⟩
abbrev S1x8x128 : Shape := ⟨3, ![1, 8, 128]⟩
abbrev S8x128 : Shape := ⟨2, ![8, 128]⟩
abbrev S1x128 : Shape := ⟨2, ![1, 128]⟩
abbrev S128x1 : Shape := ⟨2, ![128, 1]⟩
abbrev S1x128x128 : Shape := ⟨3, ![1, 128, 128]⟩
abbrev S1x1x128x128 : Shape := ⟨4, ![1, 1, 128, 128]⟩
abbrev S128x256 : Shape := ⟨2, ![128, 256]⟩
abbrev S128 : Shape := ⟨1, ![128]⟩
abbrev S1x1 : Shape := ⟨2, ![1, 1]⟩
abbrev S1 : Shape := ⟨1, ![1]⟩
abbrev S1x1x1 : Shape := ⟨3, ![1, 1, 1]⟩
abbrev S1x128x256 : Shape := ⟨3, ![1, 128, 256]⟩

abbrev nBuf : Space → Nat
  | .hbm => 6
  | .vmem => 14
  | .smem => 0
  | _ => 0

abbrev bufTy : (tb : Table) → Fin (tcTables nBuf tb) → BufTy
  | .hbm, ⟨0, _⟩ => ⟨S4x4096x512, .bf16⟩
  | .hbm, ⟨1, _⟩ => ⟨S4x16x512x256, .bf16⟩
  | .hbm, ⟨2, _⟩ => ⟨S4x4096x512, .bf16⟩
  | .hbm, ⟨3, _⟩ => ⟨S4x4096x8, .f32⟩
  | .hbm, ⟨4, _⟩ => ⟨S4x8x4096, .f32⟩
  | .hbm, ⟨5, _⟩ => ⟨S4x4096x512, .f32⟩
  | .local _ .vmem, ⟨0, _⟩ => ⟨S1x256x512, .bf16⟩
  | .local _ .vmem, ⟨1, _⟩ => ⟨S1x256x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x8, .f32⟩
  | .local _ .vmem, ⟨7, _⟩ => ⟨S1x256x8, .f32⟩
  | .local _ .vmem, ⟨8, _⟩ => ⟨S1x8x256, .f32⟩
  | .local _ .vmem, ⟨9, _⟩ => ⟨S1x8x256, .f32⟩
  | .local _ .vmem, ⟨10, _⟩ => ⟨S1x256x512, .f32⟩
  | .local _ .vmem, ⟨11, _⟩ => ⟨S1x256x512, .f32⟩
  | .local _ .vmem, ⟨12, _⟩ => ⟨S4x128x256, .f32⟩
  | .local _ .vmem, ⟨13, _⟩ => ⟨S4x1x1, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S4x16x512x256 : Shape := ⟨4, ![4, 16, 512, 256]⟩
abbrev S4x4096x8 : Shape := ⟨3, ![4, 4096, 8]⟩
abbrev S4x16x256x512 : Shape := ⟨4, ![4, 16, 256, 512]⟩
abbrev S4x4096x4 : Shape := ⟨3, ![4, 4096, 4]⟩
abbrev S4x4x4096 : Shape := ⟨3, ![4, 4, 4096]⟩
abbrev S4x4096x4x128 : Shape := ⟨4, ![4, 4096, 4, 128]⟩
abbrev S4x4x4096x128 : Shape := ⟨4, ![4, 4, 4096, 128]⟩
abbrev S4x4x64x64 : Shape := ⟨4, ![4, 4, 64, 64]⟩
abbrev S_ : Shape := ⟨0, ![]⟩
abbrev S4x4x64x64x128 : Shape := ⟨5, ![4, 4, 64, 64, 128]⟩
abbrev S64x4x4x64x128 : Shape := ⟨5, ![64, 4, 4, 64, 128]⟩
abbrev S64x4x4x64 : Shape := ⟨4, ![64, 4, 4, 64]⟩
abbrev S64x64 : Shape := ⟨2, ![64, 64]⟩
abbrev S4x4x128x128 : Shape := ⟨4, ![4, 4, 128, 128]⟩
abbrev S4x4x128 : Shape := ⟨3, ![4, 4, 128]⟩
abbrev S4x4 : Shape := ⟨2, ![4, 4]⟩
abbrev S1x4x4x64x128 : Shape := ⟨5, ![1, 4, 4, 64, 128]⟩
abbrev S4x4x64x128 : Shape := ⟨4, ![4, 4, 64, 128]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x1 : Shape := ⟨3, ![4, 4, 1]⟩
abbrev S4x4x1x1 : Shape := ⟨4, ![4, 4, 1, 1]⟩

abbrev nBuf : Space → Nat
  | .hbm => 180
  | .vmem => 0
  | .smem => 0
  | _ => 0

abbrev hbmTy0_0 (i : Nat) : BufTy := match i % 128 with
  | 0 => ⟨S4x4096x512, .bf16⟩
  | 1 => ⟨S4x16x512x256, .bf16⟩
  | 2 => ⟨S4x4096x512, .bf16⟩
  | 3 => ⟨S4x4096x8, .f32⟩
  | 4 => ⟨S4x16x512x256, .f32⟩
  | 5 => ⟨S4x16x256x512, .f32⟩
  | 6 => ⟨S4x4096x512, .f32⟩
  | 7 => ⟨S4x4096x4, .f32⟩
  | 8 => ⟨S4x4x4096, .f32⟩
  | 9 => ⟨S4x4096x4, .f32⟩
  | 10 => ⟨S4x4x4096, .f32⟩
  | 11 => ⟨S4x4096x512, .f32⟩
  | 12 => ⟨S4x4096x4x128, .f32⟩
  | 13 => ⟨S4x4x4096x128, .f32⟩
  | 14 => ⟨S4x4096x4x128, .f32⟩
  | 15 => ⟨S4x4x4096x128, .f32⟩
  | 16 => ⟨S4x4096x512, .f32⟩
  | 17 => ⟨S4x4096x4x128, .f32⟩
  | 18 => ⟨S4x4x4096x128, .f32⟩
  | 19 => ⟨S4x4x64x64, .f32⟩
  | 20 => ⟨S_, .f32⟩
  | 21 => ⟨S_, .f32⟩
  | 22 => ⟨S4x4x64x64, .f32⟩
  | 23 => ⟨S4x4x64x64x128, .f32⟩
  | 24 => ⟨S64x4x4x64x128, .f32⟩
  | 25 => ⟨S4x4x64x64x128, .f32⟩
  | 26 => ⟨S64x4x4x64x128, .f32⟩
  | 27 => ⟨S4x4x64x64x128, .f32⟩
  | 28 => ⟨S64x4x4x64x128, .f32⟩
  | 29 => ⟨S4x4x64x64, .f32⟩
  | 30 => ⟨S64x4x4x64, .f32⟩
  | 31 => ⟨S64x4x4x64, .f32⟩
  | 32 => ⟨S_, .i1⟩
  | 33 => ⟨S64x64, .i1⟩
  | 34 => ⟨S64x64, .i32⟩
  | 35 => ⟨S_, .i32⟩
  | 36 => ⟨S64x64, .i32⟩
  | 37 => ⟨S64x64, .i32⟩
  | 38 => ⟨S64x64, .i32⟩
  | 39 => ⟨S64x64, .i1⟩
  | 40 => ⟨S_, .i1⟩
  | 41 => ⟨S64x64, .i1⟩
  | 42 => ⟨S64x64, .i1⟩
  | 43 => ⟨S_, .f32⟩
  | 44 => ⟨S4x4x128x128, .f32⟩
  | 45 => ⟨S_, .f32⟩
  | 46 => ⟨S4x4x128, .f32⟩
  | 47 => ⟨S_, .f32⟩
  | 48 => ⟨S4x4, .f32⟩
  | 49 => ⟨S_, .f32⟩
  | 50 => ⟨S64x4x4x64x128, .f32⟩
  | 51 => ⟨S_, .i32⟩
  | 52 => ⟨S64x4x4x64x128, .f32⟩
  | 53 => ⟨S64x4x4x64x128, .f32⟩
  | 54 => ⟨S64x4x4x64x128, .f32⟩
  | 55 => ⟨S64x4x4x64, .f32⟩
  | 56 => ⟨S64x4x4x64, .f32⟩
  | 57 => ⟨S64x64, .i1⟩
  | 58 => ⟨S_, .i32⟩
  | 59 => ⟨S4x4x128x128, .f32⟩
  | 60 => ⟨S4x4x128, .f32⟩
  | 61 => ⟨S4x4, .f32⟩
  | 62 => ⟨S64x4x4x64x128, .f32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1x4x4x64x128, .f32⟩
  | 70 => ⟨S4x4x64x128, .f32⟩
  | 71 => ⟨S_, .i32⟩
  | 72 => ⟨S_, .i32⟩
  | 73 => ⟨S_, .i32⟩
  | 74 => ⟨S_, .i32⟩
  | 75 => ⟨S1x4x4x64x128, .f32⟩
  | 76 => ⟨S4x4x64x128, .f32⟩
  | 77 => ⟨S_, .i32⟩
  | 78 => ⟨S_, .i32⟩
  | 79 => ⟨S_, .i32⟩
  | 80 => ⟨S_, .i32⟩
  | 81 => ⟨S1x4x4x64x128, .f32⟩
  | 82 => ⟨S4x4x64x128, .f32⟩
  | 83 => ⟨S_, .i32⟩
  | 84 => ⟨S_, .i32⟩
  | 85 => ⟨S_, .i32⟩
  | 86 => ⟨S1x4x4x64, .f32⟩
  | 87 => ⟨S4x4x64, .f32⟩
  | 88 => ⟨S_, .i32⟩
  | 89 => ⟨S_, .i32⟩
  | 90 => ⟨S_, .i32⟩
  | 91 => ⟨S1x4x4x64, .f32⟩
  | 92 => ⟨S4x4x64, .f32⟩
  | 93 => ⟨S4x4x64x1, .f32⟩
  | 94 => ⟨S4x4x1x64, .f32⟩
  | 95 => ⟨S4x4x64x64, .f32⟩
  | 96 => ⟨S4x4x64x64, .f32⟩
  | 97 => ⟨S4x4x64x64, .f32⟩
  | 98 => ⟨S4x4x1x64, .f32⟩
  | 99 => ⟨S4x4x64x64, .f32⟩
  | 100 => ⟨S4x4x64x64, .f32⟩
  | 101 => ⟨S_, .f32⟩
  | 102 => ⟨S_, .f32⟩
  | 103 => ⟨S4x4x64x64, .i1⟩
  | 104 => ⟨S4x4x64x64, .f32⟩
  | 105 => ⟨S4x4x64x64, .f32⟩
  | 106 => ⟨S4x4x1, .f32⟩
  | 107 => ⟨S4x4x64, .f32⟩
  | 108 => ⟨S4x4x64, .f32⟩
  | 109 => ⟨S_, .f32⟩
  | 110 => ⟨S4x4x64, .f32⟩
  | 111 => ⟨S4x4x64, .f32⟩
  | 112 => ⟨S4x4x64x1, .f32⟩
  | 113 => ⟨S4x4x64x64, .f32⟩
  | 114 => ⟨S4x4x64x64, .f32⟩
  | 115 => ⟨S4x4x64x64, .f32⟩
  | 116 => ⟨S4x4x64, .f32⟩
  | 117 => ⟨S4x4x64, .f32⟩
  | 118 => ⟨S4x4x64x64, .f32⟩
  | 119 => ⟨S4x4x64x64, .f32⟩
  | 120 => ⟨S4x4x64x1, .f32⟩
  | 121 => ⟨S4x4x64x128, .f32⟩
  | 122 => ⟨S4x4x64x128, .f32⟩
  | 123 => ⟨S4x4x64x128, .f32⟩
  | 124 => ⟨S4x4x64x128, .f32⟩
  | 125 => ⟨S4x4x64x128, .f32⟩
  | 126 => ⟨S4x4x64, .f32⟩
  | 127 => ⟨S4x4x64, .f32⟩
  | _ => ⟨S4x4096x512, .bf16⟩

abbrev hbmTy0_1 (i : Nat) : BufTy := match i % 128 with
  | 0 => ⟨S_, .f32⟩
  | 1 => ⟨S4x4x64, .f32⟩
  | 2 => ⟨S4x4x64, .f32⟩
  | 3 => ⟨S4x4x64, .f32⟩
  | 4 => ⟨S4x4x64, .f32⟩
  | 5 => ⟨S4x4x64, .f32⟩
  | 6 => ⟨S4x4x64, .f32⟩
  | 7 => ⟨S4x4x64x1, .f32⟩
  | 8 => ⟨S4x4x64x128, .f32⟩
  | 9 => ⟨S4x4x64x128, .f32⟩
  | 10 => ⟨S4x4x1, .f32⟩
  | 11 => ⟨S4x4, .f32⟩
  | 12 => ⟨S4x4x1, .f32⟩
  | 13 => ⟨S4x4x64, .f32⟩
  | 14 => ⟨S4x4x64, .f32⟩
  | 15 => ⟨S4x4x64, .f32⟩
  | 16 => ⟨S4x4, .f32⟩
  | 17 => ⟨S_, .f32⟩
  | 18 => ⟨S4x4, .f32⟩
  | 19 => ⟨S4x4, .f32⟩
  | 20 => ⟨S4x4x1, .f32⟩
  | 21 => ⟨S4x4x64, .f32⟩
  | 22 => ⟨S4x4x64, .f32⟩
  | 23 => ⟨S4x4x64, .f32⟩
  | 24 => ⟨S4x4, .f32⟩
  | 25 => ⟨S4x4, .f32⟩
  | 26 => ⟨S4x4, .f32⟩
  | 27 => ⟨S4x4x1x1, .f32⟩
  | 28 => ⟨S4x4x128x128, .f32⟩
  | 29 => ⟨S4x4x128x128, .f32⟩
  | 30 => ⟨S4x4x64x1, .f32⟩
  | 31 => ⟨S4x4x64x128, .f32⟩
  | 32 => ⟨S4x4x64x128, .f32⟩
  | 33 => ⟨S4x4x128x128, .f32⟩
  | 34 => ⟨S4x4x128x128, .f32⟩
  | 35 => ⟨S4x4x1, .f32⟩
  | 36 => ⟨S4x4x128, .f32⟩
  | 37 => ⟨S4x4x128, .f32⟩
  | 38 => ⟨S4x4x128, .f32⟩
  | 39 => ⟨S4x4x128, .f32⟩
  | 40 => ⟨S1x4x4x64x128, .f32⟩
  | 41 => ⟨S_, .i32⟩
  | 42 => ⟨S_, .i32⟩
  | 43 => ⟨S_, .i32⟩
  | 44 => ⟨S_, .i32⟩
  | 45 => ⟨S64x4x4x64x128, .f32⟩
  | 46 => ⟨S_, .i32⟩
  | 47 => ⟨S_, .i32⟩
  | 48 => ⟨S4x4x64x64x128, .f32⟩
  | 49 => ⟨S4x4x4096x128, .f32⟩
  | 50 => ⟨S4x4096x4x128, .f32⟩
  | 51 => ⟨S4x4096x512, .f32⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_call0_cst : Ref sig .tc := ⟨.hbm, 20, rfl⟩
abbrev main_call0_call0_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_0 : Ref sig .tc := ⟨.hbm, 40, rfl⟩
abbrev main_call1_v5 : Ref sig .tc := ⟨.hbm, 41, rfl⟩
abbrev main_v27 : Ref sig .tc := ⟨.hbm, 42, rfl⟩
abbrev main_cst : Ref sig .tc := ⟨.hbm, 43, rfl⟩
abbrev main_v28 : Ref sig .tc := ⟨.hbm, 44, rfl⟩
abbrev main_cst_0 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_c_3 : Ref sig .tc := ⟨.hbm, 51, rfl⟩
abbrev main_v32_0 : Ref sig .tc := ⟨.hbm, 52, rfl⟩
abbrev main_v32_1 : Ref sig .tc := ⟨.hbm, 53, rfl⟩
abbrev main_v32_2 : Ref sig .tc := ⟨.hbm, 54, rfl⟩
abbrev main_v32_3 : Ref sig .tc := ⟨.hbm, 55, rfl⟩
abbrev main_v32_4 : Ref sig .tc := ⟨.hbm, 56, rfl⟩
abbrev main_v32_5 : Ref sig .tc := ⟨.hbm, 57, rfl⟩
abbrev main_v32_6 : Ref sig .tc := ⟨.hbm, 58, rfl⟩
abbrev main_v32_7 : Ref sig .tc := ⟨.hbm, 59, rfl⟩
abbrev main_v32_8 : Ref sig .tc := ⟨.hbm, 60, rfl⟩
abbrev main_v32_9 : Ref sig .tc := ⟨.hbm, 61, rfl⟩
abbrev main_v32_10 : Ref sig .tc := ⟨.hbm, 62, rfl⟩
abbrev main_while0c_c_14 : Ref sig .tc := ⟨.hbm, 63, rfl⟩
abbrev main_while0c_v37 : Ref sig .tc := ⟨.hbm, 64, rfl⟩
abbrev main_while0b_call2_c : Ref sig .tc := ⟨.hbm, 65, rfl⟩
abbrev main_while0b_call2_c_0 : Ref sig .tc := ⟨.hbm, 66, rfl⟩
abbrev main_while0b_call2_c_1 : Ref sig .tc := ⟨.hbm, 67, rfl⟩
abbrev main_while0b_call2_c_2 : Ref sig .tc := ⟨.hbm, 68, rfl⟩
abbrev main_while0b_call2_v0 : Ref sig .tc := ⟨.hbm, 69, rfl⟩
abbrev main_while0b_v37 : Ref sig .tc := ⟨.hbm, 70, rfl⟩
abbrev main_while0b_call3_c : Ref sig .tc := ⟨.hbm, 71, rfl⟩
abbrev main_while0b_call3_c_0 : Ref sig .tc := ⟨.hbm, 72, rfl⟩
abbrev main_while0b_call3_c_1 : Ref sig .tc := ⟨.hbm, 73, rfl⟩
abbrev main_while0b_call3_c_2 : Ref sig .tc := ⟨.hbm, 74, rfl⟩
abbrev main_while0b_call3_v0 : Ref sig .tc := ⟨.hbm, 75, rfl⟩
abbrev main_while0b_v38 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_c_2 : Ref sig .tc := ⟨.hbm, 80, rfl⟩
abbrev main_while0b_call4_v0 : Ref sig .tc := ⟨.hbm, 81, rfl⟩
abbrev main_while0b_v39 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_c_1 : Ref sig .tc := ⟨.hbm, 85, rfl⟩
abbrev main_while0b_call5_v0 : Ref sig .tc := ⟨.hbm, 86, rfl⟩
abbrev main_while0b_v40 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_call6_v0 : Ref sig .tc := ⟨.hbm, 91, rfl⟩
abbrev main_while0b_v41 : Ref sig .tc := ⟨.hbm, 92, rfl⟩
abbrev main_while0b_v42 : Ref sig .tc := ⟨.hbm, 93, rfl⟩
abbrev main_while0b_v43 : Ref sig .tc := ⟨.hbm, 94, rfl⟩
abbrev main_while0b_v44 : Ref sig .tc := ⟨.hbm, 95, rfl⟩
abbrev main_while0b_v45 : Ref sig .tc := ⟨.hbm, 96, rfl⟩
abbrev main_while0b_v46 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_cst_14 : Ref sig .tc := ⟨.hbm, 101, rfl⟩
abbrev main_while0b_call7_v0 : Ref sig .tc := ⟨.hbm, 102, rfl⟩
abbrev main_while0b_call7_v1 : Ref sig .tc := ⟨.hbm, 103, rfl⟩
abbrev main_while0b_call7_v2 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_cst_15 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_v61 : Ref sig .tc := ⟨.hbm, 117, rfl⟩
abbrev main_while0b_v62 : Ref sig .tc := ⟨.hbm, 118, rfl⟩
abbrev main_while0b_v63 : Ref sig .tc := ⟨.hbm, 119, rfl⟩
abbrev main_while0b_v64 : Ref sig .tc := ⟨.hbm, 120, rfl⟩
abbrev main_while0b_v65 : Ref sig .tc := ⟨.hbm, 121, rfl⟩
abbrev main_while0b_v66 : Ref sig .tc := ⟨.hbm, 122, rfl⟩
abbrev main_while0b_v67 : Ref sig .tc := ⟨.hbm, 123, rfl⟩
abbrev main_while0b_v68 : Ref sig .tc := ⟨.hbm, 124, rfl⟩
abbrev main_while0b_v69 : Ref sig .tc := ⟨.hbm, 125, rfl⟩
abbrev main_while0b_v70 : Ref sig .tc := ⟨.hbm, 126, rfl⟩
abbrev main_while0b_v71 : Ref sig .tc := ⟨.hbm, 127, rfl⟩
abbrev main_while0b_cst_16 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_v82 : Ref sig .tc := ⟨.hbm, 139, rfl⟩
abbrev main_while0b_v83 : Ref sig .tc := ⟨.hbm, 140, rfl⟩
abbrev main_while0b_v84 : Ref sig .tc := ⟨.hbm, 141, rfl⟩
abbrev main_while0b_v85 : Ref sig .tc := ⟨.hbm, 142, rfl⟩
abbrev main_while0b_v86 : Ref sig .tc := ⟨.hbm, 143, rfl⟩
abbrev main_while0b_v87 : Ref sig .tc := ⟨.hbm, 144, rfl⟩
abbrev main_while0b_cst_17 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_v93 : Ref sig .tc := ⟨.hbm, 151, rfl⟩
abbrev main_while0b_v94 : Ref sig .tc := ⟨.hbm, 152, rfl⟩
abbrev main_while0b_v95 : Ref sig .tc := ⟨.hbm, 153, rfl⟩
abbrev main_while0b_v96 : Ref sig .tc := ⟨.hbm, 154, rfl⟩
abbrev main_while0b_v97 : Ref sig .tc := ⟨.hbm, 155, rfl⟩
abbrev main_while0b_v98 : Ref sig .tc := ⟨.hbm, 156, rfl⟩
abbrev main_while0b_v99 : Ref sig .tc := ⟨.hbm, 157, rfl⟩
abbrev main_while0b_v100 : Ref sig .tc := ⟨.hbm, 158, rfl⟩
abbrev main_while0b_v101 : Ref sig .tc := ⟨.hbm, 159, rfl⟩
abbrev main_while0b_v102 : Ref sig .tc := ⟨.hbm, 160, rfl⟩
abbrev main_while0b_v103 : Ref sig .tc := ⟨.hbm, 161, rfl⟩
abbrev main_while0b_v104 : Ref sig .tc := ⟨.hbm, 162, rfl⟩
abbrev main_while0b_v105 : Ref sig .tc := ⟨.hbm, 163, rfl⟩
abbrev main_while0b_v106 : Ref sig .tc := ⟨.hbm, 164, rfl⟩
abbrev main_while0b_v107 : Ref sig .tc := ⟨.hbm, 165, rfl⟩
abbrev main_while0b_v108 : Ref sig .tc := ⟨.hbm, 166, rfl⟩
abbrev main_while0b_v109 : Ref sig .tc := ⟨.hbm, 167, rfl⟩
abbrev main_while0b_call8_v0 : Ref sig .tc := ⟨.hbm, 168, rfl⟩
abbrev main_while0b_call8_c : Ref sig .tc := ⟨.hbm, 169, rfl⟩
abbrev main_while0b_call8_c_0 : Ref sig .tc := ⟨.hbm, 170, rfl⟩
abbrev main_while0b_call8_c_1 : Ref sig .tc := ⟨.hbm, 171, rfl⟩
abbrev main_while0b_call8_c_2 : Ref sig .tc := ⟨.hbm, 172, rfl⟩
abbrev main_while0b_v110 : Ref sig .tc := ⟨.hbm, 173, rfl⟩
abbrev main_while0b_c_18 : Ref sig .tc := ⟨.hbm, 174, rfl⟩
abbrev main_while0b_v111 : Ref sig .tc := ⟨.hbm, 175, rfl⟩
abbrev main_v33 : Ref sig .tc := ⟨.hbm, 176, rfl⟩
abbrev main_v34 : Ref sig .tc := ⟨.hbm, 177, rfl⟩
abbrev main_v35 : Ref sig .tc := ⟨.hbm, 178, rfl⟩
abbrev main_v36 : Ref sig .tc := ⟨.hbm, 179, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x1024 : Shape := ⟨3, ![4, 4096, 1024]⟩
abbrev S4x4096x512 : Shape := ⟨3, ![4, 4096, 512]⟩
abbrev S1x512 : Shape := ⟨2, ![1, 512]⟩
abbrev S1x1024 : Shape := ⟨2, ![1, 1024]⟩
abbrev S1x1024x5640 : Shape := ⟨3, ![1, 1024, 5640]⟩
abbrev S1x512x1024 : Shape := ⟨3, ![1, 512, 1024]⟩
abbrev S1x1024x1024 : Shape := ⟨3, ![1, 1024, 1024]⟩
abbrev S1024x5640 : Shape := ⟨2, ![1024, 5640]⟩
abbrev S1024x2048 : Shape := ⟨2, ![1024, 2048]⟩
abbrev S16384x1024 : Shape := ⟨2, ![16384, 1024]⟩
abbrev S16384x512 : Shape := ⟨2, ![16384, 512]⟩
abbrev S512 : Shape := ⟨1, ![512]⟩
abbrev S1024 : Shape := ⟨1, ![1024]⟩
abbrev S512x1024 : Shape := ⟨2, ![512, 1024]⟩
abbrev S1024x1024 : Shape := ⟨2, ![1024, 1024]⟩
abbrev S1024x512 : Shape := ⟨2, ![1024, 512]⟩
abbrev S1024x1 : Shape := ⟨2, ![1024, 1]⟩
abbrev S1024x128 : Shape := ⟨2, ![1024, 128]⟩
abbrev S1x128 : Shape := ⟨2, ![1, 128]⟩

abbrev nBuf : Space → Nat
  | .hbm => 28
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .f32⟩
  | .hbm, ⟨3, _⟩ => ⟨S4x4096x512, .f32⟩
  | .hbm, ⟨4, _⟩ => ⟨S1x512, .f32⟩
  | .hbm, ⟨5, _⟩ => ⟨S1x1024, .f32⟩
  | .hbm, ⟨6, _⟩ => ⟨S1x1024x5640, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024x5640, .f32⟩
  | .hbm, ⟨11, _⟩ => ⟨S1024x2048, .f32⟩
  | .hbm, ⟨12, _⟩ => ⟨S1024x2048, .bf16⟩
  | .hbm, ⟨13, _⟩ => ⟨S16384x1024, .f32⟩
  | .hbm, ⟨14, _⟩ => ⟨S16384x512, .bf16⟩
  | .hbm, ⟨15, _⟩ => ⟨S16384x512, .f32⟩
  | .hbm, ⟨16, _⟩ => ⟨S16384x512, .f32⟩
  | .hbm, ⟨17, _⟩ => ⟨S512, .f32⟩
  | .hbm, ⟨18, _⟩ => ⟨S1x512, .f32⟩
  | .hbm, ⟨19, _⟩ => ⟨S1024, .f32⟩
  | .hbm, ⟨20, _⟩ => ⟨S1x1024, .f32⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x512, .f32⟩
  | .local _ .vmem, ⟨9, _⟩ => ⟨S1x1024, .f32⟩
  | .local _ .vmem, ⟨10, _⟩ => ⟨S1024x2048, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4x4096x1024 : Shape := ⟨3, ![4, 4096, 1024]⟩
abbrev S4x4096x512 : Shape := ⟨3, ![4, 4096, 512]⟩
abbrev S1x512 : Shape := ⟨2, ![1, 512]⟩
abbrev S1x1024 : Shape := ⟨2, ![1, 1024]⟩
abbrev S1x1024x5640 : Shape := ⟨3, ![1, 1024, 5640]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5640 : Shape := ⟨2, ![1024, 5640]⟩
abbrev S4x4096x5640 : Shape := ⟨3, ![4, 4096, 5640]⟩
abbrev S512x1024 : Shape := ⟨2, ![512, 1024]⟩
abbrev S4x4096x4x128 : Shape := ⟨4, ![4, 4096, 4, 128]⟩
abbrev S4x4x4096x128 : Shape := ⟨4, ![4, 4, 4096, 128]⟩
abbrev S512 : Shape := ⟨1, ![512]⟩
abbrev S4x1x128 : Shape := ⟨3, ![4, 1, 128]⟩
abbrev S4x4x4096 : Shape := ⟨3, ![4, 4, 4096]⟩
abbrev S4x4x4096x1 : Shape := ⟨4, ![4, 4, 4096, 1]⟩
abbrev S1x4x1x128 : Shape := ⟨4, ![1, 4, 1, 128]⟩
abbrev S1024x1024 : Shape := ⟨2, ![1024, 1024]⟩
abbrev S16384x1024 : Shape := ⟨2, ![16384, 1024]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .f32⟩
  | .hbm, ⟨3, _⟩ => ⟨S4x4096x512, .f32⟩
  | .hbm, ⟨4, _⟩ => ⟨S1x512, .f32⟩
  | .hbm, ⟨5, _⟩ => ⟨S1x1024, .f32⟩
  | .hbm, ⟨6, _⟩ => ⟨S1x1024x5640, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1024x5640, .f32⟩
  | .hbm, ⟨28, _⟩ => ⟨S4x4096x5640, .f32⟩
  | .hbm, ⟨29, _⟩ => ⟨S4x4096x1024, .f32⟩
  | .hbm, ⟨30, _⟩ => ⟨S4x4096x1024, .f32⟩
  | .hbm, ⟨31, _⟩ => ⟨S4x4096x512, .f32⟩
  | .hbm, ⟨32, _⟩ => ⟨S512x1024, .f32⟩
  | .hbm, ⟨33, _⟩ => ⟨S4x4096x1024, .f32⟩
  | .hbm, ⟨34, _⟩ => ⟨S4x4096x4x128, .f32⟩
  | .hbm, ⟨35, _⟩ => ⟨S4x4x4096x128, .f32⟩
  | .hbm, ⟨36, _⟩ => ⟨S512, .f32⟩
  | .hbm, ⟨37, _⟩ => ⟨S4x1x128, .f32⟩
  | .hbm, ⟨38, _⟩ => ⟨S4x4x4096x128, .f32⟩
  | .hbm, ⟨39, _⟩ => ⟨S_, .f32⟩
  | .hbm, ⟨40, _⟩ => ⟨S4x4x4096, .f32⟩
  | .hbm, ⟨41, _⟩ => ⟨S4x4x4096x1, .f32⟩
  | .hbm, ⟨42, _⟩ => ⟨S_, .f32⟩
  | .hbm, ⟨43, _⟩ => ⟨S4x4x4096x1, .f32⟩
  | .hbm, ⟨44, _⟩ => ⟨S4x4x4096x1, .f32⟩
  | .hbm, ⟨45, _⟩ => ⟨S_, .f32⟩
  | .hbm, ⟨46, _⟩ => ⟨S4x4x4096x1, .f32⟩
  | .hbm, ⟨47, _⟩ => ⟨S4x4x4096x1, .f32⟩
  | .hbm, ⟨48, _⟩ => ⟨S4x4x4096x1, .f32⟩
  | .hbm, ⟨49, _⟩ => ⟨S4x4x4096x128, .f32⟩
  | .hbm, ⟨50, _⟩ => ⟨S4x4x4096x128, .f32⟩
  | .hbm, ⟨51, _⟩ => ⟨S1x4x1x128, .f32⟩
  | .hbm, ⟨52, _⟩ => ⟨S4x4x4096x128, .f32⟩
  | .hbm, ⟨53, _⟩ => ⟨S4x4x4096x128, .f32⟩
  | .hbm, ⟨54, _⟩ => ⟨S4x4096x4x128, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S_, .f32⟩
  | .hbm, ⟨59, _⟩ => ⟨S4x4096x512, .f32⟩
  | .hbm, ⟨60, _⟩ => ⟨S4x4096x512, .f32⟩
  | .hbm, ⟨61, _⟩ => ⟨S_, .f32⟩
  | .hbm, ⟨62, _⟩ => ⟨S4x4096x512, .f32⟩
  | .hbm, ⟨63, _⟩ => ⟨S4x4096x512, .f32⟩
  | .hbm, ⟨64, _⟩ => ⟨S4x4096x512, .f32⟩
  | .hbm, ⟨65, _⟩ => ⟨S512x1024, .f32⟩
  | .hbm, ⟨66, _⟩ => ⟨S4x4096x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x4096x1024, .f32⟩
  | .hbm, ⟨71, _⟩ => ⟨S4x4096x1024, .f32⟩
  | .hbm, ⟨72, _⟩ => ⟨S_, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S4x4096x1024, .f32⟩
  | .hbm, ⟨86, _⟩ => ⟨S1024x1024, .f32⟩
  | .hbm, ⟨87, _⟩ => ⟨S4x4096x1024, .f32⟩
  | .hbm, ⟨88, _⟩ => ⟨S4x4096x1024, .f32⟩
  | .hbm, ⟨89, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_9 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096 : Shape := ⟨2, ![4, 4096]⟩
abbrev S1x1024 : Shape := ⟨2, ![1, 1024]⟩
abbrev S1x1024x5640 : Shape := ⟨3, ![1, 1024, 5640]⟩
abbrev S1x4x1024 : Shape := ⟨3, ![1, 4, 1024]⟩
abbrev S1x4 : Shape := ⟨2, ![1, 4]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x128 : Shape := ⟨3, ![4, 4096, 128]⟩
abbrev S1024x5640 : Shape := ⟨2, ![1024, 5640]⟩
abbrev S1024x3584 : Shape := ⟨2, ![1024, 3584]⟩
abbrev S1024x8 : Shape := ⟨2, ![1024, 8]⟩
abbrev S1024x120 : Shape := ⟨2, ![1024, 120]⟩
abbrev S1024x3712 : Shape := ⟨2, ![1024, 3712]⟩
abbrev S4 : Shape := ⟨1, ![4]⟩
abbrev S120 : Shape := ⟨1, ![120]⟩
abbrev S128 : Shape := ⟨1, ![128]⟩
abbrev S1x128 : Shape := ⟨2, ![1, 128]⟩
abbrev S1024 : Shape := ⟨1, ![1024]⟩
abbrev S4x1024 : Shape := ⟨2, ![4, 1024]⟩
abbrev S4x16x512x256 : Shape := ⟨4, ![4, 16, 512, 256]⟩
abbrev S4x16x256x512 : Shape := ⟨4, ![4, 16, 256, 512]⟩
abbrev S64x1x512 : Shape := ⟨3, ![64, 1, 512]⟩
abbrev S4x4096x512 : Shape := ⟨3, ![4, 4096, 512]⟩
abbrev S4x4096x8 : Shape := ⟨3, ![4, 4096, 8]⟩
abbrev S4x8x4096 : Shape := ⟨3, ![4, 8, 4096]⟩
abbrev S1x256x1024 : Shape := ⟨3, ![1, 256, 1024]⟩
abbrev S1x16x1024 : Shape := ⟨3, ![1, 16, 1024]⟩
abbrev S1x256x128 : Shape := ⟨3, ![1, 256, 128]⟩
abbrev S1x1x512x256 : Shape := ⟨4, ![1, 1, 512, 256]⟩
abbrev S1x1x256x512 : Shape := ⟨4, ![1, 1, 256, 512]⟩
abbrev S1x1x512 : Shape := ⟨3, ![1, 1, 512]⟩
abbrev S1x256x512 : Shape := ⟨3, ![1, 256, 512]⟩
abbrev S1x256x8 : Shape := ⟨3, ![1, 256, 8]⟩
abbrev S1x8x256 : Shape := ⟨3, ![1, 8, 256]⟩
abbrev S8x272x128 : Shape := ⟨3, ![8, 272, 128]⟩
abbrev S8x256x128 : Shape := ⟨3, ![8, 256, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S1024x1024 : Shape := ⟨2, ![1024, 1024]⟩
abbrev S256x512 : Shape := ⟨2, ![256, 512]⟩
abbrev S512x256 : Shape := ⟨2, ![512, 256]⟩
abbrev S512 : Shape := ⟨1, ![512]⟩
abbrev S1x512 : Shape := ⟨2, ![1, 512]⟩
abbrev S1024x512 : Shape := ⟨2, ![1024, 512]⟩
abbrev S16x1024 : Shape := ⟨2, ![16, 1024]⟩
abbrev S16 : Shape := ⟨1, ![16]⟩
abbrev S16x1 : Shape := ⟨2, ![16, 1]⟩
abbrev S16x128 : Shape := ⟨2, ![16, 128]⟩
abbrev S1x16x128 : Shape := ⟨3, ![1, 16, 128]⟩
abbrev S4x128 : Shape := ⟨2, ![4, 128]⟩
abbrev S1x8x128 : Shape := ⟨3, ![1, 8, 128]⟩
abbrev S8x128 : Shape := ⟨2, ![8, 128]⟩
abbrev S1024x128 : Shape := ⟨2, ![1024, 128]⟩
abbrev S256x8 : Shape := ⟨2, ![256, 8]⟩
abbrev S128x256 : Shape := ⟨2, ![128, 256]⟩
abbrev S8x256 : Shape := ⟨2, ![8, 256]⟩

abbrev nBuf : Space → Nat
  | .hbm => 52
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S4x4096, .i32⟩
  | .hbm, ⟨2, _⟩ => ⟨S1x1024, .f32⟩
  | .hbm, ⟨3, _⟩ => ⟨S1x1024x5640, .f32⟩
  | .hbm, ⟨4, _⟩ => ⟨S1x4x1024, .f32⟩
  | .hbm, ⟨5, _⟩ => ⟨S1x4, .f32⟩
  | .hbm, ⟨6, _⟩ => ⟨S1x4, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4x4096, .f32⟩
  | .hbm, ⟨16, _⟩ => ⟨S4x4096x1, .f32⟩
  | .hbm, ⟨17, _⟩ => ⟨S1x1x32, .f32⟩
  | .hbm, ⟨18, _⟩ => ⟨S4x4096x32, .f32⟩
  | .hbm, ⟨19, _⟩ => ⟨S4x4096x32, .f32⟩
  | .hbm, ⟨20, _⟩ => ⟨S4x4096x32, .f32⟩
  | .hbm, ⟨21, _⟩ => ⟨S4x4096x32, .f32⟩
  | .hbm, ⟨22, _⟩ => ⟨S4x4096x128, .f32⟩
  | .hbm, ⟨23, _⟩ => ⟨S4x4096x32, .f32⟩
  | .hbm, ⟨24, _⟩ => ⟨S4x4096x128, .f32⟩
  | .hbm, ⟨25, _⟩ => ⟨S1024x5640, .f32⟩
  | .hbm, ⟨26, _⟩ => ⟨S1024x3584, .f32⟩
  | .hbm, ⟨27, _⟩ => ⟨S1024x3584, .bf16⟩
  | .hbm, ⟨28, _⟩ => ⟨S1024x8, .f32⟩
  | .hbm, ⟨29, _⟩ => ⟨S1024x8, .bf16⟩
  | .hbm, ⟨30, _⟩ => ⟨S_, .bf16⟩
  | .hbm, ⟨31, _⟩ => ⟨S1024x120, .bf16⟩
  | .hbm, ⟨32, _⟩ => ⟨S1024x3712, .bf16⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S120, .f32⟩
  | .hbm, ⟨37, _⟩ => ⟨S128, .f32⟩
  | .hbm, ⟨38, _⟩ => ⟨S1x128, .f32⟩
  | .hbm, ⟨39, _⟩ => ⟨S1024, .f32⟩
  | .hbm, ⟨40, _⟩ => ⟨S1x1024, .f32⟩
  | .hbm, ⟨41, _⟩ => ⟨S4x1024, .f32⟩
  | .hbm, ⟨42, _⟩ => ⟨S4x16x512x256, .bf16⟩
  | .hbm, ⟨43, _⟩ => ⟨S4x16x256x512, .bf16⟩
  | .hbm, ⟨44, _⟩ => ⟨S64x1x512, .f32⟩
  | .hbm, ⟨45, _⟩ => ⟨S4x16x512x256, .bf16⟩
  | .hbm, ⟨46, _⟩ => ⟨S4x4096x512, .bf16⟩
  | .hbm, ⟨47, _⟩ => ⟨S4x16x512x256, .bf16⟩
  | .hbm, ⟨48, _⟩ => ⟨S4x4096x512, .bf16⟩
  | .hbm, ⟨49, _⟩ => ⟨S4x4096x512, .f32⟩
  | .hbm, ⟨50, _⟩ => ⟨S4x4096x8, .f32⟩
  | .hbm, ⟨51, _⟩ => ⟨S4x8x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x1024, .f32⟩
  | .local _ .vmem, ⟨9, _⟩ => ⟨S1024x3712, .bf16⟩
  | .local _ .vmem, ⟨10, _⟩ => ⟨S4x1024, .f32⟩
  | .local _ .vmem, ⟨11, _⟩ => ⟨S1x128, .f32⟩
  | .local _ .vmem, ⟨12, _⟩ => ⟨S1x1x512x256, .bf16⟩
  | .local _ .vmem, ⟨13, _⟩ => ⟨S1x1x512x256, .bf16⟩
  | .local _ .vmem, ⟨14, _⟩ => ⟨S1x1x256x512, .bf16⟩
  | .local _ .vmem, ⟨15, _⟩ => ⟨S1x1x256x512, .bf16⟩
  | .local _ .vmem, ⟨16, _⟩ => ⟨S1x1x512, .f32⟩
  | .local _ .vmem, ⟨17, _⟩ => ⟨S1x1x512, .f32⟩
  | .local _ .vmem, ⟨18, _⟩ => ⟨S1x1x512x256, .bf16⟩
  | .local _ .vmem, ⟨19, _⟩ => ⟨S1x1x512x256, .bf16⟩
  | .local _ .vmem, ⟨20, _⟩ => ⟨S1x256x512, .bf16⟩
  | .local _ .vmem, ⟨21, _⟩ => ⟨S1x256x512, .bf16⟩
  | .local _ .vmem, ⟨22, _⟩ => ⟨S1x1x512x256, .bf16⟩
  | .local _ .vmem, ⟨23, _⟩ => ⟨S1x1x512x256, .bf16⟩
  | .local _ .vmem, ⟨24, _⟩ => ⟨S1x256x512, .bf16⟩
  | .local _ .vmem, ⟨25, _⟩ => ⟨S1x256x512, .bf16⟩
  | .local _ .vmem, ⟨26, _⟩ => ⟨S1x256x512, .f32⟩
  | .local _ .vmem, ⟨27, _⟩ => ⟨S1x256x512, .f32⟩
  | .local _ .vmem, ⟨28, _⟩ => ⟨S1x256x8, .f32⟩
  | .local _ .vmem, ⟨29, _⟩ => ⟨S1x256x8, .f32⟩
  | .local _ .vmem, ⟨30, _⟩ => ⟨S1x8x256, .f32⟩
  | .local _ .vmem, ⟨31, _⟩ => ⟨S1x8x256, .f32⟩
  | .local _ .vmem, ⟨32, _⟩ => ⟨S8x272x128, .f32⟩
  | .local _ .vmem, ⟨33, _⟩ => ⟨S8x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev main_v31_4 : Ref sig .tc := ⟨.hbm, 46, rfl⟩
abbrev main_v31_5 : Ref sig .tc := ⟨.hbm, 47, rfl⟩
abbrev main_v31_6 : Ref sig .tc := ⟨.hbm, 48, rfl⟩
abbrev main_v31_7 : Ref sig .tc := ⟨.hbm, 49, rfl⟩
abbrev main_v31_8 : Ref sig .tc := ⟨.hbm, 50, rfl⟩
abbrev main_v31_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3712 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference3Ideal.lean ====
abbrev S4x4096x1024 : Shape := ⟨3, ![4, 4096, 1024]⟩
abbrev S4x4096 : Shape := ⟨2, ![4, 4096]⟩
abbrev S1x1024 : Shape := ⟨2, ![1, 1024]⟩
abbrev S1x1024x5640 : Shape := ⟨3, ![1, 1024, 5640]⟩
abbrev S1x4x1024 : Shape := ⟨3, ![1, 4, 1024]⟩
abbrev S1x4 : Shape := ⟨2, ![1, 4]⟩
abbrev S1024 : Shape := ⟨1, ![1024]⟩
abbrev S_ : Shape := ⟨0, ![]⟩
abbrev S4x4096x1 : Shape := ⟨3, ![4, 4096, 1]⟩
abbrev S1x1x1024 : Shape := ⟨3, ![1, 1, 1024]⟩
abbrev S1024x5640 : Shape := ⟨2, ![1024, 5640]⟩
abbrev S4x4096x5640 : Shape := ⟨3, ![4, 4096, 5640]⟩
abbrev S4x4096x512 : Shape := ⟨3, ![4, 4096, 512]⟩
abbrev S4x4096x4 : Shape := ⟨3, ![4, 4096, 4]⟩
abbrev S4x4096x8x64 : Shape := ⟨4, ![4, 4096, 8, 64]⟩
abbrev S4x8x4096x64 : Shape := ⟨4, ![4, 8, 4096, 64]⟩
abbrev S32 : Shape := ⟨1, ![32]⟩
abbrev S4x1x4096x1 : Shape := ⟨4, ![4, 1, 4096, 1]⟩
abbrev S1x1x1x32 : Shape := ⟨4, ![1, 1, 1, 32]⟩
abbrev S4x1x4096x32 : Shape := ⟨4, ![4, 1, 4096, 32]⟩
abbrev S4x8x4096x32 : Shape := ⟨4, ![4, 8, 4096, 32]⟩
abbrev S4x16x256x512 : Shape := ⟨4, ![4, 16, 256, 512]⟩
abbrev S4x16x512 : Shape := ⟨3, ![4, 16, 512]⟩
abbrev S4x1024 : Shape := ⟨2, ![4, 1024]⟩
abbrev S4x4099x1024 : Shape := ⟨3, ![4, 4099, 1024]⟩
abbrev S4 : Shape := ⟨1, ![4]⟩
abbrev S1x1x4 : Shape := ⟨3, ![1, 1, 4]⟩
abbrev S4x4096x8 : Shape := ⟨3, ![4, 4096, 8]⟩
abbrev S4x16x512x256 : Shape := ⟨4, ![4, 16, 512, 256]⟩
abbrev S64x1x512 : Shape := ⟨3, ![64, 1, 512]⟩
abbrev S4x8x4096 : Shape := ⟨3, ![4, 8, 4096]⟩

abbrev nBuf : Space → Nat
  | .hbm => 196
  | .vmem => 0
  | .smem => 0
  | _ => 0

abbrev hbmTy0_0 (i : Nat) : BufTy := match i % 128 with
  | 0 => ⟨S4x4096x1024, .f32⟩
  | 1 => ⟨S4x4096, .i32⟩
  | 2 => ⟨S1x1024, .f32⟩
  | 3 => ⟨S1x1024x5640, .f32⟩
  | 4 => ⟨S1x4x1024, .f32⟩
  | 5 => ⟨S1x4, .f32⟩
  | 6 => ⟨S1x4, .f32⟩
  | 7 => ⟨S1024, .f32⟩
  | 8 => ⟨S4x4096x1024, .f32⟩
  | 9 => ⟨S_, .f32⟩
  | 10 => ⟨S4x4096, .f32⟩
  | 11 => ⟨S4x4096x1, .f32⟩
  | 12 => ⟨S_, .f32⟩
  | 13 => ⟨S4x4096x1, .f32⟩
  | 14 => ⟨S4x4096x1, .f32⟩
  | 15 => ⟨S_, .f32⟩
  | 16 => ⟨S4x4096x1, .f32⟩
  | 17 => ⟨S4x4096x1, .f32⟩
  | 18 => ⟨S4x4096x1, .f32⟩
  | 19 => ⟨S4x4096x1024, .f32⟩
  | 20 => ⟨S4x4096x1024, .f32⟩
  | 21 => ⟨S1x1x1024, .f32⟩
  | 22 => ⟨S4x4096x1024, .f32⟩
  | 23 => ⟨S4x4096x1024, .f32⟩
  | 24 => ⟨S1024x5640, .f32⟩
  | 25 => ⟨S4x4096x5640, .f32⟩
  | 26 => ⟨S4x4096x512, .f32⟩
  | 27 => ⟨S4x4096x512, .f32⟩
  | 28 => ⟨S4x4096x512, .f32⟩
  | 29 => ⟨S4x4096x512, .f32⟩
  | 30 => ⟨S4x4096x512, .f32⟩
  | 31 => ⟨S4x4096x512, .f32⟩
  | 32 => ⟨S4x4096x512, .f32⟩
  | 33 => ⟨S4x4096x4, .f32⟩
  | 34 => ⟨S4x4096x4, .f32⟩
  | 35 => ⟨S4x4096x8x64, .f32⟩
  | 36 => ⟨S4x8x4096x64, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S4x4096, .f32⟩
  | 46 => ⟨S4x1x4096x1, .f32⟩
  | 47 => ⟨S1x1x1x32, .f32⟩
  | 48 => ⟨S4x1x4096x32, .f32⟩
  | 49 => ⟨S4x1x4096x32, .f32⟩
  | 50 => ⟨S4x1x4096x32, .f32⟩
  | 51 => ⟨S4x1x4096x32, .f32⟩
  | 52 => ⟨S4x1x4096x32, .f32⟩
  | 53 => ⟨S4x8x4096x32, .f32⟩
  | 54 => ⟨S4x8x4096x32, .f32⟩
  | 55 => ⟨S4x8x4096x32, .f32⟩
  | 56 => ⟨S4x8x4096x32, .f32⟩
  | 57 => ⟨S4x8x4096x32, .f32⟩
  | 58 => ⟨S4x8x4096x32, .f32⟩
  | 59 => ⟨S4x8x4096x32, .f32⟩
  | 60 => ⟨S4x8x4096x32, .f32⟩
  | 61 => ⟨S4x8x4096x32, .f32⟩
  | 62 => ⟨S4x8x4096x32, .f32⟩
  | 63 => ⟨S4x8x4096x32, .f32⟩
  | 64 => ⟨S4x8x4096x32, .f32⟩
  | 65 => ⟨S4x8x4096x64, .f32⟩
  | 66 => ⟨S4x4096x8x64, .f32⟩
  | 67 => ⟨S4x4096x512, .f32⟩
  | 68 => ⟨S4x4096x8x64, .f32⟩
  | 69 => ⟨S4x8x4096x64, .f32⟩
  | 70 => ⟨S32, .f32⟩
  | 71 => ⟨S_, .f32⟩
  | 72 => ⟨S32, .f32⟩
  | 73 => ⟨S32, .f32⟩
  | 74 => ⟨S32, .f32⟩
  | 75 => ⟨S_, .f32⟩
  | 76 => ⟨S32, .f32⟩
  | 77 => ⟨S32, .f32⟩
  | 78 => ⟨S4x4096, .f32⟩
  | 79 => ⟨S4x1x4096x1, .f32⟩
  | 80 => ⟨S1x1x1x32, .f32⟩
  | 81 => ⟨S4x1x4096x32, .f32⟩
  | 82 => ⟨S4x1x4096x32, .f32⟩
  | 83 => ⟨S4x1x4096x32, .f32⟩
  | 84 => ⟨S4x1x4096x32, .f32⟩
  | 85 => ⟨S4x1x4096x32, .f32⟩
  | 86 => ⟨S4x8x4096x32, .f32⟩
  | 87 => ⟨S4x8x4096x32, .f32⟩
  | 88 => ⟨S4x8x4096x32, .f32⟩
  | 89 => ⟨S4x8x4096x32, .f32⟩
  | 90 => ⟨S4x8x4096x32, .f32⟩
  | 91 => ⟨S4x8x4096x32, .f32⟩
  | 92 => ⟨S4x8x4096x32, .f32⟩
  | 93 => ⟨S4x8x4096x32, .f32⟩
  | 94 => ⟨S4x8x4096x32, .f32⟩
  | 95 => ⟨S4x8x4096x32, .f32⟩
  | 96 => ⟨S4x8x4096x32, .f32⟩
  | 97 => ⟨S4x8x4096x32, .f32⟩
  | 98 => ⟨S4x8x4096x64, .f32⟩
  | 99 => ⟨S4x4096x8x64, .f32⟩
  | 100 => ⟨S4x4096x512, .f32⟩
  | 101 => ⟨S4x16x256x512, .f32⟩
  | 102 => ⟨S_, .f32⟩
  | 103 => ⟨S4x16x512, .f32⟩
  | 104 => ⟨S_, .f32⟩
  | 105 => ⟨S4x16x512, .f32⟩
  | 106 => ⟨S4x16x512, .f32⟩
  | 107 => ⟨S4x4096x1024, .f32⟩
  | 108 => ⟨S4x1024, .f32⟩
  | 109 => ⟨S_, .i32⟩
  | 110 => ⟨S_, .f32⟩
  | 111 => ⟨S4x4099x1024, .f32⟩
  | 112 => ⟨S1x1024, .f32⟩
  | 113 => ⟨S1024, .f32⟩
  | 114 => ⟨S4x4096x1024, .f32⟩
  | 115 => ⟨S1x1x1024, .f32⟩
  | 116 => ⟨S4x4096x1024, .f32⟩
  | 117 => ⟨S4x4096x1024, .f32⟩
  | 118 => ⟨S1x1024, .f32⟩
  | 119 => ⟨S1024, .f32⟩
  | 120 => ⟨S4x4096x1024, .f32⟩
  | 121 => ⟨S1x1x1024, .f32⟩
  | 122 => ⟨S4x4096x1024, .f32⟩
  | 123 => ⟨S4x4096x1024, .f32⟩
  | 124 => ⟨S4x4096x1024, .f32⟩
  | 125 => ⟨S1x1024, .f32⟩
  | 126 => ⟨S1024, .f32⟩
  | 127 => ⟨S4x4096x1024, .f32⟩
  | _ => ⟨S4x4096x1024, .f32⟩

abbrev hbmTy0_1 (i : Nat) : BufTy := match i % 128 with
  | 0 => ⟨S1x1x1024, .f32⟩
  | 1 => ⟨S4x4096x1024, .f32⟩
  | 2 => ⟨S4x4096x1024, .f32⟩
  | 3 => ⟨S4x4096x1024, .f32⟩
  | 4 => ⟨S1x1024, .f32⟩
  | 5 => ⟨S1024, .f32⟩
  | 6 => ⟨S4x4096x1024, .f32⟩
  | 7 => ⟨S1x1x1024, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S_, .f32⟩
  | 17 => ⟨S4x4096x1024, .f32⟩
  | 18 => ⟨S4x4096x1024, .f32⟩
  | 19 => ⟨S4x4096x1024, .f32⟩
  | 20 => ⟨S4x4096x512, .f32⟩
  | 21 => ⟨S4x4096x512, .f32⟩
  | 22 => ⟨S4, .f32⟩
  | 23 => ⟨S1x1x4, .f32⟩
  | 24 => ⟨S4x4096x4, .f32⟩
  | 25 => ⟨S4x4096x4, .f32⟩
  | 26 => ⟨S4, .f32⟩
  | 27 => ⟨S1x1x4, .f32⟩
  | 28 => ⟨S4x4096x4, .f32⟩
  | 29 => ⟨S4x4096x4, .f32⟩
  | 30 => ⟨S4x4096x4, .f32⟩
  | 31 => ⟨S_, .f32⟩
  | 32 => ⟨S4x4096x4, .f32⟩
  | 33 => ⟨S4x4096x4, .f32⟩
  | 34 => ⟨S4x4096x4, .f32⟩
  | 35 => ⟨S4x4096x4, .f32⟩
  | 36 => ⟨S4x4096x4, .i1⟩
  | 37 => ⟨S4x4096x4, .f32⟩
  | 38 => ⟨S4x4096x4, .f32⟩
  | 39 => ⟨S4x4096x4, .f32⟩
  | 40 => ⟨S4x4096x4, .f32⟩
  | 41 => ⟨S4x4096x4, .f32⟩
  | 42 => ⟨S4x4096x4, .f32⟩
  | 43 => ⟨S4x4096x4, .f32⟩
  | 44 => ⟨S4x4096x4, .f32⟩
  | 45 => ⟨S4x4096x4, .f32⟩
  | 46 => ⟨S4x4096x8, .f32⟩
  | 47 => ⟨S_, .f32⟩
  | 48 => ⟨S4x4096x512, .f32⟩
  | 49 => ⟨S4x4096x512, .f32⟩
  | 50 => ⟨S4x16x256x512, .f32⟩
  | 51 => ⟨S4x16x512x256, .f32⟩
  | 52 => ⟨S4x16x512x256, .bf16⟩
  | 53 => ⟨S4x16x256x512, .f32⟩
  | 54 => ⟨S4x16x256x512, .bf16⟩
  | 55 => ⟨S4x16x256x512, .f32⟩
  | 56 => ⟨S4x16x512x256, .f32⟩
  | 57 => ⟨S4x16x512x256, .bf16⟩
  | 58 => ⟨S_, .f32⟩
  | 59 => ⟨S4x4096x512, .f32⟩
  | 60 => ⟨S4x4096x512, .f32⟩
  | 61 => ⟨S4x4096x512, .bf16⟩
  | 62 => ⟨S4x16x256x512, .f32⟩
  | 63 => ⟨S4x16x512x256, .f32⟩
  | 64 => ⟨S4x16x512x256, .bf16⟩
  | 65 => ⟨S64x1x512, .f32⟩
  | 66 => ⟨S4x4096x512, .bf16⟩
  | 67 => ⟨S4x8x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_4 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_6 : Ref sig .tc := ⟨.hbm, 102, rfl⟩
abbrev main_v88 : Ref sig .tc := ⟨.hbm, 103, rfl⟩
abbrev main_cst_7 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_c : Ref sig .tc := ⟨.hbm, 109, rfl⟩
abbrev main_call0_v0 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_call1_v0 : Ref sig .tc := ⟨.hbm, 139, rfl⟩
abbrev main_call1_v1 : Ref sig .tc := ⟨.hbm, 140, rfl⟩
abbrev main_call1_cst : Ref sig .tc := ⟨.hbm, 141, rfl⟩
abbrev main_call1_v2 : Ref sig .tc := ⟨.hbm, 142, rfl⟩
abbrev main_call1_v3 : Ref sig .tc := ⟨.hbm, 143, rfl⟩
abbrev main_call1_cst_0 : Ref sig .tc := ⟨.hbm, 144, rfl⟩
abbrev main_call1_v4 : Ref sig .tc := ⟨.hbm, 145, rfl⟩
abbrev main_call1_v5 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_call2_v0 : Ref sig .tc := ⟨.hbm, 158, rfl⟩
abbrev main_call2_call0_cst : Ref sig .tc := ⟨.hbm, 159, rfl⟩
abbrev main_call2_call0_v0 : Ref sig .tc := ⟨.hbm, 160, rfl⟩
abbrev main_call2_call0_v1 : Ref sig .tc := ⟨.hbm, 161, rfl⟩
abbrev main_call2_call0_v2 : Ref sig .tc := ⟨.hbm, 162, rfl⟩
abbrev main_call2_call0_v3 : Ref sig .tc := ⟨.hbm, 163, rfl⟩
abbrev main_call2_call0_v4 : Ref sig .tc := ⟨.hbm, 164, rfl⟩
abbrev main_call2_call0_v5 : Ref sig .tc := ⟨.hbm, 165, rfl⟩
abbrev main_call2_call0_v6 : Ref sig .tc := ⟨.hbm, 166, rfl⟩
abbrev main_call2_call0_v7 : Ref sig .tc := ⟨.hbm, 167, rfl⟩
abbrev main_call2_call0_v8 : Ref sig .tc := ⟨.hbm, 168, rfl⟩
abbrev main_call2_call0_v9 : Ref sig .tc := ⟨.hbm, 169, rfl⟩
abbrev main_call2_call0_v10 : Ref sig .tc := ⟨.hbm, 170, rfl⟩
abbrev main_call2_call0_v11 : Ref sig .tc := ⟨.hbm, 171, rfl⟩
abbrev main_call2_v1 : Ref sig .tc := ⟨.hbm, 172, rfl⟩
abbrev main_v132 : Ref sig .tc := ⟨.hbm, 173, rfl⟩
abbrev main_v133 : Ref sig .tc := ⟨.hbm, 174, rfl⟩
abbrev main_cst_8 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_cst_9 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩

abbrev nD : Nat := 1
abbrev τ : Topo := Topo.v7x

variable {F : FTy → Type} [FloatOps F]
-- ==== Kernel4.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S3x2816 : Shape := ⟨2, ![3, 2816]⟩
abbrev S3x11x256 : Shape := ⟨3, ![3, 11, 256]⟩
abbrev S11x3x256 : Shape := ⟨3, ![11, 3, 256]⟩
abbrev S2816x1024 : Shape := ⟨2, ![2816, 1024]⟩
abbrev S1x1024x1024 : Shape := ⟨3, ![1, 1024, 1024]⟩
abbrev S1x16x1024 : Shape := ⟨3, ![1, 16, 1024]⟩
abbrev S1040x1024 : Shape := ⟨2, ![1040, 1024]⟩
abbrev S2x1040x128 : Shape := ⟨3, ![2, 1040, 128]⟩
abbrev S2x256x4x128 : Shape := ⟨4, ![2, 256, 4, 128]⟩
abbrev S1024x2816 : Shape := ⟨2, ![1024, 2816]⟩
abbrev S1024x1024 : Shape := ⟨2, ![1024, 1024]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1024x256 : Shape := ⟨2, ![1024, 256]⟩
abbrev S1040x256 : Shape := ⟨2, ![1040, 256]⟩
abbrev S1040x128 : Shape := ⟨2, ![1040, 128]⟩
abbrev S1x1040x128 : Shape := ⟨3, ![1, 1040, 128]⟩
abbrev S1x3x256 : Shape := ⟨3, ![1, 3, 256]⟩
abbrev S3x256 : Shape := ⟨2, ![3, 256]⟩
abbrev S3x128 : Shape := ⟨2, ![3, 128]⟩
abbrev S1x8x128 : Shape := ⟨3, ![1, 8, 128]⟩
abbrev S8x128 : Shape := ⟨2, ![8, 128]⟩
abbrev S1x128 : Shape := ⟨2, ![1, 128]⟩
abbrev S1x8x1x128 : Shape := ⟨4, ![1, 8, 1, 128]⟩
abbrev S1x256x4x128 : Shape := ⟨4, ![1, 256, 4, 128]⟩
abbrev S256x4x128 : Shape := ⟨3, ![256, 4, 128]⟩
abbrev S1024x128 : Shape := ⟨2, ![1024, 128]⟩

abbrev nBuf : Space → Nat
  | .hbm => 21
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1024, .f32⟩
  | .hbm, ⟨6, _⟩ => ⟨S1024x5632, .f32⟩
  | .hbm, ⟨7, _⟩ => ⟨S1024x5632, .bf16⟩
  | .hbm, ⟨8, _⟩ => ⟨S3x5632, .f32⟩
  | .hbm, ⟨9, _⟩ => ⟨S1024, .f32⟩
  | .hbm, ⟨10, _⟩ => ⟨S1x1024, .f32⟩
  | .hbm, ⟨11, _⟩ => ⟨S3x2816, .f32⟩
  | .hbm, ⟨12, _⟩ => ⟨S3x11x256, .f32⟩
  | .hbm, ⟨13, _⟩ => ⟨S11x3x256, .f32⟩
  | .hbm, ⟨14, _⟩ => ⟨S3x2816, .f32⟩
  | .hbm, ⟨15, _⟩ => ⟨S3x11x256, .f32⟩
  | .hbm, ⟨16, _⟩ => ⟨S11x3x256, .f32⟩
  | .hbm, ⟨17, _⟩ => ⟨S2816x1024, .f32⟩
  | .hbm, ⟨18, _⟩ => ⟨S2816x1024, .bf16⟩
  | .hbm, ⟨19, _⟩ => ⟨S1x1024, .f32⟩
  | .hbm, ⟨20, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1024, .f32⟩
  | .local _ .vmem, ⟨5, _⟩ => ⟨S1024x5632, .bf16⟩
  | .local _ .vmem, ⟨6, _⟩ => ⟨S11x3x256, .f32⟩
  | .local _ .vmem, ⟨7, _⟩ => ⟨S11x3x256, .f32⟩
  | .local _ .vmem, ⟨8, _⟩ => ⟨S2816x1024, .bf16⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1040x1024, .bf16⟩
  | .local _ .vmem, ⟨13, _⟩ => ⟨S2x1040x128, .f32⟩
  | .local _ .vmem, ⟨14, _⟩ => ⟨S2x1040x128, .f32⟩
  | .local _ .vmem, ⟨15, _⟩ => ⟨S2x256x4x128, .f32⟩
  | .local _ .vmem, ⟨16, _⟩ => ⟨S1024x2816, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![4, 4], ![false, false]⟩

def k0_mult1 : BitVec 32 :=
  let c0_i32_24 : BitVec 32 := 0#32
  c0_i32_24
def k0_mult2 : BitVec 32 :=
  let c2816_i32 : BitVec 32 := 2816#32
  c2816_i32
@[reducible] def k0_t1_loop : Scf.Loop 32 :=
  let c1_i32 : BitVec 32 := 1#32
  let c10_i32 : BitVec 32 := 10#32
  let v77 : BitVec 32 := Scalar.addi c1_i32 c10_i32
  let c1_i32_44 : BitVec 32 := 1#32
  ⟨c1_i32, v77, c1_i32_44⟩
def k0_off1 (k0_t1 : Fin k0_t1_loop.trips) : Fin 3 → Nat :=
  let c1_i32 : BitVec 32 := 1#32
  let c1_i32_44 : BitVec 32 := 1#32
  let arg16 : BitVec 32 := Scf.iv c1_i32 c1_i32_44 k0_t1
  let c1_i32_3959 : BitVec 32 := 1#32
  let v10365 : BitVec 32 := Scalar.subi arg16 c1_i32_3959
  let v10366 : Index := Scalar.indexCast v10365
  let c0_3960 : Index := 0#32
  let c0_3961 : Index := 0#32
  ![v10366.toNat, 0, 0]
def k0_mult3 (k0_t1 : Fin k0_t1_loop.trips) : BitVec 32 :=
  let c1_i32 : BitVec 32 := 1#32
  let c1_i32_44 : BitVec 32 := 1#32
  let arg16 : BitVec 32 := Scf.iv c1_i32 c1_i32_44 k0_t1
  let c1_i32_3959 : BitVec 32 := 1#32
  let v10365 : BitVec 32 := Scalar.subi arg16 c1_i32_3959
  let c256_i32 : BitVec 32 := 256#32
  let v20630 : BitVec 32 := Scalar.muli v10365 c256_i32
  v20630
def k0_off2 (k0_t1 : Fin k0_t1_loop.trips) : Fin 2 → Nat :=
  let c0_8072 : Index := 0#32
  let c1_i32 : BitVec 32 := 1#32
  let c1_i32_44 : BitVec 32 := 1#32
  let arg16 : BitVec 32 := Scf.iv c1_i32 c1_i32_44 k0_t1
  let c1_i32_3959 : BitVec 32 := 1#32
  let v10365 : BitVec 32 := Scalar.subi arg16 c1_i32_3959
  let c256_i32 : BitVec 32 := 256#32
  let v20630 : BitVec 32 := Scalar.muli v10365 c256_i32
  let v20631 : BitVec 32 := v20630
  let v20632 : Index := Scalar.indexCast v20631
  ![0, v20632.toNat]
def k0_mult4 (k0_t1 : Fin k0_t1_loop.trips) : BitVec 32 :=
  let c1_i32 : BitVec 32 := 1#32
  let c1_i32_44 : BitVec 32 := 1#32
  let arg16 : BitVec 32 := Scf.iv c1_i32 c1_i32_44 k0_t1
  let c256_i32_8073 : BitVec 32 := 256#32
  let v20636 : BitVec 32 := Scalar.muli arg16 c256_i32_8073
  v20636
def k0_mult5 (k0_t1 : Fin k0_t1_loop.trips) : BitVec 32 :=
  let c2816_i32_8075 : BitVec 32 := 2816#32
  let c1_i32 : BitVec 32 := 1#32
  let c1_i32_44 : BitVec 32 := 1#32
  let arg16 : BitVec 32 := Scf.iv c1_i32 c1_i32_44 k0_t1
  let c256_i32_8074 : BitVec 32 := 256#32
  let v20638 : BitVec 32 := Scalar.muli arg16 c256_i32_8074
  let v20639 : BitVec 32 := Scalar.addi c2816_i32_8075 v20638
  v20639
def k0_off3 (k0_t1 : Fin k0_t1_loop.trips) : Fin 2 → Nat :=
  let c0_8078 : Index := 0#32
  let c1_i32 : BitVec 32 := 1#32
  let c1_i32_44 : BitVec 32 := 1#32
  let arg16 : BitVec 32 := Scf.iv c1_i32 c1_i32_44 k0_t1
  let c256_i32_8073 : BitVec 32 := 256#32
  let v20636 : BitVec 32 := Scalar.muli arg16 c256_i32_8073
  let v20637 : BitVec 32 := v20636
  let v20642 : Index := Scalar.indexCast v20637
  ![0, v20642.toNat]
def k0_off4 (k0_t1 : Fin k0_t1_loop.trips) : Fin 2 → Nat :=
  let c0_8082 : Index := 0#32
  let c2816_i32_8075 : BitVec 32 := 2816#32
  let c1_i32 : BitVec 32 := 1#32
  let c1_i32_44 : BitVec 32 := 1#32
  let arg16 : BitVec 32 := Scf.iv c1_i32 c1_i32_44 k0_t1
  let c256_i32_8074 : BitVec 32 := 256#32
  let v20638 : BitVec 32 := Scalar.muli arg16 c256_i32_8074
  let v20639 : BitVec 32 := Scalar.addi c2816_i32_8075 v20638
  let v20640 : BitVec 32 := v20639
  let v20647 : Index := Scalar.indexCast v20640
  ![0, v20647.toNat]
def k0_mult6 : BitVec 32 :=
  let c2560_i32 : BitVec 32 := 2560#32
  c2560_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S11x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S11x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference4Ideal.lean ====
abbrev S4x4096x1024 : Shape := ⟨3, ![4, 4096, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5632 : Shape := ⟨2, ![1024, 5632]⟩
abbrev S4x4096x5632 : Shape := ⟨3, ![4, 4096, 5632]⟩
abbrev S3x5632 : Shape := ⟨2, ![3, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S2816x1024 : Shape := ⟨2, ![2816, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x2816x1024, .f32⟩
  | .hbm, ⟨5, _⟩ => ⟨S1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x5632, .f32⟩
  | .hbm, ⟨24, _⟩ => ⟨S4x4096x5632, .f32⟩
  | .hbm, ⟨25, _⟩ => ⟨S3x5632, .f32⟩
  | .hbm, ⟨26, _⟩ => ⟨S_, .i32⟩
  | .hbm, ⟨27, _⟩ => ⟨S_, .f32⟩
  | .hbm, ⟨28, _⟩ => ⟨S4x4098x5632, .f32⟩
  | .hbm, ⟨29, _⟩ => ⟨S1x5632, .f32⟩
  | .hbm, ⟨30, _⟩ => ⟨S5632, .f32⟩
  | .hbm, ⟨31, _⟩ => ⟨S4x4096x5632, .f32⟩
  | .hbm, ⟨32, _⟩ => ⟨S1x1x5632, .f32⟩
  | .hbm, ⟨33, _⟩ => ⟨S4x4096x5632, .f32⟩
  | .hbm, ⟨34, _⟩ => ⟨S4x4096x5632, .f32⟩
  | .hbm, ⟨35, _⟩ => ⟨S1x5632, .f32⟩
  | .hbm, ⟨36, _⟩ => ⟨S5632, .f32⟩
  | .hbm, ⟨37, _⟩ => ⟨S4x4096x5632, .f32⟩
  | .hbm, ⟨38, _⟩ => ⟨S1x1x5632, .f32⟩
  | .hbm, ⟨39, _⟩ => ⟨S4x4096x5632, .f32⟩
  | .hbm, ⟨40, _⟩ => ⟨S4x4096x5632, .f32⟩
  | .hbm, ⟨41, _⟩ => ⟨S4x4096x5632, .f32⟩
  | .hbm, ⟨42, _⟩ => ⟨S1x5632, .f32⟩
  | .hbm, ⟨43, _⟩ => ⟨S5632, .f32⟩
  | .hbm, ⟨44, _⟩ => ⟨S4x4096x5632, .f32⟩
  | .hbm, ⟨45, _⟩ => ⟨S1x1x5632, .f32⟩
  | .hbm, ⟨46, _⟩ => ⟨S4x4096x5632, .f32⟩
  | .hbm, ⟨47, _⟩ => ⟨S4x4096x5632, .f32⟩
  | .hbm, ⟨48, _⟩ => ⟨S4x4096x5632, .f32⟩
  | .hbm, ⟨49, _⟩ => ⟨S4x4096x2816, .f32⟩
  | .hbm, ⟨50, _⟩ => ⟨S4x4096x2816, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S_, .f32⟩
  | .hbm, ⟨57, _⟩ => ⟨S4x4096x2816, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S2816x1024, .f32⟩
  | .hbm, ⟨62, _⟩ => ⟨S4x4096x1024, .f32⟩
  | .hbm, ⟨63, _⟩ => ⟨S4x4096x1024, .f32⟩
  | .hbm, ⟨64, _⟩ => ⟨S4x4096x1024, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_2 : Ref sig .tc := ⟨.hbm, 65, rfl⟩
abbrev main_v46 : Ref sig .tc := ⟨.hbm, 66, rfl⟩
abbrev main_v47 : Ref sig .tc := ⟨.hbm, 67, rfl⟩
abbrev main_cst_3 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.Consts.lean ====
module

public import proofs.«01_k».proof.Defs
public import proofs.«01_k».proof.Proof.Gen.KernelIdeal

@[expose] public section

noncomputable section

namespace Cert.Consts

open Idealize.ShloMosaic

/-- The constant named `mask`, printed from the literal -1e30, may stand for minus infinity. -/
theorem preserves_mask : Cert.preserves_Kernel_KernelIdeal :=
  IdealRules.named_const.statement Cert.KernelIdeal.κ "mask" .f32 0xF149F2CA#32 ⊥ rfl

end Cert.Consts

end
-- ==== Proof.MixSpec.lean ====
/- The merge of the two mixers on plain rows of extended reals. -/
module

public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

/-- One entry of a row scaled to unit mean square and multiplied by its gain; `d` is the row's length. -/
def rms {n : ℕ} (d : EReal) (x g : Fin n → EReal) (k : Fin n) : EReal :=
  x k * Ideal.rsqrt (Ideal.div (∑ j, x j * x j) d + Ideal.ofBits .f32 0x358637BD#32) * g k

/-- The logistic function, spelt as a quotient. -/
def logi (z : EReal) : EReal := Ideal.div 1 (1 + Ideal.exp (-z))

/-- Column `k` of 512 lies in head `k / 128`: column `j` of that head. -/
def hcol (k : Fin 512) (j : Fin 128) : Fin 512 := ⟨(k : ℕ) / 128 * 128 + j, by omega⟩

/-- One entry of a 512 wide row, scaled per head of 128 columns. -/
def hrms (x g : Fin 512 → EReal) (k : Fin 512) : EReal :=
  rms (Ideal.ofBits .f32 0x43000000#32) (fun j => x (hcol k j)) (fun j => g (hcol k j)) ⟨(k : ℕ) % 128, by omega⟩

/-- One entry of the merged row before the output projection. -/
def merged (x : Fin 1024 → EReal) (a h o : Fin 512 → EReal) (gm : Fin 512 → EReal) (g : Fin 1024 → EReal)
    (wa wm : Fin 1024 → Fin 1024 → EReal) (ba bm : Fin 512 → Fin 1024 → EReal) (c : Fin 1024) : EReal :=
  logi (∑ k, rms (Ideal.ofBits .f32 0x44800000#32) x g k * wa k c) * (∑ k, a k * ba k c)
    + logi (∑ k, rms (Ideal.ofBits .f32 0x44800000#32) x g k * wm k c) * (∑ k, hrms h gm k * logi (o k) * bm k c)

end Cert.Mix

end
-- ==== Proof.MixKer.lean ====
/- The merge kernel's payloads at an index. -/
module

public import proofs.«01_k».proof.Proof.Gen.Kernel2Ideal.Frame
public import proofs.«01_k».proof.Proof.MixSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

open Cert.Kernel2Ideal Cert.Kernel2Ideal.Gen

/-! ## The kernel's payloads at an index -/

/-- The normalised row. -/
theorem pay3_at (v0 : Vec Ideal S1024x1024 .f32) (v2 : Vec Ideal S1x1024 .f32) (r k : Fin 1024) :
    k0_pay3 v0 v2 (ix2 r k) = rms (Ideal.ofBits .f32 0x44800000#32) (fun j => v0 (ix2 r j)) (fun j => v2 (ix2 0 j)) k := by
  pointwise [k0_pay3, k0_pay2, rms]

/-- The attention gate. -/
theorem pay4_at (v0 : Vec Ideal S1024x1024 .f32) (v2 : Vec Ideal S1x1024 .f32) (w : Vec Ideal S1024x1024 .bf16) (r c : Fin 1024) :
    k0_pay4 v0 v2 w (ix2 r c)
      = logi (∑ k, rms (Ideal.ofBits .f32 0x44800000#32) (fun j => v0 (ix2 r j)) (fun j => v2 (ix2 0 j)) k * w (ix2 k c)) := by
  pointwise [k0_pay4, pay3_at, logi]
  rw [zero_sub]

/-- The mLSTM gate. -/
theorem pay5_at (v0 : Vec Ideal S1024x1024 .f32) (v2 : Vec Ideal S1x1024 .f32) (w : Vec Ideal S1024x1024 .bf16) (r c : Fin 1024) :
    k0_pay5 v0 v2 w (ix2 r c)
      = logi (∑ k, rms (Ideal.ofBits .f32 0x44800000#32) (fun j => v0 (ix2 r j)) (fun j => v2 (ix2 0 j)) k * w (ix2 k c)) := by
  pointwise [k0_pay5, pay3_at, logi]
  rw [zero_sub]

/-- The four heads' scaled columns side by side, as the kernel lays them. -/
def heads (v38 : FVec Ideal S1x512 .f32) (v53 v68 v81 v82 : FVec Ideal S1024x128 .f32) (v84 : Vec Ideal S1024x128 .f32) : FVec Ideal S1024x512 .f32 :=
  concatenate S1024x512 1 [⟨S1024x128, v53⟩, ⟨S1024x128, v68⟩, ⟨S1024x128, mulf v81 v82⟩, ⟨S1024x128,
    mulf (mulf (shapeCast S1024x128 v84 shapeCasts_S1024x128_S1024x128) (broadcastTo S1024x128 (rsqrt (addf (divf (shapeCast S1024x1 (multiReduction .add [1] S1024 (mulf (shapeCast S1024x128 v84 shapeCasts_S1024x128_S1024x128) (shapeCast S1024x128 v84 shapeCasts_S1024x128_S1024x128)) 0x00000000#32 reduces_S1024x128_S1024 (.inl rfl) rfl) shapeCasts_S1024_S1024x1)
      (broadcast S1024x1 (Scalar.ofBits .f32 0x43000000#32))) (broadcast S1024x1 (Scalar.ofBits .f32 0x358637BD#32)))) broadcasts_S1024x1_S1024x128))
      (broadcastTo S1024x128 (extractStridedSlice S1x128 ![0, 384] v38 slices_S1x512_o0_384_S1x128) broadcasts_S1x128_S1024x128)⟩]
    concatenates_S1024x128_S1024x128_S1024x128_S1024x128_S1024x512_d1

/-- The merged rows from the gates, the heads' columns `y`, the output gate `o`, the attention rows `a` and the two projections. -/
def mergeOf (v26 v36 : FVec Ideal S1024x1024 .f32) (y : FVec Ideal S1024x512 .f32) (v100 : Vec Ideal S1024x512 .f32)
    (v111 : Vec Ideal S1024x512 .bf16) (v113 v117 : Vec Ideal S512x1024 .bf16) : FVec Ideal S1024x1024 .bf16 :=
  truncf .bf16 (addf (mulf v26 (matmul (φ₁ := .bf16) (φ₂ := .bf16) dot_S1024x512_S512x1024_S1024x1024_1_0_0_1_n_n none (shapeCast S1024x512 v111 shapeCasts_S1024x512_S1024x512) (shapeCast S512x1024 v113 shapeCasts_S512x1024_S512x1024) (constant S1024x1024 .f32 0x00000000#32)))
    (mulf v36 (matmul (φ₁ := .bf16) (φ₂ := .bf16) dot_S1024x512_S512x1024_S1024x1024_1_0_0_1_n_n none (truncf .bf16 (mulf y (divf (broadcast S1024x512 (Scalar.ofBits .f32 0x3F800000#32)) (addf (broadcast S1024x512 (Scalar.ofBits .f32 0x3F800000#32)) (exp (subf (broadcast S1024x512 (Scalar.ofBits .f32 0x00000000#32)) (shapeCast S1024x512 v100 shapeCasts_S1024x512_S1024x512)))))) bitsLt_bf16_f32) (shapeCast S512x1024 v117 shapeCasts_S512x1024_S512x1024) (constant S1024x1024 .f32 0x00000000#32)))) bitsLt_bf16_f32

/-- The kernel's merged payload is `mergeOf` of its heads. -/
theorem pay11_eq (v26 v36 : FVec Ideal S1024x1024 .f32) (v38 : FVec Ideal S1x512 .f32) (v53 v68 v81 v82 : FVec Ideal S1024x128 .f32)
    (v84 : Vec Ideal S1024x128 .f32) (v100 : Vec Ideal S1024x512 .f32) (v111 : Vec Ideal S1024x512 .bf16) (v113 v117 : Vec Ideal S512x1024 .bf16) :
    k0_pay11 v26 v36 v38 v53 v68 v81 v82 v84 v100 v111 v113 v117 = mergeOf v26 v36 (heads v38 v53 v68 v81 v82 v84) v100 v111 v113 v117 := rfl

/-- The merged rows at an index. -/
theorem mergeOf_at (v26 v36 : FVec Ideal S1024x1024 .f32) (y : FVec Ideal S1024x512 .f32) (v100 : Vec Ideal S1024x512 .f32)
    (v111 : Vec Ideal S1024x512 .bf16) (v113 v117 : Vec Ideal S512x1024 .bf16) (r c : Fin 1024) :
    mergeOf v26 v36 y v100 v111 v113 v117 (ix2 r c)
      = v26 (ix2 r c) * (∑ k, v111 (ix2 r k) * v113 (ix2 k c))
        + v36 (ix2 r c) * (∑ k, y (ix2 r k) * logi (v100 (ix2 r k)) * v117 (ix2 k c)) := by
  pointwise [mergeOf, logi]
  simp only [zero_sub]

/-- The heads' columns at an index. -/
theorem heads_at (g : Vec Ideal S1x512 .f32) (h : Vec Ideal S1024x512 .f32) (r : Fin 1024) (k : Fin 512) :
    heads (k0_pay6 (View.ld g r0_4)) (k0_pay7 (View.ld g r0_4) (View.ld h r0_5)) (k0_pay8 (View.ld g r0_4) (View.ld h r0_6)) (k0_pay9 (View.ld h r0_7)) (k0_pay10 (View.ld g r0_4)) (View.ld h r0_8) (ix2 r k)
      = hrms (fun j => h (ix2 r j)) (fun j => g (ix2 0 j)) k := by
  pointwise [heads, k0_pay6, k0_pay7, k0_pay8, k0_pay9, k0_pay10, hrms, rms, hcol]
  have hk := k.isLt
  split
  · blk_point []
  · split
    · blk_point []
    · split
      · blk_point []
      · blk_point []

end Cert.Mix

end
-- ==== Proof.MixRef.lean ====
/- The merge's reference at an index. -/
module

public import proofs.«01_k».proof.Proof.Gen.Reference2Ideal.Run
public import proofs.«01_k».proof.Proof.MixSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

open Cert.Reference2Ideal Cert.Reference2Ideal.Gen

/-- The reference's normalised rows. -/
def refH (a0 : FVec Ideal S4x4096x1024 .f32) (a5 : FVec Ideal S1x1024 .f32) : FVec Ideal S4x4096x1024 .f32 :=
  (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a5 shapeCasts_S1x1024_S1024))))

/-- The reference's attention gate. -/
def refGa (h : FVec Ideal S4x4096x1024 .f32) (a6 : FVec Ideal S1x1024x5640 .f32) : FVec Ideal S4x4096x1024 .f32 :=
  (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 3592] (Host.dotGeneral dot_S4x4096x1024_S1024x5640_S4x4096x5640_2_0_01_1_n_n none h (shapeCast _ a6 shapeCasts_S1x1024x5640_S1024x5640)) slices_S4x4096x5640_S4x4096x1024_0_0_3592)))))

/-- The reference's mLSTM gate. -/
def refGm (h : FVec Ideal S4x4096x1024 .f32) (a6 : FVec Ideal S1x1024x5640 .f32) : FVec Ideal S4x4096x1024 .f32 :=
  (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 4616] (Host.dotGeneral dot_S4x4096x1024_S1024x5640_S4x4096x5640_2_0_01_1_n_n none h (shapeCast _ a6 shapeCasts_S1x1024x5640_S1024x5640)) slices_S4x4096x5640_S4x4096x1024_0_0_4616)))))

/-- The reference's normalised heads. -/
def refY (a2 : FVec Ideal S4x4096x512 .f32) (a4 : FVec Ideal S1x512 .f32) : FVec Ideal S4x4096x512 .f32 :=
  (shapeCast _ (transpose S4x4096x4x128 [0, 2, 1, 3] (mulf (mulf (transpose S4x4x4096x128 [0, 2, 1, 3] (shapeCast _ a2 shapeCasts_S4x4096x512_S4x4096x4x128) transposes_S4x4096x4x128_S4x4x4096x128_0_2_1_3) (broadcastInDim S4x4x4096x128 ![0, 1, 2, 3] bcast_S4x4x4096x1_S4x4x4096x128_0_1_2_3 (Host.rsqrt (addf (Host.divf (broadcastInDim S4x4x4096x1 ![0, 1, 2] bcast_S4x4x4096_S4x4x4096x1_0_1_2 (Host.reduceAdd (mulf (transpose S4x4x4096x128 [0, 2, 1, 3] (shapeCast _ a2 shapeCasts_S4x4096x512_S4x4096x4x128) transposes_S4x4096x4x128_S4x4x4096x128_0_2_1_3) (transpose S4x4x4096x128 [0, 2, 1, 3] (shapeCast _ a2 shapeCasts_S4x4096x512_S4x4096x4x128) transposes_S4x4096x4x128_S4x4x4096x128_0_2_1_3)) (constant S_ .f32 0x00000000#32) reducesTo_S4x4x4096x128_S4x4x4096_d3 h_S_)) (broadcastInDim S4x4x4096x1 ![] bcast_S_S4x4x4096x1 (constant S_ .f32 0x43000000#32))) (broadcastInDim S4x4x4096x1 ![] bcast_S_S4x4x4096x1 (constant S_ .f32 0x358637BD#32)))))) (broadcastInDim S4x4x4096x128 ![0, 1, 2, 3] bcast_S1x4x1x128_S4x4x4096x128_0_1_2_3 (broadcastInDim S1x4x1x128 ![1, 2, 3] bcast_S4x1x128_S1x4x1x128_1_2_3 (shapeCast _ (shapeCast _ a4 shapeCasts_S1x512_S512) shapeCasts_S512_S4x1x128)))) transposes_S4x4x4096x128_S4x4096x4x128_0_2_1_3) shapeCasts_S4x4096x4x128_S4x4096x512)

/-- The reference's merged rows. -/
def refM (ga gm : FVec Ideal S4x4096x1024 .f32) (y : FVec Ideal S4x4096x512 .f32) (a1 : FVec Ideal S4x4096x512 .bf16) (a3 : FVec Ideal S4x4096x512 .f32)
    (a7 a8 : FVec Ideal S1x512x1024 .f32) : FVec Ideal S4x4096x1024 .f32 :=
  (addf (mulf ga (Host.dotGeneral dot_S4x4096x512_S512x1024_S4x4096x1024_2_0_01_1_n_n none (extf .f32 a1 bitsLt_bf16_f32) (shapeCast _ a7 shapeCasts_S1x512x1024_S512x1024))) (mulf gm (Host.dotGeneral dot_S4x4096x512_S512x1024_S4x4096x1024_2_0_01_1_n_n none (mulf y (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf a3))))) (shapeCast _ a8 shapeCasts_S1x512x1024_S512x1024))))

/-- The reference's result. -/
def refOut (a0 : FVec Ideal S4x4096x1024 .f32) (a1 : FVec Ideal S4x4096x512 .bf16) (a2 a3 : FVec Ideal S4x4096x512 .f32) (a4 : FVec Ideal S1x512 .f32)
    (a5 : FVec Ideal S1x1024 .f32) (a6 : FVec Ideal S1x1024x5640 .f32) (a7 a8 : FVec Ideal S1x512x1024 .f32) (a9 : FVec Ideal S1x1024x1024 .f32) :
    FVec Ideal S16384x1024 .f32 :=
  shapeCast _ (addf a0 (Host.dotGeneral dot_S4x4096x1024_S1024x1024_S4x4096x1024_2_0_01_1_n_n none (refM (refGa (refH a0 a5) a6) (refGm (refH a0 a5) a6) (refY a2 a4) a1 a3 a7 a8) (shapeCast _ a9 shapeCasts_S1x1024x1024_S1024x1024))) shapeCasts_S4x4096x1024_S16384x1024

/-- The normalised rows at an index. -/
theorem refH_at (a0 : FVec Ideal S4x4096x1024 .f32) (a5 : FVec Ideal S1x1024 .f32) (b : Fin 4) (s : Fin 4096) (k : Fin 1024) :
    refH a0 a5 (ix3 b s k) = rms (Ideal.ofBits .f32 0x44800000#32) (fun j => a0 (ix3 b s j)) (fun j => a5 (ix2 0 j)) k := by
  pointwise [refH, rms]

/-- The attention gate at an index. -/
theorem refGa_at (h : FVec Ideal S4x4096x1024 .f32) (a6 : FVec Ideal S1x1024x5640 .f32) (b : Fin 4) (s : Fin 4096) (c : Fin 1024) :
    refGa h a6 (ix3 b s c) = logi (∑ k, h (ix3 b s k) * a6 (ix3 0 k ⟨3592 + c, by omega⟩)) := by
  pointwise [refGa, logi]

/-- The mLSTM gate at an index. -/
theorem refGm_at (h : FVec Ideal S4x4096x1024 .f32) (a6 : FVec Ideal S1x1024x5640 .f32) (b : Fin 4) (s : Fin 4096) (c : Fin 1024) :
    refGm h a6 (ix3 b s c) = logi (∑ k, h (ix3 b s k) * a6 (ix3 0 k ⟨4616 + c, by omega⟩)) := by
  pointwise [refGm, logi]

/-- The normalised heads at an index. -/
theorem refY_at (a2 : FVec Ideal S4x4096x512 .f32) (a4 : FVec Ideal S1x512 .f32) (b : Fin 4) (s : Fin 4096) (k : Fin 512) :
    refY a2 a4 (ix3 b s k) = hrms (fun j => a2 (ix3 b s j)) (fun j => a4 (ix2 0 j)) k := by
  pointwise [refY, hrms, rms, hcol]
  blk_point []

/-- The merged rows at an index. -/
theorem refM_at (ga gm : FVec Ideal S4x4096x1024 .f32) (y : FVec Ideal S4x4096x512 .f32) (a1 : FVec Ideal S4x4096x512 .bf16) (a3 : FVec Ideal S4x4096x512 .f32)
    (a7 a8 : FVec Ideal S1x512x1024 .f32) (b : Fin 4) (s : Fin 4096) (c : Fin 1024) :
    refM ga gm y a1 a3 a7 a8 (ix3 b s c)
      = ga (ix3 b s c) * (∑ k, a1 (ix3 b s k) * a7 (ix3 0 k c)) + gm (ix3 b s c) * (∑ k, y (ix3 b s k) * logi (a3 (ix3 b s k)) * a8 (ix3 0 k c)) := by
  pointwise [refM, logi]

/-- The reference's result at an index: row `r` of the 16384 rows is row `r % 4096` of batch `r / 4096`. -/
theorem refOut_at (a0 : FVec Ideal S4x4096x1024 .f32) (a1 : FVec Ideal S4x4096x512 .bf16) (a2 a3 : FVec Ideal S4x4096x512 .f32) (a4 : FVec Ideal S1x512 .f32)
    (a5 : FVec Ideal S1x1024 .f32) (a6 : FVec Ideal S1x1024x5640 .f32) (a7 a8 : FVec Ideal S1x512x1024 .f32) (a9 : FVec Ideal S1x1024x1024 .f32)
    (b : Fin 4) (s : Fin 4096) (r : Fin 16384) (hr : (r : ℕ) = b * 4096 + s) (c : Fin 1024) :
    refOut a0 a1 a2 a3 a4 a5 a6 a7 a8 a9 (ix2 r c)
      = a0 (ix3 b s c) + ∑ k, merged (fun j => a0 (ix3 b s j)) (fun j => a1 (ix3 b s j)) (fun j => a2 (ix3 b s j)) (fun j => a3 (ix3 b s j))
          (fun j => a4 (ix2 0 j)) (fun j => a5 (ix2 0 j)) (fun k c => a6 (ix3 0 k ⟨3592 + c, by omega⟩)) (fun k c => a6 (ix3 0 k ⟨4616 + c, by omega⟩))
          (fun k c => a7 (ix3 0 k c)) (fun k c => a8 (ix3 0 k c)) k * a9 (ix3 0 k c) := by
  have h1 : (⟨(r : ℕ) / 4096, by omega⟩ : Fin 4) = b := Fin.ext (by simp only; omega)
  have h2 : (⟨(r : ℕ) % 4096, by omega⟩ : Fin 4096) = s := Fin.ext (by simp only; omega)
  pointwise [refOut, refM_at, refY_at, refGa_at, refGm_at, refH_at, merged]
  simp only [h1, h2]

/-- The run's term is `refOut` of the arguments. -/
theorem res_eq (m : (ℓ : Loc nD τ sig) → Buf (Elt Ideal) ℓ) (c : Dev nD) :
    Value.res_main_v67 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) := rfl

end Cert.Mix

end
-- ==== Proof.Mix.lean ====
/- The merge of the two mixers: the kernel's result array is the reference's term over the same arguments. -/
module

public import proofs.«01_k».proof.Proof.MixKer
public import proofs.«01_k».proof.Proof.MixRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Mix

open Cert.Kernel2Ideal Cert.Kernel2Ideal.Gen

/-- Every window's block index, at all sixteen grid points. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The two memories hold the same ten arguments. -/
abbrev Agree (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) : Prop :=
  m' ((c.tc : Thread Cert.Reference2Ideal.nD Cert.Reference2Ideal.τ).loc Cert.Reference2Ideal.main_arg0) = m ((c.tc : Thread nD τ).loc main_arg0)
  ∧ m' ((c.tc : Thread Cert.Reference2Ideal.nD Cert.Reference2Ideal.τ).loc Cert.Reference2Ideal.main_arg1) = m ((c.tc : Thread nD τ).loc main_arg1)
  ∧ m' ((c.tc : Thread Cert.Reference2Ideal.nD Cert.Reference2Ideal.τ).loc Cert.Reference2Ideal.main_arg2) = m ((c.tc : Thread nD τ).loc main_arg2)
  ∧ m' ((c.tc : Thread Cert.Reference2Ideal.nD Cert.Reference2Ideal.τ).loc Cert.Reference2Ideal.main_arg3) = m ((c.tc : Thread nD τ).loc main_arg3)
  ∧ m' ((c.tc : Thread Cert.Reference2Ideal.nD Cert.Reference2Ideal.τ).loc Cert.Reference2Ideal.main_arg4) = m ((c.tc : Thread nD τ).loc main_arg4)
  ∧ m' ((c.tc : Thread Cert.Reference2Ideal.nD Cert.Reference2Ideal.τ).loc Cert.Reference2Ideal.main_arg5) = m ((c.tc : Thread nD τ).loc main_arg5)
  ∧ m' ((c.tc : Thread Cert.Reference2Ideal.nD Cert.Reference2Ideal.τ).loc Cert.Reference2Ideal.main_arg6) = m ((c.tc : Thread nD τ).loc main_arg6)
  ∧ m' ((c.tc : Thread Cert.Reference2Ideal.nD Cert.Reference2Ideal.τ).loc Cert.Reference2Ideal.main_arg7) = m ((c.tc : Thread nD τ).loc main_arg7)
  ∧ m' ((c.tc : Thread Cert.Reference2Ideal.nD Cert.Reference2Ideal.τ).loc Cert.Reference2Ideal.main_arg8) = m ((c.tc : Thread nD τ).loc main_arg8)
  ∧ m' ((c.tc : Thread Cert.Reference2Ideal.nD Cert.Reference2Ideal.τ).loc Cert.Reference2Ideal.main_arg9) = m ((c.tc : Thread nD τ).loc main_arg9)

/-- One grid point's result block from its ten input blocks, at an index. -/
theorem point (x0 : Vec Ideal S1024x1024 .f32) (x1 : Vec Ideal S1024x512 .bf16) (x2 x3 : Vec Ideal S1024x512 .f32) (x4 : Vec Ideal S1x512 .f32)
    (x5 : Vec Ideal S1x1024 .f32) (x6 : Vec Ideal S1024x2048 .bf16) (x7 x8 : Vec Ideal S512x1024 .bf16) (x9 : Vec Ideal S1024x1024 .bf16) (r c : Fin 1024) :
    out0_10 x0 x1 x2 x3 x4 x5 x6 x7 x8 x9 (ix2 r c)
      = x0 (ix2 r c) + ∑ k, merged (fun j => x0 (ix2 r j)) (fun j => x1 (ix2 r j)) (fun j => x2 (ix2 r j)) (fun j => x3 (ix2 r j))
          (fun j => x4 (ix2 0 j)) (fun j => x5 (ix2 0 j)) (fun k c => x6 (ix2 k ⟨c, by omega⟩)) (fun k c => x6 (ix2 k ⟨1024 + c, by omega⟩))
          (fun k c => x7 (ix2 k c)) (fun k c => x8 (ix2 k c)) k * x9 (ix2 k c) := by
  unfold out0_10
  rw [View.canon_unit_zero (funext fun a => by fin_cases a <;> rfl)]
  rw [pay11_eq]
  pointwise [k0_pay1, k0_pay2, mergeOf_at, heads_at, pay4_at, pay5_at, merged]

variable (m : (ℓ : Loc nD τ sig) → Buf (Elt Ideal) ℓ) (c : Dev nD)

/-- Window 0's block at point `t`, read off its argument. -/
theorem blk0 (t : Fin cfg0.N) (ht : t.val < 16) (r : Fin 1024) (j : Fin 1024) :
    iblk m c 0 t (ix2 r j) = m ((c.tc : Thread nD τ).loc main_arg0) (ix3 ⟨t.val / 4, by omega⟩ ⟨t.val % 4 * 1024 + r, by omega⟩ j) := by
  blk_ext! [iblk, V, idx t]

/-- Window 1's block at point `t`, read off its argument. -/
theorem blk1 (t : Fin cfg0.N) (ht : t.val < 16) (r : Fin 1024) (j : Fin 512) :
    iblk m c 1 t (ix2 r j) = m ((c.tc : Thread nD τ).loc main_arg1) (ix3 ⟨t.val / 4, by omega⟩ ⟨t.val % 4 * 1024 + r, by omega⟩ j) := by
  blk_ext! [iblk, V, idx t]

/-- Window 2's block at point `t`, read off its argument. -/
theorem blk2 (t : Fin cfg0.N) (ht : t.val < 16) (r : Fin 1024) (j : Fin 512) :
    iblk m c 2 t (ix2 r j) = m ((c.tc : Thread nD τ).loc main_arg2) (ix3 ⟨t.val / 4, by omega⟩ ⟨t.val % 4 * 1024 + r, by omega⟩ j) := by
  blk_ext! [iblk, V, idx t]

/-- Window 3's block at point `t`, read off its argument. -/
theorem blk3 (t : Fin cfg0.N) (ht : t.val < 16) (r : Fin 1024) (j : Fin 512) :
    iblk m c 3 t (ix2 r j) = m ((c.tc : Thread nD τ).loc main_arg3) (ix3 ⟨t.val / 4, by omega⟩ ⟨t.val % 4 * 1024 + r, by omega⟩ j) := by
  blk_ext! [iblk, V, idx t]

/-- Window 4's block at point `t`, read off its argument. -/
theorem blk4 (t : Fin cfg0.N) (ht : t.val < 16) (r : Fin 1) (j : Fin 512) :
    iblk m c 4 t (ix2 r j) = m ((c.tc : Thread nD τ).loc main_arg4) (ix2 0 j) := by
  blk_ext! [iblk, V, idx t]

/-- Window 5's block at point `t`, read off its argument. -/
theorem blk5 (t : Fin cfg0.N) (ht : t.val < 16) (r : Fin 1) (j : Fin 1024) :
    iblk m c 5 t (ix2 r j) = m ((c.tc : Thread nD τ).loc main_arg5) (ix2 0 j) := by
  blk_ext! [iblk, V, idx t]

/-- Window 6's block at point `t`, read off its argument. -/
theorem blk6 (t : Fin cfg0.N) (ht : t.val < 16) (r : Fin 1024) (j : Fin 2048) :
    iblk m c 6 t (ix2 r j) = m ((c.tc : Thread nD τ).loc main_arg6) (ix3 0 r ⟨3592 + j, by omega⟩) := by
  blk_ext! [iblk, V, idx t]

/-- Window 7's block at point `t`, read off its argument. -/
theorem blk7 (t : Fin cfg0.N) (ht : t.val < 16) (r : Fin 512) (j : Fin 1024) :
    iblk m c 7 t (ix2 r j) = m ((c.tc : Thread nD τ).loc main_arg7) (ix3 0 r j) := by
  blk_ext! [iblk, V, idx t]

/-- Window 8's block at point `t`, read off its argument. -/
theorem blk8 (t : Fin cfg0.N) (ht : t.val < 16) (r : Fin 512) (j : Fin 1024) :
    iblk m c 8 t (ix2 r j) = m ((c.tc : Thread nD τ).loc main_arg8) (ix3 0 r j) := by
  blk_ext! [iblk, V, idx t]

/-- Window 9's block at point `t`, read off its argument. -/
theorem blk9 (t : Fin cfg0.N) (ht : t.val < 16) (r : Fin 1024) (j : Fin 1024) :
    iblk m c 9 t (ix2 r j) = m ((c.tc : Thread nD τ).loc main_arg9) (ix3 0 r j) := by
  blk_ext! [iblk, V, idx t]

/-- One grid point's block, at an index, is the reference's term at the index it is written to. -/
theorem tile (t : Fin cfg0.N) (r c' : Fin 1024) (ht : t.val < 16) (i : S16384x1024.Idx) (hi : i = ix2 ⟨t.val * 1024 + r, by omega⟩ c') :
    out0_10 (iblk m c 0 t) (iblk m c 1 t) (iblk m c 2 t) (iblk m c 3 t) (iblk m c 4 t) (iblk m c 5 t) (iblk m c 6 t)
      (iblk m c 7 t) (iblk m c 8 t) (iblk m c 9 t) (ix2 r c') =
    Cert.Mix.refOut (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7))
      (m (c.tc.loc main_arg8)) (m (c.tc.loc main_arg9)) i := by
  subst hi
  refine (point _ _ _ _ _ _ _ _ _ _ r c').trans ?_
  refine Eq.trans ?_ (refOut_at _ _ _ _ _ _ _ _ _ _ ⟨t.val / 4, by omega⟩ ⟨t.val % 4 * 1024 + r, by omega⟩ ⟨t.val * 1024 + r, by omega⟩ (by simp only; omega) c').symm
  simp only [blk0 m c t ht, blk1 m c t ht, blk2 m c t ht, blk3 m c t ht, blk4 m c t ht, blk5 m c t ht, blk6 m c t ht, blk7 m c t ht, blk8 m c t ht, blk9 m c t ht]
  simp only [← Nat.add_assoc, Nat.reduceAdd]

/-- After the run the kernel's result array is the reference's term. -/
theorem final (m' : (ℓ : Loc Cert.Reference2Ideal.nD Cert.Reference2Ideal.τ Cert.Reference2Ideal.sig) → Buf (Elt Ideal) ℓ)
    (h : Agree m m' c) :
    (dats m 0 c).arrAt 10 (cfgs 0).N = Cert.Reference2Ideal.Value.res_main_v67 m' c := by
  rw [res_eq]
  simp only [h]
  refine (dats m 0 c).arrAt_eq_of_covers 10 _ (by decide +kernel) fun t _ y => ?_
  blk_simp
  rw [after0_10]
  obtain ⟨r, c', rfl⟩ : ∃ (r c' : Fin 1024), y = ix2 r c' := ⟨y 0, y 1, eq_ix2 y⟩
  refine tile m c t r c' t.isLt _ ?_
  blk_ext [idx t]

end Cert.Mix

end
-- ==== Proof.MlstmMath.lean ====
/- The stabilised gated recurrence over the reals, and one chunk of it over the extended reals: what a chunk of any length
   computes from the state at its start is the recurrence itself. -/
module

public import Idealize.ShloMosaic.Lib.Pipeline.ValueKit
public import Idealize.ShloMosaic.Lib.Claim

@[expose] public section

noncomputable section

open Idealize.ShloMosaic

namespace Cert.Mlstm

/-! ### The recurrence over the reals -/

section Reals

variable (f a : ℕ → ℝ)

/-- The forget gates' logarithms summed over the first `t` positions. -/
def B (t : ℕ) : ℝ := ∑ r ∈ Finset.range t, f r

/-- The stabiliser after `t` positions. -/
def M : ℕ → ℝ
  | 0 => 0
  | t + 1 => max (f t + M t) (a t)

/-- The gated, stabilised sum of `u` after `t` positions. -/
def S (u : ℕ → ℝ) (t : ℕ) : ℝ := ∑ s ∈ Finset.range t, Real.exp (B f t - B f (s + 1) + a s - M f a t) * u s

/-- The forget gates' logarithms summed over one more position. -/
theorem B_succ (t : ℕ) : B f (t + 1) = B f t + f t := Finset.sum_range_succ _ _

/-- No position's gate exceeds the stabiliser. -/
theorem le_M (t : ℕ) : ∀ s < t, B f t - B f (s + 1) + a s ≤ M f a t := by
  induction t with
  | zero => intro s h; omega
  | succ t ih =>
    intro s h
    rcases Nat.lt_succ_iff_lt_or_eq.mp h with h | rfl
    · have := ih s h
      have := le_max_left (f t + M f a t) (a t)
      rw [B_succ, M]; linarith
    · have := le_max_right (f s + M f a s) (a s)
      rw [M]; linarith

/-- The carried stabiliser does not exceed the later one. -/
theorem carry_le_M (T n : ℕ) : B f (T + n) - B f T + M f a T ≤ M f a (T + n) := by
  induction n with
  | zero => simp
  | succ n ih =>
    have := le_max_left (f (T + n) + M f a (T + n)) (a (T + n))
    rw [← Nat.add_assoc, B_succ, M]; linarith

/-- The later stabiliser is the carried one or a later position's gate. -/
theorem M_attained (T n : ℕ) : M f a (T + n) = B f (T + n) - B f T + M f a T
    ∨ ∃ s < n, M f a (T + n) = B f (T + n) - B f (T + s + 1) + a (T + s) := by
  induction n with
  | zero => left; simp
  | succ n ih =>
    rw [← Nat.add_assoc, M]
    rcases max_choice (f (T + n) + M f a (T + n)) (a (T + n)) with h | h
    · rw [h]
      rcases ih with ih | ⟨s, hs, ih⟩
      · left; rw [ih, B_succ]; ring
      · right; exact ⟨s, by omega, by rw [ih, B_succ f (T + n)]; ring⟩
    · rw [h]; right; exact ⟨n, by omega, by ring⟩

/-- A sum over the positions up to `l` of a chunk, as a masked sum over the chunk. -/
theorem sum_mask {L : ℕ} (g : ℕ → ℝ) (l : Fin L) :
    (∑ s : Fin L, if s ≤ l then g s else 0) = ∑ s ∈ Finset.range (l + 1), g s := by
  have h : (∑ s : Fin L, if s ≤ l then g s else 0) = ∑ s : Fin L, (fun i : ℕ => if i ≤ l.val then g i else 0) s :=
    Finset.sum_congr rfl fun s _ => rfl
  rw [h, Fin.sum_univ_eq_sum_range (fun i : ℕ => if i ≤ l.val then g i else 0) L, ← Finset.sum_filter]
  refine Finset.sum_congr ?_ fun _ _ => rfl
  ext i; have := l.isLt; simp only [Finset.mem_filter, Finset.mem_range]; omega

/-- The prefix sums inside a chunk. -/
theorem B_chunk {L : ℕ} (T : ℕ) (l : Fin L) :
    (∑ s : Fin L, if s ≤ l then f (T + s) else 0) = B f (T + (l + 1)) - B f T := by
  rw [sum_mask (fun s => f (T + s)) l, B, B, Finset.sum_range_add (fun r => f r) T (l + 1)]; ring

/-- The sum after `n` more positions: the carried sum rescaled, and the new positions. -/
theorem S_chunk (u : ℕ → ℝ) (T n : ℕ) :
    Real.exp (B f (T + n) - B f T + M f a T - M f a (T + n)) * S f a u T
      + ∑ s ∈ Finset.range n, Real.exp (B f (T + n) - B f T - (B f (T + (s + 1)) - B f T) + a (T + s) - M f a (T + n)) * u (T + s)
      = S f a u (T + n) := by
  unfold S
  rw [Finset.sum_range_add, Finset.mul_sum]
  congr 1
  · refine Finset.sum_congr rfl fun s _ => ?_
    rw [← mul_assoc, ← Real.exp_add]; congr 2; ring
  · refine Finset.sum_congr rfl fun s _ => ?_
    rw [Nat.add_assoc]; congr 2; ring

/-- The masked form, for a position inside a chunk. -/
theorem S_mask {L : ℕ} (u : ℕ → ℝ) (T : ℕ) (l : Fin L) :
    Real.exp (B f (T + (l + 1)) - B f T + M f a T - M f a (T + (l + 1))) * S f a u T
      + ∑ s : Fin L, (if s ≤ l then Real.exp (B f (T + (l + 1)) - B f T - (B f (T + (s + 1)) - B f T) + a (T + s) - M f a (T + (l + 1))) else 0) * u (T + s)
      = S f a u (T + (l + 1)) := by
  rw [← S_chunk]
  congr 1
  rw [← sum_mask (fun s => Real.exp (B f (T + (l + 1)) - B f T - (B f (T + (s + 1)) - B f T) + a (T + s) - M f a (T + (l + 1))) * u (T + s)) l]
  exact Finset.sum_congr rfl fun s _ => by split <;> simp

/-- The whole chunk. -/
theorem S_full {L : ℕ} (u : ℕ → ℝ) (T : ℕ) :
    Real.exp (B f (T + L) - B f T + M f a T - M f a (T + L)) * S f a u T
      + ∑ s : Fin L, Real.exp (B f (T + L) - B f T - (B f (T + (s + 1)) - B f T) + a (T + s) - M f a (T + L)) * u (T + s)
      = S f a u (T + L) := by
  rw [← S_chunk]
  congr 1
  exact Fin.sum_univ_eq_sum_range (fun s => Real.exp (B f (T + L) - B f T - (B f (T + (s + 1)) - B f T) + a (T + s) - M f a (T + L)) * u (T + s)) L

end Reals

/-- The recurrence's output at position `t`, column `j`: the state's product with the query over the stabilised normaliser. -/
def hout (f a : ℕ → ℝ) (Q K V : ℕ → Fin 128 → ℝ) (t : ℕ) (j : Fin 128) : ℝ :=
  (∑ d, Q t d * S f a (fun s => K s d * V s j) (t + 1))
    / max |∑ d, Q t d * S f a (fun s => K s d) (t + 1)| (Real.exp (-M f a (t + 1)))

/-- A query's product with a rescaled state and the new keys, gathered by the query's columns. -/
theorem num_real {L : ℕ} (w0 : ℝ) (w : Fin L → ℝ) (q c0 : Fin 128 → ℝ) (k : Fin L → Fin 128 → ℝ) (v : Fin L → ℝ) :
    w0 * (∑ d, q d * c0 d) + ∑ s, w s * (∑ d, q d * k s d) * v s = ∑ d, q d * (w0 * c0 d + ∑ s, w s * (k s d * v s)) := by
  simp only [mul_add, Finset.sum_add_distrib, Finset.mul_sum, Finset.sum_mul]
  congr 1
  · exact Finset.sum_congr rfl fun d _ => by ring
  · rw [Finset.sum_comm]
    exact Finset.sum_congr rfl fun d _ => Finset.sum_congr rfl fun s _ => by ring

/-! ### One chunk over the extended reals -/

/-- The exponential of a real. -/
theorem exp_coe (x : ℝ) : Ideal.exp (x : EReal) = ((Real.exp x : ℝ) : EReal) := rfl

/-- The exponential of a masked, shifted entry. -/
theorem exp_mask (p : Prop) [Decidable p] (x y : ℝ) :
    Ideal.exp ((if p then (x : EReal) else ⊥) - (y : EReal)) = (((if p then Real.exp (x - y) else 0) : ℝ) : EReal) := by
  split
  · rw [← EReal.coe_sub, exp_coe]
  · rw [EReal.bot_sub]; rfl

/-- A sum of reals. -/
theorem coe_sum {ι : Type} (s : Finset ι) (g : ι → ℝ) : (∑ i ∈ s, (g i : EReal)) = ((∑ i ∈ s, g i : ℝ) : EReal) := by
  classical
  induction s using Finset.induction_on with
  | empty => simp
  | insert i s hi ih => rw [Finset.sum_insert hi, Finset.sum_insert hi, ih, EReal.coe_add]

/-- A larger of two reals. -/
theorem coe_max (x y : ℝ) : max (x : EReal) (y : EReal) = ((max x y : ℝ) : EReal) :=
  (EReal.coe_strictMono.monotone.map_max).symm

/-- The larger of a number and its negative. -/
theorem coe_abs (x : ℝ) : max (x : EReal) (-(x : EReal)) = ((|x| : ℝ) : EReal) := by
  rw [← EReal.coe_neg, coe_max]; rfl

/-- A quotient of reals with a positive divisor. -/
theorem coe_div (x y : ℝ) (h : 0 < y) : Ideal.div (x : EReal) (y : EReal) = ((x / y : ℝ) : EReal) := by
  have h0 : (y : EReal) ≠ 0 := by exact_mod_cast h.ne'
  rw [Ideal.div, if_neg h0, ← EReal.coe_inv, ← EReal.coe_mul]; rfl

section Chunk

variable (f a : ℕ → ℝ) (T : ℕ) {L : ℕ}

/-- The prefix sums inside the chunk that starts at `T`. -/
abbrev bc (n : ℕ) : ℝ := B f (T + n) - B f T

/-- The largest entry of a masked row, with the carried stabiliser, is the stabiliser at that position. -/
theorem max_mask (l : Fin L) :
    max ((bc f T (l + 1) + M f a T : ℝ) : EReal)
      (Finset.univ.fold max ⊥ fun s : Fin L => if s ≤ l then ((bc f T (l + 1) - bc f T (s + 1) + a (T + s) : ℝ) : EReal) else ⊥)
      = (M f a (T + (l + 1)) : EReal) := by
  apply le_antisymm
  · refine max_le (EReal.coe_le_coe_iff.mpr (carry_le_M f a T _)) ((Finset.fold_max_le _).mpr ⟨bot_le, fun s _ => ?_⟩)
    split
    · refine EReal.coe_le_coe_iff.mpr ?_
      have h := le_M f a (T + (l + 1)) (T + s) (by have : (s : ℕ) ≤ l := by assumption
                                                   omega)
      unfold bc; rw [← Nat.add_assoc T s 1]; linarith
    · exact bot_le
  · rcases M_attained f a T (l + 1) with h | ⟨s, hs, h⟩
    · exact le_max_of_le_left (EReal.coe_le_coe_iff.mpr h.le)
    · refine le_max_of_le_right ((Finset.le_fold_max _).mpr (Or.inr ⟨⟨s, by omega⟩, Finset.mem_univ _, ?_⟩))
      rw [if_pos (by rw [Fin.le_def]; simp only; omega)]
      refine EReal.coe_le_coe_iff.mpr (h.le.trans (le_of_eq ?_))
      unfold bc; rw [← Nat.add_assoc T s 1]; ring

/-- The largest entry of the chunk's last row, with the carried stabiliser, is the stabiliser after the chunk. -/
theorem max_full :
    max ((bc f T L + M f a T : ℝ) : EReal)
      (Finset.univ.fold max ⊥ fun s : Fin L => ((bc f T L - bc f T (s + 1) + a (T + s) : ℝ) : EReal))
      = (M f a (T + L) : EReal) := by
  rcases L with _ | n
  · simp
  · refine Eq.trans ?_ (max_mask f a T (Fin.last n))
    congr 1
    refine congrArg (Finset.univ.fold max ⊥) (funext fun s => ?_)
    rw [if_pos (Fin.le_last s)]; rfl

/-- A largest entry of finitely many, one of them real and none `⊤`, is real. -/
theorem fold_real (g : Fin L → EReal) (h : ∀ s, g s ≠ ⊤) (s0 : Fin L) (h0 : g s0 ≠ ⊥) :
    ∃ μ : ℝ, (Finset.univ.fold max ⊥ g) = (μ : EReal) := by
  have ht : (Finset.univ.fold max ⊥ g) ≠ ⊤ := by
    have : (Finset.univ.fold max ⊥ g) < ⊤ := (Finset.fold_max_lt _).mpr ⟨bot_lt_top, fun s _ => lt_top_iff_ne_top.mpr (h s)⟩
    exact this.ne
  have hb : (Finset.univ.fold max ⊥ g) ≠ ⊥ := by
    have : ⊥ < (Finset.univ.fold max ⊥ g) := (Finset.lt_fold_max _).mpr (Or.inr ⟨s0, Finset.mem_univ _, bot_lt_iff_ne_bot.mpr h0⟩)
    exact this.ne'
  exact ⟨_, (EReal.coe_toReal ht hb).symm⟩

variable (Q K V : ℕ → Fin 128 → ℝ)

/-- The weight of the carried state at a position of the chunk. -/
abbrev wCar (n : ℕ) : ℝ := Real.exp (bc f T n + M f a T - M f a (T + n))

/-- The weight of a new position at a position of the chunk. -/
abbrev wNew (n s : ℕ) : ℝ := Real.exp (bc f T n - bc f T (s + 1) + a (T + s) - M f a (T + n))

/-- A masked weight. -/
abbrev wMask (l s : Fin L) : ℝ := if s ≤ l then wNew f a T (l + 1) s else 0

/-- The numerator at a position of the chunk. -/
theorem num_chunk (l : Fin L) (j : Fin 128) :
    (wCar f a T (l + 1) : EReal) * (∑ d, (Q (T + l) d : EReal) * (S f a (fun s => K s d * V s j) T : EReal))
      + ∑ s : Fin L, (wMask f a T l s : EReal) * (∑ d, (Q (T + l) d : EReal) * (K (T + s) d : EReal)) * (V (T + s) j : EReal)
      = ((∑ d, Q (T + l) d * S f a (fun s => K s d * V s j) (T + l + 1) : ℝ) : EReal) := by
  simp only [← EReal.coe_mul, coe_sum, ← EReal.coe_add]
  rw [num_real (wCar f a T (l + 1)) (fun s => wMask f a T l s) (fun d => Q (T + l) d) (fun d => S f a (fun s => K s d * V s j) T)
    (fun s d => K (T + s) d) (fun s => V (T + s) j)]
  refine congrArg _ (Finset.sum_congr rfl fun d _ => ?_)
  rw [S_mask f a (fun s => K s d * V s j) T l]; rfl

/-- The normaliser at a position of the chunk. -/
theorem den_chunk (l : Fin L) :
    (wCar f a T (l + 1) : EReal) * (∑ d, (Q (T + l) d : EReal) * (S f a (fun s => K s d) T : EReal))
      + ∑ s : Fin L, (wMask f a T l s : EReal) * (∑ d, (Q (T + l) d : EReal) * (K (T + s) d : EReal))
      = ((∑ d, Q (T + l) d * S f a (fun s => K s d) (T + l + 1) : ℝ) : EReal) := by
  simp only [← EReal.coe_mul, coe_sum, ← EReal.coe_add]
  have h := num_real (wCar f a T (l + 1)) (fun s => wMask f a T l s) (fun d => Q (T + l) d) (fun d => S f a (fun s => K s d) T)
    (fun s d => K (T + s) d) (fun s => 1)
  simp only [mul_one] at h
  rw [h]
  refine congrArg _ (Finset.sum_congr rfl fun d _ => ?_)
  rw [S_mask f a (fun s => K s d) T l]; rfl

/-- The output from its numerator, its normaliser and the stabiliser. -/
theorem out_chunk (t : ℕ) (j : Fin 128) :
    Ideal.div ((∑ d, Q t d * S f a (fun s => K s d * V s j) (t + 1) : ℝ) : EReal)
      (max (max ((∑ d, Q t d * S f a (fun s => K s d) (t + 1) : ℝ) : EReal) (-((∑ d, Q t d * S f a (fun s => K s d) (t + 1) : ℝ) : EReal)))
        (Ideal.exp (-(M f a (t + 1) : EReal)))) = (hout f a Q K V t j : EReal) := by
  rw [coe_abs, ← EReal.coe_neg, exp_coe, coe_max, coe_div _ _ (lt_max_of_lt_right (Real.exp_pos _))]
  rfl

/-- The state after the chunk. -/
theorem state_chunk (u : ℕ → ℝ) :
    (wCar f a T L : EReal) * (S f a u T : EReal) + ∑ s : Fin L, (wNew f a T L s : EReal) * (u (T + s) : EReal) = (S f a u (T + L) : EReal) := by
  simp only [← EReal.coe_mul, coe_sum, ← EReal.coe_add]
  rw [S_full f a u T]

end Chunk

/-! ### The sequences of one batch and head -/

/-- A head's rows of a 512-column array. -/
def seqX (x : Fin 4 → Fin 4096 → Fin 512 → EReal) (b h : Fin 4) (t : ℕ) (d : Fin 128) : ℝ :=
  if ht : t < 4096 then (x b ⟨t, ht⟩ ⟨128 * h + d, by omega⟩).toReal else 0

/-- A head's keys, stored by blocks of 256 positions with the positions last. -/
def seqK (x : Fin 4 → Fin 16 → Fin 512 → Fin 256 → EReal) (b h : Fin 4) (t : ℕ) (d : Fin 128) : ℝ :=
  if ht : t < 4096 then (x b ⟨t / 256, by omega⟩ ⟨128 * h + d, by omega⟩ ⟨t % 256, by omega⟩).toReal else 0

/-- A head's input gates. -/
def seqI (x : Fin 4 → Fin 4096 → Fin 8 → EReal) (b h : Fin 4) (t : ℕ) : ℝ :=
  if ht : t < 4096 then (x b ⟨t, ht⟩ ⟨h, by omega⟩).toReal else 0

/-- A head's forget gates. -/
def seqF (x : Fin 4 → Fin 4096 → Fin 8 → EReal) (b h : Fin 4) (t : ℕ) : ℝ :=
  if ht : t < 4096 then (x b ⟨t, ht⟩ ⟨4 + h, by omega⟩).toReal else 0

/-- A head's rows are the array's entries, where those are real. -/
theorem seqX_coe (x : Fin 4 → Fin 4096 → Fin 512 → EReal) (hx : ∀ b t c, x b t c ≠ ⊤ ∧ x b t c ≠ ⊥) (b h : Fin 4) (t : ℕ) (ht : t < 4096) (d : Fin 128) :
    (seqX x b h t d : EReal) = x b ⟨t, ht⟩ ⟨128 * h + d, by omega⟩ := by
  rw [seqX, dif_pos ht, EReal.coe_toReal (hx _ _ _).1 (hx _ _ _).2]

/-- A head's keys are the array's entries, where those are real. -/
theorem seqK_coe (x : Fin 4 → Fin 16 → Fin 512 → Fin 256 → EReal) (hx : ∀ b t c l, x b t c l ≠ ⊤ ∧ x b t c l ≠ ⊥) (b h : Fin 4) (t : ℕ) (ht : t < 4096) (d : Fin 128) :
    (seqK x b h t d : EReal) = x b ⟨t / 256, by omega⟩ ⟨128 * h + d, by omega⟩ ⟨t % 256, by omega⟩ := by
  rw [seqK, dif_pos ht, EReal.coe_toReal (hx _ _ _ _).1 (hx _ _ _ _).2]

/-- A head's input gates are the array's entries, where those are real. -/
theorem seqI_coe (x : Fin 4 → Fin 4096 → Fin 8 → EReal) (hx : ∀ b t c, x b t c ≠ ⊤ ∧ x b t c ≠ ⊥) (b h : Fin 4) (t : ℕ) (ht : t < 4096) :
    (seqI x b h t : EReal) = x b ⟨t, ht⟩ ⟨h, by omega⟩ := by
  rw [seqI, dif_pos ht, EReal.coe_toReal (hx _ _ _).1 (hx _ _ _).2]

/-- A head's forget gates are the array's entries, where those are real. -/
theorem seqF_coe (x : Fin 4 → Fin 4096 → Fin 8 → EReal) (hx : ∀ b t c, x b t c ≠ ⊤ ∧ x b t c ≠ ⊥) (b h : Fin 4) (t : ℕ) (ht : t < 4096) :
    (seqF x b h t : EReal) = x b ⟨t, ht⟩ ⟨4 + h, by omega⟩ := by
  rw [seqF, dif_pos ht, EReal.coe_toReal (hx _ _ _).1 (hx _ _ _).2]

end Cert.Mlstm
-- ==== Proof.MlstmKer.lean ====
/- The recurrence's kernel at an index: one chunk of one head. -/
module

public import proofs.«01_k».proof.Proof.Gen.KernelIdeal.Value
public import proofs.«01_k».proof.Proof.MlstmMath
public import Idealize.ShloMosaic.Lib.Pipeline.ValueKit
public import Idealize.ShloMosaic.Lib.Claim
public import Idealize.ShloMosaic.Lib.WordCmp

@[expose] public section

set_option maxRecDepth 16384

noncomputable section

open Idealize.ShloMosaic Idealize.ShloMosaic.TcCoe Idealize.SL.Sem Idealize.ShloMosaic.WordCmp

namespace Cert.Mlstm

open Cert.KernelIdeal Cert.KernelIdeal.Gen

/-- Two positions' words compare as the positions do. -/
theorem sle_at (s l : Fin 128) : IntOp.cmpi CmpIPredicate.sle (BitVec.ofNat 32 s) (BitVec.ofNat 32 l) = BitVec.ofBool (decide (s ≤ l)) := by
  rw [cmpi_sle_ofNat (by omega) (by omega)]; rfl

/-- The causal comparison at an index. -/
theorem pay7_at (l s : Fin 128) : k0_pay7 (ix2 l s) = BitVec.ofBool (decide (s ≤ l)) := by
  pointwise [k0_pay7]
  exact sle_at s l

/-- The lower triangle at an index. -/
theorem pay8_at (l s : Fin 128) : k0_pay8 (F := Ideal) (ix2 l s) = if s ≤ l then (1 : EReal) else 0 := by
  pointwise [k0_pay8, pay7_at, hlo_ix]

/-- The upper triangle at an index. -/
theorem pay9_at (s l : Fin 128) : k0_pay9 (F := Ideal) (ix2 s l) = if s ≤ l then (1 : EReal) else 0 := by
  pointwise [k0_pay9, sle_at, hlo_ix]

/-- The column of ones at an index. -/
theorem pay10_at (s j : Fin 128) : k0_pay10 (F := Ideal) (ix2 s j) = if j = 0 then (1 : EReal) else 0 := by
  pointwise [k0_pay10, hlo_ix]
  simp only [toNat_ofNat_of_lt (show (j : ℕ) < 2 ^ 32 by omega), Fin.ext_iff]
  rfl

/-- The gates' columns at an index. -/
theorem pay11_at (X : Vec Ideal S1x128x8 .f32) (s : Fin 128) (c : Fin 8) : k0_pay11 X (ix2 s c) = X (ix3 0 s c) := by
  pointwise [k0_pay11]

/-- The gates' rows at an index. -/
theorem pay12_at (X : Vec Ideal S1x8x128 .f32) (c : Fin 8) (s : Fin 128) : k0_pay12 X (ix2 c s) = X (ix3 0 c s) := by
  pointwise [k0_pay12]

/-- The first part of the gates at an index. -/
theorem pay13_at (X : Vec Ideal S1x128x8 .f32) (s : Fin 128) (c : Fin 8) : k0_pay13 X (ix2 s c) = X (ix3 0 s c) := by
  pointwise [k0_pay13, pay11_at]

/-- What the first part leaves. -/
theorem pay14_at (X : Vec Ideal S1x128x8 .f32) (s : Fin 128) (c : Fin 8) : k0_pay14 X (ix2 s c) = X (ix3 0 s c) - X (ix3 0 s c) := by
  pointwise [k0_pay14, pay11_at, pay13_at]

/-- The second part of the gates at an index. -/
theorem pay15_at (X : Vec Ideal S1x128x8 .f32) (s : Fin 128) (c : Fin 8) : k0_pay15 X (ix2 s c) = X (ix3 0 s c) - X (ix3 0 s c) := by
  pointwise [k0_pay15, pay14_at]

/-- The third part of the gates at an index. -/
theorem pay16_at (X : Vec Ideal S1x128x8 .f32) (s : Fin 128) (c : Fin 8) :
    k0_pay16 X (ix2 s c) = X (ix3 0 s c) - X (ix3 0 s c) - (X (ix3 0 s c) - X (ix3 0 s c)) := by
  pointwise [k0_pay16, pay14_at, pay15_at]

/-- The sums of the first two parts at an index. -/
theorem pay17_at (X : Vec Ideal S1x128x8 .f32) (l : Fin 128) (c : Fin 8) :
    k0_pay17 X (ix2 l c) = 0 + (0 + ∑ s : Fin 128, (if s ≤ l then (1 : EReal) else 0) * X (ix3 0 s c))
      + (0 + ∑ s : Fin 128, (if s ≤ l then (1 : EReal) else 0) * (X (ix3 0 s c) - X (ix3 0 s c))) := by
  pointwise [k0_pay17, pay8_at, pay13_at, pay15_at]

/-- The gates' prefix sums as columns. -/
def kBcA (X : Vec Ideal S1x128x8 .f32) : FVec Ideal S128x8 .f32 :=
  k0_pay18 (k0_pay8 (F := Ideal)) (k0_pay16 X) (k0_pay17 X) (constant S128x8 .f32 0x00000000#32)

/-- The gates' prefix sums as rows. -/
def kBrA (X : Vec Ideal S1x8x128 .f32) : FVec Ideal S8x128 .f32 := k0_pay19 (k0_pay9 (F := Ideal)) (k0_pay12 X)

/-- The gates' prefix sums as columns at an index. -/
theorem kBcA_at (X : Vec Ideal S1x128x8 .f32) (l : Fin 128) (c : Fin 8) :
    kBcA X (ix2 l c) = (0 + (0 + ∑ s : Fin 128, (if s ≤ l then (1 : EReal) else 0) * X (ix3 0 s c))
      + (0 + ∑ s : Fin 128, (if s ≤ l then (1 : EReal) else 0) * (X (ix3 0 s c) - X (ix3 0 s c))))
      + (0 + ∑ s : Fin 128, (if s ≤ l then (1 : EReal) else 0) * (X (ix3 0 s c) - X (ix3 0 s c) - (X (ix3 0 s c) - X (ix3 0 s c)))) := by
  pointwise [kBcA, k0_pay18, pay8_at, pay16_at, pay17_at]

/-- The gates' prefix sums as rows at an index. -/
theorem kBrA_at (X : Vec Ideal S1x8x128 .f32) (c : Fin 8) (l : Fin 128) :
    kBrA X (ix2 c l) = (0 + (0 + ∑ s : Fin 128, X (ix3 0 c s) * (if s ≤ l then (1 : EReal) else 0))
      + (0 + ∑ s : Fin 128, (X (ix3 0 c s) - X (ix3 0 c s)) * (if s ≤ l then (1 : EReal) else 0)))
      + (0 + ∑ s : Fin 128, (X (ix3 0 c s) - X (ix3 0 c s) - (X (ix3 0 c s) - X (ix3 0 c s))) * (if s ≤ l then (1 : EReal) else 0)) := by
  pointwise [kBrA, k0_pay19, pay9_at, pay12_at]

/-- Real gates' prefix sums as columns. -/
theorem kBcA_real (X : Vec Ideal S1x128x8 .f32) (c : Fin 8) (f : ℕ → ℝ) (T : ℕ)
    (hX : ∀ s : Fin 128, X (ix3 0 s c) = ((f (T + s) : ℝ) : EReal)) (l : Fin 128) :
    kBcA X (ix2 l c) = ((bc f T (l + 1) : ℝ) : EReal) := by
  rw [kBcA_at]
  simp only [hX, ← EReal.coe_sub, sub_self, EReal.coe_zero, mul_zero, Finset.sum_const_zero, zero_add, add_zero, ite_mul, one_mul, zero_mul, sub_zero, ite_self]
  rw [bc, ← B_chunk f T l, ← coe_sum]
  exact Finset.sum_congr rfl fun s _ => by split <;> rfl

/-- Real gates' prefix sums as rows. -/
theorem kBrA_real (X : Vec Ideal S1x8x128 .f32) (c : Fin 8) (f : ℕ → ℝ) (T : ℕ)
    (hX : ∀ s : Fin 128, X (ix3 0 c s) = ((f (T + s) : ℝ) : EReal)) (l : Fin 128) :
    kBrA X (ix2 c l) = ((bc f T (l + 1) : ℝ) : EReal) := by
  rw [kBrA_at]
  simp only [hX, ← EReal.coe_sub, sub_self, EReal.coe_zero, zero_mul, Finset.sum_const_zero, zero_add, add_zero, mul_ite, mul_one, mul_zero, sub_zero, ite_self]
  rw [bc, ← B_chunk f T l, ← coe_sum]
  exact Finset.sum_congr rfl fun s _ => by split <;> rfl

/-- A chunk's queries at an index. -/
theorem pay23_at (X : Vec Ideal S1x128x128 .bf16) (l d : Fin 128) : k0_pay23 X (ix2 l d) = X (ix3 0 l d) := by
  pointwise [k0_pay23]

/-- A chunk's transposed keys at an index. -/
theorem pay24_at (X : Vec Ideal S1x1x128x128 .bf16) (d s : Fin 128) : k0_pay24 X (ix2 d s) = X (ix4 0 0 d s) := by
  pointwise [k0_pay24]

/-- A chunk's values at an index. -/
theorem pay25_lo (X : Vec Ideal S1x128x128 .bf16) (s j : Fin 128) :
    k0_pay25 (k0_pay10 (F := Ideal)) X (ix2 s ⟨j, by omega⟩) = X (ix3 0 s j) := by
  pointwise [k0_pay25, pay10_at]

/-- The column after a chunk's values. -/
theorem pay25_hi (X : Vec Ideal S1x128x128 .bf16) (s : Fin 128) :
    k0_pay25 (k0_pay10 (F := Ideal)) X (ix2 s 128) = 1 := by
  pointwise [k0_pay25, pay10_at]

/-- The masked gates of a chunk. -/
def kDm (a b : FVec Ideal S1x128 .f32) (bcl : FVec Ideal S128x1 .f32) : FVec Ideal S128x128 .f32 :=
  select (k0_pay7) (addf (subf (broadcastTo S128x128 bcl broadcasts_S128x1_S128x128) (broadcastTo S128x128 b broadcasts_S1x128_S128x128))
    (broadcastTo S128x128 a broadcasts_S1x128_S128x128)) (broadcast S128x128 (Named.named κ "mask" 0xF149F2CA#32 : Ideal .f32))

/-- The masked gates' largest entry in a row. -/
def kMi (dm : FVec Ideal S128x128 .f32) : FVec Ideal S128x1 .f32 :=
  shapeCast S128x1 (multiReduction .maximumf [1] S128 dm 0xFF800000#32 reduces_S128x128_S128 (.inl rfl) rfl) shapeCasts_S128_S128x1

/-- The scores of a chunk, weighted relative to their own largest gate. -/
def kSc (dm : FVec Ideal S128x128 .f32) (mi : FVec Ideal S128x1 .f32) (q k : FVec Ideal S128x128 .bf16) : FVec Ideal S128x128 .f32 :=
  mulf (exp (subf dm (broadcastTo S128x128 mi broadcasts_S128x1_S128x128)))
    (matmul dot_S128x128_S128x128_S128x128_1_0_0_1_n_n none q k (constant S128x128 .f32 0x00000000#32))

/-- The scores of a chunk against its values and the column of ones. -/
def kIn (sc : FVec Ideal S128x128 .f32) (ve : FVec Ideal S128x256 .bf16) : FVec Ideal S128x256 .f32 :=
  matmul dot_S128x128_S128x256_S128x256_1_0_0_1_n_n none (truncf .bf16 sc bitsLt_bf16_f32) ve (constant S128x256 .f32 0x00000000#32)

/-- The result of a chunk. -/
def kOut (a b : FVec Ideal S1x128 .f32) (bcl : FVec Ideal S128x1 .f32) (q k : FVec Ideal S128x128 .bf16) (ve : FVec Ideal S128x256 .bf16)
    (Mo : Vec Ideal S1x1x1 .f32) (Co : Vec Ideal S1x128x256 .f32) : FVec Ideal S1x128x128 .f32 :=
  k0_pay41 (k0_pay35 bcl q (kMi (kDm a b bcl)) (kIn (kSc (kDm a b bcl) (kMi (kDm a b bcl)) q k) ve) Mo Co)

/-- The state after a chunk. -/
def kC (a b : FVec Ideal S1x128 .f32) (k : FVec Ideal S128x128 .bf16) (ve : FVec Ideal S128x256 .bf16)
    (Mo : Vec Ideal S1x1x1 .f32) (Co : Vec Ideal S1x128x256 .f32) : FVec Ideal S1x128x256 .f32 :=
  k0_pay39 (k0_pay32 a b k ve) (k0_pay37 a b Mo Co) (k0_pay38 a b Mo)

/-- The stabiliser after a chunk. -/
def kM (a b : FVec Ideal S1x128 .f32) (Mo : Vec Ideal S1x1x1 .f32) : FVec Ideal S1x1x1 .f32 := k0_pay40 (k0_pay36 a b Mo)

/-- The masked gates at an index. -/
theorem kDm_at (a b : FVec Ideal S1x128 .f32) (bcl : FVec Ideal S128x1 .f32) (l s : Fin 128) :
    kDm a b bcl (ix2 l s) = if s ≤ l then bcl (ix2 l 0) - b (ix2 0 s) + a (ix2 0 s) else ⊥ := by
  have hn : (Named.named κ "mask" 0xF149F2CA#32 : Ideal .f32) = (⊥ : EReal) := IdealRules.named_const.ideal_named_scalar _ _ _ _ rfl
  pointwise [kDm, pay7_at, hlo_ix, hn]

/-- The masked gates' largest entry at an index. -/
theorem kMi_at (dm : FVec Ideal S128x128 .f32) (l : Fin 128) :
    kMi dm (ix2 l 0) = Finset.univ.fold max ⊥ fun s : Fin 128 => dm (ix2 l s) := by
  pointwise [kMi]
  rfl

/-- The weighted scores at an index. -/
theorem kSc_at (dm : FVec Ideal S128x128 .f32) (mi : FVec Ideal S128x1 .f32) (q k : FVec Ideal S128x128 .bf16) (l s : Fin 128) :
    kSc dm mi q k (ix2 l s) = Ideal.exp (dm (ix2 l s) - mi (ix2 l 0)) * (0 + ∑ d : Fin 128, q (ix2 l d) * k (ix2 d s)) := by
  pointwise [kSc]

/-- The scores against the values at an index. -/
theorem kIn_at (sc : FVec Ideal S128x128 .f32) (ve : FVec Ideal S128x256 .bf16) (l : Fin 128) (j : Fin 256) :
    kIn sc ve (ix2 l j) = 0 + ∑ s : Fin 128, sc (ix2 l s) * ve (ix2 s j) := by
  pointwise [kIn]

/-- The last prefix sum at an index. -/
theorem pay29_at (b : FVec Ideal S1x128 .f32) : k0_pay29 b (ix2 0 0) = b (ix2 0 127) := by
  pointwise [k0_pay29]

/-- The gates at the end of the chunk at an index. -/
theorem pay30_at (a b : FVec Ideal S1x128 .f32) (s : Fin 128) : k0_pay30 a b (ix2 0 s) = b (ix2 0 127) - b (ix2 0 s) + a (ix2 0 s) := by
  pointwise [k0_pay30, pay29_at]

/-- The gates' largest at the end of the chunk. -/
theorem pay31_at (a b : FVec Ideal S1x128 .f32) :
    k0_pay31 a b (ix2 0 0) = Finset.univ.fold max ⊥ fun s : Fin 128 => b (ix2 0 127) - b (ix2 0 s) + a (ix2 0 s) := by
  pointwise [k0_pay31, pay30_at]
  rfl

/-- The new keys against the values at an index. -/
theorem pay32_at (a b : FVec Ideal S1x128 .f32) (k : FVec Ideal S128x128 .bf16) (ve : FVec Ideal S128x256 .bf16) (d : Fin 128) (j : Fin 256) :
    k0_pay32 a b k ve (ix2 d j)
      = 0 + ∑ s : Fin 128, k (ix2 d s) * Ideal.exp (b (ix2 0 127) - b (ix2 0 s) + a (ix2 0 s) - k0_pay31 a b (ix2 0 0)) * ve (ix2 s j) := by
  pointwise [k0_pay32, pay30_at]

/-- The carried stabiliser at an index. -/
theorem pay33_at (Mo : Vec Ideal S1x1x1 .f32) : k0_pay33 Mo (ix2 0 0) = Mo (ix3 0 0 0) := by
  pointwise [k0_pay33]

/-- The carried state at an index. -/
theorem pay34_at (Co : Vec Ideal S1x128x256 .f32) (d : Fin 128) (j : Fin 256) : k0_pay34 Co (ix2 d j) = Co (ix3 0 d j) := by
  pointwise [k0_pay34]

/-- The numerators and the denominator of a chunk. -/
def kNum (bcl : FVec Ideal S128x1 .f32) (q : FVec Ideal S128x128 .bf16) (mi : FVec Ideal S128x1 .f32) (int : FVec Ideal S128x256 .f32)
    (Mo : Vec Ideal S1x1x1 .f32) (Co : Vec Ideal S1x128x256 .f32) (l : Fin 128) (j : Fin 256) : EReal :=
  Ideal.exp (bcl (ix2 l 0) + Mo (ix3 0 0 0) - max (bcl (ix2 l 0) + Mo (ix3 0 0 0)) (mi (ix2 l 0))) * (0 + ∑ d : Fin 128, q (ix2 l d) * Co (ix3 0 d j))
    + Ideal.exp (mi (ix2 l 0) - max (bcl (ix2 l 0) + Mo (ix3 0 0 0)) (mi (ix2 l 0))) * int (ix2 l j)

/-- The result of a chunk at an index. -/
theorem pay35_at (bcl : FVec Ideal S128x1 .f32) (q : FVec Ideal S128x128 .bf16) (mi : FVec Ideal S128x1 .f32) (int : FVec Ideal S128x256 .f32)
    (Mo : Vec Ideal S1x1x1 .f32) (Co : Vec Ideal S1x128x256 .f32) (l j : Fin 128) :
    k0_pay35 bcl q mi int Mo Co (ix2 l j)
      = Ideal.div (kNum bcl q mi int Mo Co l ⟨j, by omega⟩)
        (max (max (kNum bcl q mi int Mo Co l 128) (-(kNum bcl q mi int Mo Co l 128)))
          (Ideal.exp (0 - max (bcl (ix2 l 0) + Mo (ix3 0 0 0)) (mi (ix2 l 0))))) := by
  pointwise [k0_pay35, pay33_at, pay34_at, kNum]
  rfl

/-- The stabiliser after a chunk at an index. -/
theorem pay36_at (a b : FVec Ideal S1x128 .f32) (Mo : Vec Ideal S1x1x1 .f32) :
    k0_pay36 a b Mo (ix2 0 0) = max (b (ix2 0 127) + Mo (ix3 0 0 0)) (k0_pay31 a b (ix2 0 0)) := by
  pointwise [k0_pay36, pay29_at, pay33_at]

/-- The rescaled state at an index. -/
theorem pay37_at (a b : FVec Ideal S1x128 .f32) (Mo : Vec Ideal S1x1x1 .f32) (Co : Vec Ideal S1x128x256 .f32) (d : Fin 128) (j : Fin 256) :
    k0_pay37 a b Mo Co (ix2 d j) = Ideal.exp (b (ix2 0 127) + Mo (ix3 0 0 0) - k0_pay36 a b Mo (ix2 0 0)) * Co (ix3 0 d j) := by
  pointwise [k0_pay37, pay29_at, pay33_at, pay34_at]

/-- The scale of the new keys at an index. -/
theorem pay38_at (a b : FVec Ideal S1x128 .f32) (Mo : Vec Ideal S1x1x1 .f32) :
    k0_pay38 a b Mo (ix2 0 0) = Ideal.exp (k0_pay31 a b (ix2 0 0) - k0_pay36 a b Mo (ix2 0 0)) := by
  pointwise [k0_pay38]

/-- The state after a chunk at an index. -/
theorem kC_at (a b : FVec Ideal S1x128 .f32) (k : FVec Ideal S128x128 .bf16) (ve : FVec Ideal S128x256 .bf16)
    (Mo : Vec Ideal S1x1x1 .f32) (Co : Vec Ideal S1x128x256 .f32) (d : Fin 128) (j : Fin 256) :
    kC a b k ve Mo Co (ix3 0 d j)
      = Ideal.exp (b (ix2 0 127) + Mo (ix3 0 0 0) - k0_pay36 a b Mo (ix2 0 0)) * Co (ix3 0 d j)
        + Ideal.exp (k0_pay31 a b (ix2 0 0) - k0_pay36 a b Mo (ix2 0 0)) * k0_pay32 a b k ve (ix2 d j) := by
  pointwise [kC, k0_pay39, pay37_at, pay38_at]

/-- The stabiliser after a chunk, stored. -/
theorem kM_at (a b : FVec Ideal S1x128 .f32) (Mo : Vec Ideal S1x1x1 .f32) : kM a b Mo (ix3 0 0 0) = k0_pay36 a b Mo (ix2 0 0) := by
  pointwise [kM, k0_pay40]

/-- The result of a chunk, stored. -/
theorem kOut_at (a b : FVec Ideal S1x128 .f32) (bcl : FVec Ideal S128x1 .f32) (q k : FVec Ideal S128x128 .bf16) (ve : FVec Ideal S128x256 .bf16)
    (Mo : Vec Ideal S1x1x1 .f32) (Co : Vec Ideal S1x128x256 .f32) (l j : Fin 128) :
    kOut a b bcl q k ve Mo Co (ix3 0 l j)
      = k0_pay35 bcl q (kMi (kDm a b bcl)) (kIn (kSc (kDm a b bcl) (kMi (kDm a b bcl)) q k) ve) Mo Co (ix2 l j) := by
  pointwise [kOut, k0_pay41]

end Cert.Mlstm
-- ==== Proof.MlstmKerChunk.lean ====
/- One chunk of one head in the kernel: from the recurrence's sums at the chunk's start to those at its end. -/
module

public import proofs.«01_k».proof.Proof.MlstmKer

@[expose] public section

set_option maxRecDepth 16384

noncomputable section

open Idealize.ShloMosaic Idealize.ShloMosaic.TcCoe Idealize.SL.Sem

namespace Cert.Mlstm

open Cert.KernelIdeal Cert.KernelIdeal.Gen

/-- Weights taken relative to a row's own largest entry and rescaled are weights relative to the stabiliser. -/
theorem intra_real (l : Fin 128) (x g v : Fin 128 → ℝ) (μ n : ℝ) :
    Ideal.exp ((μ : EReal) - (n : EReal))
        * (0 + ∑ s : Fin 128, Ideal.exp ((if s ≤ l then (x s : EReal) else ⊥) - (μ : EReal)) * (g s : EReal) * (v s : EReal))
      = ∑ s : Fin 128, (((if s ≤ l then Real.exp (x s - n) else 0) : ℝ) : EReal) * (g s : EReal) * (v s : EReal) := by
  simp only [exp_mask, ← EReal.coe_sub, exp_coe, ← EReal.coe_mul, coe_sum, zero_add]
  rw [Finset.mul_sum]
  congr 1
  refine Finset.sum_congr rfl fun s _ => ?_
  split
  · rw [show x s - n = (μ - n) + (x s - μ) by ring, Real.exp_add]; ring
  · ring

/-- The same for the weights of the new keys. -/
theorem new_real (x k v : Fin 128 → ℝ) (μ n : ℝ) :
    Ideal.exp ((μ : EReal) - (n : EReal)) * (0 + ∑ s : Fin 128, (k s : EReal) * Ideal.exp ((x s : EReal) - (μ : EReal)) * (v s : EReal))
      = ∑ s : Fin 128, ((Real.exp (x s - n) : ℝ) : EReal) * ((k s * v s : ℝ) : EReal) := by
  simp only [← EReal.coe_sub, exp_coe, ← EReal.coe_mul, coe_sum, zero_add]
  rw [Finset.mul_sum]
  congr 1
  refine Finset.sum_congr rfl fun s _ => ?_
  rw [show x s - n = (μ - n) + (x s - μ) by ring, Real.exp_add]; ring

section Chunk

variable {f a : ℕ → ℝ} {Q K V : ℕ → Fin 128 → ℝ} {T : ℕ}

/-- The carried state and stabiliser of a head, as the kernel holds them after `T` positions. -/
structure Carried (f a : ℕ → ℝ) (K V : ℕ → Fin 128 → ℝ) (T : ℕ) (Mo : Vec Ideal S1x1x1 .f32) (Co : Vec Ideal S1x128x256 .f32) : Prop where
  m : Mo (ix3 0 0 0) = ((M f a T : ℝ) : EReal)
  c : ∀ d j : Fin 128, Co (ix3 0 d ⟨j, by omega⟩) = ((S f a (fun s => K s d * V s j) T : ℝ) : EReal)
  n : ∀ d : Fin 128, Co (ix3 0 d 128) = ((S f a (fun s => K s d) T : ℝ) : EReal)

/-- The chunk's gates, keys and values of a head, as the kernel's arrays hold them. -/
structure Chunked (f a : ℕ → ℝ) (K V : ℕ → Fin 128 → ℝ) (T : ℕ) (ar br : FVec Ideal S1x128 .f32) (k : FVec Ideal S128x128 .bf16)
    (ve : FVec Ideal S128x256 .bf16) : Prop where
  a : ∀ s : Fin 128, ar (ix2 0 s) = ((a (T + s) : ℝ) : EReal)
  b : ∀ s : Fin 128, br (ix2 0 s) = ((bc f T (s + 1) : ℝ) : EReal)
  k : ∀ d s : Fin 128, k (ix2 d s) = ((K (T + s) d : ℝ) : EReal)
  v : ∀ s j : Fin 128, ve (ix2 s ⟨j, by omega⟩) = ((V (T + s) j : ℝ) : EReal)
  o : ∀ s : Fin 128, ve (ix2 s 128) = 1

variable {ar br : FVec Ideal S1x128 .f32} {bcl : FVec Ideal S128x1 .f32} {q k : FVec Ideal S128x128 .bf16} {ve : FVec Ideal S128x256 .bf16}
  {Mo : Vec Ideal S1x1x1 .f32} {Co : Vec Ideal S1x128x256 .f32}

/-- The masked gates of a chunk are the recurrence's. -/
theorem kDm_real (H : Chunked f a K V T ar br k ve) (hb : ∀ l : Fin 128, bcl (ix2 l 0) = ((bc f T (l + 1) : ℝ) : EReal)) (l s : Fin 128) :
    kDm ar br bcl (ix2 l s) = if s ≤ l then ((bc f T (l + 1) - bc f T (s + 1) + a (T + s) : ℝ) : EReal) else ⊥ := by
  rw [kDm_at, hb, H.b, H.a, ← EReal.coe_sub, ← EReal.coe_add]

/-- A row's largest masked gate is a real number; with the carried stabiliser it gives the stabiliser at that position. -/
theorem kMi_real (H : Chunked f a K V T ar br k ve) (hb : ∀ l : Fin 128, bcl (ix2 l 0) = ((bc f T (l + 1) : ℝ) : EReal)) (l : Fin 128) :
    ∃ μ : ℝ, kMi (kDm ar br bcl) (ix2 l 0) = (μ : EReal)
      ∧ max ((bc f T (l + 1) + M f a T : ℝ) : EReal) (μ : EReal) = ((M f a (T + (l + 1)) : ℝ) : EReal) := by
  have hg : kMi (kDm ar br bcl) (ix2 l 0)
      = Finset.univ.fold max ⊥ fun s : Fin 128 => if s ≤ l then ((bc f T (l + 1) - bc f T (s + 1) + a (T + s) : ℝ) : EReal) else ⊥ := by
    rw [kMi_at]
    exact Finset.fold_congr fun s _ => kDm_real H hb l s
  obtain ⟨μ, hμ⟩ := fold_real (fun s : Fin 128 => if s ≤ l then ((bc f T (l + 1) - bc f T (s + 1) + a (T + s) : ℝ) : EReal) else ⊥)
    (fun s => by split; exacts [EReal.coe_ne_top _, bot_ne_top]) 0 (by rw [if_pos (Fin.zero_le l)]; exact EReal.coe_ne_bot _)
  exact ⟨μ, hg.trans hμ, by rw [← hμ]; exact max_mask f a T l⟩

/-- The result of a chunk. -/
theorem kOut_real (H : Chunked f a K V T ar br k ve) (hb : ∀ l : Fin 128, bcl (ix2 l 0) = ((bc f T (l + 1) : ℝ) : EReal))
    (hq : ∀ l d : Fin 128, q (ix2 l d) = ((Q (T + l) d : ℝ) : EReal)) (H0 : Carried f a K V T Mo Co) (l j : Fin 128) :
    kOut ar br bcl q k ve Mo Co (ix3 0 l j) = ((hout f a Q K V (T + l) j : ℝ) : EReal) := by
  obtain ⟨μ, hμ, hm⟩ := kMi_real H hb l
  have hin : ∀ j : Fin 256, kIn (kSc (kDm ar br bcl) (kMi (kDm ar br bcl)) q k) ve (ix2 l j)
      = 0 + ∑ s : Fin 128, Ideal.exp ((if s ≤ l then ((bc f T (l + 1) - bc f T (s + 1) + a (T + s) : ℝ) : EReal) else ⊥) - (μ : EReal))
        * ((∑ d, Q (T + l) d * K (T + s) d : ℝ) : EReal) * ve (ix2 s j) := by
    intro j
    rw [kIn_at]
    refine congrArg _ (Finset.sum_congr rfl fun s _ => ?_)
    rw [kSc_at, kDm_real H hb, hμ]
    simp only [hq, H.k, ← EReal.coe_mul, coe_sum, zero_add]
  have hnum : ∀ (j : Fin 256) (v : Fin 128 → ℝ) (c : Fin 128 → ℝ), (∀ s, ve (ix2 s j) = (v s : EReal)) → (∀ d, Co (ix3 0 d j) = (c d : EReal)) →
      kNum bcl q (kMi (kDm ar br bcl)) (kIn (kSc (kDm ar br bcl) (kMi (kDm ar br bcl)) q k) ve) Mo Co l j
      = (wCar f a T (l + 1) : EReal) * (∑ d, (Q (T + l) d : EReal) * (c d : EReal))
        + ∑ s : Fin 128, (wMask f a T l s : EReal) * (∑ d, (Q (T + l) d : EReal) * (K (T + s) d : EReal)) * (v s : EReal) := by
    intro j v c hv hc
    rw [kNum, hin, hμ, hb, H0.m, ← EReal.coe_add, hm]
    simp only [hv, hc, hq]
    rw [intra_real l _ (fun s => ∑ d, Q (T + l) d * K (T + s) d) v, ← EReal.coe_sub, exp_coe, zero_add]
    simp only [← EReal.coe_mul, coe_sum]
  have hN := hnum ⟨j, by omega⟩ _ _ (fun s => H.v s j) (fun d => H0.c d j)
  have hD := hnum 128 (fun _ => 1) _ (fun s => (H.o s).trans EReal.coe_one.symm) (fun d => H0.n d)
  rw [num_chunk f a T Q K V l j] at hN
  simp only [EReal.coe_one, mul_one] at hD
  rw [den_chunk f a T Q K l] at hD
  rw [kOut_at, pay35_at, hN, hD, hb, H0.m, ← EReal.coe_add, hμ, hm, zero_sub]
  exact out_chunk f a Q K V (T + l) j

/-- The largest gate at the end of a chunk is a real number; with the carried stabiliser it gives the new one. -/
theorem pay31_real (H : Chunked f a K V T ar br k ve) :
    ∃ μ : ℝ, k0_pay31 ar br (ix2 0 0) = (μ : EReal)
      ∧ max ((bc f T 128 + M f a T : ℝ) : EReal) (μ : EReal) = ((M f a (T + 128) : ℝ) : EReal) := by
  have hg : k0_pay31 ar br (ix2 0 0)
      = Finset.univ.fold max ⊥ fun s : Fin 128 => ((bc f T 128 - bc f T (s + 1) + a (T + s) : ℝ) : EReal) := by
    rw [pay31_at]
    refine Finset.fold_congr fun s _ => ?_
    rw [H.b, H.b, H.a, ← EReal.coe_sub, ← EReal.coe_add]; rfl
  obtain ⟨μ, hμ⟩ := fold_real (fun s : Fin 128 => ((bc f T 128 - bc f T (s + 1) + a (T + s) : ℝ) : EReal))
    (fun s => EReal.coe_ne_top _) 0 (EReal.coe_ne_bot _)
  exact ⟨μ, hg.trans hμ, by rw [← hμ]; exact max_full f a T (L := 128)⟩

/-- The stabiliser and the state after a chunk. -/
theorem carried_step (H : Chunked f a K V T ar br k ve) (H0 : Carried f a K V T Mo Co) :
    Carried f a K V (T + 128) (kM ar br Mo) (kC ar br k ve Mo Co) := by
  obtain ⟨μ, hμ, hm⟩ := pay31_real H
  have hl : br (ix2 0 127) = ((bc f T 128 : ℝ) : EReal) := H.b 127
  have h36 : k0_pay36 ar br Mo (ix2 0 0) = ((M f a (T + 128) : ℝ) : EReal) := by
    rw [pay36_at, hl, H0.m, hμ, ← EReal.coe_add, hm]
  have hst : ∀ (d : Fin 128) (j : Fin 256) (v : Fin 128 → ℝ) (c : ℝ), (∀ s, ve (ix2 s j) = (v s : EReal)) → Co (ix3 0 d j) = (c : EReal) →
      kC ar br k ve Mo Co (ix3 0 d j)
        = (wCar f a T 128 : EReal) * (c : EReal) + ∑ s : Fin 128, (wNew f a T 128 s : EReal) * ((K (T + s) d * v s : ℝ) : EReal) := by
    intro d j v c hv hc
    rw [kC_at, pay32_at, h36, hμ, hl, H0.m, hc, ← EReal.coe_add, ← EReal.coe_sub, exp_coe]
    congr 1
    rw [← new_real (fun s => bc f T 128 - bc f T (s + 1) + a (T + s)) (fun s => K (T + s) d) v μ]
    refine congrArg _ (congrArg _ (Finset.sum_congr rfl fun s _ => ?_))
    rw [H.k, H.b, H.a, hv, ← EReal.coe_sub, ← EReal.coe_add]
  refine ⟨by rw [kM_at, h36], fun d j => ?_, fun d => ?_⟩
  · rw [hst d _ _ _ (fun s => H.v s j) (H0.c d j)]
    exact state_chunk f a T (L := 128) (fun s => K s d * V s j)
  · rw [hst d _ (fun _ => 1) _ (fun s => (H.o s).trans EReal.coe_one.symm) (H0.n d)]
    simp only [mul_one]
    exact state_chunk f a T (L := 128) (fun s => K s d)

end Chunk

end Cert.Mlstm
-- ==== Proof.MlstmKerNorm.lean ====
/- The kernel writes one chunk of one head eight times over: each copy is the same chunk of the recurrence. -/
module

public import proofs.«01_k».proof.Proof.MlstmKerChunk

@[expose] public section

set_option maxRecDepth 16384

noncomputable section

open Idealize.ShloMosaic Idealize.ShloMosaic.TcCoe Idealize.SL.Sem

namespace Cert.Mlstm

open Cert.KernelIdeal Cert.KernelIdeal.Gen

/-- The first head's input gates as a row. -/
def kA0 (X : Vec Ideal S1x8x128 .f32) : FVec Ideal S1x128 .f32 := k0_pay20 (k0_pay12 X)

/-- The first head's prefix sums as a row. -/
def kB0 (X : Vec Ideal S1x8x128 .f32) : FVec Ideal S1x128 .f32 := k0_pay21 (k0_pay9 (F := Ideal)) (k0_pay12 X)

/-- The first head's prefix sums as a column. -/
def kG0 (X : Vec Ideal S1x128x8 .f32) : FVec Ideal S128x1 .f32 := k0_pay22 (k0_pay8 (F := Ideal)) (k0_pay16 X) (k0_pay17 X) (constant S128x8 .f32 0x00000000#32)

/-- The second head's input gates as a row. -/
def kA1 (X : Vec Ideal S1x8x128 .f32) : FVec Ideal S1x128 .f32 := k0_pay42 (k0_pay12 X)

/-- The second head's prefix sums as a row. -/
def kB1 (X : Vec Ideal S1x8x128 .f32) : FVec Ideal S1x128 .f32 := k0_pay43 (kBrA X)

/-- The second head's prefix sums as a column. -/
def kG1 (X : Vec Ideal S1x128x8 .f32) : FVec Ideal S128x1 .f32 := k0_pay44 (kBcA X)

/-- The third head's input gates as a row. -/
def kA2 (X : Vec Ideal S1x8x128 .f32) : FVec Ideal S1x128 .f32 := k0_pay64 (k0_pay12 X)

/-- The third head's prefix sums as a row. -/
def kB2 (X : Vec Ideal S1x8x128 .f32) : FVec Ideal S1x128 .f32 := k0_pay65 (kBrA X)

/-- The third head's prefix sums as a column. -/
def kG2 (X : Vec Ideal S1x128x8 .f32) : FVec Ideal S128x1 .f32 := k0_pay66 (kBcA X)

/-- The fourth head's input gates as a row. -/
def kA3 (X : Vec Ideal S1x8x128 .f32) : FVec Ideal S1x128 .f32 := k0_pay85 (k0_pay12 X)

/-- The fourth head's prefix sums as a row. -/
def kB3 (X : Vec Ideal S1x8x128 .f32) : FVec Ideal S1x128 .f32 := k0_pay86 (kBrA X)

/-- The fourth head's prefix sums as a column. -/
def kG3 (X : Vec Ideal S1x128x8 .f32) : FVec Ideal S128x1 .f32 := k0_pay87 (kBcA X)

/-- The first head's input gates at an index. -/
theorem kA0_at (X : Vec Ideal S1x8x128 .f32) (s : Fin 128) : kA0 X (ix2 0 s) = X (ix3 0 0 s) := by
  pointwise [kA0, k0_pay20, pay12_at]

/-- The first head's prefix sums as a row at an index. -/
theorem kB0_at (X : Vec Ideal S1x8x128 .f32) (s : Fin 128) : kB0 X (ix2 0 s) = kBrA X (ix2 4 s) := by
  pointwise [kB0, k0_pay21]
  rfl

/-- The first head's prefix sums as a column at an index. -/
theorem kG0_at (X : Vec Ideal S1x128x8 .f32) (l : Fin 128) : kG0 X (ix2 l 0) = kBcA X (ix2 l 4) := by
  pointwise [kG0, k0_pay22]
  rfl

/-- The second head's input gates at an index. -/
theorem kA1_at (X : Vec Ideal S1x8x128 .f32) (s : Fin 128) : kA1 X (ix2 0 s) = X (ix3 0 1 s) := by
  pointwise [kA1, k0_pay42, pay12_at]

/-- The second head's prefix sums as a row at an index. -/
theorem kB1_at (X : Vec Ideal S1x8x128 .f32) (s : Fin 128) : kB1 X (ix2 0 s) = kBrA X (ix2 5 s) := by
  pointwise [kB1, k0_pay43]

/-- The second head's prefix sums as a column at an index. -/
theorem kG1_at (X : Vec Ideal S1x128x8 .f32) (l : Fin 128) : kG1 X (ix2 l 0) = kBcA X (ix2 l 5) := by
  pointwise [kG1, k0_pay44]

/-- The third head's input gates at an index. -/
theorem kA2_at (X : Vec Ideal S1x8x128 .f32) (s : Fin 128) : kA2 X (ix2 0 s) = X (ix3 0 2 s) := by
  pointwise [kA2, k0_pay64, pay12_at]

/-- The third head's prefix sums as a row at an index. -/
theorem kB2_at (X : Vec Ideal S1x8x128 .f32) (s : Fin 128) : kB2 X (ix2 0 s) = kBrA X (ix2 6 s) := by
  pointwise [kB2, k0_pay65]

/-- The third head's prefix sums as a column at an index. -/
theorem kG2_at (X : Vec Ideal S1x128x8 .f32) (l : Fin 128) : kG2 X (ix2 l 0) = kBcA X (ix2 l 6) := by
  pointwise [kG2, k0_pay66]

/-- The fourth head's input gates at an index. -/
theorem kA3_at (X : Vec Ideal S1x8x128 .f32) (s : Fin 128) : kA3 X (ix2 0 s) = X (ix3 0 3 s) := by
  pointwise [kA3, k0_pay85, pay12_at]

/-- The fourth head's prefix sums as a row at an index. -/
theorem kB3_at (X : Vec Ideal S1x8x128 .f32) (s : Fin 128) : kB3 X (ix2 0 s) = kBrA X (ix2 7 s) := by
  pointwise [kB3, k0_pay86]

/-- The fourth head's prefix sums as a column at an index. -/
theorem kG3_at (X : Vec Ideal S1x128x8 .f32) (l : Fin 128) : kG3 X (ix2 l 0) = kBcA X (ix2 l 7) := by
  pointwise [kG3, k0_pay87]

/-- The first head's stabiliser after the first chunk. -/
theorem nM_0_0 (X4 : Vec Ideal S1x8x128 .f32) (Mo : Vec Ideal S1x1x1 .f32) :
    k0_pay40 (k0_pay36 (k0_pay20 (k0_pay12 X4)) (k0_pay21 (k0_pay9 (F := Ideal)) (k0_pay12 X4)) Mo)
      = kM (kA0 X4) (kB0 X4) Mo := rfl

/-- The first head's state after the first chunk. -/
theorem nC_0_0 (X4 : Vec Ideal S1x8x128 .f32) (K : Vec Ideal S1x1x128x128 .bf16) (V : Vec Ideal S1x128x128 .bf16) (Mo : Vec Ideal S1x1x1 .f32) (Co : Vec Ideal S1x128x256 .f32) :
    k0_pay39 (k0_pay32 (k0_pay20 (k0_pay12 X4)) (k0_pay21 (k0_pay9 (F := Ideal)) (k0_pay12 X4)) (k0_pay24 K) (k0_pay25 (k0_pay10 (F := Ideal)) V)) (k0_pay37 (k0_pay20 (k0_pay12 X4)) (k0_pay21 (k0_pay9 (F := Ideal)) (k0_pay12 X4)) Mo Co) (k0_pay38 (k0_pay20 (k0_pay12 X4)) (k0_pay21 (k0_pay9 (F := Ideal)) (k0_pay12 X4)) Mo)
      = kC (kA0 X4) (kB0 X4) (k0_pay24 K) (k0_pay25 (k0_pay10 (F := Ideal)) V) Mo Co := rfl

/-- The first head's result of the first chunk. -/
theorem nO_0_0 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay41 (k0_pay35 (k0_pay22 (k0_pay8 (F := Ideal)) (k0_pay16 X3) (k0_pay17 X3) (constant S128x8 .f32 0x00000000#32 : FVec Ideal S128x8 .f32)) (k0_pay23 Q) (k0_pay27 k0_pay7 (k0_pay8 (F := Ideal)) (k0_pay9 (F := Ideal)) (k0_pay12 X4) (k0_pay16 X3) (k0_pay17 X3) (constant S128x8 .f32 0x00000000#32 : FVec Ideal S128x8 .f32)) (k0_pay28 k0_pay7 (k0_pay8 (F := Ideal)) (k0_pay9 (F := Ideal)) (k0_pay10 (F := Ideal)) (k0_pay12 X4) (k0_pay16 X3) (k0_pay17 X3) (constant S128x8 .f32 0x00000000#32 : FVec Ideal S128x8 .f32) Q K V) Mo Co)
      = kOut (kA0 X4) (kB0 X4) (kG0 X3) (k0_pay23 Q) (k0_pay24 K) (k0_pay25 (k0_pay10 (F := Ideal)) V) Mo Co := rfl

/-- The second head's stabiliser after the first chunk. -/
theorem nM_0_1 (X4 : Vec Ideal S1x8x128 .f32) (Mo : Vec Ideal S1x1x1 .f32) :
    k0_pay62 (k0_pay59 (k0_pay42 (k0_pay12 X4)) (k0_pay43 (k0_pay19 (k0_pay9 (F := Ideal)) (k0_pay12 X4))) Mo)
      = kM (kA1 X4) (kB1 X4) Mo := rfl

/-- The second head's state after the first chunk. -/
theorem nC_0_1 (X4 : Vec Ideal S1x8x128 .f32) (K : Vec Ideal S1x1x128x128 .bf16) (V : Vec Ideal S1x128x128 .bf16) (Mo : Vec Ideal S1x1x1 .f32) (Co : Vec Ideal S1x128x256 .f32) :
    k0_pay61 (k0_pay54 (k0_pay42 (k0_pay12 X4)) (k0_pay43 (k0_pay19 (k0_pay9 (F := Ideal)) (k0_pay12 X4)))) (k0_pay55 (k0_pay42 (k0_pay12 X4)) (k0_pay43 (k0_pay19 (k0_pay9 (F := Ideal)) (k0_pay12 X4))) (k0_pay46 K) (k0_pay47 (k0_pay10 (F := Ideal)) V)) (k0_pay57 Co) (k0_pay59 (k0_pay42 (k0_pay12 X4)) (k0_pay43 (k0_pay19 (k0_pay9 (F := Ideal)) (k0_pay12 X4))) Mo) (k0_pay60 (k0_pay42 (k0_pay12 X4)) (k0_pay43 (k0_pay19 (k0_pay9 (F := Ideal)) (k0_pay12 X4))) Mo)
      = kC (kA1 X4) (kB1 X4) (k0_pay24 K) (k0_pay25 (k0_pay10 (F := Ideal)) V) Mo Co := rfl

/-- The second head's result of the first chunk. -/
theorem nO_0_1 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay63 (k0_pay58 (k0_pay44 (k0_pay18 (k0_pay8 (F := Ideal)) (k0_pay16 X3) (k0_pay17 X3) (constant S128x8 .f32 0x00000000#32 : FVec Ideal S128x8 .f32))) (k0_pay45 Q) (k0_pay47 (k0_pay10 (F := Ideal)) V) (k0_pay49 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) (k0_pay50 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) (k0_pay51 Q K) Mo Co)
      = kOut (kA1 X4) (kB1 X4) (kG1 X3) (k0_pay23 Q) (k0_pay24 K) (k0_pay25 (k0_pay10 (F := Ideal)) V) Mo Co := rfl

/-- The third head's stabiliser after the first chunk. -/
theorem nM_0_2 (X4 : Vec Ideal S1x8x128 .f32) (Mo : Vec Ideal S1x1x1 .f32) :
    k0_pay83 (k0_pay75 (k0_pay64 (k0_pay12 X4)) (k0_pay65 (k0_pay19 (k0_pay9 (F := Ideal)) (k0_pay12 X4)))) (k0_pay80 (k0_pay65 (k0_pay19 (k0_pay9 (F := Ideal)) (k0_pay12 X4))) Mo)
      = kM (kA2 X4) (kB2 X4) Mo := rfl

/-- The third head's state after the first chunk. -/
theorem nC_0_2 (X4 : Vec Ideal S1x8x128 .f32) (K : Vec Ideal S1x1x128x128 .bf16) (V : Vec Ideal S1x128x128 .bf16) (Mo : Vec Ideal S1x1x1 .f32) (Co : Vec Ideal S1x128x256 .f32) :
    k0_pay82 (k0_pay73 (k0_pay65 (k0_pay19 (k0_pay9 (F := Ideal)) (k0_pay12 X4)))) (k0_pay75 (k0_pay64 (k0_pay12 X4)) (k0_pay65 (k0_pay19 (k0_pay9 (F := Ideal)) (k0_pay12 X4)))) (k0_pay76 (k0_pay64 (k0_pay12 X4)) (k0_pay65 (k0_pay19 (k0_pay9 (F := Ideal)) (k0_pay12 X4))) (k0_pay68 K) (k0_pay69 (k0_pay10 (F := Ideal)) V)) (k0_pay77 Mo) (k0_pay78 Co) (k0_pay80 (k0_pay65 (k0_pay19 (k0_pay9 (F := Ideal)) (k0_pay12 X4))) Mo)
      = kC (kA2 X4) (kB2 X4) (k0_pay24 K) (k0_pay25 (k0_pay10 (F := Ideal)) V) Mo Co := rfl

/-- The third head's result of the first chunk. -/
theorem nO_0_2 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay84 (k0_pay79 (k0_pay66 (k0_pay18 (k0_pay8 (F := Ideal)) (k0_pay16 X3) (k0_pay17 X3) (constant S128x8 .f32 0x00000000#32 : FVec Ideal S128x8 .f32))) (k0_pay67 Q) (k0_pay68 K) (k0_pay69 (k0_pay10 (F := Ideal)) V) (k0_pay70 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) (k0_pay71 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) (k0_pay72 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) Mo Co)
      = kOut (kA2 X4) (kB2 X4) (kG2 X3) (k0_pay23 Q) (k0_pay24 K) (k0_pay25 (k0_pay10 (F := Ideal)) V) Mo Co := rfl

/-- The fourth head's stabiliser after the first chunk. -/
theorem nM_0_3 (X4 : Vec Ideal S1x8x128 .f32) (Mo : Vec Ideal S1x1x1 .f32) :
    k0_pay107 (k0_pay93 (k0_pay86 (k0_pay19 (k0_pay9 (F := Ideal)) (k0_pay12 X4)))) (k0_pay95 (k0_pay85 (k0_pay12 X4)) (k0_pay86 (k0_pay19 (k0_pay9 (F := Ideal)) (k0_pay12 X4)))) (k0_pay97 Mo)
      = kM (kA3 X4) (kB3 X4) Mo := rfl

/-- The fourth head's state after the first chunk. -/
theorem nC_0_3 (X4 : Vec Ideal S1x8x128 .f32) (K : Vec Ideal S1x1x128x128 .bf16) (V : Vec Ideal S1x128x128 .bf16) (Mo : Vec Ideal S1x1x1 .f32) (Co : Vec Ideal S1x128x256 .f32) :
    k0_pay106 (k0_pay93 (k0_pay86 (k0_pay19 (k0_pay9 (F := Ideal)) (k0_pay12 X4)))) (k0_pay95 (k0_pay85 (k0_pay12 X4)) (k0_pay86 (k0_pay19 (k0_pay9 (F := Ideal)) (k0_pay12 X4)))) (k0_pay96 (k0_pay85 (k0_pay12 X4)) (k0_pay86 (k0_pay19 (k0_pay9 (F := Ideal)) (k0_pay12 X4))) (k0_pay89 K) (k0_pay90 (k0_pay10 (F := Ideal)) V)) (k0_pay97 Mo) (k0_pay98 Co)
      = kC (kA3 X4) (kB3 X4) (k0_pay24 K) (k0_pay25 (k0_pay10 (F := Ideal)) V) Mo Co := rfl

/-- The fourth head's result of the first chunk. -/
theorem nO_0_3 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay108 (k0_pay102 (k0_pay87 (k0_pay18 (k0_pay8 (F := Ideal)) (k0_pay16 X3) (k0_pay17 X3) (constant S128x8 .f32 0x00000000#32 : FVec Ideal S128x8 .f32))) (k0_pay88 Q) (k0_pay89 K) (k0_pay90 (k0_pay10 (F := Ideal)) V) (k0_pay91 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) Mo Co) (k0_pay103 (k0_pay87 (k0_pay18 (k0_pay8 (F := Ideal)) (k0_pay16 X3) (k0_pay17 X3) (constant S128x8 .f32 0x00000000#32 : FVec Ideal S128x8 .f32))) (k0_pay88 Q) (k0_pay89 K) (k0_pay90 (k0_pay10 (F := Ideal)) V) (k0_pay91 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) Mo Co) (k0_pay104 (k0_pay87 (k0_pay18 (k0_pay8 (F := Ideal)) (k0_pay16 X3) (k0_pay17 X3) (constant S128x8 .f32 0x00000000#32 : FVec Ideal S128x8 .f32))) (k0_pay91 k0_pay7 (k0_pay12 X4) (k0_pay18 (k0_pay8 (F := Ideal)) (k0_pay16 X3) (k0_pay17 X3) (constant S128x8 .f32 0x00000000#32 : FVec Ideal S128x8 .f32)) (k0_pay19 (k0_pay9 (F := Ideal)) (k0_pay12 X4))) Mo)
      = kOut (kA3 X4) (kB3 X4) (kG3 X3) (k0_pay23 Q) (k0_pay24 K) (k0_pay25 (k0_pay10 (F := Ideal)) V) Mo Co := rfl

/-- The first head's stabiliser after the second chunk. -/
theorem nM_1_0 (X4 : Vec Ideal S1x8x128 .f32) (Mo : Vec Ideal S1x1x1 .f32) :
    k0_pay138 (k0_pay135 (k0_pay119 (k0_pay110 X4)) (k0_pay120 (k0_pay9 (F := Ideal)) (k0_pay110 X4)) Mo)
      = kM (kA0 X4) (kB0 X4) Mo := rfl

/-- The first head's state after the second chunk. -/
theorem nC_1_0 (X4 : Vec Ideal S1x8x128 .f32) (K : Vec Ideal S1x1x128x128 .bf16) (V : Vec Ideal S1x128x128 .bf16) (Mo : Vec Ideal S1x1x1 .f32) (Co : Vec Ideal S1x128x256 .f32) :
    k0_pay137 (k0_pay130 (k0_pay119 (k0_pay110 X4)) (k0_pay120 (k0_pay9 (F := Ideal)) (k0_pay110 X4))) (k0_pay131 (k0_pay119 (k0_pay110 X4)) (k0_pay120 (k0_pay9 (F := Ideal)) (k0_pay110 X4)) (k0_pay123 K) (k0_pay124 (k0_pay10 (F := Ideal)) V)) (k0_pay135 (k0_pay119 (k0_pay110 X4)) (k0_pay120 (k0_pay9 (F := Ideal)) (k0_pay110 X4)) Mo) (k0_pay136 (k0_pay119 (k0_pay110 X4)) (k0_pay120 (k0_pay9 (F := Ideal)) (k0_pay110 X4)) Mo Co)
      = kC (kA0 X4) (kB0 X4) (k0_pay24 K) (k0_pay25 (k0_pay10 (F := Ideal)) V) Mo Co := rfl

/-- The first head's result of the second chunk. -/
theorem nO_1_0 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay139 (k0_pay134 (k0_pay121 (k0_pay8 (F := Ideal)) (k0_pay114 X3) (k0_pay115 (k0_pay8 (F := Ideal)) X3) (k0_pay116 (k0_pay8 (F := Ideal)) X3)) (k0_pay122 Q) (k0_pay124 (k0_pay10 (F := Ideal)) V) (k0_pay126 k0_pay7 (k0_pay8 (F := Ideal)) (k0_pay9 (F := Ideal)) (k0_pay110 X4) (k0_pay114 X3) (k0_pay115 (k0_pay8 (F := Ideal)) X3) (k0_pay116 (k0_pay8 (F := Ideal)) X3)) (k0_pay127 k0_pay7 (k0_pay8 (F := Ideal)) (k0_pay9 (F := Ideal)) (k0_pay110 X4) (k0_pay114 X3) (k0_pay115 (k0_pay8 (F := Ideal)) X3) (k0_pay116 (k0_pay8 (F := Ideal)) X3) Q K) Mo Co)
      = kOut (kA0 X4) (kB0 X4) (kG0 X3) (k0_pay23 Q) (k0_pay24 K) (k0_pay25 (k0_pay10 (F := Ideal)) V) Mo Co := rfl

/-- The second head's stabiliser after the second chunk. -/
theorem nM_1_1 (X4 : Vec Ideal S1x8x128 .f32) (Mo : Vec Ideal S1x1x1 .f32) :
    k0_pay159 (k0_pay156 (k0_pay140 (k0_pay110 X4)) (k0_pay141 (k0_pay118 (k0_pay9 (F := Ideal)) (k0_pay110 X4))) Mo)
      = kM (kA1 X4) (kB1 X4) Mo := rfl

/-- The second head's state after the second chunk. -/
theorem nC_1_1 (X4 : Vec Ideal S1x8x128 .f32) (K : Vec Ideal S1x1x128x128 .bf16) (V : Vec Ideal S1x128x128 .bf16) (Mo : Vec Ideal S1x1x1 .f32) (Co : Vec Ideal S1x128x256 .f32) :
    k0_pay158 (k0_pay151 (k0_pay140 (k0_pay110 X4)) (k0_pay141 (k0_pay118 (k0_pay9 (F := Ideal)) (k0_pay110 X4)))) (k0_pay152 (k0_pay140 (k0_pay110 X4)) (k0_pay141 (k0_pay118 (k0_pay9 (F := Ideal)) (k0_pay110 X4))) (k0_pay144 K) (k0_pay145 (k0_pay10 (F := Ideal)) V)) (k0_pay154 Co) (k0_pay156 (k0_pay140 (k0_pay110 X4)) (k0_pay141 (k0_pay118 (k0_pay9 (F := Ideal)) (k0_pay110 X4))) Mo) (k0_pay157 (k0_pay141 (k0_pay118 (k0_pay9 (F := Ideal)) (k0_pay110 X4))) Mo)
      = kC (kA1 X4) (kB1 X4) (k0_pay24 K) (k0_pay25 (k0_pay10 (F := Ideal)) V) Mo Co := rfl

/-- The second head's result of the second chunk. -/
theorem nO_1_1 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay160 (k0_pay155 (k0_pay142 (k0_pay117 (k0_pay8 (F := Ideal)) (k0_pay114 X3) (k0_pay115 (k0_pay8 (F := Ideal)) X3) (k0_pay116 (k0_pay8 (F := Ideal)) X3))) (k0_pay143 Q) (k0_pay144 K) (k0_pay145 (k0_pay10 (F := Ideal)) V) (k0_pay147 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (k0_pay148 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) Mo Co)
      = kOut (kA1 X4) (kB1 X4) (kG1 X3) (k0_pay23 Q) (k0_pay24 K) (k0_pay25 (k0_pay10 (F := Ideal)) V) Mo Co := rfl

/-- The third head's stabiliser after the second chunk. -/
theorem nM_1_2 (X4 : Vec Ideal S1x8x128 .f32) (Mo : Vec Ideal S1x1x1 .f32) :
    k0_pay183 (k0_pay170 (k0_pay162 (k0_pay118 (k0_pay9 (F := Ideal)) (k0_pay110 X4)))) (k0_pay172 (k0_pay161 (k0_pay110 X4)) (k0_pay162 (k0_pay118 (k0_pay9 (F := Ideal)) (k0_pay110 X4)))) (k0_pay174 Mo)
      = kM (kA2 X4) (kB2 X4) Mo := rfl

/-- The third head's state after the second chunk. -/
theorem nC_1_2 (X4 : Vec Ideal S1x8x128 .f32) (K : Vec Ideal S1x1x128x128 .bf16) (V : Vec Ideal S1x128x128 .bf16) (Mo : Vec Ideal S1x1x1 .f32) (Co : Vec Ideal S1x128x256 .f32) :
    k0_pay182 (k0_pay170 (k0_pay162 (k0_pay118 (k0_pay9 (F := Ideal)) (k0_pay110 X4)))) (k0_pay172 (k0_pay161 (k0_pay110 X4)) (k0_pay162 (k0_pay118 (k0_pay9 (F := Ideal)) (k0_pay110 X4)))) (k0_pay173 (k0_pay161 (k0_pay110 X4)) (k0_pay162 (k0_pay118 (k0_pay9 (F := Ideal)) (k0_pay110 X4))) (k0_pay165 K) (k0_pay166 (k0_pay10 (F := Ideal)) V)) (k0_pay174 Mo) (k0_pay175 Co)
      = kC (kA2 X4) (kB2 X4) (k0_pay24 K) (k0_pay25 (k0_pay10 (F := Ideal)) V) Mo Co := rfl

/-- The third head's result of the second chunk. -/
theorem nO_1_2 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay184 (k0_pay179 (k0_pay163 (k0_pay117 (k0_pay8 (F := Ideal)) (k0_pay114 X3) (k0_pay115 (k0_pay8 (F := Ideal)) X3) (k0_pay116 (k0_pay8 (F := Ideal)) X3))) (k0_pay164 Q) (k0_pay165 K) (k0_pay166 (k0_pay10 (F := Ideal)) V) (k0_pay167 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (k0_pay168 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) Mo Co) (k0_pay180 (k0_pay163 (k0_pay117 (k0_pay8 (F := Ideal)) (k0_pay114 X3) (k0_pay115 (k0_pay8 (F := Ideal)) X3) (k0_pay116 (k0_pay8 (F := Ideal)) X3))) (k0_pay164 Q) (k0_pay165 K) (k0_pay166 (k0_pay10 (F := Ideal)) V) (k0_pay167 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (k0_pay168 k0_pay7 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) Mo Co)
      = kOut (kA2 X4) (kB2 X4) (kG2 X3) (k0_pay23 Q) (k0_pay24 K) (k0_pay25 (k0_pay10 (F := Ideal)) V) Mo Co := rfl

/-- The fourth head's stabiliser after the second chunk. -/
theorem nM_1_3 (X4 : Vec Ideal S1x8x128 .f32) (Mo : Vec Ideal S1x1x1 .f32) :
    k0_pay3 (k0_pay194 (k0_pay186 (k0_pay118 (k0_pay9 (F := Ideal)) (k0_pay110 X4)))) (k0_pay196 (k0_pay185 (k0_pay110 X4)) (k0_pay186 (k0_pay118 (k0_pay9 (F := Ideal)) (k0_pay110 X4)))) (k0_pay198 Mo)
      = kM (kA3 X4) (kB3 X4) Mo := rfl

/-- The fourth head's state after the second chunk. -/
theorem nC_1_3 (X4 : Vec Ideal S1x8x128 .f32) (K : Vec Ideal S1x1x128x128 .bf16) (V : Vec Ideal S1x128x128 .bf16) (Mo : Vec Ideal S1x1x1 .f32) (Co : Vec Ideal S1x128x256 .f32) :
    k0_pay2 (k0_pay194 (k0_pay186 (k0_pay118 (k0_pay9 (F := Ideal)) (k0_pay110 X4)))) (k0_pay196 (k0_pay185 (k0_pay110 X4)) (k0_pay186 (k0_pay118 (k0_pay9 (F := Ideal)) (k0_pay110 X4)))) (k0_pay197 (k0_pay185 (k0_pay110 X4)) (k0_pay186 (k0_pay118 (k0_pay9 (F := Ideal)) (k0_pay110 X4))) (k0_pay189 K) (k0_pay190 (k0_pay10 (F := Ideal)) V)) (k0_pay198 Mo) (k0_pay199 Co)
      = kC (kA3 X4) (kB3 X4) (k0_pay24 K) (k0_pay25 (k0_pay10 (F := Ideal)) V) Mo Co := rfl

/-- The fourth head's result of the second chunk. -/
theorem nO_1_3 (X3 : Vec Ideal S1x128x8 .f32) (X4 : Vec Ideal S1x8x128 .f32) (Q : Vec Ideal S1x128x128 .bf16) (K : Vec Ideal S1x1x128x128 .bf16) (V : Vec Ideal S1x128x128 .bf16) (Mo : Vec Ideal S1x1x1 .f32) (Co : Vec Ideal S1x128x256 .f32) :
    k0_pay4 (k0_pay201 k0_pay7 (k0_pay187 (k0_pay117 (k0_pay8 (F := Ideal)) (k0_pay114 X3) (k0_pay115 (k0_pay8 (F := Ideal)) X3) (k0_pay116 (k0_pay8 (F := Ideal)) X3))) (k0_pay191 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (Named.named κ "mask" 0xF149F2CA#32 : Ideal .f32) Mo) (k0_pay203 k0_pay7 (k0_pay187 (k0_pay117 (k0_pay8 (F := Ideal)) (k0_pay114 X3) (k0_pay115 (k0_pay8 (F := Ideal)) X3) (k0_pay116 (k0_pay8 (F := Ideal)) X3))) (k0_pay188 Q) (k0_pay189 K) (k0_pay190 (k0_pay10 (F := Ideal)) V) (k0_pay191 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (Named.named κ "mask" 0xF149F2CA#32 : Ideal .f32) Mo Co) (k0_pay204 k0_pay7 (k0_pay187 (k0_pay117 (k0_pay8 (F := Ideal)) (k0_pay114 X3) (k0_pay115 (k0_pay8 (F := Ideal)) X3) (k0_pay116 (k0_pay8 (F := Ideal)) X3))) (k0_pay188 Q) (k0_pay189 K) (k0_pay190 (k0_pay10 (F := Ideal)) V) (k0_pay191 (k0_pay110 X4) (k0_pay117 (k0_pay8 (F := Ideal)) (k0_pay114 X3) (k0_pay115 (k0_pay8 (F := Ideal)) X3) (k0_pay116 (k0_pay8 (F := Ideal)) X3)) (k0_pay118 (k0_pay9 (F := Ideal)) (k0_pay110 X4))) (Named.named κ "mask" 0xF149F2CA#32 : Ideal .f32) Mo Co) (k0_pay205 (F := Ideal))
      = kOut (kA3 X4) (kB3 X4) (kG3 X3) (k0_pay23 Q) (k0_pay24 K) (k0_pay25 (k0_pay10 (F := Ideal)) V) Mo Co := rfl

end Cert.Mlstm

end
-- ==== Proof.MlstmKerBlock.lean ====
/- The blocks that the kernel reads at a grid point are the gates, keys, values and queries of 256 positions of one sequence. -/
module

public import proofs.«01_k».proof.Proof.MlstmKerNorm

@[expose] public section

set_option maxRecDepth 16384

noncomputable section

open Idealize.ShloMosaic Idealize.ShloMosaic.TcCoe Idealize.SL.Sem
open Idealize.ShloMosaic.Pipeline (Dat)

namespace Cert.Mlstm

open Cert.KernelIdeal Cert.KernelIdeal.Gen

variable (m : (ℓ : Loc nD τ sig) → Buf (Elt Ideal) ℓ) (c : Dev nD)

/-- Where each window's block lies. -/
theorem idx : ∀ t : Fin cfg0.N, win0_0.index t = ![t.val / 16, t.val % 16, 0] ∧ win0_1.index t = ![t.val / 16, t.val % 16, 0, 0]
    ∧ win0_2.index t = ![t.val / 16, t.val % 16, 0] ∧ win0_3.index t = ![t.val / 16, t.val % 16, 0]
    ∧ win0_4.index t = ![t.val / 16, 0, t.val % 16] ∧ win0_5.index t = ![t.val / 16, t.val % 16, 0] :=
  (by decide +kernel : ∀ t : Fin grid0.N, _)

/-- The kernel's queries. -/
abbrev E0 (b : Fin 4) (t : Fin 4096) (j : Fin 512) : EReal := m ((c.tc : Thread nD τ).loc main_arg0) (ix3 b t j)

/-- The kernel's keys. -/
abbrev E1 (b : Fin 4) (i : Fin 16) (j : Fin 512) (l : Fin 256) : EReal := m ((c.tc : Thread nD τ).loc main_arg1) (ix4 b i j l)

/-- The kernel's values. -/
abbrev E2 (b : Fin 4) (t : Fin 4096) (j : Fin 512) : EReal := m ((c.tc : Thread nD τ).loc main_arg2) (ix3 b t j)

/-- The kernel's gates. -/
abbrev E3 (b : Fin 4) (t : Fin 4096) (j : Fin 8) : EReal := m ((c.tc : Thread nD τ).loc main_arg3) (ix3 b t j)

/-- The queries' block at a point. -/
theorem blk0 (t : Fin cfg0.N) (ht : t.val < 64) (s : Fin 256) (j : Fin 512) :
    iblk m c 0 t (ix3 0 s j) = m ((c.tc : Thread nD τ).loc main_arg0) (ix3 ⟨t.val / 16, by omega⟩ ⟨t.val % 16 * 256 + s, by omega⟩ j) := by
  blk_ext! [iblk, V, idx t]

/-- The keys' block at a point. -/
theorem blk1 (t : Fin cfg0.N) (ht : t.val < 64) (j : Fin 512) (s : Fin 256) :
    iblk m c 1 t (ix4 0 0 j s) = m ((c.tc : Thread nD τ).loc main_arg1) (ix4 ⟨t.val / 16, by omega⟩ ⟨t.val % 16, by omega⟩ j s) := by
  blk_ext! [iblk, V, idx t]

/-- The values' block at a point. -/
theorem blk2 (t : Fin cfg0.N) (ht : t.val < 64) (s : Fin 256) (j : Fin 512) :
    iblk m c 2 t (ix3 0 s j) = m ((c.tc : Thread nD τ).loc main_arg2) (ix3 ⟨t.val / 16, by omega⟩ ⟨t.val % 16 * 256 + s, by omega⟩ j) := by
  blk_ext! [iblk, V, idx t]

/-- The gates' block at a point. -/
theorem blk3 (t : Fin cfg0.N) (ht : t.val < 64) (s : Fin 256) (j : Fin 8) :
    iblk m c 3 t (ix3 0 s j) = m ((c.tc : Thread nD τ).loc main_arg3) (ix3 ⟨t.val / 16, by omega⟩ ⟨t.val % 16 * 256 + s, by omega⟩ j) := by
  blk_ext! [iblk, V, idx t]

/-- The transposed gates as the kernel finds them. -/
theorem V_v0 (b : Fin 4) (j : Fin 8) (t : Fin 4096) :
    (V m c main_v0 : FVec Ideal S4x8x4096 .f32) (ix3 b j t) = m ((c.tc : Thread nD τ).loc main_arg3) (ix3 b t j) := by
  have h : V m c main_v0 = (transpose S4x8x4096 [0, 2, 1] (m ((c.tc : Thread nD τ).loc main_arg3) : FVec Ideal S4x4096x8 .f32) transposes_S4x4096x8_S4x8x4096_0_2_1 : FVec Ideal S4x8x4096 .f32) := by
    simp only [V, hostOps0]
    after_results_simp
  rw [h]
  pointwise []

/-- The transposed gates' block at a point. -/
theorem blk4 (t : Fin cfg0.N) (ht : t.val < 64) (j : Fin 8) (s : Fin 256) :
    iblk m c 4 t (ix3 0 j s) = m ((c.tc : Thread nD τ).loc main_arg3) (ix3 ⟨t.val / 16, by omega⟩ ⟨t.val % 16 * 256 + s, by omega⟩ j) := by
  rw [← V_v0 m c]
  blk_ext! [iblk, idx t]

section Chunks

variable (h0 : ∀ b t j, E0 m c b t j ≠ ⊤ ∧ E0 m c b t j ≠ ⊥) (h1 : ∀ b i j l, E1 m c b i j l ≠ ⊤ ∧ E1 m c b i j l ≠ ⊥)
  (h2 : ∀ b t j, E2 m c b t j ≠ ⊤ ∧ E2 m c b t j ≠ ⊥) (h3 : ∀ b t j, E3 m c b t j ≠ ⊤ ∧ E3 m c b t j ≠ ⊥)
  (t : Fin cfg0.N) (ht : t.val < 64)

include h3 in
/-- The first chunk's gates in columns, at an index. -/
theorem g3_0 (j : Fin 8) (s : Fin 128) :
    View.ld (iblk m c 3 t) (Rect.unit ![0, 0, 0] ![1, 128, 8] inb_S1x256x8_S1x128x8_0_0_0) (ix3 0 s j) = m ((c.tc : Thread nD τ).loc main_arg3) (ix3 ⟨t.val / 16, by omega⟩ ⟨(t.val % 16 * 256 + 0) + s, by omega⟩ j) := by
  refine Eq.trans ?_ ((blk3 m c t ht ⟨0 + s, by omega⟩ j).trans ?_)
  · pointwise []
    blk_ext
  · blk_ext

include h3 in
/-- The first chunk's gates in rows, at an index. -/
theorem g4_0 (j : Fin 8) (s : Fin 128) :
    View.ld (iblk m c 4 t) (Rect.unit ![0, 0, 0] ![1, 8, 128] inb_S1x8x256_S1x8x128_0_0_0) (ix3 0 j s) = m ((c.tc : Thread nD τ).loc main_arg3) (ix3 ⟨t.val / 16, by omega⟩ ⟨(t.val % 16 * 256 + 0) + s, by omega⟩ j) := by
  refine Eq.trans ?_ ((blk4 m c t ht j ⟨0 + s, by omega⟩).trans ?_)
  · pointwise []
    blk_ext
  · blk_ext

include h0 in
/-- The first head's queries in the first chunk. -/
theorem q_0_0 (l d : Fin 128) : k0_pay23 (View.ld (iblk m c 0 t) (Rect.unit ![0, 0, 0] ![1, 128, 128] inb_S1x256x512_S1x128x128_0_0_0)) (ix2 l d) = ((seqX (E0 m c) ⟨t.val / 16, by omega⟩ 0) ((t.val % 16 * 256 + 0) + l) d : EReal) := by
  rw [pay23_at, seqX_coe _ h0 _ _ _ (by omega)]
  refine Eq.trans ?_ ((blk0 m c t ht ⟨0 + l, by omega⟩ ⟨0 + d, by omega⟩).trans ?_)
  · pointwise []
    blk_ext
  · blk_ext

include h3 in
/-- The first head's prefix sums in the first chunk. -/
theorem b_0_0 (l : Fin 128) : kG0 (View.ld (iblk m c 3 t) (Rect.unit ![0, 0, 0] ![1, 128, 8] inb_S1x256x8_S1x128x8_0_0_0)) (ix2 l 0) = ((bc (seqF (E3 m c) ⟨t.val / 16, by omega⟩ 0) (t.val % 16 * 256 + 0) (l + 1) : ℝ) : EReal) := by
  rw [kG0_at]
  refine kBcA_real _ _ _ _ (fun s => ?_) l
  rw [g3_0 m c h3 t ht, seqF_coe _ h3 _ _ _ (by omega)]
  rfl

include h1 h2 h3 in
/-- The first head's gates, keys and values in the first chunk. -/
theorem ch_0_0 : Chunked (seqF (E3 m c) ⟨t.val / 16, by omega⟩ 0) (seqI (E3 m c) ⟨t.val / 16, by omega⟩ 0) (seqK (E1 m c) ⟨t.val / 16, by omega⟩ 0) (seqX (E2 m c) ⟨t.val / 16, by omega⟩ 0) (t.val % 16 * 256 + 0)
    (kA0 (View.ld (iblk m c 4 t) (Rect.unit ![0, 0, 0] ![1, 8, 128] inb_S1x8x256_S1x8x128_0_0_0))) (kB0 (View.ld (iblk m c 4 t) (Rect.unit ![0, 0, 0] ![1, 8, 128] inb_S1x8x256_S1x8x128_0_0_0)))
    (k0_pay24 (View.ld (iblk m c 1 t) (Rect.unit ![0, 0, 0, 0] ![1, 1, 128, 128] inb_S1x1x512x256_S1x1x128x128_0_0_0_0))) (k0_pay25 (k0_pay10 (F := Ideal)) (View.ld (iblk m c 2 t) (Rect.unit ![0, 0, 0] ![1, 128, 128] inb_S1x256x512_S1x128x128_0_0_0))) where
  a s := by
    rw [kA0_at, g4_0 m c h3 t ht, seqI_coe _ h3 _ _ _ (by omega)]
    rfl
  b s := by
    rw [kB0_at]
    refine kBrA_real _ _ _ _ (fun s => ?_) s
    rw [g4_0 m c h3 t ht, seqF_coe _ h3 _ _ _ (by omega)]
    rfl
  k d s := by
    rw [pay24_at, seqK_coe _ h1 _ _ _ (by omega)]
    refine Eq.trans ?_ ((blk1 m c t ht ⟨0 + d, by omega⟩ ⟨0 + s, by omega⟩).trans ?_)
    · pointwise []
      blk_ext
    · blk_ext
  v s j := by
    rw [pay25_lo, seqX_coe _ h2 _ _ _ (by omega)]
    refine Eq.trans ?_ ((blk2 m c t ht ⟨0 + s, by omega⟩ ⟨0 + j, by omega⟩).trans ?_)
    · pointwise []
      blk_ext
    · blk_ext
  o s := pay25_hi _ s

include h0 in
/-- The second head's queries in the first chunk. -/
theorem q_0_1 (l d : Fin 128) : k0_pay23 (View.ld (iblk m c 0 t) (Rect.unit ![0, 0, 128] ![1, 128, 128] inb_S1x256x512_S1x128x128_0_0_128)) (ix2 l d) = ((seqX (E0 m c) ⟨t.val / 16, by omega⟩ 1) ((t.val % 16 * 256 + 0) + l) d : EReal) := by
  rw [pay23_at, seqX_coe _ h0 _ _ _ (by omega)]
  refine Eq.trans ?_ ((blk0 m c t ht ⟨0 + l, by omega⟩ ⟨128 + d, by omega⟩).trans ?_)
  · pointwise []
    blk_ext
  · blk_ext

include h3 in
/-- The second head's prefix sums in the first chunk. -/
theorem b_0_1 (l : Fin 128) : kG1 (View.ld (iblk m c 3 t) (Rect.unit ![0, 0, 0] ![1, 128, 8] inb_S1x256x8_S1x128x8_0_0_0)) (ix2 l 0) = ((bc (seqF (E3 m c) ⟨t.val / 16, by omega⟩ 1) (t.val % 16 * 256 + 0) (l + 1) : ℝ) : EReal) := by
  rw [kG1_at]
  refine kBcA_real _ _ _ _ (fun s => ?_) l
  rw [g3_0 m c h3 t ht, seqF_coe _ h3 _ _ _ (by omega)]
  rfl

include h1 h2 h3 in
/-- The second head's gates, keys and values in the first chunk. -/
theorem ch_0_1 : Chunked (seqF (E3 m c) ⟨t.val / 16, by omega⟩ 1) (seqI (E3 m c) ⟨t.val / 16, by omega⟩ 1) (seqK (E1 m c) ⟨t.val / 16, by omega⟩ 1) (seqX (E2 m c) ⟨t.val / 16, by omega⟩ 1) (t.val % 16 * 256 + 0)
    (kA1 (View.ld (iblk m c 4 t) (Rect.unit ![0, 0, 0] ![1, 8, 128] inb_S1x8x256_S1x8x128_0_0_0))) (kB1 (View.ld (iblk m c 4 t) (Rect.unit ![0, 0, 0] ![1, 8, 128] inb_S1x8x256_S1x8x128_0_0_0)))
    (k0_pay24 (View.ld (iblk m c 1 t) (Rect.unit ![0, 0, 128, 0] ![1, 1, 128, 128] inb_S1x1x512x256_S1x1x128x128_0_0_128_0))) (k0_pay25 (k0_pay10 (F := Ideal)) (View.ld (iblk m c 2 t) (Rect.unit ![0, 0, 128] ![1, 128, 128] inb_S1x256x512_S1x128x128_0_0_128))) where
  a s := by
    rw [kA1_at, g4_0 m c h3 t ht, seqI_coe _ h3 _ _ _ (by omega)]
    rfl
  b s := by
    rw [kB1_at]
    refine kBrA_real _ _ _ _ (fun s => ?_) s
    rw [g4_0 m c h3 t ht, seqF_coe _ h3 _ _ _ (by omega)]
    rfl
  k d s := by
    rw [pay24_at, seqK_coe _ h1 _ _ _ (by omega)]
    refine Eq.trans ?_ ((blk1 m c t ht ⟨128 + d, by omega⟩ ⟨0 + s, by omega⟩).trans ?_)
    · pointwise []
      blk_ext
    · blk_ext
  v s j := by
    rw [pay25_lo, seqX_coe _ h2 _ _ _ (by omega)]
    refine Eq.trans ?_ ((blk2 m c t ht ⟨0 + s, by omega⟩ ⟨128 + j, by omega⟩).trans ?_)
    · pointwise []
      blk_ext
    · blk_ext
  o s := pay25_hi _ s

include h0 in
/-- The third head's queries in the first chunk. -/
theorem q_0_2 (l d : Fin 128) : k0_pay23 (View.ld (iblk m c 0 t) (Rect.unit ![0, 0, 256] ![1, 128, 128] inb_S1x256x512_S1x128x128_0_0_256)) (ix2 l d) = ((seqX (E0 m c) ⟨t.val / 16, by omega⟩ 2) ((t.val % 16 * 256 + 0) + l) d : EReal) := by
  rw [pay23_at, seqX_coe _ h0 _ _ _ (by omega)]
  refine Eq.trans ?_ ((blk0 m c t ht ⟨0 + l, by omega⟩ ⟨256 + d, by omega⟩).trans ?_)
  · pointwise []
    blk_ext
  · blk_ext

include h3 in
/-- The third head's prefix sums in the first chunk. -/
theorem b_0_2 (l : Fin 128) : kG2 (View.ld (iblk m c 3 t) (Rect.unit ![0, 0, 0] ![1, 128, 8] inb_S1x256x8_S1x128x8_0_0_0)) (ix2 l 0) = ((bc (seqF (E3 m c) ⟨t.val / 16, by omega⟩ 2) (t.val % 16 * 256 + 0) (l + 1) : ℝ) : EReal) := by
  rw [kG2_at]
  refine kBcA_real _ _ _ _ (fun s => ?_) l
  rw [g3_0 m c h3 t ht, seqF_coe _ h3 _ _ _ (by omega)]
  rfl

include h1 h2 h3 in
/-- The third head's gates, keys and values in the first chunk. -/
theorem ch_0_2 : Chunked (seqF (E3 m c) ⟨t.val / 16, by omega⟩ 2) (seqI (E3 m c) ⟨t.val / 16, by omega⟩ 2) (seqK (E1 m c) ⟨t.val / 16, by omega⟩ 2) (seqX (E2 m c) ⟨t.val / 16, by omega⟩ 2) (t.val % 16 * 256 + 0)
    (kA2 (View.ld (iblk m c 4 t) (Rect.unit ![0, 0, 0] ![1, 8, 128] inb_S1x8x256_S1x8x128_0_0_0))) (kB2 (View.ld (iblk m c 4 t) (Rect.unit ![0, 0, 0] ![1, 8, 128] inb_S1x8x256_S1x8x128_0_0_0)))
    (k0_pay24 (View.ld (iblk m c 1 t) (Rect.unit ![0, 0, 256, 0] ![1, 1, 128, 128] inb_S1x1x512x256_S1x1x128x128_0_0_256_0))) (k0_pay25 (k0_pay10 (F := Ideal)) (View.ld (iblk m c 2 t) (Rect.unit ![0, 0, 256] ![1, 128, 128] inb_S1x256x512_S1x128x128_0_0_256))) where
  a s := by
    rw [kA2_at, g4_0 m c h3 t ht, seqI_coe _ h3 _ _ _ (by omega)]
    rfl
  b s := by
    rw [kB2_at]
    refine kBrA_real _ _ _ _ (fun s => ?_) s
    rw [g4_0 m c h3 t ht, seqF_coe _ h3 _ _ _ (by omega)]
    rfl
  k d s := by
    rw [pay24_at, seqK_coe _ h1 _ _ _ (by omega)]
    refine Eq.trans ?_ ((blk1 m c t ht ⟨256 + d, by omega⟩ ⟨0 + s, by omega⟩).trans ?_)
    · pointwise []
      blk_ext
    · blk_ext
  v s j := by
    rw [pay25_lo, seqX_coe _ h2 _ _ _ (by omega)]
    refine Eq.trans ?_ ((blk2 m c t ht ⟨0 + s, by omega⟩ ⟨256 + j, by omega⟩).trans ?_)
    · pointwise []
      blk_ext
    · blk_ext
  o s := pay25_hi _ s

include h0 in
/-- The fourth head's queries in the first chunk. -/
theorem q_0_3 (l d : Fin 128) : k0_pay23 (View.ld (iblk m c 0 t) (Rect.unit ![0, 0, 384] ![1, 128, 128] inb_S1x256x512_S1x128x128_0_0_384)) (ix2 l d) = ((seqX (E0 m c) ⟨t.val / 16, by omega⟩ 3) ((t.val % 16 * 256 + 0) + l) d : EReal) := by
  rw [pay23_at, seqX_coe _ h0 _ _ _ (by omega)]
  refine Eq.trans ?_ ((blk0 m c t ht ⟨0 + l, by omega⟩ ⟨384 + d, by omega⟩).trans ?_)
  · pointwise []
    blk_ext
  · blk_ext

include h3 in
/-- The fourth head's prefix sums in the first chunk. -/
theorem b_0_3 (l : Fin 128) : kG3 (View.ld (iblk m c 3 t) (Rect.unit ![0, 0, 0] ![1, 128, 8] inb_S1x256x8_S1x128x8_0_0_0)) (ix2 l 0) = ((bc (seqF (E3 m c) ⟨t.val / 16, by omega⟩ 3) (t.val % 16 * 256 + 0) (l + 1) : ℝ) : EReal) := by
  rw [kG3_at]
  refine kBcA_real _ _ _ _ (fun s => ?_) l
  rw [g3_0 m c h3 t ht, seqF_coe _ h3 _ _ _ (by omega)]
  rfl

include h1 h2 h3 in
/-- The fourth head's gates, keys and values in the first chunk. -/
theorem ch_0_3 : Chunked (seqF (E3 m c) ⟨t.val / 16, by omega⟩ 3) (seqI (E3 m c) ⟨t.val / 16, by omega⟩ 3) (seqK (E1 m c) ⟨t.val / 16, by omega⟩ 3) (seqX (E2 m c) ⟨t.val / 16, by omega⟩ 3) (t.val % 16 * 256 + 0)
    (kA3 (View.ld (iblk m c 4 t) (Rect.unit ![0, 0, 0] ![1, 8, 128] inb_S1x8x256_S1x8x128_0_0_0))) (kB3 (View.ld (iblk m c 4 t) (Rect.unit ![0, 0, 0] ![1, 8, 128] inb_S1x8x256_S1x8x128_0_0_0)))
    (k0_pay24 (View.ld (iblk m c 1 t) (Rect.unit ![0, 0, 384, 0] ![1, 1, 128, 128] inb_S1x1x512x256_S1x1x128x128_0_0_384_0))) (k0_pay25 (k0_pay10 (F := Ideal)) (View.ld (iblk m c 2 t) (Rect.unit ![0, 0, 384] ![1, 128, 128] inb_S1x256x512_S1x128x128_0_0_384))) where
  a s := by
    rw [kA3_at, g4_0 m c h3 t ht, seqI_coe _ h3 _ _ _ (by omega)]
    rfl
  b s := by
    rw [kB3_at]
    refine kBrA_real _ _ _ _ (fun s => ?_) s
    rw [g4_0 m c h3 t ht, seqF_coe _ h3 _ _ _ (by omega)]
    rfl
  k d s := by
    rw [pay24_at, seqK_coe _ h1 _ _ _ (by omega)]
    refine Eq.trans ?_ ((blk1 m c t ht ⟨384 + d, by omega⟩ ⟨0 + s, by omega⟩).trans ?_)
    · pointwise []
      blk_ext
    · blk_ext
  v s j := by
    rw [pay25_lo, seqX_coe _ h2 _ _ _ (by omega)]
    refine Eq.trans ?_ ((blk2 m c t ht ⟨0 + s, by omega⟩ ⟨384 + j, by omega⟩).trans ?_)
    · pointwise []
      blk_ext
    · blk_ext
  o s := pay25_hi _ s

include h3 in
/-- The second chunk's gates in columns, at an index. -/
theorem g3_1 (j : Fin 8) (s : Fin 128) :
    View.ld (iblk m c 3 t) (Rect.unit ![0, 128, 0] ![1, 128, 8] inb_S1x256x8_S1x128x8_0_128_0) (ix3 0 s j) = m ((c.tc : Thread nD τ).loc main_arg3) (ix3 ⟨t.val / 16, by omega⟩ ⟨(t.val % 16 * 256 + 128) + s, by omega⟩ j) := by
  refine Eq.trans ?_ ((blk3 m c t ht ⟨128 + s, by omega⟩ j).trans ?_)
  · pointwise []
    blk_ext
  · blk_ext

include h3 in
/-- The second chunk's gates in rows, at an index. -/
theorem g4_1 (j : Fin 8) (s : Fin 128) :
    View.ld (iblk m c 4 t) (Rect.unit ![0, 0, 128] ![1, 8, 128] inb_S1x8x256_S1x8x128_0_0_128) (ix3 0 j s) = m ((c.tc : Thread nD τ).loc main_arg3) (ix3 ⟨t.val / 16, by omega⟩ ⟨(t.val % 16 * 256 + 128) + s, by omega⟩ j) := by
  refine Eq.trans ?_ ((blk4 m c t ht j ⟨128 + s, by omega⟩).trans ?_)
  · pointwise []
    blk_ext
  · blk_ext

include h0 in
/-- The first head's queries in the second chunk. -/
theorem q_1_0 (l d : Fin 128) : k0_pay23 (View.ld (iblk m c 0 t) (Rect.unit ![0, 128, 0] ![1, 128, 128] inb_S1x256x512_S1x128x128_0_128_0)) (ix2 l d) = ((seqX (E0 m c) ⟨t.val / 16, by omega⟩ 0) ((t.val % 16 * 256 + 128) + l) d : EReal) := by
  rw [pay23_at, seqX_coe _ h0 _ _ _ (by omega)]
  refine Eq.trans ?_ ((blk0 m c t ht ⟨128 + l, by omega⟩ ⟨0 + d, by omega⟩).trans ?_)
  · pointwise []
    blk_ext
  · blk_ext

include h3 in
/-- The first head's prefix sums in the second chunk. -/
theorem b_1_0 (l : Fin 128) : kG0 (View.ld (iblk m c 3 t) (Rect.unit ![0, 128, 0] ![1, 128, 8] inb_S1x256x8_S1x128x8_0_128_0)) (ix2 l 0) = ((bc (seqF (E3 m c) ⟨t.val / 16, by omega⟩ 0) (t.val % 16 * 256 + 128) (l + 1) : ℝ) : EReal) := by
  rw [kG0_at]
  refine kBcA_real _ _ _ _ (fun s => ?_) l
  rw [g3_1 m c h3 t ht, seqF_coe _ h3 _ _ _ (by omega)]
  rfl

include h1 h2 h3 in
/-- The first head's gates, keys and values in the second chunk. -/
theorem ch_1_0 : Chunked (seqF (E3 m c) ⟨t.val / 16, by omega⟩ 0) (seqI (E3 m c) ⟨t.val / 16, by omega⟩ 0) (seqK (E1 m c) ⟨t.val / 16, by omega⟩ 0) (seqX (E2 m c) ⟨t.val / 16, by omega⟩ 0) (t.val % 16 * 256 + 128)
    (kA0 (View.ld (iblk m c 4 t) (Rect.unit ![0, 0, 128] ![1, 8, 128] inb_S1x8x256_S1x8x128_0_0_128))) (kB0 (View.ld (iblk m c 4 t) (Rect.unit ![0, 0, 128] ![1, 8, 128] inb_S1x8x256_S1x8x128_0_0_128)))
    (k0_pay24 (View.ld (iblk m c 1 t) (Rect.unit ![0, 0, 0, 128] ![1, 1, 128, 128] inb_S1x1x512x256_S1x1x128x128_0_0_0_128))) (k0_pay25 (k0_pay10 (F := Ideal)) (View.ld (iblk m c 2 t) (Rect.unit ![0, 128, 0] ![1, 128, 128] inb_S1x256x512_S1x128x128_0_128_0))) where
  a s := by
    rw [kA0_at, g4_1 m c h3 t ht, seqI_coe _ h3 _ _ _ (by omega)]
    rfl
  b s := by
    rw [kB0_at]
    refine kBrA_real _ _ _ _ (fun s => ?_) s
    rw [g4_1 m c h3 t ht, seqF_coe _ h3 _ _ _ (by omega)]
    rfl
  k d s := by
    rw [pay24_at, seqK_coe _ h1 _ _ _ (by omega)]
    refine Eq.trans ?_ ((blk1 m c t ht ⟨0 + d, by omega⟩ ⟨128 + s, by omega⟩).trans ?_)
    · pointwise []
      blk_ext
    · blk_ext
  v s j := by
    rw [pay25_lo, seqX_coe _ h2 _ _ _ (by omega)]
    refine Eq.trans ?_ ((blk2 m c t ht ⟨128 + s, by omega⟩ ⟨0 + j, by omega⟩).trans ?_)
    · pointwise []
      blk_ext
    · blk_ext
  o s := pay25_hi _ s

include h0 in
/-- The second head's queries in the second chunk. -/
theorem q_1_1 (l d : Fin 128) : k0_pay23 (View.ld (iblk m c 0 t) (Rect.unit ![0, 128, 128] ![1, 128, 128] inb_S1x256x512_S1x128x128_0_128_128)) (ix2 l d) = ((seqX (E0 m c) ⟨t.val / 16, by omega⟩ 1) ((t.val % 16 * 256 + 128) + l) d : EReal) := by
  rw [pay23_at, seqX_coe _ h0 _ _ _ (by omega)]
  refine Eq.trans ?_ ((blk0 m c t ht ⟨128 + l, by omega⟩ ⟨128 + d, by omega⟩).trans ?_)
  · pointwise []
    blk_ext
  · blk_ext

include h3 in
/-- The second head's prefix sums in the second chunk. -/
theorem b_1_1 (l : Fin 128) : kG1 (View.ld (iblk m c 3 t) (Rect.unit ![0, 128, 0] ![1, 128, 8] inb_S1x256x8_S1x128x8_0_128_0)) (ix2 l 0) = ((bc (seqF (E3 m c) ⟨t.val / 16, by omega⟩ 1) (t.val % 16 * 256 + 128) (l + 1) : ℝ) : EReal) := by
  rw [kG1_at]
  refine kBcA_real _ _ _ _ (fun s => ?_) l
  rw [g3_1 m c h3 t ht, seqF_coe _ h3 _ _ _ (by omega)]
  rfl

include h1 h2 h3 in
/-- The second head's gates, keys and values in the second chunk. -/
theorem ch_1_1 : Chunked (seqF (E3 m c) ⟨t.val / 16, by omega⟩ 1) (seqI (E3 m c) ⟨t.val / 16, by omega⟩ 1) (seqK (E1 m c) ⟨t.val / 16, by omega⟩ 1) (seqX (E2 m c) ⟨t.val / 16, by omega⟩ 1) (t.val % 16 * 256 + 128)
    (kA1 (View.ld (iblk m c 4 t) (Rect.unit ![0, 0, 128] ![1, 8, 128] inb_S1x8x256_S1x8x128_0_0_128))) (kB1 (View.ld (iblk m c 4 t) (Rect.unit ![0, 0, 128] ![1, 8, 128] inb_S1x8x256_S1x8x128_0_0_128)))
    (k0_pay24 (View.ld (iblk m c 1 t) (Rect.unit ![0, 0, 128, 128] ![1, 1, 128, 128] inb_S1x1x512x256_S1x1x128x128_0_0_128_128))) (k0_pay25 (k0_pay10 (F := Ideal)) (View.ld (iblk m c 2 t) (Rect.unit ![0, 128, 128] ![1, 128, 128] inb_S1x256x512_S1x128x128_0_128_128))) where
  a s := by
    rw [kA1_at, g4_1 m c h3 t ht, seqI_coe _ h3 _ _ _ (by omega)]
    rfl
  b s := by
    rw [kB1_at]
    refine kBrA_real _ _ _ _ (fun s => ?_) s
    rw [g4_1 m c h3 t ht, seqF_coe _ h3 _ _ _ (by omega)]
    rfl
  k d s := by
    rw [pay24_at, seqK_coe _ h1 _ _ _ (by omega)]
    refine Eq.trans ?_ ((blk1 m c t ht ⟨128 + d, by omega⟩ ⟨128 + s, by omega⟩).trans ?_)
    · pointwise []
      blk_ext
    · blk_ext
  v s j := by
    rw [pay25_lo, seqX_coe _ h2 _ _ _ (by omega)]
    refine Eq.trans ?_ ((blk2 m c t ht ⟨128 + s, by omega⟩ ⟨128 + j, by omega⟩).trans ?_)
    · pointwise []
      blk_ext
    · blk_ext
  o s := pay25_hi _ s

include h0 in
/-- The third head's queries in the second chunk. -/
theorem q_1_2 (l d : Fin 128) : k0_pay23 (View.ld (iblk m c 0 t) (Rect.unit ![0, 128, 256] ![1, 128, 128] inb_S1x256x512_S1x128x128_0_128_256)) (ix2 l d) = ((seqX (E0 m c) ⟨t.val / 16, by omega⟩ 2) ((t.val % 16 * 256 + 128) + l) d : EReal) := by
  rw [pay23_at, seqX_coe _ h0 _ _ _ (by omega)]
  refine Eq.trans ?_ ((blk0 m c t ht ⟨128 + l, by omega⟩ ⟨256 + d, by omega⟩).trans ?_)
  · pointwise []
    blk_ext
  · blk_ext

include h3 in
/-- The third head's prefix sums in the second chunk. -/
theorem b_1_2 (l : Fin 128) : kG2 (View.ld (iblk m c 3 t) (Rect.unit ![0, 128, 0] ![1, 128, 8] inb_S1x256x8_S1x128x8_0_128_0)) (ix2 l 0) = ((bc (seqF (E3 m c) ⟨t.val / 16, by omega⟩ 2) (t.val % 16 * 256 + 128) (l + 1) : ℝ) : EReal) := by
  rw [kG2_at]
  refine kBcA_real _ _ _ _ (fun s => ?_) l
  rw [g3_1 m c h3 t ht, seqF_coe _ h3 _ _ _ (by omega)]
  rfl

include h1 h2 h3 in
/-- The third head's gates, keys and values in the second chunk. -/
theorem ch_1_2 : Chunked (seqF (E3 m c) ⟨t.val / 16, by omega⟩ 2) (seqI (E3 m c) ⟨t.val / 16, by omega⟩ 2) (seqK (E1 m c) ⟨t.val / 16, by omega⟩ 2) (seqX (E2 m c) ⟨t.val / 16, by omega⟩ 2) (t.val % 16 * 256 + 128)
    (kA2 (View.ld (iblk m c 4 t) (Rect.unit ![0, 0, 128] ![1, 8, 128] inb_S1x8x256_S1x8x128_0_0_128))) (kB2 (View.ld (iblk m c 4 t) (Rect.unit ![0, 0, 128] ![1, 8, 128] inb_S1x8x256_S1x8x128_0_0_128)))
    (k0_pay24 (View.ld (iblk m c 1 t) (Rect.unit ![0, 0, 256, 128] ![1, 1, 128, 128] inb_S1x1x512x256_S1x1x128x128_0_0_256_128))) (k0_pay25 (k0_pay10 (F := Ideal)) (View.ld (iblk m c 2 t) (Rect.unit ![0, 128, 256] ![1, 128, 128] inb_S1x256x512_S1x128x128_0_128_256))) where
  a s := by
    rw [kA2_at, g4_1 m c h3 t ht, seqI_coe _ h3 _ _ _ (by omega)]
    rfl
  b s := by
    rw [kB2_at]
    refine kBrA_real _ _ _ _ (fun s => ?_) s
    rw [g4_1 m c h3 t ht, seqF_coe _ h3 _ _ _ (by omega)]
    rfl
  k d s := by
    rw [pay24_at, seqK_coe _ h1 _ _ _ (by omega)]
    refine Eq.trans ?_ ((blk1 m c t ht ⟨256 + d, by omega⟩ ⟨128 + s, by omega⟩).trans ?_)
    · pointwise []
      blk_ext
    · blk_ext
  v s j := by
    rw [pay25_lo, seqX_coe _ h2 _ _ _ (by omega)]
    refine Eq.trans ?_ ((blk2 m c t ht ⟨128 + s, by omega⟩ ⟨256 + j, by omega⟩).trans ?_)
    · pointwise []
      blk_ext
    · blk_ext
  o s := pay25_hi _ s

include h0 in
/-- The fourth head's queries in the second chunk. -/
theorem q_1_3 (l d : Fin 128) : k0_pay23 (View.ld (iblk m c 0 t) (Rect.unit ![0, 128, 384] ![1, 128, 128] inb_S1x256x512_S1x128x128_0_128_384)) (ix2 l d) = ((seqX (E0 m c) ⟨t.val / 16, by omega⟩ 3) ((t.val % 16 * 256 + 128) + l) d : EReal) := by
  rw [pay23_at, seqX_coe _ h0 _ _ _ (by omega)]
  refine Eq.trans ?_ ((blk0 m c t ht ⟨128 + l, by omega⟩ ⟨384 + d, by omega⟩).trans ?_)
  · pointwise []
    blk_ext
  · blk_ext

include h3 in
/-- The fourth head's prefix sums in the second chunk. -/
theorem b_1_3 (l : Fin 128) : kG3 (View.ld (iblk m c 3 t) (Rect.unit ![0, 128, 0] ![1, 128, 8] inb_S1x256x8_S1x128x8_0_128_0)) (ix2 l 0) = ((bc (seqF (E3 m c) ⟨t.val / 16, by omega⟩ 3) (t.val % 16 * 256 + 128) (l + 1) : ℝ) : EReal) := by
  rw [kG3_at]
  refine kBcA_real _ _ _ _ (fun s => ?_) l
  rw [g3_1 m c h3 t ht, seqF_coe _ h3 _ _ _ (by omega)]
  rfl

include h1 h2 h3 in
/-- The fourth head's gates, keys and values in the second chunk. -/
theorem ch_1_3 : Chunked (seqF (E3 m c) ⟨t.val / 16, by omega⟩ 3) (seqI (E3 m c) ⟨t.val / 16, by omega⟩ 3) (seqK (E1 m c) ⟨t.val / 16, by omega⟩ 3) (seqX (E2 m c) ⟨t.val / 16, by omega⟩ 3) (t.val % 16 * 256 + 128)
    (kA3 (View.ld (iblk m c 4 t) (Rect.unit ![0, 0, 128] ![1, 8, 128] inb_S1x8x256_S1x8x128_0_0_128))) (kB3 (View.ld (iblk m c 4 t) (Rect.unit ![0, 0, 128] ![1, 8, 128] inb_S1x8x256_S1x8x128_0_0_128)))
    (k0_pay24 (View.ld (iblk m c 1 t) (Rect.unit ![0, 0, 384, 128] ![1, 1, 128, 128] inb_S1x1x512x256_S1x1x128x128_0_0_384_128))) (k0_pay25 (k0_pay10 (F := Ideal)) (View.ld (iblk m c 2 t) (Rect.unit ![0, 128, 384] ![1, 128, 128] inb_S1x256x512_S1x128x128_0_128_384))) where
  a s := by
    rw [kA3_at, g4_1 m c h3 t ht, seqI_coe _ h3 _ _ _ (by omega)]
    rfl
  b s := by
    rw [kB3_at]
    refine kBrA_real _ _ _ _ (fun s => ?_) s
    rw [g4_1 m c h3 t ht, seqF_coe _ h3 _ _ _ (by omega)]
    rfl
  k d s := by
    rw [pay24_at, seqK_coe _ h1 _ _ _ (by omega)]
    refine Eq.trans ?_ ((blk1 m c t ht ⟨384 + d, by omega⟩ ⟨128 + s, by omega⟩).trans ?_)
    · pointwise []
      blk_ext
    · blk_ext
  v s j := by
    rw [pay25_lo, seqX_coe _ h2 _ _ _ (by omega)]
    refine Eq.trans ?_ ((blk2 m c t ht ⟨128 + s, by omega⟩ ⟨384 + j, by omega⟩).trans ?_)
    · pointwise []
      blk_ext
    · blk_ext
  o s := pay25_hi _ s

end Chunks

end Cert.Mlstm

end
-- ==== Proof.MlstmKerRun.lean ====
/- The recurrence's kernel at one point: what it leaves in its two carried scratches and in its output's block. -/
module

public import proofs.«01_k».proof.Proof.MlstmKerBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Mlstm

open Cert.KernelIdeal Cert.KernelIdeal.Gen

/-- Reading a rectangle of what a list of stores left is loading it. -/
theorem ld_canon {κ : Kind} {sp : Space} {s : Shape} {e : EltTy} (v : View sig κ sp s e) (L : List (View.Piece (Elt Ideal) s e)) (r : Rect s) :
    View.ld (View.canon L) r = v.readCov L r.toLoadRect := by
  rw [View.readCov_eq_canon']

variable (m : (ℓ : Loc nD τ sig) → Buf (Elt Ideal) ℓ) (c : Dev nD) (t : Fin cfg0.N)

/-- The stabilisers a sequence starts from. -/
def zM : Vec Ideal S4x1x1 .f32 := k0_pay6 (F := Ideal)

/-- The states a sequence starts from. -/
def zC : Vec Ideal S4x128x256 .f32 := k0_pay5 (F := Ideal)

/-- The first head's entry of the stabilisers. -/
def hM0 (X : Vec Ideal S4x1x1 .f32) : Vec Ideal S1x1x1 .f32 := View.ld X (Rect.unit ![0, 0, 0] ![1, 1, 1] inb_S4x1x1_S1x1x1_0_0_0)

/-- The first head's entry of the states. -/
def hC0 (X : Vec Ideal S4x128x256 .f32) : Vec Ideal S1x128x256 .f32 := View.ld X (Rect.unit ![0, 0, 0] ![1, 128, 256] inb_S4x128x256_S1x128x256_0_0_0)

/-- The first head's stabiliser after the first chunk of a point. -/
def pM_0_0 (Mo : Vec Ideal S1x1x1 .f32) : Vec Ideal S1x1x1 .f32 :=
  kM (kA0 (View.ld (iblk m c 4 t) (Rect.unit ![0, 0, 0] ![1, 8, 128] inb_S1x8x256_S1x8x128_0_0_0))) (kB0 (View.ld (iblk m c 4 t) (Rect.unit ![0, 0, 0] ![1, 8, 128] inb_S1x8x256_S1x8x128_0_0_0))) Mo

/-- The first head's state after the first chunk of a point. -/
def pC_0_0 (Mo : Vec Ideal S1x1x1 .f32) (Co : Vec Ideal S1x128x256 .f32) : Vec Ideal S1x128x256 .f32 :=
  kC (kA0 (View.ld (iblk m c 4 t) (Rect.unit ![0, 0, 0] ![1, 8, 128] inb_S1x8x256_S1x8x128_0_0_0))) (kB0 (View.ld (iblk m c 4 t) (Rect.unit ![0, 0, 0] ![1, 8, 128] inb_S1x8x256_S1x8x128_0_0_0))) (k0_pay24 (View.ld (iblk m c 1 t) (Rect.unit ![0, 0, 0, 0] ![1, 1, 128, 128] inb_S1x1x512x256_S1x1x128x128_0_0_0_0)))
    (k0_pay25 (k0_pay10 (F := Ideal)) (View.ld (iblk m c 2 t) (Rect.unit ![0, 0, 0] ![1, 128, 128] inb_S1x256x512_S1x128x128_0_0_0))) Mo Co

/-- The first head's output of the first chunk of a point. -/
def pO_0_0 (Mo : Vec Ideal S1x1x1 .f32) (Co : Vec Ideal S1x128x256 .f32) : Vec Ideal S1x128x128 .f32 :=
  kOut (kA0 (View.ld (iblk m c 4 t) (Rect.unit ![0, 0, 0] ![1, 8, 128] inb_S1x8x256_S1x8x128_0_0_0))) (kB0 (View.ld (iblk m c 4 t) (Rect.unit ![0, 0, 0] ![1, 8, 128] inb_S1x8x256_S1x8x128_0_0_0))) (kG0 (View.ld (iblk m c 3 t) (Rect.unit ![0, 0, 0] ![1, 128, 8] inb_S1x256x8_S1x128x8_0_0_0)))
    (k0_pay23 (View.ld (iblk m c 0 t) (Rect.unit ![0, 0, 0] ![1, 128, 128] inb_S1x256x512_S1x128x128_0_0_0))) (k0_pay24 (View.ld (iblk m c 1 t) (Rect.unit ![0, 0, 0, 0] ![1, 1, 128, 128] inb_S1x1x512x256_S1x1x128x128_0_0_0_0)))
    (k0_pay25 (k0_pay10 (F := Ideal)) (View.ld (iblk m c 2 t) (Rect.unit ![0, 0, 0] ![1, 128, 128] inb_S1x256x512_S1x128x128_0_0_0))) Mo Co

/-- The first head's stabiliser after the second chunk of a point. -/
def pM_1_0 (Mo : Vec Ideal S1x1x1 .f32) : Vec Ideal S1x1x1 .f32 :=
  kM (kA0 (View.ld (iblk m c 4 t) (Rect.unit ![0, 0, 128] ![1, 8, 128] inb_S1x8x256_S1x8x128_0_0_128))) (kB0 (View.ld (iblk m c 4 t) (Rect.unit ![0, 0, 128] ![1, 8, 128] inb_S1x8x256_S1x8x128_0_0_128))) Mo

/-- The first head's state after the second chunk of a point. -/
def pC_1_0 (Mo : Vec Ideal S1x1x1 .f32) (Co : Vec Ideal S1x128x256 .f32) : Vec Ideal S1x128x256 .f32 :=
  kC (kA0 (View.ld (iblk m c 4 t) (Rect.unit ![0, 0, 128] ![1, 8, 128] inb_S1x8x256_S1x8x128_0_0_128))) (kB0 (View.ld (iblk m c 4 t) (Rect.unit ![0, 0, 128] ![1, 8, 128] inb_S1x8x256_S1x8x128_0_0_128))) (k0_pay24 (View.ld (iblk m c 1 t) (Rect.unit ![0, 0, 0, 128] ![1, 1, 128, 128] inb_S1x1x512x256_S1x1x128x128_0_0_0_128)))
    (k0_pay25 (k0_pay10 (F := Ideal)) (View.ld (iblk m c 2 t) (Rect.unit ![0, 128, 0] ![1, 128, 128] inb_S1x256x512_S1x128x128_0_128_0))) Mo Co

/-- The first head's output of the second chunk of a point. -/
def pO_1_0 (Mo : Vec Ideal S1x1x1 .f32) (Co : Vec Ideal S1x128x256 .f32) : Vec Ideal S1x128x128 .f32 :=
  kOut (kA0 (View.ld (iblk m c 4 t) (Rect.unit ![0, 0, 128] ![1, 8, 128] inb_S1x8x256_S1x8x128_0_0_128))) (kB0 (View.ld (iblk m c 4 t) (Rect.unit ![0, 0, 128] ![1, 8, 128] inb_S1x8x256_S1x8x128_0_0_128))) (kG0 (View.ld (iblk m c 3 t) (Rect.unit ![0, 128, 0] ![1, 128, 8] inb_S1x256x8_S1x128x8_0_128_0)))
    (k0_pay23 (View.ld (iblk m c 0 t) (Rect.unit ![0, 128, 0] ![1, 128, 128] inb_S1x256x512_S1x128x128_0_128_0))) (k0_pay24 (View.ld (iblk m c 1 t) (Rect.unit ![0, 0, 0, 128] ![1, 1, 128, 128] inb_S1x1x512x256_S1x1x128x128_0_0_0_128)))
    (k0_pay25 (k0_pay10 (F := Ideal)) (View.ld (iblk m c 2 t) (Rect.unit ![0, 128, 0] ![1, 128, 128] inb_S1x256x512_S1x128x128_0_128_0))) Mo Co

/-- The second head's entry of the stabilisers. -/
def hM1 (X : Vec Ideal S4x1x1 .f32) : Vec Ideal S1x1x1 .f32 := View.ld X (Rect.unit ![1, 0, 0] ![1, 1, 1] inb_S4x1x1_S1x1x1_1_0_0)

/-- The second head's entry of the states. -/
def hC1 (X : Vec Ideal S4x128x256 .f32) : Vec Ideal S1x128x256 .f32 := View.ld X (Rect.unit ![1, 0, 0] ![1, 128, 256] inb_S4x128x256_S1x128x256_1_0_0)

/-- The second head's stabiliser after the first chunk of a point. -/
def pM_0_1 (Mo : Vec Ideal S1x1x1 .f32) : Vec Ideal S1x1x1 .f32 :=
  kM (kA1 (View.ld (iblk m c 4 t) (Rect.unit ![0, 0, 0] ![1, 8, 128] inb_S1x8x256_S1x8x128_0_0_0))) (kB1 (View.ld (iblk m c 4 t) (Rect.unit ![0, 0, 0] ![1, 8, 128] inb_S1x8x256_S1x8x128_0_0_0))) Mo

/-- The second head's state after the first chunk of a point. -/
def pC_0_1 (Mo : Vec Ideal S1x1x1 .f32) (Co : Vec Ideal S1x128x256 .f32) : Vec Ideal S1x128x256 .f32 :=
  kC (kA1 (View.ld (iblk m c 4 t) (Rect.unit ![0, 0, 0] ![1, 8, 128] inb_S1x8x256_S1x8x128_0_0_0))) (kB1 (View.ld (iblk m c 4 t) (Rect.unit ![0, 0, 0] ![1, 8, 128] inb_S1x8x256_S1x8x128_0_0_0))) (k0_pay24 (View.ld (iblk m c 1 t) (Rect.unit ![0, 0, 128, 0] ![1, 1, 128, 128] inb_S1x1x512x256_S1x1x128x128_0_0_128_0)))
    (k0_pay25 (k0_pay10 (F := Ideal)) (View.ld (iblk m c 2 t) (Rect.unit ![0, 0, 128] ![1, 128, 128] inb_S1x256x512_S1x128x128_0_0_128))) Mo Co

/-- The second head's output of the first chunk of a point. -/
def pO_0_1 (Mo : Vec Ideal S1x1x1 .f32) (Co : Vec Ideal S1x128x256 .f32) : Vec Ideal S1x128x128 .f32 :=
  kOut (kA1 (View.ld (iblk m c 4 t) (Rect.unit ![0, 0, 0] ![1, 8, 128] inb_S1x8x256_S1x8x128_0_0_0))) (kB1 (View.ld (iblk m c 4 t) (Rect.unit ![0, 0, 0] ![1, 8, 128] inb_S1x8x256_S1x8x128_0_0_0))) (kG1 (View.ld (iblk m c 3 t) (Rect.unit ![0, 0, 0] ![1, 128, 8] inb_S1x256x8_S1x128x8_0_0_0)))
    (k0_pay23 (View.ld (iblk m c 0 t) (Rect.unit ![0, 0, 128] ![1, 128, 128] inb_S1x256x512_S1x128x128_0_0_128))) (k0_pay24 (View.ld (iblk m c 1 t) (Rect.unit ![0, 0, 128, 0] ![1, 1, 128, 128] inb_S1x1x512x256_S1x1x128x128_0_0_128_0)))
    (k0_pay25 (k0_pay10 (F := Ideal)) (View.ld (iblk m c 2 t) (Rect.unit ![0, 0, 128] ![1, 128, 128] inb_S1x256x512_S1x128x128_0_0_128))) Mo Co

/-- The second head's stabiliser after the second chunk of a point. -/
def pM_1_1 (Mo : Vec Ideal S1x1x1 .f32) : Vec Ideal S1x1x1 .f32 :=
  kM (kA1 (View.ld (iblk m c 4 t) (Rect.unit ![0, 0, 128] ![1, 8, 128] inb_S1x8x256_S1x8x128_0_0_128))) (kB1 (View.ld (iblk m c 4 t) (Rect.unit ![0, 0, 128] ![1, 8, 128] inb_S1x8x256_S1x8x128_0_0_128))) Mo

/-- The second head's state after the second chunk of a point. -/
def pC_1_1 (Mo : Vec Ideal S1x1x1 .f32) (Co : Vec Ideal S1x128x256 .f32) : Vec Ideal S1x128x256 .f32 :=
  kC (kA1 (View.ld (iblk m c 4 t) (Rect.unit ![0, 0, 128] ![1, 8, 128] inb_S1x8x256_S1x8x128_0_0_128))) (kB1 (View.ld (iblk m c 4 t) (Rect.unit ![0, 0, 128] ![1, 8, 128] inb_S1x8x256_S1x8x128_0_0_128))) (k0_pay24 (View.ld (iblk m c 1 t) (Rect.unit ![0, 0, 128, 128] ![1, 1, 128, 128] inb_S1x1x512x256_S1x1x128x128_0_0_128_128)))
    (k0_pay25 (k0_pay10 (F := Ideal)) (View.ld (iblk m c 2 t) (Rect.unit ![0, 128, 128] ![1, 128, 128] inb_S1x256x512_S1x128x128_0_128_128))) Mo Co

/-- The second head's output of the second chunk of a point. -/
def pO_1_1 (Mo : Vec Ideal S1x1x1 .f32) (Co : Vec Ideal S1x128x256 .f32) : Vec Ideal S1x128x128 .f32 :=
  kOut (kA1 (View.ld (iblk m c 4 t) (Rect.unit ![0, 0, 128] ![1, 8, 128] inb_S1x8x256_S1x8x128_0_0_128))) (kB1 (View.ld (iblk m c 4 t) (Rect.unit ![0, 0, 128] ![1, 8, 128] inb_S1x8x256_S1x8x128_0_0_128))) (kG1 (View.ld (iblk m c 3 t) (Rect.unit ![0, 128, 0] ![1, 128, 8] inb_S1x256x8_S1x128x8_0_128_0)))
    (k0_pay23 (View.ld (iblk m c 0 t) (Rect.unit ![0, 128, 128] ![1, 128, 128] inb_S1x256x512_S1x128x128_0_128_128))) (k0_pay24 (View.ld (iblk m c 1 t) (Rect.unit ![0, 0, 128, 128] ![1, 1, 128, 128] inb_S1x1x512x256_S1x1x128x128_0_0_128_128)))
    (k0_pay25 (k0_pay10 (F := Ideal)) (View.ld (iblk m c 2 t) (Rect.unit ![0, 128, 128] ![1, 128, 128] inb_S1x256x512_S1x128x128_0_128_128))) Mo Co

/-- The third head's entry of the stabilisers. -/
def hM2 (X : Vec Ideal S4x1x1 .f32) : Vec Ideal S1x1x1 .f32 := View.ld X (Rect.unit ![2, 0, 0] ![1, 1, 1] inb_S4x1x1_S1x1x1_2_0_0)

/-- The third head's entry of the states. -/
def hC2 (X : Vec Ideal S4x128x256 .f32) : Vec Ideal S1x128x256 .f32 := View.ld X (Rect.unit ![2, 0, 0] ![1, 128, 256] inb_S4x128x256_S1x128x256_2_0_0)

/-- The third head's stabiliser after the first chunk of a point. -/
def pM_0_2 (Mo : Vec Ideal S1x1x1 .f32) : Vec Ideal S1x1x1 .f32 :=
  kM (kA2 (View.ld (iblk m c 4 t) (Rect.unit ![0, 0, 0] ![1, 8, 128] inb_S1x8x256_S1x8x128_0_0_0))) (kB2 (View.ld (iblk m c 4 t) (Rect.unit ![0, 0, 0] ![1, 8, 128] inb_S1x8x256_S1x8x128_0_0_0))) Mo

/-- The third head's state after the first chunk of a point. -/
def pC_0_2 (Mo : Vec Ideal S1x1x1 .f32) (Co : Vec Ideal S1x128x256 .f32) : Vec Ideal S1x128x256 .f32 :=
  kC (kA2 (View.ld (iblk m c 4 t) (Rect.unit ![0, 0, 0] ![1, 8, 128] inb_S1x8x256_S1x8x128_0_0_0))) (kB2 (View.ld (iblk m c 4 t) (Rect.unit ![0, 0, 0] ![1, 8, 128] inb_S1x8x256_S1x8x128_0_0_0))) (k0_pay24 (View.ld (iblk m c 1 t) (Rect.unit ![0, 0, 256, 0] ![1, 1, 128, 128] inb_S1x1x512x256_S1x1x128x128_0_0_256_0)))
    (k0_pay25 (k0_pay10 (F := Ideal)) (View.ld (iblk m c 2 t) (Rect.unit ![0, 0, 256] ![1, 128, 128] inb_S1x256x512_S1x128x128_0_0_256))) Mo Co

/-- The third head's output of the first chunk of a point. -/
def pO_0_2 (Mo : Vec Ideal S1x1x1 .f32) (Co : Vec Ideal S1x128x256 .f32) : Vec Ideal S1x128x128 .f32 :=
  kOut (kA2 (View.ld (iblk m c 4 t) (Rect.unit ![0, 0, 0] ![1, 8, 128] inb_S1x8x256_S1x8x128_0_0_0))) (kB2 (View.ld (iblk m c 4 t) (Rect.unit ![0, 0, 0] ![1, 8, 128] inb_S1x8x256_S1x8x128_0_0_0))) (kG2 (View.ld (iblk m c 3 t) (Rect.unit ![0, 0, 0] ![1, 128, 8] inb_S1x256x8_S1x128x8_0_0_0)))
    (k0_pay23 (View.ld (iblk m c 0 t) (Rect.unit ![0, 0, 256] ![1, 128, 128] inb_S1x256x512_S1x128x128_0_0_256))) (k0_pay24 (View.ld (iblk m c 1 t) (Rect.unit ![0, 0, 256, 0] ![1, 1, 128, 128] inb_S1x1x512x256_S1x1x128x128_0_0_256_0)))
    (k0_pay25 (k0_pay10 (F := Ideal)) (View.ld (iblk m c 2 t) (Rect.unit ![0, 0, 256] ![1, 128, 128] inb_S1x256x512_S1x128x128_0_0_256))) Mo Co

/-- The third head's stabiliser after the second chunk of a point. -/
def pM_1_2 (Mo : Vec Ideal S1x1x1 .f32) : Vec Ideal S1x1x1 .f32 :=
  kM (kA2 (View.ld (iblk m c 4 t) (Rect.unit ![0, 0, 128] ![1, 8, 128] inb_S1x8x256_S1x8x128_0_0_128))) (kB2 (View.ld (iblk m c 4 t) (Rect.unit ![0, 0, 128] ![1, 8, 128] inb_S1x8x256_S1x8x128_0_0_128))) Mo

/-- The third head's state after the second chunk of a point. -/
def pC_1_2 (Mo : Vec Ideal S1x1x1 .f32) (Co : Vec Ideal S1x128x256 .f32) : Vec Ideal S1x128x256 .f32 :=
  kC (kA2 (View.ld (iblk m c 4 t) (Rect.unit ![0, 0, 128] ![1, 8, 128] inb_S1x8x256_S1x8x128_0_0_128))) (kB2 (View.ld (iblk m c 4 t) (Rect.unit ![0, 0, 128] ![1, 8, 128] inb_S1x8x256_S1x8x128_0_0_128))) (k0_pay24 (View.ld (iblk m c 1 t) (Rect.unit ![0, 0, 256, 128] ![1, 1, 128, 128] inb_S1x1x512x256_S1x1x128x128_0_0_256_128)))
    (k0_pay25 (k0_pay10 (F := Ideal)) (View.ld (iblk m c 2 t) (Rect.unit ![0, 128, 256] ![1, 128, 128] inb_S1x256x512_S1x128x128_0_128_256))) Mo Co

/-- The third head's output of the second chunk of a point. -/
def pO_1_2 (Mo : Vec Ideal S1x1x1 .f32) (Co : Vec Ideal S1x128x256 .f32) : Vec Ideal S1x128x128 .f32 :=
  kOut (kA2 (View.ld (iblk m c 4 t) (Rect.unit ![0, 0, 128] ![1, 8, 128] inb_S1x8x256_S1x8x128_0_0_128))) (kB2 (View.ld (iblk m c 4 t) (Rect.unit ![0, 0, 128] ![1, 8, 128] inb_S1x8x256_S1x8x128_0_0_128))) (kG2 (View.ld (iblk m c 3 t) (Rect.unit ![0, 128, 0] ![1, 128, 8] inb_S1x256x8_S1x128x8_0_128_0)))
    (k0_pay23 (View.ld (iblk m c 0 t) (Rect.unit ![0, 128, 256] ![1, 128, 128] inb_S1x256x512_S1x128x128_0_128_256))) (k0_pay24 (View.ld (iblk m c 1 t) (Rect.unit ![0, 0, 256, 128] ![1, 1, 128, 128] inb_S1x1x512x256_S1x1x128x128_0_0_256_128)))
    (k0_pay25 (k0_pay10 (F := Ideal)) (View.ld (iblk m c 2 t) (Rect.unit ![0, 128, 256] ![1, 128, 128] inb_S1x256x512_S1x128x128_0_128_256))) Mo Co

/-- The fourth head's entry of the stabilisers. -/
def hM3 (X : Vec Ideal S4x1x1 .f32) : Vec Ideal S1x1x1 .f32 := View.ld X (Rect.unit ![3, 0, 0] ![1, 1, 1] inb_S4x1x1_S1x1x1_3_0_0)

/-- The fourth head's entry of the states. -/
def hC3 (X : Vec Ideal S4x128x256 .f32) : Vec Ideal S1x128x256 .f32 := View.ld X (Rect.unit ![3, 0, 0] ![1, 128, 256] inb_S4x128x256_S1x128x256_3_0_0)

/-- The fourth head's stabiliser after the first chunk of a point. -/
def pM_0_3 (Mo : Vec Ideal S1x1x1 .f32) : Vec Ideal S1x1x1 .f32 :=
  kM (kA3 (View.ld (iblk m c 4 t) (Rect.unit ![0, 0, 0] ![1, 8, 128] inb_S1x8x256_S1x8x128_0_0_0))) (kB3 (View.ld (iblk m c 4 t) (Rect.unit ![0, 0, 0] ![1, 8, 128] inb_S1x8x256_S1x8x128_0_0_0))) Mo

/-- The fourth head's state after the first chunk of a point. -/
def pC_0_3 (Mo : Vec Ideal S1x1x1 .f32) (Co : Vec Ideal S1x128x256 .f32) : Vec Ideal S1x128x256 .f32 :=
  kC (kA3 (View.ld (iblk m c 4 t) (Rect.unit ![0, 0, 0] ![1, 8, 128] inb_S1x8x256_S1x8x128_0_0_0))) (kB3 (View.ld (iblk m c 4 t) (Rect.unit ![0, 0, 0] ![1, 8, 128] inb_S1x8x256_S1x8x128_0_0_0))) (k0_pay24 (View.ld (iblk m c 1 t) (Rect.unit ![0, 0, 384, 0] ![1, 1, 128, 128] inb_S1x1x512x256_S1x1x128x128_0_0_384_0)))
    (k0_pay25 (k0_pay10 (F := Ideal)) (View.ld (iblk m c 2 t) (Rect.unit ![0, 0, 384] ![1, 128, 128] inb_S1x256x512_S1x128x128_0_0_384))) Mo Co

/-- The fourth head's output of the first chunk of a point. -/
def pO_0_3 (Mo : Vec Ideal S1x1x1 .f32) (Co : Vec Ideal S1x128x256 .f32) : Vec Ideal S1x128x128 .f32 :=
  kOut (kA3 (View.ld (iblk m c 4 t) (Rect.unit ![0, 0, 0] ![1, 8, 128] inb_S1x8x256_S1x8x128_0_0_0))) (kB3 (View.ld (iblk m c 4 t) (Rect.unit ![0, 0, 0] ![1, 8, 128] inb_S1x8x256_S1x8x128_0_0_0))) (kG3 (View.ld (iblk m c 3 t) (Rect.unit ![0, 0, 0] ![1, 128, 8] inb_S1x256x8_S1x128x8_0_0_0)))
    (k0_pay23 (View.ld (iblk m c 0 t) (Rect.unit ![0, 0, 384] ![1, 128, 128] inb_S1x256x512_S1x128x128_0_0_384))) (k0_pay24 (View.ld (iblk m c 1 t) (Rect.unit ![0, 0, 384, 0] ![1, 1, 128, 128] inb_S1x1x512x256_S1x1x128x128_0_0_384_0)))
    (k0_pay25 (k0_pay10 (F := Ideal)) (View.ld (iblk m c 2 t) (Rect.unit ![0, 0, 384] ![1, 128, 128] inb_S1x256x512_S1x128x128_0_0_384))) Mo Co

/-- The fourth head's stabiliser after the second chunk of a point. -/
def pM_1_3 (Mo : Vec Ideal S1x1x1 .f32) : Vec Ideal S1x1x1 .f32 :=
  kM (kA3 (View.ld (iblk m c 4 t) (Rect.unit ![0, 0, 128] ![1, 8, 128] inb_S1x8x256_S1x8x128_0_0_128))) (kB3 (View.ld (iblk m c 4 t) (Rect.unit ![0, 0, 128] ![1, 8, 128] inb_S1x8x256_S1x8x128_0_0_128))) Mo

/-- The fourth head's state after the second chunk of a point. -/
def pC_1_3 (Mo : Vec Ideal S1x1x1 .f32) (Co : Vec Ideal S1x128x256 .f32) : Vec Ideal S1x128x256 .f32 :=
  kC (kA3 (View.ld (iblk m c 4 t) (Rect.unit ![0, 0, 128] ![1, 8, 128] inb_S1x8x256_S1x8x128_0_0_128))) (kB3 (View.ld (iblk m c 4 t) (Rect.unit ![0, 0, 128] ![1, 8, 128] inb_S1x8x256_S1x8x128_0_0_128))) (k0_pay24 (View.ld (iblk m c 1 t) (Rect.unit ![0, 0, 384, 128] ![1, 1, 128, 128] inb_S1x1x512x256_S1x1x128x128_0_0_384_128)))
    (k0_pay25 (k0_pay10 (F := Ideal)) (View.ld (iblk m c 2 t) (Rect.unit ![0, 128, 384] ![1, 128, 128] inb_S1x256x512_S1x128x128_0_128_384))) Mo Co

/-- The fourth head's output of the second chunk of a point. -/
def pO_1_3 (Mo : Vec Ideal S1x1x1 .f32) (Co : Vec Ideal S1x128x256 .f32) : Vec Ideal S1x128x128 .f32 :=
  kOut (kA3 (View.ld (iblk m c 4 t) (Rect.unit ![0, 0, 128] ![1, 8, 128] inb_S1x8x256_S1x8x128_0_0_128))) (kB3 (View.ld (iblk m c 4 t) (Rect.unit ![0, 0, 128] ![1, 8, 128] inb_S1x8x256_S1x8x128_0_0_128))) (kG3 (View.ld (iblk m c 3 t) (Rect.unit ![0, 128, 0] ![1, 128, 8] inb_S1x256x8_S1x128x8_0_128_0)))
    (k0_pay23 (View.ld (iblk m c 0 t) (Rect.unit ![0, 128, 384] ![1, 128, 128] inb_S1x256x512_S1x128x128_0_128_384))) (k0_pay24 (View.ld (iblk m c 1 t) (Rect.unit ![0, 0, 384, 128] ![1, 1, 128, 128] inb_S1x1x512x256_S1x1x128x128_0_0_384_128)))
    (k0_pay25 (k0_pay10 (F := Ideal)) (View.ld (iblk m c 2 t) (Rect.unit ![0, 128, 384] ![1, 128, 128] inb_S1x256x512_S1x128x128_0_128_384))) Mo Co

/-- The first head's stabiliser after a sequence's first point: two chunks' steps. -/
theorem sM_A_0 (h : t.val % 16 = 0) : hM0 (outsAt0 m c t.val t.isLt).2.2 = pM_1_0 m c t (pM_0_0 m c t (hM0 zM)) := by
  rw [hM0, outsAt0_A m c t h]
  frame_out
  rw [ld_canon (View.whole cc0_scratch1)]
  simp (disch := decide) only [↓View.readCov_skip, ↓View.readCov_cons_toLoadRect, ↓View.readCov_fill, read_unread_whole]
  rfl

/-- The first head's state after a sequence's first point: two chunks' steps. -/
theorem sC_A_0 (h : t.val % 16 = 0) : hC0 (outsAt0 m c t.val t.isLt).2.1 = pC_1_0 m c t (pM_0_0 m c t (hM0 zM)) (pC_0_0 m c t (hM0 zM) (hC0 zC)) := by
  rw [hC0, outsAt0_A m c t h]
  frame_out
  rw [ld_canon (View.whole cc0_scratch0)]
  simp (disch := decide) only [↓View.readCov_skip, ↓View.readCov_cons_toLoadRect, ↓View.readCov_fill, read_unread_whole]
  rfl

/-- The first head's output of the first chunk at a sequence's first point. -/
theorem sO_A_0_0 (h : t.val % 16 = 0) : View.ld (outsAt0 m c t.val t.isLt).1 (Rect.unit ![0, 0, 0] ![1, 128, 128] inb_S1x256x512_S1x128x128_0_0_0) = pO_0_0 m c t (hM0 zM) (hC0 zC) := by
  rw [outsAt0_A m c t h]
  frame_out
  rw [ld_canon (ms0_5 t).view]
  simp (disch := decide) only [↓View.readCov_skip, ↓View.readCov_cons_toLoadRect, ↓View.readCov_fill, read_unread_whole]
  rfl

/-- The first head's output of the second chunk at a sequence's first point. -/
theorem sO_A_1_0 (h : t.val % 16 = 0) : View.ld (outsAt0 m c t.val t.isLt).1 (Rect.unit ![0, 128, 0] ![1, 128, 128] inb_S1x256x512_S1x128x128_0_128_0) = pO_1_0 m c t (pM_0_0 m c t (hM0 zM)) (pC_0_0 m c t (hM0 zM) (hC0 zC)) := by
  rw [outsAt0_A m c t h]
  frame_out
  rw [ld_canon (ms0_5 t).view]
  simp (disch := decide) only [↓View.readCov_skip, ↓View.readCov_cons_toLoadRect, ↓View.readCov_fill, read_unread_whole]
  rfl

/-- The second head's stabiliser after a sequence's first point: two chunks' steps. -/
theorem sM_A_1 (h : t.val % 16 = 0) : hM1 (outsAt0 m c t.val t.isLt).2.2 = pM_1_1 m c t (pM_0_1 m c t (hM1 zM)) := by
  rw [hM1, outsAt0_A m c t h]
  frame_out
  rw [ld_canon (View.whole cc0_scratch1)]
  simp (disch := decide) only [↓View.readCov_skip, ↓View.readCov_cons_toLoadRect, ↓View.readCov_fill, read_unread_whole]
  rfl

/-- The second head's state after a sequence's first point: two chunks' steps. -/
theorem sC_A_1 (h : t.val % 16 = 0) : hC1 (outsAt0 m c t.val t.isLt).2.1 = pC_1_1 m c t (pM_0_1 m c t (hM1 zM)) (pC_0_1 m c t (hM1 zM) (hC1 zC)) := by
  rw [hC1, outsAt0_A m c t h]
  frame_out
  rw [ld_canon (View.whole cc0_scratch0)]
  simp (disch := decide) only [↓View.readCov_skip, ↓View.readCov_cons_toLoadRect, ↓View.readCov_fill, read_unread_whole]
  rfl

/-- The second head's output of the first chunk at a sequence's first point. -/
theorem sO_A_0_1 (h : t.val % 16 = 0) : View.ld (outsAt0 m c t.val t.isLt).1 (Rect.unit ![0, 0, 128] ![1, 128, 128] inb_S1x256x512_S1x128x128_0_0_128) = pO_0_1 m c t (hM1 zM) (hC1 zC) := by
  rw [outsAt0_A m c t h]
  frame_out
  rw [ld_canon (ms0_5 t).view]
  simp (disch := decide) only [↓View.readCov_skip, ↓View.readCov_cons_toLoadRect, ↓View.readCov_fill, read_unread_whole]
  rfl

/-- The second head's output of the second chunk at a sequence's first point. -/
theorem sO_A_1_1 (h : t.val % 16 = 0) : View.ld (outsAt0 m c t.val t.isLt).1 (Rect.unit ![0, 128, 128] ![1, 128, 128] inb_S1x256x512_S1x128x128_0_128_128) = pO_1_1 m c t (pM_0_1 m c t (hM1 zM)) (pC_0_1 m c t (hM1 zM) (hC1 zC)) := by
  rw [outsAt0_A m c t h]
  frame_out
  rw [ld_canon (ms0_5 t).view]
  simp (disch := decide) only [↓View.readCov_skip, ↓View.readCov_cons_toLoadRect, ↓View.readCov_fill, read_unread_whole]
  rfl

/-- The third head's stabiliser after a sequence's first point: two chunks' steps. -/
theorem sM_A_2 (h : t.val % 16 = 0) : hM2 (outsAt0 m c t.val t.isLt).2.2 = pM_1_2 m c t (pM_0_2 m c t (hM2 zM)) := by
  rw [hM2, outsAt0_A m c t h]
  frame_out
  rw [ld_canon (View.whole cc0_scratch1)]
  simp (disch := decide) only [↓View.readCov_skip, ↓View.readCov_cons_toLoadRect, ↓View.readCov_fill, read_unread_whole]
  rfl

/-- The third head's state after a sequence's first point: two chunks' steps. -/
theorem sC_A_2 (h : t.val % 16 = 0) : hC2 (outsAt0 m c t.val t.isLt).2.1 = pC_1_2 m c t (pM_0_2 m c t (hM2 zM)) (pC_0_2 m c t (hM2 zM) (hC2 zC)) := by
  rw [hC2, outsAt0_A m c t h]
  frame_out
  rw [ld_canon (View.whole cc0_scratch0)]
  simp (disch := decide) only [↓View.readCov_skip, ↓View.readCov_cons_toLoadRect, ↓View.readCov_fill, read_unread_whole]
  rfl

/-- The third head's output of the first chunk at a sequence's first point. -/
theorem sO_A_0_2 (h : t.val % 16 = 0) : View.ld (outsAt0 m c t.val t.isLt).1 (Rect.unit ![0, 0, 256] ![1, 128, 128] inb_S1x256x512_S1x128x128_0_0_256) = pO_0_2 m c t (hM2 zM) (hC2 zC) := by
  rw [outsAt0_A m c t h]
  frame_out
  rw [ld_canon (ms0_5 t).view]
  simp (disch := decide) only [↓View.readCov_skip, ↓View.readCov_cons_toLoadRect, ↓View.readCov_fill, read_unread_whole]
  rfl

/-- The third head's output of the second chunk at a sequence's first point. -/
theorem sO_A_1_2 (h : t.val % 16 = 0) : View.ld (outsAt0 m c t.val t.isLt).1 (Rect.unit ![0, 128, 256] ![1, 128, 128] inb_S1x256x512_S1x128x128_0_128_256) = pO_1_2 m c t (pM_0_2 m c t (hM2 zM)) (pC_0_2 m c t (hM2 zM) (hC2 zC)) := by
  rw [outsAt0_A m c t h]
  frame_out
  rw [ld_canon (ms0_5 t).view]
  simp (disch := decide) only [↓View.readCov_skip, ↓View.readCov_cons_toLoadRect, ↓View.readCov_fill, read_unread_whole]
  rfl

/-- The fourth head's stabiliser after a sequence's first point: two chunks' steps. -/
theorem sM_A_3 (h : t.val % 16 = 0) : hM3 (outsAt0 m c t.val t.isLt).2.2 = pM_1_3 m c t (pM_0_3 m c t (hM3 zM)) := by
  rw [hM3, outsAt0_A m c t h]
  frame_out
  rw [ld_canon (View.whole cc0_scratch1)]
  simp (disch := decide) only [↓View.readCov_skip, ↓View.readCov_cons_toLoadRect, ↓View.readCov_fill, read_unread_whole]
  rfl

/-- The fourth head's state after a sequence's first point: two chunks' steps. -/
theorem sC_A_3 (h : t.val % 16 = 0) : hC3 (outsAt0 m c t.val t.isLt).2.1 = pC_1_3 m c t (pM_0_3 m c t (hM3 zM)) (pC_0_3 m c t (hM3 zM) (hC3 zC)) := by
  rw [hC3, outsAt0_A m c t h]
  frame_out
  rw [ld_canon (View.whole cc0_scratch0)]
  simp (disch := decide) only [↓View.readCov_skip, ↓View.readCov_cons_toLoadRect, ↓View.readCov_fill, read_unread_whole]
  rfl

/-- The fourth head's output of the first chunk at a sequence's first point. -/
theorem sO_A_0_3 (h : t.val % 16 = 0) : View.ld (outsAt0 m c t.val t.isLt).1 (Rect.unit ![0, 0, 384] ![1, 128, 128] inb_S1x256x512_S1x128x128_0_0_384) = pO_0_3 m c t (hM3 zM) (hC3 zC) := by
  rw [outsAt0_A m c t h]
  frame_out
  rw [ld_canon (ms0_5 t).view]
  simp (disch := decide) only [↓View.readCov_skip, ↓View.readCov_cons_toLoadRect, ↓View.readCov_fill, read_unread_whole]
  rfl

/-- The fourth head's output of the second chunk at a sequence's first point. -/
theorem sO_A_1_3 (h : t.val % 16 = 0) : View.ld (outsAt0 m c t.val t.isLt).1 (Rect.unit ![0, 128, 384] ![1, 128, 128] inb_S1x256x512_S1x128x128_0_128_384) = pO_1_3 m c t (pM_0_3 m c t (hM3 zM)) (pC_0_3 m c t (hM3 zM) (hC3 zC)) := by
  rw [outsAt0_A m c t h]
  frame_out
  rw [ld_canon (ms0_5 t).view]
  simp (disch := decide) only [↓View.readCov_skip, ↓View.readCov_cons_toLoadRect, ↓View.readCov_fill, read_unread_whole]
  rfl

/-- The first head's stabiliser after a later point: two chunks' steps. -/
theorem sM_B_0 (h : ¬t.val % 16 = 0) : hM0 (outsAt0 m c t.val t.isLt).2.2 = pM_1_0 m c t (pM_0_0 m c t (hM0 (outsAt0 m c (t.val - 1) (Nat.lt_of_le_of_lt (Nat.sub_le _ _) t.isLt)).2.2)) := by
  rw [hM0, outsAt0_B m c t h]
  frame_out
  rw [ld_canon (View.whole cc0_scratch1)]
  simp (disch := decide) only [↓View.readCov_skip, ↓View.readCov_cons_toLoadRect, ↓View.readCov_fill, read_unread_whole]
  rfl

/-- The first head's state after a later point: two chunks' steps. -/
theorem sC_B_0 (h : ¬t.val % 16 = 0) : hC0 (outsAt0 m c t.val t.isLt).2.1 = pC_1_0 m c t (pM_0_0 m c t (hM0 (outsAt0 m c (t.val - 1) (Nat.lt_of_le_of_lt (Nat.sub_le _ _) t.isLt)).2.2)) (pC_0_0 m c t (hM0 (outsAt0 m c (t.val - 1) (Nat.lt_of_le_of_lt (Nat.sub_le _ _) t.isLt)).2.2) (hC0 (outsAt0 m c (t.val - 1) (Nat.lt_of_le_of_lt (Nat.sub_le _ _) t.isLt)).2.1)) := by
  rw [hC0, outsAt0_B m c t h]
  frame_out
  rw [ld_canon (View.whole cc0_scratch0)]
  simp (disch := decide) only [↓View.readCov_skip, ↓View.readCov_cons_toLoadRect, ↓View.readCov_fill, read_unread_whole]
  rfl

/-- The first head's output of the first chunk at a later point. -/
theorem sO_B_0_0 (h : ¬t.val % 16 = 0) : View.ld (outsAt0 m c t.val t.isLt).1 (Rect.unit ![0, 0, 0] ![1, 128, 128] inb_S1x256x512_S1x128x128_0_0_0) = pO_0_0 m c t (hM0 (outsAt0 m c (t.val - 1) (Nat.lt_of_le_of_lt (Nat.sub_le _ _) t.isLt)).2.2) (hC0 (outsAt0 m c (t.val - 1) (Nat.lt_of_le_of_lt (Nat.sub_le _ _) t.isLt)).2.1) := by
  rw [outsAt0_B m c t h]
  frame_out
  rw [ld_canon (ms0_5 t).view]
  simp (disch := decide) only [↓View.readCov_skip, ↓View.readCov_cons_toLoadRect, ↓View.readCov_fill, read_unread_whole]
  rfl

/-- The first head's output of the second chunk at a later point. -/
theorem sO_B_1_0 (h : ¬t.val % 16 = 0) : View.ld (outsAt0 m c t.val t.isLt).1 (Rect.unit ![0, 128, 0] ![1, 128, 128] inb_S1x256x512_S1x128x128_0_128_0) = pO_1_0 m c t (pM_0_0 m c t (hM0 (outsAt0 m c (t.val - 1) (Nat.lt_of_le_of_lt (Nat.sub_le _ _) t.isLt)).2.2)) (pC_0_0 m c t (hM0 (outsAt0 m c (t.val - 1) (Nat.lt_of_le_of_lt (Nat.sub_le _ _) t.isLt)).2.2) (hC0 (outsAt0 m c (t.val - 1) (Nat.lt_of_le_of_lt (Nat.sub_le _ _) t.isLt)).2.1)) := by
  rw [outsAt0_B m c t h]
  frame_out
  rw [ld_canon (ms0_5 t).view]
  simp (disch := decide) only [↓View.readCov_skip, ↓View.readCov_cons_toLoadRect, ↓View.readCov_fill, read_unread_whole]
  rfl

/-- The second head's stabiliser after a later point: two chunks' steps. -/
theorem sM_B_1 (h : ¬t.val % 16 = 0) : hM1 (outsAt0 m c t.val t.isLt).2.2 = pM_1_1 m c t (pM_0_1 m c t (hM1 (outsAt0 m c (t.val - 1) (Nat.lt_of_le_of_lt (Nat.sub_le _ _) t.isLt)).2.2)) := by
  rw [hM1, outsAt0_B m c t h]
  frame_out
  rw [ld_canon (View.whole cc0_scratch1)]
  simp (disch := decide) only [↓View.readCov_skip, ↓View.readCov_cons_toLoadRect, ↓View.readCov_fill, read_unread_whole]
  rfl

/-- The second head's state after a later point: two chunks' steps. -/
theorem sC_B_1 (h : ¬t.val % 16 = 0) : hC1 (outsAt0 m c t.val t.isLt).2.1 = pC_1_1 m c t (pM_0_1 m c t (hM1 (outsAt0 m c (t.val - 1) (Nat.lt_of_le_of_lt (Nat.sub_le _ _) t.isLt)).2.2)) (pC_0_1 m c t (hM1 (outsAt0 m c (t.val - 1) (Nat.lt_of_le_of_lt (Nat.sub_le _ _) t.isLt)).2.2) (hC1 (outsAt0 m c (t.val - 1) (Nat.lt_of_le_of_lt (Nat.sub_le _ _) t.isLt)).2.1)) := by
  rw [hC1, outsAt0_B m c t h]
  frame_out
  rw [ld_canon (View.whole cc0_scratch0)]
  simp (disch := decide) only [↓View.readCov_skip, ↓View.readCov_cons_toLoadRect, ↓View.readCov_fill, read_unread_whole]
  rfl

/-- The second head's output of the first chunk at a later point. -/
theorem sO_B_0_1 (h : ¬t.val % 16 = 0) : View.ld (outsAt0 m c t.val t.isLt).1 (Rect.unit ![0, 0, 128] ![1, 128, 128] inb_S1x256x512_S1x128x128_0_0_128) = pO_0_1 m c t (hM1 (outsAt0 m c (t.val - 1) (Nat.lt_of_le_of_lt (Nat.sub_le _ _) t.isLt)).2.2) (hC1 (outsAt0 m c (t.val - 1) (Nat.lt_of_le_of_lt (Nat.sub_le _ _) t.isLt)).2.1) := by
  rw [outsAt0_B m c t h]
  frame_out
  rw [ld_canon (ms0_5 t).view]
  simp (disch := decide) only [↓View.readCov_skip, ↓View.readCov_cons_toLoadRect, ↓View.readCov_fill, read_unread_whole]
  rfl

/-- The second head's output of the second chunk at a later point. -/
theorem sO_B_1_1 (h : ¬t.val % 16 = 0) : View.ld (outsAt0 m c t.val t.isLt).1 (Rect.unit ![0, 128, 128] ![1, 128, 128] inb_S1x256x512_S1x128x128_0_128_128) = pO_1_1 m c t (pM_0_1 m c t (hM1 (outsAt0 m c (t.val - 1) (Nat.lt_of_le_of_lt (Nat.sub_le _ _) t.isLt)).2.2)) (pC_0_1 m c t (hM1 (outsAt0 m c (t.val - 1) (Nat.lt_of_le_of_lt (Nat.sub_le _ _) t.isLt)).2.2) (hC1 (outsAt0 m c (t.val - 1) (Nat.lt_of_le_of_lt (Nat.sub_le _ _) t.isLt)).2.1)) := by
  rw [outsAt0_B m c t h]
  frame_out
  rw [ld_canon (ms0_5 t).view]
  simp (disch := decide) only [↓View.readCov_skip, ↓View.readCov_cons_toLoadRect, ↓View.readCov_fill, read_unread_whole]
  rfl

/-- The third head's stabiliser after a later point: two chunks' steps. -/
theorem sM_B_2 (h : ¬t.val % 16 = 0) : hM2 (outsAt0 m c t.val t.isLt).2.2 = pM_1_2 m c t (pM_0_2 m c t (hM2 (outsAt0 m c (t.val - 1) (Nat.lt_of_le_of_lt (Nat.sub_le _ _) t.isLt)).2.2)) := by
  rw [hM2, outsAt0_B m c t h]
  frame_out
  rw [ld_canon (View.whole cc0_scratch1)]
  simp (disch := decide) only [↓View.readCov_skip, ↓View.readCov_cons_toLoadRect, ↓View.readCov_fill, read_unread_whole]
  rfl

/-- The third head's state after a later point: two chunks' steps. -/
theorem sC_B_2 (h : ¬t.val % 16 = 0) : hC2 (outsAt0 m c t.val t.isLt).2.1 = pC_1_2 m c t (pM_0_2 m c t (hM2 (outsAt0 m c (t.val - 1) (Nat.lt_of_le_of_lt (Nat.sub_le _ _) t.isLt)).2.2)) (pC_0_2 m c t (hM2 (outsAt0 m c (t.val - 1) (Nat.lt_of_le_of_lt (Nat.sub_le _ _) t.isLt)).2.2) (hC2 (outsAt0 m c (t.val - 1) (Nat.lt_of_le_of_lt (Nat.sub_le _ _) t.isLt)).2.1)) := by
  rw [hC2, outsAt0_B m c t h]
  frame_out
  rw [ld_canon (View.whole cc0_scratch0)]
  simp (disch := decide) only [↓View.readCov_skip, ↓View.readCov_cons_toLoadRect, ↓View.readCov_fill, read_unread_whole]
  rfl

/-- The third head's output of the first chunk at a later point. -/
theorem sO_B_0_2 (h : ¬t.val % 16 = 0) : View.ld (outsAt0 m c t.val t.isLt).1 (Rect.unit ![0, 0, 256] ![1, 128, 128] inb_S1x256x512_S1x128x128_0_0_256) = pO_0_2 m c t (hM2 (outsAt0 m c (t.val - 1) (Nat.lt_of_le_of_lt (Nat.sub_le _ _) t.isLt)).2.2) (hC2 (outsAt0 m c (t.val - 1) (Nat.lt_of_le_of_lt (Nat.sub_le _ _) t.isLt)).2.1) := by
  rw [outsAt0_B m c t h]
  frame_out
  rw [ld_canon (ms0_5 t).view]
  simp (disch := decide) only [↓View.readCov_skip, ↓View.readCov_cons_toLoadRect, ↓View.readCov_fill, read_unread_whole]
  rfl

/-- The third head's output of the second chunk at a later point. -/
theorem sO_B_1_2 (h : ¬t.val % 16 = 0) : View.ld (outsAt0 m c t.val t.isLt).1 (Rect.unit ![0, 128, 256] ![1, 128, 128] inb_S1x256x512_S1x128x128_0_128_256) = pO_1_2 m c t (pM_0_2 m c t (hM2 (outsAt0 m c (t.val - 1) (Nat.lt_of_le_of_lt (Nat.sub_le _ _) t.isLt)).2.2)) (pC_0_2 m c t (hM2 (outsAt0 m c (t.val - 1) (Nat.lt_of_le_of_lt (Nat.sub_le _ _) t.isLt)).2.2) (hC2 (outsAt0 m c (t.val - 1) (Nat.lt_of_le_of_lt (Nat.sub_le _ _) t.isLt)).2.1)) := by
  rw [outsAt0_B m c t h]
  frame_out
  rw [ld_canon (ms0_5 t).view]
  simp (disch := decide) only [↓View.readCov_skip, ↓View.readCov_cons_toLoadRect, ↓View.readCov_fill, read_unread_whole]
  rfl

/-- The fourth head's stabiliser after a later point: two chunks' steps. -/
theorem sM_B_3 (h : ¬t.val % 16 = 0) : hM3 (outsAt0 m c t.val t.isLt).2.2 = pM_1_3 m c t (pM_0_3 m c t (hM3 (outsAt0 m c (t.val - 1) (Nat.lt_of_le_of_lt (Nat.sub_le _ _) t.isLt)).2.2)) := by
  rw [hM3, outsAt0_B m c t h]
  frame_out
  rw [ld_canon (View.whole cc0_scratch1)]
  simp (disch := decide) only [↓View.readCov_skip, ↓View.readCov_cons_toLoadRect, ↓View.readCov_fill, read_unread_whole]
  rfl

/-- The fourth head's state after a later point: two chunks' steps. -/
theorem sC_B_3 (h : ¬t.val % 16 = 0) : hC3 (outsAt0 m c t.val t.isLt).2.1 = pC_1_3 m c t (pM_0_3 m c t (hM3 (outsAt0 m c (t.val - 1) (Nat.lt_of_le_of_lt (Nat.sub_le _ _) t.isLt)).2.2)) (pC_0_3 m c t (hM3 (outsAt0 m c (t.val - 1) (Nat.lt_of_le_of_lt (Nat.sub_le _ _) t.isLt)).2.2) (hC3 (outsAt0 m c (t.val - 1) (Nat.lt_of_le_of_lt (Nat.sub_le _ _) t.isLt)).2.1)) := by
  rw [hC3, outsAt0_B m c t h]
  frame_out
  rw [ld_canon (View.whole cc0_scratch0)]
  simp (disch := decide) only [↓View.readCov_skip, ↓View.readCov_cons_toLoadRect, ↓View.readCov_fill, read_unread_whole]
  rfl

/-- The fourth head's output of the first chunk at a later point. -/
theorem sO_B_0_3 (h : ¬t.val % 16 = 0) : View.ld (outsAt0 m c t.val t.isLt).1 (Rect.unit ![0, 0, 384] ![1, 128, 128] inb_S1x256x512_S1x128x128_0_0_384) = pO_0_3 m c t (hM3 (outsAt0 m c (t.val - 1) (Nat.lt_of_le_of_lt (Nat.sub_le _ _) t.isLt)).2.2) (hC3 (outsAt0 m c (t.val - 1) (Nat.lt_of_le_of_lt (Nat.sub_le _ _) t.isLt)).2.1) := by
  rw [outsAt0_B m c t h]
  frame_out
  rw [ld_canon (ms0_5 t).view]
  simp (disch := decide) only [↓View.readCov_skip, ↓View.readCov_cons_toLoadRect, ↓View.readCov_fill, read_unread_whole]
  rfl

/-- The fourth head's output of the second chunk at a later point. -/
theorem sO_B_1_3 (h : ¬t.val % 16 = 0) : View.ld (outsAt0 m c t.val t.isLt).1 (Rect.unit ![0, 128, 384] ![1, 128, 128] inb_S1x256x512_S1x128x128_0_128_384) = pO_1_3 m c t (pM_0_3 m c t (hM3 (outsAt0 m c (t.val - 1) (Nat.lt_of_le_of_lt (Nat.sub_le _ _) t.isLt)).2.2)) (pC_0_3 m c t (hM3 (outsAt0 m c (t.val - 1) (Nat.lt_of_le_of_lt (Nat.sub_le _ _) t.isLt)).2.2) (hC3 (outsAt0 m c (t.val - 1) (Nat.lt_of_le_of_lt (Nat.sub_le _ _) t.isLt)).2.1)) := by
  rw [outsAt0_B m c t h]
  frame_out
  rw [ld_canon (ms0_5 t).view]
  simp (disch := decide) only [↓View.readCov_skip, ↓View.readCov_cons_toLoadRect, ↓View.readCov_fill, read_unread_whole]
  rfl

end Cert.Mlstm

end
-- ==== Proof.MlstmKerOut.lean ====
/- The recurrence's kernel over all its points: its output array holds the recurrence's outputs. -/
module

public import proofs.«01_k».proof.Proof.MlstmKerRun

@[expose] public section

set_option maxRecDepth 16384

noncomputable section

open Idealize.ShloMosaic Idealize.ShloMosaic.TcCoe Idealize.SL.Sem
open Idealize.ShloMosaic.Pipeline (Dat)

namespace Cert.Mlstm

open Cert.KernelIdeal Cert.KernelIdeal.Gen

variable (m : (ℓ : Loc nD τ sig) → Buf (Elt Ideal) ℓ) (c : Dev nD)

/-- A sequence's stabilisers start at zero. -/
theorem zM_at (i : S4x1x1.Idx) : zM i = 0 := by
  unfold zM
  pointwise [k0_pay6]

/-- A sequence's states start at zero. -/
theorem zC_at (i : S4x128x256.Idx) : zC i = 0 := by
  unfold zC
  pointwise [k0_pay5]

/-- Zeros are what is carried before the first position. -/
theorem carried_zero (f a : ℕ → ℝ) (K V : ℕ → Fin 128 → ℝ) (Mo : Vec Ideal S1x1x1 .f32) (Co : Vec Ideal S1x128x256 .f32)
    (hM : ∀ i, Mo i = 0) (hC : ∀ i, Co i = 0) : Carried f a K V 0 Mo Co where
  m := by rw [hM]; simp [M]
  c d j := by rw [hC]; simp [S]
  n d := by rw [hC]; simp [S]

/-- What one head of one sequence carries before a position, in the kernel's arguments. -/
abbrev Cr (x h : Fin 4) (T : ℕ) (Mo : Vec Ideal S1x1x1 .f32) (Co : Vec Ideal S1x128x256 .f32) : Prop :=
  Carried (seqF (E3 m c) x h) (seqI (E3 m c) x h) (seqK (E1 m c) x h) (seqX (E2 m c) x h) T Mo Co

/-- One head's output of one sequence at a position, in the kernel's arguments. -/
abbrev Ho (x h : Fin 4) (T : ℕ) (j : Fin 128) : ℝ :=
  hout (seqF (E3 m c) x h) (seqI (E3 m c) x h) (seqX (E0 m c) x h) (seqK (E1 m c) x h) (seqX (E2 m c) x h) T j

/-- The sequence and the position may be rewritten. -/
theorem Cr.congr {x x' h : Fin 4} {T T' : ℕ} {Mo : Vec Ideal S1x1x1 .f32} {Co : Vec Ideal S1x128x256 .f32} (H : Cr m c x h T Mo Co)
    (hx : x = x') (hT : T = T') : Cr m c x' h T' Mo Co := by
  subst hx hT; exact H

variable (h0 : ∀ b t j, E0 m c b t j ≠ ⊤ ∧ E0 m c b t j ≠ ⊥) (h1 : ∀ b i j l, E1 m c b i j l ≠ ⊤ ∧ E1 m c b i j l ≠ ⊥)
  (h2 : ∀ b t j, E2 m c b t j ≠ ⊤ ∧ E2 m c b t j ≠ ⊥) (h3 : ∀ b t j, E3 m c b t j ≠ ⊤ ∧ E3 m c b t j ≠ ⊥)

include h1 h2 h3 in
/-- The first head's carried values through the first chunk of a point. -/
theorem half_0 (t : Fin cfg0.N) (ht : t.val < 64) (Mo : Vec Ideal S1x1x1 .f32) (Co : Vec Ideal S1x128x256 .f32)
    (H : Cr m c ⟨t.val / 16, by omega⟩ 0 (t.val % 16 * 256) Mo Co) :
    Cr m c ⟨t.val / 16, by omega⟩ 0 (t.val % 16 * 256 + 128) (pM_0_0 m c t Mo) (pC_0_0 m c t Mo Co) :=
  carried_step (ch_0_0 m c h1 h2 h3 t ht) H

include h1 h2 h3 in
/-- The first head's carried values through a point. -/
theorem full_0 (t : Fin cfg0.N) (ht : t.val < 64) (Mo : Vec Ideal S1x1x1 .f32) (Co : Vec Ideal S1x128x256 .f32)
    (H : Cr m c ⟨t.val / 16, by omega⟩ 0 (t.val % 16 * 256) Mo Co) :
    Cr m c ⟨t.val / 16, by omega⟩ 0 (t.val % 16 * 256 + 256) (pM_1_0 m c t (pM_0_0 m c t Mo)) (pC_1_0 m c t (pM_0_0 m c t Mo) (pC_0_0 m c t Mo Co)) :=
  Cr.congr m c (carried_step (ch_1_0 m c h1 h2 h3 t ht) (half_0 m c h1 h2 h3 t ht Mo Co H)) rfl (Nat.add_assoc _ 128 128)

/-- The first head's carried values at a sequence's start. -/
theorem start_0 (t : Fin cfg0.N) (ht : t.val < 64) (h : t.val % 16 = 0) : Cr m c ⟨t.val / 16, by omega⟩ 0 (t.val % 16 * 256) (hM0 zM) (hC0 zC) :=
  Cr.congr m c (carried_zero _ _ _ _ _ _ (fun _ => zM_at _) (fun _ => zC_at _)) rfl (by omega)

include h1 h2 h3 in
/-- The first head's carried values after every point. -/
theorem inv_0 (n : ℕ) (hn : n < cfg0.N) (h64 : n < 64) :
    Cr m c ⟨n / 16, by omega⟩ 0 (n % 16 * 256 + 256) (hM0 (outsAt0 m c n hn).2.2) (hC0 (outsAt0 m c n hn).2.1) := by
  induction n with
  | zero =>
    have hA : (⟨0, hn⟩ : Fin cfg0.N).val % 16 = 0 := rfl
    rw [sM_A_0 m c ⟨0, hn⟩ hA, sC_A_0 m c ⟨0, hn⟩ hA]
    exact full_0 m c h1 h2 h3 ⟨0, hn⟩ h64 _ _ (start_0 m c ⟨0, hn⟩ h64 hA)
  | succ n ih =>
    by_cases hA : (⟨n + 1, hn⟩ : Fin cfg0.N).val % 16 = 0
    · rw [sM_A_0 m c ⟨n + 1, hn⟩ hA, sC_A_0 m c ⟨n + 1, hn⟩ hA]
      exact full_0 m c h1 h2 h3 ⟨n + 1, hn⟩ h64 _ _ (start_0 m c ⟨n + 1, hn⟩ h64 hA)
    · rw [sM_B_0 m c ⟨n + 1, hn⟩ hA, sC_B_0 m c ⟨n + 1, hn⟩ hA]
      refine full_0 m c h1 h2 h3 ⟨n + 1, hn⟩ h64 _ _ (Cr.congr m c (ih (by omega) (by omega)) (Fin.ext ?_) ?_)
      · simp only at hA ⊢; omega
      · simp only at hA ⊢; omega

include h1 h2 h3 in
/-- The first head's carried values before a later point. -/
theorem before_0 (t : Fin cfg0.N) (ht : t.val < 64) (h : ¬t.val % 16 = 0) :
    Cr m c ⟨t.val / 16, by omega⟩ 0 (t.val % 16 * 256) (hM0 (outsAt0 m c (t.val - 1) (Nat.lt_of_le_of_lt (Nat.sub_le _ _) t.isLt)).2.2) (hC0 (outsAt0 m c (t.val - 1) (Nat.lt_of_le_of_lt (Nat.sub_le _ _) t.isLt)).2.1) :=
  Cr.congr m c (inv_0 m c h1 h2 h3 (t.val - 1) _ (by omega)) (Fin.ext (by simp only; omega)) (by omega)

include h0 h1 h2 h3 in
/-- The first head's outputs of the first chunk of a point. -/
theorem out_0_0 (t : Fin cfg0.N) (ht : t.val < 64) (l j : Fin 128) (s : Fin 256) (i : Fin 512) (hs : s.val = 0 + l.val) (hi : i.val = 0 + j.val) :
    (outsAt0 m c t.val t.isLt).1 (ix3 0 s i) = (Ho m c ⟨t.val / 16, by omega⟩ 0 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 0, 0] ![1, 128, 128] inb_S1x256x512_S1x128x128_0_0_0) (ix3 0 l j)) ?_ (Eq.trans (b := (Ho m c ⟨t.val / 16, by omega⟩ 0 ((t.val % 16 * 256 + 0) + l) j : EReal)) ?_ ?_)
  · generalize (outsAt0 m c t.val t.isLt).1 = g
    pointwise []
    blk_ext
  · by_cases h : t.val % 16 = 0
    · rw [sO_A_0_0 m c t h]
      exact kOut_real (ch_0_0 m c h1 h2 h3 t ht) (b_0_0 m c h3 t ht) (q_0_0 m c h0 t ht) (start_0 m c t ht h) l j
    · rw [sO_B_0_0 m c t h]
      exact kOut_real (ch_0_0 m c h1 h2 h3 t ht) (b_0_0 m c h3 t ht) (q_0_0 m c h0 t ht) (before_0 m c h1 h2 h3 t ht h) l j
  · rw [Nat.add_assoc]

include h0 h1 h2 h3 in
/-- The first head's outputs of the second chunk of a point. -/
theorem out_1_0 (t : Fin cfg0.N) (ht : t.val < 64) (l j : Fin 128) (s : Fin 256) (i : Fin 512) (hs : s.val = 128 + l.val) (hi : i.val = 0 + j.val) :
    (outsAt0 m c t.val t.isLt).1 (ix3 0 s i) = (Ho m c ⟨t.val / 16, by omega⟩ 0 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 128, 0] ![1, 128, 128] inb_S1x256x512_S1x128x128_0_128_0) (ix3 0 l j)) ?_ (Eq.trans (b := (Ho m c ⟨t.val / 16, by omega⟩ 0 ((t.val % 16 * 256 + 128) + l) j : EReal)) ?_ ?_)
  · generalize (outsAt0 m c t.val t.isLt).1 = g
    pointwise []
    blk_ext
  · by_cases h : t.val % 16 = 0
    · rw [sO_A_1_0 m c t h]
      exact kOut_real (ch_1_0 m c h1 h2 h3 t ht) (b_1_0 m c h3 t ht) (q_1_0 m c h0 t ht) (half_0 m c h1 h2 h3 t ht _ _ (start_0 m c t ht h)) l j
    · rw [sO_B_1_0 m c t h]
      exact kOut_real (ch_1_0 m c h1 h2 h3 t ht) (b_1_0 m c h3 t ht) (q_1_0 m c h0 t ht) (half_0 m c h1 h2 h3 t ht _ _ (before_0 m c h1 h2 h3 t ht h)) l j
  · rw [Nat.add_assoc]

include h1 h2 h3 in
/-- The second head's carried values through the first chunk of a point. -/
theorem half_1 (t : Fin cfg0.N) (ht : t.val < 64) (Mo : Vec Ideal S1x1x1 .f32) (Co : Vec Ideal S1x128x256 .f32)
    (H : Cr m c ⟨t.val / 16, by omega⟩ 1 (t.val % 16 * 256) Mo Co) :
    Cr m c ⟨t.val / 16, by omega⟩ 1 (t.val % 16 * 256 + 128) (pM_0_1 m c t Mo) (pC_0_1 m c t Mo Co) :=
  carried_step (ch_0_1 m c h1 h2 h3 t ht) H

include h1 h2 h3 in
/-- The second head's carried values through a point. -/
theorem full_1 (t : Fin cfg0.N) (ht : t.val < 64) (Mo : Vec Ideal S1x1x1 .f32) (Co : Vec Ideal S1x128x256 .f32)
    (H : Cr m c ⟨t.val / 16, by omega⟩ 1 (t.val % 16 * 256) Mo Co) :
    Cr m c ⟨t.val / 16, by omega⟩ 1 (t.val % 16 * 256 + 256) (pM_1_1 m c t (pM_0_1 m c t Mo)) (pC_1_1 m c t (pM_0_1 m c t Mo) (pC_0_1 m c t Mo Co)) :=
  Cr.congr m c (carried_step (ch_1_1 m c h1 h2 h3 t ht) (half_1 m c h1 h2 h3 t ht Mo Co H)) rfl (Nat.add_assoc _ 128 128)

/-- The second head's carried values at a sequence's start. -/
theorem start_1 (t : Fin cfg0.N) (ht : t.val < 64) (h : t.val % 16 = 0) : Cr m c ⟨t.val / 16, by omega⟩ 1 (t.val % 16 * 256) (hM1 zM) (hC1 zC) :=
  Cr.congr m c (carried_zero _ _ _ _ _ _ (fun _ => zM_at _) (fun _ => zC_at _)) rfl (by omega)

include h1 h2 h3 in
/-- The second head's carried values after every point. -/
theorem inv_1 (n : ℕ) (hn : n < cfg0.N) (h64 : n < 64) :
    Cr m c ⟨n / 16, by omega⟩ 1 (n % 16 * 256 + 256) (hM1 (outsAt0 m c n hn).2.2) (hC1 (outsAt0 m c n hn).2.1) := by
  induction n with
  | zero =>
    have hA : (⟨0, hn⟩ : Fin cfg0.N).val % 16 = 0 := rfl
    rw [sM_A_1 m c ⟨0, hn⟩ hA, sC_A_1 m c ⟨0, hn⟩ hA]
    exact full_1 m c h1 h2 h3 ⟨0, hn⟩ h64 _ _ (start_1 m c ⟨0, hn⟩ h64 hA)
  | succ n ih =>
    by_cases hA : (⟨n + 1, hn⟩ : Fin cfg0.N).val % 16 = 0
    · rw [sM_A_1 m c ⟨n + 1, hn⟩ hA, sC_A_1 m c ⟨n + 1, hn⟩ hA]
      exact full_1 m c h1 h2 h3 ⟨n + 1, hn⟩ h64 _ _ (start_1 m c ⟨n + 1, hn⟩ h64 hA)
    · rw [sM_B_1 m c ⟨n + 1, hn⟩ hA, sC_B_1 m c ⟨n + 1, hn⟩ hA]
      refine full_1 m c h1 h2 h3 ⟨n + 1, hn⟩ h64 _ _ (Cr.congr m c (ih (by omega) (by omega)) (Fin.ext ?_) ?_)
      · simp only at hA ⊢; omega
      · simp only at hA ⊢; omega

include h1 h2 h3 in
/-- The second head's carried values before a later point. -/
theorem before_1 (t : Fin cfg0.N) (ht : t.val < 64) (h : ¬t.val % 16 = 0) :
    Cr m c ⟨t.val / 16, by omega⟩ 1 (t.val % 16 * 256) (hM1 (outsAt0 m c (t.val - 1) (Nat.lt_of_le_of_lt (Nat.sub_le _ _) t.isLt)).2.2) (hC1 (outsAt0 m c (t.val - 1) (Nat.lt_of_le_of_lt (Nat.sub_le _ _) t.isLt)).2.1) :=
  Cr.congr m c (inv_1 m c h1 h2 h3 (t.val - 1) _ (by omega)) (Fin.ext (by simp only; omega)) (by omega)

include h0 h1 h2 h3 in
/-- The second head's outputs of the first chunk of a point. -/
theorem out_0_1 (t : Fin cfg0.N) (ht : t.val < 64) (l j : Fin 128) (s : Fin 256) (i : Fin 512) (hs : s.val = 0 + l.val) (hi : i.val = 128 + j.val) :
    (outsAt0 m c t.val t.isLt).1 (ix3 0 s i) = (Ho m c ⟨t.val / 16, by omega⟩ 1 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 0, 128] ![1, 128, 128] inb_S1x256x512_S1x128x128_0_0_128) (ix3 0 l j)) ?_ (Eq.trans (b := (Ho m c ⟨t.val / 16, by omega⟩ 1 ((t.val % 16 * 256 + 0) + l) j : EReal)) ?_ ?_)
  · generalize (outsAt0 m c t.val t.isLt).1 = g
    pointwise []
    blk_ext
  · by_cases h : t.val % 16 = 0
    · rw [sO_A_0_1 m c t h]
      exact kOut_real (ch_0_1 m c h1 h2 h3 t ht) (b_0_1 m c h3 t ht) (q_0_1 m c h0 t ht) (start_1 m c t ht h) l j
    · rw [sO_B_0_1 m c t h]
      exact kOut_real (ch_0_1 m c h1 h2 h3 t ht) (b_0_1 m c h3 t ht) (q_0_1 m c h0 t ht) (before_1 m c h1 h2 h3 t ht h) l j
  · rw [Nat.add_assoc]

include h0 h1 h2 h3 in
/-- The second head's outputs of the second chunk of a point. -/
theorem out_1_1 (t : Fin cfg0.N) (ht : t.val < 64) (l j : Fin 128) (s : Fin 256) (i : Fin 512) (hs : s.val = 128 + l.val) (hi : i.val = 128 + j.val) :
    (outsAt0 m c t.val t.isLt).1 (ix3 0 s i) = (Ho m c ⟨t.val / 16, by omega⟩ 1 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 128, 128] ![1, 128, 128] inb_S1x256x512_S1x128x128_0_128_128) (ix3 0 l j)) ?_ (Eq.trans (b := (Ho m c ⟨t.val / 16, by omega⟩ 1 ((t.val % 16 * 256 + 128) + l) j : EReal)) ?_ ?_)
  · generalize (outsAt0 m c t.val t.isLt).1 = g
    pointwise []
    blk_ext
  · by_cases h : t.val % 16 = 0
    · rw [sO_A_1_1 m c t h]
      exact kOut_real (ch_1_1 m c h1 h2 h3 t ht) (b_1_1 m c h3 t ht) (q_1_1 m c h0 t ht) (half_1 m c h1 h2 h3 t ht _ _ (start_1 m c t ht h)) l j
    · rw [sO_B_1_1 m c t h]
      exact kOut_real (ch_1_1 m c h1 h2 h3 t ht) (b_1_1 m c h3 t ht) (q_1_1 m c h0 t ht) (half_1 m c h1 h2 h3 t ht _ _ (before_1 m c h1 h2 h3 t ht h)) l j
  · rw [Nat.add_assoc]

include h1 h2 h3 in
/-- The third head's carried values through the first chunk of a point. -/
theorem half_2 (t : Fin cfg0.N) (ht : t.val < 64) (Mo : Vec Ideal S1x1x1 .f32) (Co : Vec Ideal S1x128x256 .f32)
    (H : Cr m c ⟨t.val / 16, by omega⟩ 2 (t.val % 16 * 256) Mo Co) :
    Cr m c ⟨t.val / 16, by omega⟩ 2 (t.val % 16 * 256 + 128) (pM_0_2 m c t Mo) (pC_0_2 m c t Mo Co) :=
  carried_step (ch_0_2 m c h1 h2 h3 t ht) H

include h1 h2 h3 in
/-- The third head's carried values through a point. -/
theorem full_2 (t : Fin cfg0.N) (ht : t.val < 64) (Mo : Vec Ideal S1x1x1 .f32) (Co : Vec Ideal S1x128x256 .f32)
    (H : Cr m c ⟨t.val / 16, by omega⟩ 2 (t.val % 16 * 256) Mo Co) :
    Cr m c ⟨t.val / 16, by omega⟩ 2 (t.val % 16 * 256 + 256) (pM_1_2 m c t (pM_0_2 m c t Mo)) (pC_1_2 m c t (pM_0_2 m c t Mo) (pC_0_2 m c t Mo Co)) :=
  Cr.congr m c (carried_step (ch_1_2 m c h1 h2 h3 t ht) (half_2 m c h1 h2 h3 t ht Mo Co H)) rfl (Nat.add_assoc _ 128 128)

/-- The third head's carried values at a sequence's start. -/
theorem start_2 (t : Fin cfg0.N) (ht : t.val < 64) (h : t.val % 16 = 0) : Cr m c ⟨t.val / 16, by omega⟩ 2 (t.val % 16 * 256) (hM2 zM) (hC2 zC) :=
  Cr.congr m c (carried_zero _ _ _ _ _ _ (fun _ => zM_at _) (fun _ => zC_at _)) rfl (by omega)

include h1 h2 h3 in
/-- The third head's carried values after every point. -/
theorem inv_2 (n : ℕ) (hn : n < cfg0.N) (h64 : n < 64) :
    Cr m c ⟨n / 16, by omega⟩ 2 (n % 16 * 256 + 256) (hM2 (outsAt0 m c n hn).2.2) (hC2 (outsAt0 m c n hn).2.1) := by
  induction n with
  | zero =>
    have hA : (⟨0, hn⟩ : Fin cfg0.N).val % 16 = 0 := rfl
    rw [sM_A_2 m c ⟨0, hn⟩ hA, sC_A_2 m c ⟨0, hn⟩ hA]
    exact full_2 m c h1 h2 h3 ⟨0, hn⟩ h64 _ _ (start_2 m c ⟨0, hn⟩ h64 hA)
  | succ n ih =>
    by_cases hA : (⟨n + 1, hn⟩ : Fin cfg0.N).val % 16 = 0
    · rw [sM_A_2 m c ⟨n + 1, hn⟩ hA, sC_A_2 m c ⟨n + 1, hn⟩ hA]
      exact full_2 m c h1 h2 h3 ⟨n + 1, hn⟩ h64 _ _ (start_2 m c ⟨n + 1, hn⟩ h64 hA)
    · rw [sM_B_2 m c ⟨n + 1, hn⟩ hA, sC_B_2 m c ⟨n + 1, hn⟩ hA]
      refine full_2 m c h1 h2 h3 ⟨n + 1, hn⟩ h64 _ _ (Cr.congr m c (ih (by omega) (by omega)) (Fin.ext ?_) ?_)
      · simp only at hA ⊢; omega
      · simp only at hA ⊢; omega

include h1 h2 h3 in
/-- The third head's carried values before a later point. -/
theorem before_2 (t : Fin cfg0.N) (ht : t.val < 64) (h : ¬t.val % 16 = 0) :
    Cr m c ⟨t.val / 16, by omega⟩ 2 (t.val % 16 * 256) (hM2 (outsAt0 m c (t.val - 1) (Nat.lt_of_le_of_lt (Nat.sub_le _ _) t.isLt)).2.2) (hC2 (outsAt0 m c (t.val - 1) (Nat.lt_of_le_of_lt (Nat.sub_le _ _) t.isLt)).2.1) :=
  Cr.congr m c (inv_2 m c h1 h2 h3 (t.val - 1) _ (by omega)) (Fin.ext (by simp only; omega)) (by omega)

include h0 h1 h2 h3 in
/-- The third head's outputs of the first chunk of a point. -/
theorem out_0_2 (t : Fin cfg0.N) (ht : t.val < 64) (l j : Fin 128) (s : Fin 256) (i : Fin 512) (hs : s.val = 0 + l.val) (hi : i.val = 256 + j.val) :
    (outsAt0 m c t.val t.isLt).1 (ix3 0 s i) = (Ho m c ⟨t.val / 16, by omega⟩ 2 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 0, 256] ![1, 128, 128] inb_S1x256x512_S1x128x128_0_0_256) (ix3 0 l j)) ?_ (Eq.trans (b := (Ho m c ⟨t.val / 16, by omega⟩ 2 ((t.val % 16 * 256 + 0) + l) j : EReal)) ?_ ?_)
  · generalize (outsAt0 m c t.val t.isLt).1 = g
    pointwise []
    blk_ext
  · by_cases h : t.val % 16 = 0
    · rw [sO_A_0_2 m c t h]
      exact kOut_real (ch_0_2 m c h1 h2 h3 t ht) (b_0_2 m c h3 t ht) (q_0_2 m c h0 t ht) (start_2 m c t ht h) l j
    · rw [sO_B_0_2 m c t h]
      exact kOut_real (ch_0_2 m c h1 h2 h3 t ht) (b_0_2 m c h3 t ht) (q_0_2 m c h0 t ht) (before_2 m c h1 h2 h3 t ht h) l j
  · rw [Nat.add_assoc]

include h0 h1 h2 h3 in
/-- The third head's outputs of the second chunk of a point. -/
theorem out_1_2 (t : Fin cfg0.N) (ht : t.val < 64) (l j : Fin 128) (s : Fin 256) (i : Fin 512) (hs : s.val = 128 + l.val) (hi : i.val = 256 + j.val) :
    (outsAt0 m c t.val t.isLt).1 (ix3 0 s i) = (Ho m c ⟨t.val / 16, by omega⟩ 2 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 128, 256] ![1, 128, 128] inb_S1x256x512_S1x128x128_0_128_256) (ix3 0 l j)) ?_ (Eq.trans (b := (Ho m c ⟨t.val / 16, by omega⟩ 2 ((t.val % 16 * 256 + 128) + l) j : EReal)) ?_ ?_)
  · generalize (outsAt0 m c t.val t.isLt).1 = g
    pointwise []
    blk_ext
  · by_cases h : t.val % 16 = 0
    · rw [sO_A_1_2 m c t h]
      exact kOut_real (ch_1_2 m c h1 h2 h3 t ht) (b_1_2 m c h3 t ht) (q_1_2 m c h0 t ht) (half_2 m c h1 h2 h3 t ht _ _ (start_2 m c t ht h)) l j
    · rw [sO_B_1_2 m c t h]
      exact kOut_real (ch_1_2 m c h1 h2 h3 t ht) (b_1_2 m c h3 t ht) (q_1_2 m c h0 t ht) (half_2 m c h1 h2 h3 t ht _ _ (before_2 m c h1 h2 h3 t ht h)) l j
  · rw [Nat.add_assoc]

include h1 h2 h3 in
/-- The fourth head's carried values through the first chunk of a point. -/
theorem half_3 (t : Fin cfg0.N) (ht : t.val < 64) (Mo : Vec Ideal S1x1x1 .f32) (Co : Vec Ideal S1x128x256 .f32)
    (H : Cr m c ⟨t.val / 16, by omega⟩ 3 (t.val % 16 * 256) Mo Co) :
    Cr m c ⟨t.val / 16, by omega⟩ 3 (t.val % 16 * 256 + 128) (pM_0_3 m c t Mo) (pC_0_3 m c t Mo Co) :=
  carried_step (ch_0_3 m c h1 h2 h3 t ht) H

include h1 h2 h3 in
/-- The fourth head's carried values through a point. -/
theorem full_3 (t : Fin cfg0.N) (ht : t.val < 64) (Mo : Vec Ideal S1x1x1 .f32) (Co : Vec Ideal S1x128x256 .f32)
    (H : Cr m c ⟨t.val / 16, by omega⟩ 3 (t.val % 16 * 256) Mo Co) :
    Cr m c ⟨t.val / 16, by omega⟩ 3 (t.val % 16 * 256 + 256) (pM_1_3 m c t (pM_0_3 m c t Mo)) (pC_1_3 m c t (pM_0_3 m c t Mo) (pC_0_3 m c t Mo Co)) :=
  Cr.congr m c (carried_step (ch_1_3 m c h1 h2 h3 t ht) (half_3 m c h1 h2 h3 t ht Mo Co H)) rfl (Nat.add_assoc _ 128 128)

/-- The fourth head's carried values at a sequence's start. -/
theorem start_3 (t : Fin cfg0.N) (ht : t.val < 64) (h : t.val % 16 = 0) : Cr m c ⟨t.val / 16, by omega⟩ 3 (t.val % 16 * 256) (hM3 zM) (hC3 zC) :=
  Cr.congr m c (carried_zero _ _ _ _ _ _ (fun _ => zM_at _) (fun _ => zC_at _)) rfl (by omega)

include h1 h2 h3 in
/-- The fourth head's carried values after every point. -/
theorem inv_3 (n : ℕ) (hn : n < cfg0.N) (h64 : n < 64) :
    Cr m c ⟨n / 16, by omega⟩ 3 (n % 16 * 256 + 256) (hM3 (outsAt0 m c n hn).2.2) (hC3 (outsAt0 m c n hn).2.1) := by
  induction n with
  | zero =>
    have hA : (⟨0, hn⟩ : Fin cfg0.N).val % 16 = 0 := rfl
    rw [sM_A_3 m c ⟨0, hn⟩ hA, sC_A_3 m c ⟨0, hn⟩ hA]
    exact full_3 m c h1 h2 h3 ⟨0, hn⟩ h64 _ _ (start_3 m c ⟨0, hn⟩ h64 hA)
  | succ n ih =>
    by_cases hA : (⟨n + 1, hn⟩ : Fin cfg0.N).val % 16 = 0
    · rw [sM_A_3 m c ⟨n + 1, hn⟩ hA, sC_A_3 m c ⟨n + 1, hn⟩ hA]
      exact full_3 m c h1 h2 h3 ⟨n + 1, hn⟩ h64 _ _ (start_3 m c ⟨n + 1, hn⟩ h64 hA)
    · rw [sM_B_3 m c ⟨n + 1, hn⟩ hA, sC_B_3 m c ⟨n + 1, hn⟩ hA]
      refine full_3 m c h1 h2 h3 ⟨n + 1, hn⟩ h64 _ _ (Cr.congr m c (ih (by omega) (by omega)) (Fin.ext ?_) ?_)
      · simp only at hA ⊢; omega
      · simp only at hA ⊢; omega

include h1 h2 h3 in
/-- The fourth head's carried values before a later point. -/
theorem before_3 (t : Fin cfg0.N) (ht : t.val < 64) (h : ¬t.val % 16 = 0) :
    Cr m c ⟨t.val / 16, by omega⟩ 3 (t.val % 16 * 256) (hM3 (outsAt0 m c (t.val - 1) (Nat.lt_of_le_of_lt (Nat.sub_le _ _) t.isLt)).2.2) (hC3 (outsAt0 m c (t.val - 1) (Nat.lt_of_le_of_lt (Nat.sub_le _ _) t.isLt)).2.1) :=
  Cr.congr m c (inv_3 m c h1 h2 h3 (t.val - 1) _ (by omega)) (Fin.ext (by simp only; omega)) (by omega)

include h0 h1 h2 h3 in
/-- The fourth head's outputs of the first chunk of a point. -/
theorem out_0_3 (t : Fin cfg0.N) (ht : t.val < 64) (l j : Fin 128) (s : Fin 256) (i : Fin 512) (hs : s.val = 0 + l.val) (hi : i.val = 384 + j.val) :
    (outsAt0 m c t.val t.isLt).1 (ix3 0 s i) = (Ho m c ⟨t.val / 16, by omega⟩ 3 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 0, 384] ![1, 128, 128] inb_S1x256x512_S1x128x128_0_0_384) (ix3 0 l j)) ?_ (Eq.trans (b := (Ho m c ⟨t.val / 16, by omega⟩ 3 ((t.val % 16 * 256 + 0) + l) j : EReal)) ?_ ?_)
  · generalize (outsAt0 m c t.val t.isLt).1 = g
    pointwise []
    blk_ext
  · by_cases h : t.val % 16 = 0
    · rw [sO_A_0_3 m c t h]
      exact kOut_real (ch_0_3 m c h1 h2 h3 t ht) (b_0_3 m c h3 t ht) (q_0_3 m c h0 t ht) (start_3 m c t ht h) l j
    · rw [sO_B_0_3 m c t h]
      exact kOut_real (ch_0_3 m c h1 h2 h3 t ht) (b_0_3 m c h3 t ht) (q_0_3 m c h0 t ht) (before_3 m c h1 h2 h3 t ht h) l j
  · rw [Nat.add_assoc]

include h0 h1 h2 h3 in
/-- The fourth head's outputs of the second chunk of a point. -/
theorem out_1_3 (t : Fin cfg0.N) (ht : t.val < 64) (l j : Fin 128) (s : Fin 256) (i : Fin 512) (hs : s.val = 128 + l.val) (hi : i.val = 384 + j.val) :
    (outsAt0 m c t.val t.isLt).1 (ix3 0 s i) = (Ho m c ⟨t.val / 16, by omega⟩ 3 (t.val % 16 * 256 + s) j : EReal) := by
  obtain ⟨s, hsl⟩ := s
  obtain ⟨i, hil⟩ := i
  dsimp only at hs hi
  subst hs hi
  refine Eq.trans (b := View.ld (outsAt0 m c t.val t.isLt).1 (Rect.unit ![0, 128, 384] ![1, 128, 128] inb_S1x256x512_S1x128x128_0_128_384) (ix3 0 l j)) ?_ (Eq.trans (b := (Ho m c ⟨t.val / 16, by omega⟩ 3 ((t.val % 16 * 256 + 128) + l) j : EReal)) ?_ ?_)
  · generalize (outsAt0 m c t.val t.isLt).1 = g
    pointwise []
    blk_ext
  · by_cases h : t.val % 16 = 0
    · rw [sO_A_1_3 m c t h]
      exact kOut_real (ch_1_3 m c h1 h2 h3 t ht) (b_1_3 m c h3 t ht) (q_1_3 m c h0 t ht) (half_3 m c h1 h2 h3 t ht _ _ (start_3 m c t ht h)) l j
    · rw [sO_B_1_3 m c t h]
      exact kOut_real (ch_1_3 m c h1 h2 h3 t ht) (b_1_3 m c h3 t ht) (q_1_3 m c h0 t ht) (half_3 m c h1 h2 h3 t ht _ _ (before_3 m c h1 h2 h3 t ht h)) l j
  · rw [Nat.add_assoc]

include h0 h1 h2 h3 in
/-- A point's block of outputs, at an index. -/
theorem block_at (t : Fin cfg0.N) (ht : t.val < 64) (s : Fin 256) (i : Fin 512) :
    (outsAt0 m c t.val t.isLt).1 (ix3 0 s i) = (Ho m c ⟨t.val / 16, by omega⟩ ⟨i / 128, by omega⟩ (t.val % 16 * 256 + s) ⟨i % 128, by omega⟩ : EReal) := by
  have hi : i.val / 128 = 0 ∨ i.val / 128 = 1 ∨ i.val / 128 = 2 ∨ i.val / 128 = 3 := by omega
  rcases lt_or_ge s.val 128 with hs | hs
  · rcases hi with hi | hi | hi | hi
    · rw [show (⟨i / 128, by omega⟩ : Fin 4) = 0 from Fin.ext hi]
      exact out_0_0 m c h0 h1 h2 h3 t ht ⟨s - 0, by omega⟩ ⟨i % 128, by omega⟩ s i (by simp only; omega) (by simp only; omega)
    · rw [show (⟨i / 128, by omega⟩ : Fin 4) = 1 from Fin.ext hi]
      exact out_0_1 m c h0 h1 h2 h3 t ht ⟨s - 0, by omega⟩ ⟨i % 128, by omega⟩ s i (by simp only; omega) (by simp only; omega)
    · rw [show (⟨i / 128, by omega⟩ : Fin 4) = 2 from Fin.ext hi]
      exact out_0_2 m c h0 h1 h2 h3 t ht ⟨s - 0, by omega⟩ ⟨i % 128, by omega⟩ s i (by simp only; omega) (by simp only; omega)
    · rw [show (⟨i / 128, by omega⟩ : Fin 4) = 3 from Fin.ext hi]
      exact out_0_3 m c h0 h1 h2 h3 t ht ⟨s - 0, by omega⟩ ⟨i % 128, by omega⟩ s i (by simp only; omega) (by simp only; omega)
  · rcases hi with hi | hi | hi | hi
    · rw [show (⟨i / 128, by omega⟩ : Fin 4) = 0 from Fin.ext hi]
      exact out_1_0 m c h0 h1 h2 h3 t ht ⟨s - 128, by omega⟩ ⟨i % 128, by omega⟩ s i (by simp only; omega) (by simp only; omega)
    · rw [show (⟨i / 128, by omega⟩ : Fin 4) = 1 from Fin.ext hi]
      exact out_1_1 m c h0 h1 h2 h3 t ht ⟨s - 128, by omega⟩ ⟨i % 128, by omega⟩ s i (by simp only; omega) (by simp only; omega)
    · rw [show (⟨i / 128, by omega⟩ : Fin 4) = 2 from Fin.ext hi]
      exact out_1_2 m c h0 h1 h2 h3 t ht ⟨s - 128, by omega⟩ ⟨i % 128, by omega⟩ s i (by simp only; omega) (by simp only; omega)
    · rw [show (⟨i / 128, by omega⟩ : Fin 4) = 3 from Fin.ext hi]
      exact out_1_3 m c h0 h1 h2 h3 t ht ⟨s - 128, by omega⟩ ⟨i % 128, by omega⟩ s i (by simp only; omega) (by simp only; omega)

include h0 h1 h2 h3 in
/-- After the run the output array holds the recurrence's outputs. -/
theorem final_out (G : FVec Ideal S4x4096x512 .f32)
    (hG : ∀ (x : Fin 4) (t : Fin 4096) (j : Fin 512), G (ix3 x t j) = (Ho m c x ⟨j / 128, by omega⟩ t ⟨j % 128, by omega⟩ : EReal)) :
    (dats m 0 c).arrAt 5 cfg0.N = G := by
  refine (dats m 0 c).arrAt_eq_of_covers 5 _ (by decide +kernel) fun t _ y => ?_
  blk_simp
  rw [after0_5]
  have ht : t.val < 64 := t.isLt
  obtain ⟨z, s, i, rfl⟩ : ∃ (z : Fin 1) (s : Fin 256) (i : Fin 512), y = ix3 z s i := ⟨y 0, y 1, y 2, eq_ix3 y⟩
  obtain rfl : z = 0 := Subsingleton.elim _ _
  refine (block_at m c h0 h1 h2 h3 t ht s i).trans ((hG ⟨t.val / 16, by omega⟩ ⟨t.val % 16 * 256 + s, by omega⟩ i).symm.trans ?_)
  blk_ext [idx t]

end Cert.Mlstm

end
-- ==== Proof.MlstmRef.lean ====
/- The recurrence's reference at an index: one chunk of its loop. -/
module

public import proofs.«01_k».proof.Proof.Gen.ReferenceIdeal.Run
public import proofs.«01_k».proof.Proof.MlstmMath
public import Idealize.ShloMosaic.Lib.Pipeline.ValueKit
public import Idealize.ShloMosaic.Lib.Claim
public import Idealize.ShloMosaic.Lib.WordCmp
public import Idealize.ShloMosaic.Lib.DynamicIndex

@[expose] public section

set_option maxRecDepth 16384

noncomputable section

open Idealize.ShloMosaic Idealize.ShloMosaic.TcCoe Idealize.SL.Sem

namespace Cert.Mlstm

open Cert.ReferenceIdeal Cert.ReferenceIdeal.Gen

/-- The masked gates of a chunk. -/
def rDm (a : FVec Ideal S4x4x64 .f32) (b : FVec Ideal S4x4x64 .f32) (tr : IVec S64x64 1) : FVec Ideal S4x4x64x64 .f32 :=
  select (broadcastInDim S4x4x64x64 ![2, 3] bcast_S64x64_S4x4x64x64_2_3 tr) (addf (subf (broadcastInDim S4x4x64x64 ![0, 1, 2, 3] bcast_S4x4x64x1_S4x4x64x64_0_1_2_3 (broadcastInDim S4x4x64x1 ![0, 1, 2] bcast_S4x4x64_S4x4x64x1_0_1_2 b)) (broadcastInDim S4x4x64x64 ![0, 1, 2, 3] bcast_S4x4x1x64_S4x4x64x64_0_1_2_3 (broadcastInDim S4x4x1x64 ![0, 1, 3] bcast_S4x4x64_S4x4x1x64_0_1_3 b))) (broadcastInDim S4x4x64x64 ![0, 1, 2, 3] bcast_S4x4x1x64_S4x4x64x64_0_1_2_3 (broadcastInDim S4x4x1x64 ![0, 1, 3] bcast_S4x4x64_S4x4x1x64_0_1_3 a))) (broadcastInDim S4x4x64x64 ![] bcast_S_S4x4x64x64 (id (constant S_ .f32 0xFF800000#32)))

/-- The carried stabiliser at every position. -/
def rIt (b : FVec Ideal S4x4x64 .f32) (m : FVec Ideal S4x4 .f32) : FVec Ideal S4x4x64 .f32 :=
  addf b (broadcastInDim S4x4x64 ![0, 1, 2] bcast_S4x4x1_S4x4x64_0_1_2 (broadcastInDim S4x4x1 ![0, 1] bcast_S4x4_S4x4x1_0_1 m))

/-- The stabiliser at every position. -/
def rMt (it : FVec Ideal S4x4x64 .f32) (dm : FVec Ideal S4x4x64x64 .f32) : FVec Ideal S4x4x64 .f32 :=
  maximumf it (Host.reduce FloatOps.maximumf dm (constant S_ .f32 0xFF800000#32) reducesTo_S4x4x64x64_S4x4x64_d3 h_S_)

/-- The weight of the carried state. -/
def rWi (it : FVec Ideal S4x4x64 .f32) (mt : FVec Ideal S4x4x64 .f32) : FVec Ideal S4x4x64 .f32 :=
  Host.exp (subf it mt)

/-- The weighted scores of a chunk. -/
def rSc (dm : FVec Ideal S4x4x64x64 .f32) (mt : FVec Ideal S4x4x64 .f32) (q : FVec Ideal S4x4x64x128 .f32) (k : FVec Ideal S4x4x64x128 .f32) : FVec Ideal S4x4x64x64 .f32 :=
  mulf (Host.exp (subf dm (broadcastInDim S4x4x64x64 ![0, 1, 2, 3] bcast_S4x4x64x1_S4x4x64x64_0_1_2_3 (broadcastInDim S4x4x64x1 ![0, 1, 2] bcast_S4x4x64_S4x4x64x1_0_1_2 mt)))) (Host.dotGeneral dot_S4x4x64x128_S4x4x64x128_S4x4x64x64_3_3_2_2_01_01 none q k)

/-- The last prefix sum. -/
def rBl (b : FVec Ideal S4x4x64 .f32) : FVec Ideal S4x4 .f32 :=
  shapeCast S4x4 (extractStridedSlice S4x4x1 ![0, 0, 63] b slices_S4x4x64_S4x4x1_0_0_63) shapeCasts_S4x4x1_S4x4

/-- The gates at the end of the chunk. -/
def rDec (bl : FVec Ideal S4x4 .f32) (b : FVec Ideal S4x4x64 .f32) (a : FVec Ideal S4x4x64 .f32) : FVec Ideal S4x4x64 .f32 :=
  addf (subf (broadcastInDim S4x4x64 ![0, 1, 2] bcast_S4x4x1_S4x4x64_0_1_2 (broadcastInDim S4x4x1 ![0, 1] bcast_S4x4_S4x4x1_0_1 bl)) b) a

/-- The new stabiliser. -/
def rMn (bl : FVec Ideal S4x4 .f32) (m : FVec Ideal S4x4 .f32) (dec : FVec Ideal S4x4x64 .f32) : FVec Ideal S4x4 .f32 :=
  maximumf (addf bl m) (Host.reduce FloatOps.maximumf dec (constant S_ .f32 0xFF800000#32) reducesTo_S4x4x64_S4x4_d2 h_S_)

/-- The weights of the new keys. -/
def rWk (dec : FVec Ideal S4x4x64 .f32) (mn : FVec Ideal S4x4 .f32) : FVec Ideal S4x4x64 .f32 :=
  Host.exp (subf dec (broadcastInDim S4x4x64 ![0, 1, 2] bcast_S4x4x1_S4x4x64_0_1_2 (broadcastInDim S4x4x1 ![0, 1] bcast_S4x4_S4x4x1_0_1 mn)))

/-- The scale of the carried state. -/
def rCs (bl : FVec Ideal S4x4 .f32) (m : FVec Ideal S4x4 .f32) (mn : FVec Ideal S4x4 .f32) : FVec Ideal S4x4 .f32 :=
  Host.exp (subf (addf bl m) mn)

/-- The new state. -/
def rC (cs : FVec Ideal S4x4 .f32) (C : FVec Ideal S4x4x128x128 .f32) (wk : FVec Ideal S4x4x64 .f32) (k : FVec Ideal S4x4x64x128 .f32) (v : FVec Ideal S4x4x64x128 .f32) : FVec Ideal S4x4x128x128 .f32 :=
  addf (mulf (broadcastInDim S4x4x128x128 ![0, 1, 2, 3] bcast_S4x4x1x1_S4x4x128x128_0_1_2_3 (broadcastInDim S4x4x1x1 ![0, 1] bcast_S4x4_S4x4x1x1_0_1 cs)) C) (Host.dotGeneral dot_S4x4x64x128_S4x4x64x128_S4x4x128x128_2_2_3_3_01_01 none (mulf (broadcastInDim S4x4x64x128 ![0, 1, 2, 3] bcast_S4x4x64x1_S4x4x64x128_0_1_2_3 (broadcastInDim S4x4x64x1 ![0, 1, 2] bcast_S4x4x64_S4x4x64x1_0_1_2 wk)) k) v)

/-- The new normaliser. -/
def rN (cs : FVec Ideal S4x4 .f32) (n : FVec Ideal S4x4x128 .f32) (wk : FVec Ideal S4x4x64 .f32) (k : FVec Ideal S4x4x64x128 .f32) : FVec Ideal S4x4x128 .f32 :=
  addf (mulf (broadcastInDim S4x4x128 ![0, 1, 2] bcast_S4x4x1_S4x4x128_0_1_2 (broadcastInDim S4x4x1 ![0, 1] bcast_S4x4_S4x4x1_0_1 cs)) n) (Host.dotGeneral dot_S4x4x64_S4x4x64x128_S4x4x128_2_2_n_3_01_01 none wk k)

/-- The chunk of the result. -/
def rH (wi : FVec Ideal S4x4x64 .f32) (q : FVec Ideal S4x4x64x128 .f32) (C : FVec Ideal S4x4x128x128 .f32) (sc : FVec Ideal S4x4x64x64 .f32) (v : FVec Ideal S4x4x64x128 .f32) (n : FVec Ideal S4x4x128 .f32) (mt : FVec Ideal S4x4x64 .f32) : FVec Ideal S4x4x64x128 .f32 :=
  Host.divf (addf (mulf (broadcastInDim S4x4x64x128 ![0, 1, 2, 3] bcast_S4x4x64x1_S4x4x64x128_0_1_2_3 (broadcastInDim S4x4x64x1 ![0, 1, 2] bcast_S4x4x64_S4x4x64x1_0_1_2 wi)) (Host.dotGeneral dot_S4x4x64x128_S4x4x128x128_S4x4x64x128_3_2_2_3_01_01 none q C)) (Host.dotGeneral dot_S4x4x64x64_S4x4x64x128_S4x4x64x128_3_2_2_3_01_01 none sc v)) (broadcastInDim S4x4x64x128 ![0, 1, 2, 3] bcast_S4x4x64x1_S4x4x64x128_0_1_2_3 (broadcastInDim S4x4x64x1 ![0, 1, 2] bcast_S4x4x64_S4x4x64x1_0_1_2 (maximumf (Host.absf (addf (mulf wi (Host.dotGeneral dot_S4x4x64x128_S4x4x128_S4x4x64_3_2_2_n_01_01 none q n)) (Host.reduceAdd sc (constant S_ .f32 0x00000000#32) reducesTo_S4x4x64x64_S4x4x64_d3 h_S_))) (Host.exp (Host.negf mt)))))

/-- A chunk of a five-axis array, at an index. -/
theorem slice5_at (x : FVec Ideal S64x4x4x64x128 .f32) (i : IVec S_ 32) (t : Fin 64) (hi : i = fun _ => BitVec.ofNat 32 t)
    (b h : Fin 4) (l : Fin 64) (d : Fin 128) :
    (shapeCast S4x4x64x128 (Host.dynamicSlice S1x4x4x64x128 x (fun k => (((![i, constantI S_ 32 0#32, constantI S_ 32 0#32, constantI S_ 32 0#32, constantI S_ 32 0#32] : Fin 5 → IVec S_ 32)) k (Shape.Idx.first h_S_)).toInt) sliceFits_S64x4x4x64x128_S1x4x4x64x128) shapeCasts_S1x4x4x64x128_S4x4x64x128 : FVec Ideal S4x4x64x128 .f32)
      (ix4 b h l d) = x (ix5 t b h l d) := by
  subst hi
  rw [Host.dynamicSlice_eq_extractStridedSlice S1x4x4x64x128 x _ ![t.val, 0, 0, 0, 0] _
    ⟨rfl, fun a => by have := t.isLt; fin_cases a <;> simp [S64x4x4x64x128, S1x4x4x64x128] <;> omega⟩
    (fun a => by fin_cases a <;> first | exact toInt_ofNat_of_lt (by have := t.isLt; omega) | rfl)]
  pointwise []

/-- A chunk of a four-axis array, at an index. -/
theorem slice4_at (x : FVec Ideal S64x4x4x64 .f32) (i : IVec S_ 32) (t : Fin 64) (hi : i = fun _ => BitVec.ofNat 32 t)
    (b h : Fin 4) (l : Fin 64) :
    (shapeCast S4x4x64 (Host.dynamicSlice S1x4x4x64 x (fun k => (((![i, constantI S_ 32 0#32, constantI S_ 32 0#32, constantI S_ 32 0#32] : Fin 4 → IVec S_ 32)) k (Shape.Idx.first h_S_)).toInt) sliceFits_S64x4x4x64_S1x4x4x64) shapeCasts_S1x4x4x64_S4x4x64 : FVec Ideal S4x4x64 .f32)
      (ix3 b h l) = x (ix4 t b h l) := by
  subst hi
  rw [Host.dynamicSlice_eq_extractStridedSlice S1x4x4x64 x _ ![t.val, 0, 0, 0] _
    ⟨rfl, fun a => by have := t.isLt; fin_cases a <;> simp [S64x4x4x64, S1x4x4x64] <;> omega⟩
    (fun a => by fin_cases a <;> first | exact toInt_ofNat_of_lt (by have := t.isLt; omega) | rfl)]
  pointwise []

/-- The masked gates at an index. -/
theorem rDm_at (a b : FVec Ideal S4x4x64 .f32) (tr : IVec S64x64 1) (x h : Fin 4) (l s : Fin 64)
    (htr : tr (ix2 l s) = BitVec.ofBool (decide (s ≤ l))) :
    rDm a b tr (ix4 x h l s) = if s ≤ l then b (ix3 x h l) - b (ix3 x h s) + a (ix3 x h s) else ⊥ := by
  pointwise [rDm, htr, hlo_ix]
  rfl

/-- The carried stabiliser at an index. -/
theorem rIt_at (b : FVec Ideal S4x4x64 .f32) (m : FVec Ideal S4x4 .f32) (x h : Fin 4) (l : Fin 64) :
    rIt b m (ix3 x h l) = b (ix3 x h l) + m (ix2 x h) := by
  pointwise [rIt]

/-- The stabiliser at an index. -/
theorem rMt_at (it : FVec Ideal S4x4x64 .f32) (dm : FVec Ideal S4x4x64x64 .f32) (x h : Fin 4) (l : Fin 64) :
    rMt it dm (ix3 x h l) = max (it (ix3 x h l)) (Finset.univ.fold max ⊥ fun s => dm (ix4 x h l s)) := by
  pointwise [rMt]
  rfl

/-- The carried weight at an index. -/
theorem rWi_at (it mt : FVec Ideal S4x4x64 .f32) (x h : Fin 4) (l : Fin 64) :
    rWi it mt (ix3 x h l) = Ideal.exp (it (ix3 x h l) - mt (ix3 x h l)) := by
  pointwise [rWi]

/-- The weighted scores at an index. -/
theorem rSc_at (dm : FVec Ideal S4x4x64x64 .f32) (mt : FVec Ideal S4x4x64 .f32) (q k : FVec Ideal S4x4x64x128 .f32) (x h : Fin 4) (l s : Fin 64) :
    rSc dm mt q k (ix4 x h l s) = Ideal.exp (dm (ix4 x h l s) - mt (ix3 x h l)) * ∑ d, q (ix4 x h l d) * k (ix4 x h s d) := by
  pointwise [rSc]

/-- The last prefix sum at an index. -/
theorem rBl_at (b : FVec Ideal S4x4x64 .f32) (x h : Fin 4) : rBl b (ix2 x h) = b (ix3 x h 63) := by
  pointwise [rBl]

/-- The gates at the end of the chunk at an index. -/
theorem rDec_at (bl : FVec Ideal S4x4 .f32) (b a : FVec Ideal S4x4x64 .f32) (x h : Fin 4) (s : Fin 64) :
    rDec bl b a (ix3 x h s) = bl (ix2 x h) - b (ix3 x h s) + a (ix3 x h s) := by
  pointwise [rDec]

/-- The new stabiliser at an index. -/
theorem rMn_at (bl m : FVec Ideal S4x4 .f32) (dec : FVec Ideal S4x4x64 .f32) (x h : Fin 4) :
    rMn bl m dec (ix2 x h) = max (bl (ix2 x h) + m (ix2 x h)) (Finset.univ.fold max ⊥ fun s => dec (ix3 x h s)) := by
  pointwise [rMn]
  rfl

/-- The key weights at an index. -/
theorem rWk_at (dec : FVec Ideal S4x4x64 .f32) (mn : FVec Ideal S4x4 .f32) (x h : Fin 4) (s : Fin 64) :
    rWk dec mn (ix3 x h s) = Ideal.exp (dec (ix3 x h s) - mn (ix2 x h)) := by
  pointwise [rWk]

/-- The state's scale at an index. -/
theorem rCs_at (bl m mn : FVec Ideal S4x4 .f32) (x h : Fin 4) :
    rCs bl m mn (ix2 x h) = Ideal.exp (bl (ix2 x h) + m (ix2 x h) - mn (ix2 x h)) := by
  pointwise [rCs]

/-- The new state at an index. -/
theorem rC_at (cs : FVec Ideal S4x4 .f32) (C : FVec Ideal S4x4x128x128 .f32) (wk : FVec Ideal S4x4x64 .f32) (k v : FVec Ideal S4x4x64x128 .f32)
    (x h : Fin 4) (d j : Fin 128) :
    rC cs C wk k v (ix4 x h d j) = cs (ix2 x h) * C (ix4 x h d j) + ∑ s, wk (ix3 x h s) * k (ix4 x h s d) * v (ix4 x h s j) := by
  pointwise [rC]

/-- The new normaliser at an index. -/
theorem rN_at (cs : FVec Ideal S4x4 .f32) (n : FVec Ideal S4x4x128 .f32) (wk : FVec Ideal S4x4x64 .f32) (k : FVec Ideal S4x4x64x128 .f32)
    (x h : Fin 4) (d : Fin 128) :
    rN cs n wk k (ix3 x h d) = cs (ix2 x h) * n (ix3 x h d) + ∑ s, wk (ix3 x h s) * k (ix4 x h s d) := by
  pointwise [rN]

/-- The chunk of the result at an index. -/
theorem rH_at (wi : FVec Ideal S4x4x64 .f32) (q : FVec Ideal S4x4x64x128 .f32) (C : FVec Ideal S4x4x128x128 .f32) (sc : FVec Ideal S4x4x64x64 .f32)
    (v : FVec Ideal S4x4x64x128 .f32) (n : FVec Ideal S4x4x128 .f32) (mt : FVec Ideal S4x4x64 .f32) (x h : Fin 4) (l : Fin 64) (j : Fin 128) :
    rH wi q C sc v n mt (ix4 x h l j)
      = Ideal.div (wi (ix3 x h l) * (∑ d, q (ix4 x h l d) * C (ix4 x h d j)) + ∑ s, sc (ix4 x h l s) * v (ix4 x h s j))
          (max (max (wi (ix3 x h l) * (∑ d, q (ix4 x h l d) * n (ix3 x h d)) + ∑ s, sc (ix4 x h l s))
              (-(wi (ix3 x h l) * (∑ d, q (ix4 x h l d) * n (ix3 x h d)) + ∑ s, sc (ix4 x h l s))))
            (Ideal.exp (-(mt (ix3 x h l))))) := by
  pointwise [rH]
  rfl

/-- Writing a chunk of the result, at an index. -/
theorem upd_at (hs : FVec Ideal S64x4x4x64x128 .f32) (y : FVec Ideal S4x4x64x128 .f32) (i : IVec S_ 32) (t : Fin 64) (hi : i = fun _ => BitVec.ofNat 32 t)
    (t' : Fin 64) (b h : Fin 4) (l : Fin 64) (d : Fin 128) :
    (Host.dynamicUpdateSlice hs (broadcastInDim S1x4x4x64x128 ![1, 2, 3, 4] bcast_S4x4x64x128_S1x4x4x64x128_1_2_3_4 y) (fun k => (((![i, constantI S_ 32 0#32, constantI S_ 32 0#32, constantI S_ 32 0#32, constantI S_ 32 0#32] : Fin 5 → IVec S_ 32)) k (Shape.Idx.first h_S_)).toInt) updateFits_S64x4x4x64x128_S1x4x4x64x128 : FVec Ideal S64x4x4x64x128 .f32)
      (ix5 t' b h l d) = if t' = t then y (ix4 b h l d) else hs (ix5 t' b h l d) := by
  subst hi
  have ht := t.isLt
  refine (congrFun (Host.dynamicUpdateSlice_eq_updateSlice (u := S1x4x4x64x128) hs _ _ _ ![t.val, 0, 0, 0, 0]
    (fun a => by
      have h0 : (BitVec.ofNat 32 t.val).toInt = t.val := toInt_ofNat_of_lt (by omega)
      fin_cases a <;> simp [constantI, h0, S64x4x4x64x128, S1x4x4x64x128] <;> omega)
    ⟨rfl, fun a => by fin_cases a <;> simp [S64x4x4x64x128, S1x4x4x64x128] <;> omega⟩) _).trans ?_
  pointwise []
  by_cases e : t' = t
  · subst e; rw [if_pos rfl, dif_pos ⟨le_refl _, Nat.lt_succ_self _⟩]
  · rw [if_neg e, dif_neg fun h => e (Fin.ext (by omega))]

end Cert.Mlstm
-- ==== Proof.MlstmRefRun.lean ====
/- The recurrence's reference: its loop of 64 chunks computes the recurrence, and so does its result. -/
module

public import proofs.«01_k».proof.Proof.MlstmRef

@[expose] public section

set_option maxRecDepth 16384

noncomputable section

open Idealize.ShloMosaic Idealize.ShloMosaic.TcCoe Idealize.SL.Sem

namespace Cert.Mlstm

open Idealize.ShloMosaic.WordCmp Cert.ReferenceIdeal Cert.ReferenceIdeal.Gen Cert.ReferenceIdeal.Value

section Chunk

variable (f A : ℕ → ℝ) (Q K V : ℕ → Fin 128 → ℝ) (T : ℕ) (x h : Fin 4)
  (q k v : FVec Ideal S4x4x64x128 .f32) (a b : FVec Ideal S4x4x64 .f32) (tr : IVec S64x64 1) (C : FVec Ideal S4x4x128x128 .f32)
  (n : FVec Ideal S4x4x128 .f32) (m : FVec Ideal S4x4 .f32)

/-- One chunk of the loop, for one batch and head, from the recurrence's state at its start. -/
theorem ref_chunk
    (hq : ∀ l d, q (ix4 x h l d) = (Q (T + l) d : EReal)) (hk : ∀ l d, k (ix4 x h l d) = (K (T + l) d : EReal))
    (hv : ∀ l d, v (ix4 x h l d) = (V (T + l) d : EReal)) (ha : ∀ l, a (ix3 x h l) = (A (T + l) : EReal))
    (hb : ∀ l : Fin 64, b (ix3 x h l) = (bc f T (l + 1) : EReal)) (htr : ∀ l s, tr (ix2 l s) = BitVec.ofBool (decide (s ≤ l)))
    (hC : ∀ d j, C (ix4 x h d j) = (S f A (fun s => K s d * V s j) T : EReal)) (hn : ∀ d, n (ix3 x h d) = (S f A (fun s => K s d) T : EReal))
    (hm : m (ix2 x h) = (M f A T : EReal)) :
    (∀ d j, rC (rCs (rBl b) m (rMn (rBl b) m (rDec (rBl b) b a))) C (rWk (rDec (rBl b) b a) (rMn (rBl b) m (rDec (rBl b) b a))) k v (ix4 x h d j)
        = (S f A (fun s => K s d * V s j) (T + 64) : EReal))
      ∧ (∀ d, rN (rCs (rBl b) m (rMn (rBl b) m (rDec (rBl b) b a))) n (rWk (rDec (rBl b) b a) (rMn (rBl b) m (rDec (rBl b) b a))) k (ix3 x h d)
        = (S f A (fun s => K s d) (T + 64) : EReal))
      ∧ rMn (rBl b) m (rDec (rBl b) b a) (ix2 x h) = (M f A (T + 64) : EReal)
      ∧ ∀ l j, rH (rWi (rIt b m) (rMt (rIt b m) (rDm a b tr))) q C (rSc (rDm a b tr) (rMt (rIt b m) (rDm a b tr)) q k) v n
          (rMt (rIt b m) (rDm a b tr)) (ix4 x h l j) = (hout f A Q K V (T + l) j : EReal) := by
  have hdm : ∀ l s, rDm a b tr (ix4 x h l s) = if s ≤ l then ((bc f T (l + 1) - bc f T (s + 1) + A (T + s) : ℝ) : EReal) else ⊥ := fun l s => by
    rw [rDm_at _ _ _ _ _ _ _ (htr l s), hb, hb, ha, ← EReal.coe_sub, ← EReal.coe_add]
  have hit : ∀ l, rIt b m (ix3 x h l) = ((bc f T (l + 1) + M f A T : ℝ) : EReal) := fun l => by
    rw [rIt_at, hb, hm, ← EReal.coe_add]
  have hmt : ∀ l, rMt (rIt b m) (rDm a b tr) (ix3 x h l) = (M f A (T + (l + 1)) : EReal) := fun l => by
    rw [rMt_at, hit, ← max_mask f A T l]
    simp only [hdm]
  have hwi : ∀ l, rWi (rIt b m) (rMt (rIt b m) (rDm a b tr)) (ix3 x h l) = (wCar f A T (l + 1) : EReal) := fun l => by
    rw [rWi_at, hit, hmt, ← EReal.coe_sub, exp_coe]
  have hsc : ∀ l s, rSc (rDm a b tr) (rMt (rIt b m) (rDm a b tr)) q k (ix4 x h l s)
      = (wMask f A T l s : EReal) * (∑ d, (Q (T + l) d : EReal) * (K (T + s) d : EReal)) := fun l s => by
    rw [rSc_at, hdm, hmt, exp_mask]
    simp only [hq, hk]
  have hbl : rBl b (ix2 x h) = (bc f T 64 : EReal) := by rw [rBl_at, hb]; rfl
  have hdec : ∀ s, rDec (rBl b) b a (ix3 x h s) = ((bc f T 64 - bc f T (s + 1) + A (T + s) : ℝ) : EReal) := fun s => by
    rw [rDec_at, hbl, hb, ha, ← EReal.coe_sub, ← EReal.coe_add]
  have hmn : rMn (rBl b) m (rDec (rBl b) b a) (ix2 x h) = (M f A (T + 64) : EReal) := by
    rw [rMn_at, hbl, hm, ← EReal.coe_add, ← max_full f A T (L := 64)]
    exact congrArg _ (congrArg (Finset.univ.fold max ⊥) (funext fun s => hdec s))
  have hwk : ∀ s, rWk (rDec (rBl b) b a) (rMn (rBl b) m (rDec (rBl b) b a)) (ix3 x h s) = (wNew f A T 64 s : EReal) := fun s => by
    rw [rWk_at, hdec, hmn, ← EReal.coe_sub, exp_coe]
  have hcs : rCs (rBl b) m (rMn (rBl b) m (rDec (rBl b) b a)) (ix2 x h) = (wCar f A T 64 : EReal) := by
    rw [rCs_at, hbl, hm, hmn, ← EReal.coe_add, ← EReal.coe_sub, exp_coe]
  refine ⟨fun d j => ?_, fun d => ?_, hmn, fun l j => ?_⟩
  · rw [rC_at, hcs, hC, ← state_chunk f A T (fun s => K s d * V s j) (L := 64)]
    refine congrArg _ (Finset.sum_congr rfl fun s _ => ?_)
    rw [hwk, hk, hv, EReal.coe_mul, mul_assoc]
  · rw [rN_at, hcs, hn, ← state_chunk f A T (fun s => K s d) (L := 64)]
    refine congrArg _ (Finset.sum_congr rfl fun s _ => ?_)
    rw [hwk, hk]
  · rw [rH_at]
    simp only [hwi, hq, hC, hsc, hv, hn, hmt]
    rw [num_chunk, den_chunk]
    exact out_chunk f A Q K V (T + l) j

end Chunk

/-- The loop's state after `k` chunks, for the sequences `f`, `A`, `Q`, `K`, `V` of every batch and head. -/
structure LoopInv (f A : Fin 4 → Fin 4 → ℕ → ℝ) (Q K V : Fin 4 → Fin 4 → ℕ → Fin 128 → ℝ) (g : ℕ) (W : Valuation τ sig (Elt Ideal)) : Prop where
  q : ∀ (c : Fin 64) (x h : Fin 4) (l : Fin 64) (d : Fin 128), (W (Proc.devRef .tc main_v32_0) : FVec Ideal S64x4x4x64x128 .f32) (ix5 c x h l d) = (Q x h (64 * c + l) d : EReal)
  k : ∀ (c : Fin 64) (x h : Fin 4) (l : Fin 64) (d : Fin 128), (W (Proc.devRef .tc main_v32_1) : FVec Ideal S64x4x4x64x128 .f32) (ix5 c x h l d) = (K x h (64 * c + l) d : EReal)
  v : ∀ (c : Fin 64) (x h : Fin 4) (l : Fin 64) (d : Fin 128), (W (Proc.devRef .tc main_v32_2) : FVec Ideal S64x4x4x64x128 .f32) (ix5 c x h l d) = (V x h (64 * c + l) d : EReal)
  a : ∀ (c : Fin 64) (x h : Fin 4) (l : Fin 64), (W (Proc.devRef .tc main_v32_3) : FVec Ideal S64x4x4x64 .f32) (ix4 c x h l) = (A x h (64 * c + l) : EReal)
  b : ∀ (c : Fin 64) (x h : Fin 4) (l : Fin 64), (W (Proc.devRef .tc main_v32_4) : FVec Ideal S64x4x4x64 .f32) (ix4 c x h l) = (bc (f x h) (64 * c) (l + 1) : EReal)
  tr : ∀ l s : Fin 64, (W (Proc.devRef .tc main_v32_5) : IVec S64x64 1) (ix2 l s) = BitVec.ofBool (decide (s ≤ l))
  i : (W (Proc.devRef .tc main_v32_6) : IVec S_ 32) = fun _ => BitVec.ofNat 32 g
  C : ∀ (x h : Fin 4) (d j : Fin 128), (W (Proc.devRef .tc main_v32_7) : FVec Ideal S4x4x128x128 .f32) (ix4 x h d j) = (S (f x h) (A x h) (fun s => K x h s d * V x h s j) (64 * g) : EReal)
  n : ∀ (x h : Fin 4) (d : Fin 128), (W (Proc.devRef .tc main_v32_8) : FVec Ideal S4x4x128 .f32) (ix3 x h d) = (S (f x h) (A x h) (fun s => K x h s d) (64 * g) : EReal)
  m : ∀ x h : Fin 4, (W (Proc.devRef .tc main_v32_9) : FVec Ideal S4x4 .f32) (ix2 x h) = (M (f x h) (A x h) (64 * g) : EReal)
  hs : ∀ (c : Fin 64), c.val < g → ∀ (x h : Fin 4) (l : Fin 64) (j : Fin 128), (W (Proc.devRef .tc main_v32_10) : FVec Ideal S64x4x4x64x128 .f32) (ix5 c x h l j)
    = (hout (f x h) (A x h) (Q x h) (K x h) (V x h) (64 * c + l) j : EReal)

/-- One trip of the loop. -/
theorem inv_step {f A : Fin 4 → Fin 4 → ℕ → ℝ} {Q K V : Fin 4 → Fin 4 → ℕ → Fin 128 → ℝ} {k : ℕ} (hk : k < 64)
    {W : Valuation τ sig (Elt Ideal)} (I : LoopInv f A Q K V k W) : LoopInv f A Q K V (k + 1) (STEP W) := by
  have key := fun x h => ref_chunk (f x h) (A x h) (Q x h) (K x h) (V x h) (64 * k) x h (res_main_while0b_v37 W) (res_main_while0b_v38 W)
    (res_main_while0b_v39 W) (res_main_while0b_v40 W) (res_main_while0b_v41 W) (W (Proc.devRef .tc main_v32_5)) (W (Proc.devRef .tc main_v32_7))
    (W (Proc.devRef .tc main_v32_8)) (W (Proc.devRef .tc main_v32_9))
    (fun l d => (slice5_at _ _ ⟨k, hk⟩ I.i x h l d).trans (I.q ⟨k, hk⟩ x h l d))
    (fun l d => (slice5_at _ _ ⟨k, hk⟩ I.i x h l d).trans (I.k ⟨k, hk⟩ x h l d))
    (fun l d => (slice5_at _ _ ⟨k, hk⟩ I.i x h l d).trans (I.v ⟨k, hk⟩ x h l d))
    (fun l => (slice4_at _ _ ⟨k, hk⟩ I.i x h l).trans (I.a ⟨k, hk⟩ x h l))
    (fun l => (slice4_at _ _ ⟨k, hk⟩ I.i x h l).trans (I.b ⟨k, hk⟩ x h l))
    I.tr (I.C x h) (I.n x h) (I.m x h)
  refine ⟨?_, ?_, ?_, ?_, ?_, ?_, ?_, ?_, ?_, ?_, ?_⟩
  · rw [STEP_main_v32_0]; exact I.q
  · rw [STEP_main_v32_1]; exact I.k
  · rw [STEP_main_v32_2]; exact I.v
  · rw [STEP_main_v32_3]; exact I.a
  · rw [STEP_main_v32_4]; exact I.b
  · rw [STEP_main_v32_5]; exact I.tr
  · rw [STEP_main_v32_6]
    have : (step_main_v32_6 W : IVec S_ 32) = addi (W (Proc.devRef .tc main_v32_6) : IVec S_ 32) (constantI S_ 32 1#32) := rfl
    rw [this, I.i]
    funext y
    exact (BitVec.ofNat_add k 1).symm
  · rw [STEP_main_v32_7]; exact fun x h => (key x h).1
  · rw [STEP_main_v32_8]; exact fun x h => (key x h).2.1
  · rw [STEP_main_v32_9]; exact fun x h => (key x h).2.2.1
  · rw [STEP_main_v32_10]
    intro c hc x h l j
    refine (upd_at (W (Proc.devRef .tc main_v32_10)) _ _ ⟨k, hk⟩ I.i c x h l j).trans ?_
    by_cases e : c = ⟨k, hk⟩
    · rw [if_pos e]; subst e; exact (key x h).2.2.2 l j
    · rw [if_neg e]; exact I.hs c (by have : c.val ≠ k := fun h => e (Fin.ext h)
                                      omega) x h l j

/-- The loop's state after every number of chunks. -/
theorem inv_iter {f A : Fin 4 → Fin 4 → ℕ → ℝ} {Q K V : Fin 4 → Fin 4 → ℕ → Fin 128 → ℝ} {W : Valuation τ sig (Elt Ideal)} (I : LoopInv f A Q K V 0 W) :
    ∀ k, k ≤ 64 → LoopInv f A Q K V k (STEP^[k] W)
  | 0, _ => I
  | k + 1, h => by rw [Function.iterate_succ_apply']; exact inv_step (by omega) (inv_iter I k (by omega))

/-- The reference's result from the loop's last state, at an index. -/
theorem out_at {f A : Fin 4 → Fin 4 → ℕ → ℝ} {Q K V : Fin 4 → Fin 4 → ℕ → Fin 128 → ℝ} {W : Valuation τ sig (Elt Ideal)} (I : LoopInv f A Q K V 64 W)
    (x : Fin 4) (t : Fin 4096) (c : Fin 512) :
    (out_main_v36 W : FVec Ideal S4x4096x512 .f32) (ix3 x t c)
      = (hout (f x ⟨c / 128, by omega⟩) (A x ⟨c / 128, by omega⟩) (Q x ⟨c / 128, by omega⟩) (K x ⟨c / 128, by omega⟩) (V x ⟨c / 128, by omega⟩) t
          ⟨c % 128, by omega⟩ : EReal) := by
  have e : (out_main_v36 W : FVec Ideal S4x4096x512 .f32) (ix3 x t c)
      = (W (Proc.devRef .tc main_v32_10) : FVec Ideal S64x4x4x64x128 .f32)
          (ix5 ⟨t / 64, by omega⟩ x ⟨c / 128, by omega⟩ ⟨t % 64, by omega⟩ ⟨c % 128, by omega⟩) := by
    show (shapeCast S4x4096x512 (transpose S4x4096x4x128 [0, 2, 1, 3] (shapeCast S4x4x4096x128 (transpose S4x4x64x64x128 [1, 2, 0, 3, 4]
      (W (Proc.devRef .tc main_v32_10) : FVec Ideal S64x4x4x64x128 .f32) transposes_S64x4x4x64x128_S4x4x64x64x128_1_2_0_3_4)
      shapeCasts_S4x4x64x64x128_S4x4x4096x128) transposes_S4x4x4096x128_S4x4096x4x128_0_2_1_3) shapeCasts_S4x4096x4x128_S4x4096x512 : FVec Ideal S4x4096x512 .f32) (ix3 x t c) = _
    generalize (W (Proc.devRef .tc main_v32_10) : FVec Ideal S64x4x4x64x128 .f32) = w
    pointwise []
  rw [e, I.hs _ (by simp only; omega)]
  have ht : 64 * (t.val / 64) + t.val % 64 = t.val := Nat.div_add_mod _ _
  simp only [ht]

end Cert.Mlstm
-- ==== Proof.MlstmRefEntry.lean ====
/- The recurrence's reference: what its loop starts from, and its result over the arguments. -/
module

public import proofs.«01_k».proof.Proof.MlstmRefRun

@[expose] public section

set_option maxRecDepth 16384

noncomputable section

open Idealize.ShloMosaic Idealize.ShloMosaic.TcCoe Idealize.SL.Sem

namespace Cert.Mlstm

open Idealize.ShloMosaic.WordCmp Cert.ReferenceIdeal Cert.ReferenceIdeal.Gen Cert.ReferenceIdeal.Value

/-- A running sum as a fold is the start and the sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A sum over a list of all positions. -/
theorem sum_finRange {N : ℕ} (g : Fin N → EReal) : ((List.finRange N).map g).sum = ∑ n, g n := (Fin.sum_univ_def g).symm

/-- A window that reaches back to the start: the sum of the positions up to `l`. -/
theorem window_sum (l : ℕ) (hl : l < 64) (Y : ℕ → EReal) :
    (∑ n ∈ Finset.range 64, if 63 ≤ l + n then Y (l + n - 63) else 0) = ∑ s ∈ Finset.range (l + 1), Y s := by
  have e : (64 : ℕ) = (63 - l) + (l + 1) := by omega
  rw [e, Finset.sum_range_add, Finset.sum_eq_zero (s := Finset.range (63 - l)), zero_add]
  · refine Finset.sum_congr rfl fun i hi => ?_
    rw [if_pos (by omega)]; congr 1; omega
  · intro n hn
    rw [if_neg (by have := Finset.mem_range.mp hn; omega)]

/-- One window position: the operand's element where the window is inside the operand. -/
theorem win_pt (y : FVec Ideal S4x4x64x64 .f32) (x h : Fin 4) (c l : Fin 64) (n : ℕ) (hn : n < 64) (p : Fin 4 → ℕ) (hp : p = ![x.val, h.val, c.val, l.val + n])
    (inst : Decidable (∀ a : Fin 4, (![0, 0, 0, 63] : Fin 4 → ℕ) a ≤ p a ∧ p a - (![0, 0, 0, 63] : Fin 4 → ℕ) a < S4x4x64x64.size a)) :
    @dite EReal (∀ a : Fin 4, (![0, 0, 0, 63] : Fin 4 → ℕ) a ≤ p a ∧ p a - (![0, 0, 0, 63] : Fin 4 → ℕ) a < S4x4x64x64.size a) inst
      (fun hin => y (fun a => ⟨p a - (![0, 0, 0, 63] : Fin 4 → ℕ) a, (hin a).2⟩)) (fun _ => 0)
      = if 63 ≤ l.val + n then (if hs : l.val + n - 63 < 64 then y (ix4 x h c ⟨l.val + n - 63, hs⟩) else 0) else 0 := by
  subst hp
  have hl := l.isLt
  have hx := x.isLt
  have hh := h.isLt
  have hc := c.isLt
  by_cases e : 63 ≤ l.val + n
  · rw [if_pos e, dif_pos (show l.val + n - 63 < 64 by omega)]
    refine (dif_pos ?_).trans ?_
    · intro a
      fin_cases a
      · exact ⟨Nat.zero_le _, hx⟩
      · exact ⟨Nat.zero_le _, hh⟩
      · exact ⟨Nat.zero_le _, hc⟩
      · exact ⟨e, show l.val + n - 63 < 64 by omega⟩
    · refine congrArg y (funext fun a => ?_)
      fin_cases a <;> rfl
  · rw [if_neg e]
    exact dif_neg fun hh => e (hh 3).1

/-- The prefix sums along the last axis, at an index. -/
theorem cumsum_at (y : FVec Ideal S4x4x64x64 .f32) (v : FVec Ideal S_ .f32) (hv : v = fun _ => (0 : EReal)) (x h : Fin 4) (c l : Fin 64) :
    (Host.reduceWindowAdd ![1, 1, 1, 64] ![1, 1, 1, 1] ![0, 0, 0, 63] ![0, 0, 0, 0] y v
      reduceWindows_S4x4x64x64_S4x4x64x64_w1s1p0_0_w1s1p0_0_w1s1p0_0_w64s1p63_0 h_S_ : FVec Ideal S4x4x64x64 .f32) (ix4 x h c l)
      = ∑ s ∈ Finset.range (l + 1), (if hs : s < 64 then y (ix4 x h c ⟨s, hs⟩) else 0) := by
  subst hv
  rw [← window_sum l l.isLt (fun s => if hs : s < 64 then y (ix4 x h c ⟨s, hs⟩) else 0)]
  unfold Host.reduceWindowAdd
  rw [Ideal.hostReduceWindowAdd_def]
  unfold Ideal.hostReduceWindowAdd Host.reduceWindow
  refine (foldl_add (List.finRange 64) _ 0).trans ?_
  rw [zero_add, ← Fin.sum_univ_eq_sum_range (fun n => if 63 ≤ l.val + n then (if hs : l.val + n - 63 < 64 then y (ix4 x h c ⟨l.val + n - 63, hs⟩) else 0) else 0) 64]
  refine (sum_finRange (N := 64) _).trans (Finset.sum_congr rfl fun n _ => ?_)
  have hcoord : ∀ i : Shape.Idx ⟨4, ![1, 1, 1, 64]⟩, Shape.rowMajor ⟨4, ![1, 1, 1, 64]⟩ i = n → i = ix4 0 0 0 n := by
    intro i hi
    have h3 := (Shape.rowMajor_val_four i).symm.trans (congrArg Fin.val hi)
    have h0 : (i 0).val < 1 := (i 0).isLt
    have h1 : (i 1).val < 1 := (i 1).isLt
    have h2 : (i 2).val < 1 := (i 2).isLt
    simp at h3
    funext a
    fin_cases a
    · exact Fin.ext (by simp)
    · exact Fin.ext (by simp)
    · exact Fin.ext (by simp)
    · exact Fin.ext (by simp; omega)
  have hc := hcoord _ (Equiv.apply_symm_apply _ n)
  refine win_pt y x h c l n n.isLt _ (funext fun a => ?_) _
  have hca := congrFun hc a
  fin_cases a
  · exact (congrArg (fun i : Fin 1 => x.val * 1 + i.val) hca).trans (by simp)
  · exact (congrArg (fun i : Fin 1 => h.val * 1 + i.val) hca).trans (by simp)
  · exact (congrArg (fun i : Fin 1 => c.val * 1 + i.val) hca).trans (by simp)
  · exact (congrArg (fun i : Fin 64 => l.val * 1 + i.val) hca).trans (by simp)

/-! ### The loop's first state -/

/-- A 512-column array by heads. -/
def eH (x : FVec Ideal S4x4096x512 .f32) : FVec Ideal S4x4096x4x128 .f32 := shapeCast S4x4096x4x128 x shapeCasts_S4x4096x512_S4x4096x4x128

/-- Heads by chunks. -/
def eS (x : FVec Ideal S4x4096x4x128 .f32) : FVec Ideal S4x4x64x64x128 .f32 :=
  shapeCast S4x4x64x64x128 (transpose S4x4x4096x128 [0, 2, 1, 3] x transposes_S4x4096x4x128_S4x4x4096x128_0_2_1_3) shapeCasts_S4x4x4096x128_S4x4x64x64x128

/-- Queries or values by chunks. -/
def eX (x : FVec Ideal S4x4096x512 .f32) : FVec Ideal S64x4x4x64x128 .f32 :=
  transpose S64x4x4x64x128 [2, 0, 1, 3, 4] (eS (eH x)) transposes_S4x4x64x64x128_S64x4x4x64x128_2_0_1_3_4

/-- Keys with the positions as rows. -/
def eK (x : FVec Ideal S4x16x512x256 .bf16) : FVec Ideal S4x4096x512 .f32 :=
  shapeCast S4x4096x512 (transpose S4x16x256x512 [0, 1, 3, 2] (extf .f32 x bitsLt_bf16_f32) transposes_S4x16x512x256_S4x16x256x512_0_1_3_2) shapeCasts_S4x16x256x512_S4x4096x512

/-- Input gates by chunks. -/
def eI (x : FVec Ideal S4x4096x8 .f32) : FVec Ideal S64x4x4x64 .f32 :=
  transpose S64x4x4x64 [2, 0, 1, 3] (shapeCast S4x4x64x64 (transpose S4x4x4096 [0, 2, 1] (extractStridedSlice S4x4096x4 ![0, 0, 0] x slices_S4x4096x8_S4x4096x4_0_0_0)
    transposes_S4x4096x4_S4x4x4096_0_2_1) shapeCasts_S4x4x4096_S4x4x64x64) transposes_S4x4x64x64_S64x4x4x64_2_0_1_3

/-- Forget gates by chunks, before their prefix sums. -/
def eF (x : FVec Ideal S4x4096x8 .f32) : FVec Ideal S4x4x64x64 .f32 :=
  shapeCast S4x4x64x64 (transpose S4x4x4096 [0, 2, 1] (extractStridedSlice S4x4096x4 ![0, 0, 4] x slices_S4x4096x8_S4x4096x4_0_0_4)
    transposes_S4x4096x4_S4x4x4096_0_2_1) shapeCasts_S4x4x4096_S4x4x64x64

/-- The forget gates' prefix sums. -/
def eC (y : FVec Ideal S4x4x64x64 .f32) : FVec Ideal S4x4x64x64 .f32 :=
  Host.reduceWindowAdd ![1, 1, 1, 64] ![1, 1, 1, 1] ![0, 0, 0, 63] ![0, 0, 0, 0] y (broadcastInDim S_ ![] bcast_S_S_ (constant S_ .f32 0x00000000#32))
      reduceWindows_S4x4x64x64_S4x4x64x64_w1s1p0_0_w1s1p0_0_w1s1p0_0_w64s1p63_0 h_S_

/-- The causal mask. -/
def eT : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

theorem eH_at (x : FVec Ideal S4x4096x512 .f32) (b : Fin 4) (t : Fin 4096) (h : Fin 4) (d : Fin 128) :
    eH x (ix4 b t h d) = x (ix3 b t ⟨128 * h + d, by omega⟩) := by
  pointwise [eH]
  simp only [Nat.mul_comm]

theorem eS_at (x : FVec Ideal S4x4096x4x128 .f32) (b h : Fin 4) (c l : Fin 64) (d : Fin 128) :
    eS x (ix5 b h c l d) = x (ix4 b ⟨64 * c + l, by omega⟩ h d) := by
  pointwise [eS]
  simp only [Nat.mul_comm]

theorem eX_at (x : FVec Ideal S4x4096x512 .f32) (c : Fin 64) (b h : Fin 4) (l : Fin 64) (d : Fin 128) :
    eX x (ix5 c b h l d) = x (ix3 b ⟨64 * c + l, by omega⟩ ⟨128 * h + d, by omega⟩) := by
  pointwise [eX, eS_at, eH_at]

theorem eK_at (x : FVec Ideal S4x16x512x256 .bf16) (b : Fin 4) (t : Fin 4096) (c : Fin 512) :
    eK x (ix3 b t c) = x (ix4 b ⟨t / 256, by omega⟩ c ⟨t % 256, by omega⟩) := by
  pointwise [eK]

theorem eI_at (x : FVec Ideal S4x4096x8 .f32) (c : Fin 64) (b h : Fin 4) (l : Fin 64) :
    eI x (ix4 c b h l) = x (ix3 b ⟨64 * c + l, by omega⟩ ⟨h, by omega⟩) := by
  pointwise [eI]
  simp only [Nat.mul_comm]

theorem eF_at (x : FVec Ideal S4x4096x8 .f32) (b h : Fin 4) (c l : Fin 64) :
    eF x (ix4 b h c l) = x (ix3 b ⟨64 * c + l, by omega⟩ ⟨4 + h, by omega⟩) := by
  pointwise [eF]
  simp only [Nat.mul_comm]

theorem eT_at (l s : Fin 64) : eT (ix2 l s) = BitVec.ofBool (decide (s ≤ l)) := by
  pointwise [eT]
  have e : IntOp.addi (BitVec.ofNat 32 l.val) 0#32 = BitVec.ofNat 32 l.val := BitVec.add_zero _
  rw [e, cmpi_sge_ofNat (by have := l.isLt; omega) (by have := s.isLt; omega)]
  by_cases h : s ≤ l
  · rw [decide_eq_true (show s.val ≤ l.val from h), decide_eq_true h]; rfl
  · rw [decide_eq_false (show ¬ s.val ≤ l.val from h), decide_eq_false h]; rfl

open Idealize.ShloMosaic.Tactic Idealize.ShloMosaic.StableHlo

variable (m : (ℓ : Loc nD τ sig) → Buf (Elt Ideal) ℓ) (c : Dev nD)

theorem entry0 : entryContents preI m c (Proc.devRef .tc main_v32_0) = eX (extf .f32 (m ((c.tc : Thread nD τ).loc main_arg0) : FVec Ideal S4x4096x512 .bf16) bitsLt_bf16_f32) := by
  simp only [entryContents, afterL_cons, afterL_nil]
  after_reads_simp
  rfl
theorem entry1 : entryContents preI m c (Proc.devRef .tc main_v32_1) = eX (eK (m ((c.tc : Thread nD τ).loc main_arg1))) := by
  simp only [entryContents, afterL_cons, afterL_nil]
  after_reads_simp
  rfl
theorem entry2 : entryContents preI m c (Proc.devRef .tc main_v32_2) = eX (extf .f32 (m ((c.tc : Thread nD τ).loc main_arg2) : FVec Ideal S4x4096x512 .bf16) bitsLt_bf16_f32) := by
  simp only [entryContents, afterL_cons, afterL_nil]
  after_reads_simp
  rfl
theorem entry3 : entryContents preI m c (Proc.devRef .tc main_v32_3) = eI (m ((c.tc : Thread nD τ).loc main_arg3)) := by
  simp only [entryContents, afterL_cons, afterL_nil]
  after_reads_simp
  rfl
theorem entry4 : entryContents preI m c (Proc.devRef .tc main_v32_4)
    = (transpose S64x4x4x64 [2, 0, 1, 3] (eC (eF (m ((c.tc : Thread nD τ).loc main_arg3)))) transposes_S4x4x64x64_S64x4x4x64_2_0_1_3 : FVec Ideal S64x4x4x64 .f32) := by
  simp only [entryContents, afterL_cons, afterL_nil]
  after_reads_simp
  rfl
theorem entry5 : entryContents preI m c (Proc.devRef .tc main_v32_5) = eT := by
  simp only [entryContents, afterL_cons, afterL_nil]
  after_reads_simp
  rfl
theorem entry7 : entryContents preI m c (Proc.devRef .tc main_v32_7)
    = (broadcastInDim S4x4x128x128 ![] bcast_S_S4x4x128x128 (constant S_ .f32 0x00000000#32) : FVec Ideal S4x4x128x128 .f32) := by
  simp only [entryContents, afterL_cons, afterL_nil]
  after_reads_simp
  rfl
theorem entry8 : entryContents preI m c (Proc.devRef .tc main_v32_8)
    = (broadcastInDim S4x4x128 ![] bcast_S_S4x4x128 (constant S_ .f32 0x00000000#32) : FVec Ideal S4x4x128 .f32) := by
  simp only [entryContents, afterL_cons, afterL_nil]
  after_reads_simp
  rfl
theorem entry9 : entryContents preI m c (Proc.devRef .tc main_v32_9)
    = (broadcastInDim S4x4 ![] bcast_S_S4x4 (constant S_ .f32 0x00000000#32) : FVec Ideal S4x4 .f32) := by
  simp only [entryContents, afterL_cons, afterL_nil]
  after_reads_simp
  rfl

/-- The first argument's elements. -/
abbrev A0 (m : (ℓ : Loc nD τ sig) → Buf (Elt Ideal) ℓ) (c : Dev nD) : Fin 4 → Fin 4096 → Fin 512 → EReal :=
  fun b t j => (m ((c.tc : Thread nD τ).loc main_arg0) : FVec Ideal S4x4096x512 .bf16) (ix3 b t j)
/-- The second argument's elements. -/
abbrev A1 (m : (ℓ : Loc nD τ sig) → Buf (Elt Ideal) ℓ) (c : Dev nD) : Fin 4 → Fin 16 → Fin 512 → Fin 256 → EReal :=
  fun b t j l => (m ((c.tc : Thread nD τ).loc main_arg1) : FVec Ideal S4x16x512x256 .bf16) (ix4 b t j l)
/-- The third argument's elements. -/
abbrev A2 (m : (ℓ : Loc nD τ sig) → Buf (Elt Ideal) ℓ) (c : Dev nD) : Fin 4 → Fin 4096 → Fin 512 → EReal :=
  fun b t j => (m ((c.tc : Thread nD τ).loc main_arg2) : FVec Ideal S4x4096x512 .bf16) (ix3 b t j)
/-- The fourth argument's elements. -/
abbrev A3 (m : (ℓ : Loc nD τ sig) → Buf (Elt Ideal) ℓ) (c : Dev nD) : Fin 4 → Fin 4096 → Fin 8 → EReal :=
  fun b t j => (m ((c.tc : Thread nD τ).loc main_arg3) : FVec Ideal S4x4096x8 .f32) (ix3 b t j)

variable (h0 : ∀ b t j, A0 m c b t j ≠ ⊤ ∧ A0 m c b t j ≠ ⊥) (h1 : ∀ b t j l, A1 m c b t j l ≠ ⊤ ∧ A1 m c b t j l ≠ ⊥)
  (h2 : ∀ b t j, A2 m c b t j ≠ ⊤ ∧ A2 m c b t j ≠ ⊥) (h3 : ∀ b t j, A3 m c b t j ≠ ⊤ ∧ A3 m c b t j ≠ ⊥)

include h0 h1 h2 h3 in
/-- The loop starts from the recurrence's first state. -/
theorem inv_zero : LoopInv (seqF (A3 m c)) (seqI (A3 m c)) (seqX (A0 m c)) (seqK (A1 m c)) (seqX (A2 m c)) 0 (entryContents preI m c) := by
  refine ⟨?_, ?_, ?_, ?_, ?_, ?_, ctr_entry m c, ?_, ?_, ?_, fun c h => absurd h (Nat.not_lt_zero _)⟩
  · intro t x h l d
    rw [entry0, eX_at, seqX_coe _ h0 x h (64 * t + l) (by omega) d]
    rfl
  · intro t x h l d
    rw [entry1, eX_at, eK_at, seqK_coe _ h1 x h (64 * t + l) (by omega) d]
  · intro t x h l d
    rw [entry2, eX_at, seqX_coe _ h2 x h (64 * t + l) (by omega) d]
    rfl
  · intro t x h l
    rw [entry3, eI_at, seqI_coe _ h3 x h (64 * t + l) (by omega)]
  · intro t x h l
    rw [entry4]
    have e : (transpose S64x4x4x64 [2, 0, 1, 3] (eC (eF (m ((c.tc : Thread nD τ).loc main_arg3)))) transposes_S4x4x64x64_S64x4x4x64_2_0_1_3 : FVec Ideal S64x4x4x64 .f32) (ix4 t x h l)
        = eC (eF (m ((c.tc : Thread nD τ).loc main_arg3))) (ix4 x h t l) := by
      generalize eC (eF (m ((c.tc : Thread nD τ).loc main_arg3))) = w
      pointwise []
    refine e.trans ((cumsum_at _ _ (funext fun _ => Ideal.ofBits_zero .f32) x h t l).trans ?_)
    rw [bc, B, B, Finset.sum_range_add (fun r => seqF (A3 m c) x h r) (64 * t.val) (l.val + 1), add_sub_cancel_left, ← coe_sum]
    refine Finset.sum_congr rfl fun s hs => ?_
    have hs' : s < 64 := by have := Finset.mem_range.mp hs; omega
    rw [dif_pos hs', eF_at, seqF_coe _ h3 x h (64 * t + s) (by omega)]
  · intro l s
    rw [entry5]; exact eT_at l s
  · intro x h d j
    rw [entry7]
    exact (Ideal.ofBits_zero .f32).trans (by simp [S])
  · intro x h d
    rw [entry8]
    exact (Ideal.ofBits_zero .f32).trans (by simp [S])
  · intro x h
    rw [entry9]
    exact (Ideal.ofBits_zero .f32).trans (by simp [M])

include h0 h1 h2 h3 in
/-- The reference's result, at an index: the recurrence's output. -/
theorem ref_at (x : Fin 4) (t : Fin 4096) (j : Fin 512) :
    (out_main_v36 (STEP^[64] (entryContents preI m c)) : FVec Ideal S4x4096x512 .f32) (ix3 x t j)
      = (hout (seqF (A3 m c) x ⟨j / 128, by omega⟩) (seqI (A3 m c) x ⟨j / 128, by omega⟩) (seqX (A0 m c) x ⟨j / 128, by omega⟩)
          (seqK (A1 m c) x ⟨j / 128, by omega⟩) (seqX (A2 m c) x ⟨j / 128, by omega⟩) t ⟨j % 128, by omega⟩ : EReal) :=
  out_at (inv_iter (inv_zero m c h0 h1 h2 h3) 64 (le_refl _)) x t j

end Cert.Mlstm
-- ==== Proof.Mlstm.lean ====
/- The recurrence: what the precondition says of the arguments, and that the kernel's result is the reference's. -/
module

public import proofs.«01_k».proof.Pre_finite
public import proofs.«01_k».proof.Proof.MlstmKerOut
public import proofs.«01_k».proof.Proof.MlstmRefEntry

@[expose] public section

set_option maxRecDepth 16384

noncomputable section

open Idealize.ShloMosaic Idealize.ShloMosaic.TcCoe Idealize.SL.Sem

namespace Cert.Mlstm

/-- A number whose size compares below infinity is neither infinity. -/
theorem fin_of {x y : EReal} (hy : y = ⊤) (h : BitVec.ofBool (decide (max x (-x) < y)) = 1#1) : x ≠ ⊤ ∧ x ≠ ⊥ := by
  subst hy
  constructor
  · rintro rfl; simp at h
  · rintro rfl; simp at h

variable [Cert.Pre_finite.Facts]
  {X0 : FVec Ideal Cert.Pre_finite.S4x4096x512 .bf16} {X1 : FVec Ideal Cert.Pre_finite.S4x16x512x256 .bf16}
  {X2 : FVec Ideal Cert.Pre_finite.S4x4096x512 .bf16} {X3 : FVec Ideal Cert.Pre_finite.S4x4096x8 .f32}

/-- The precondition's first part. -/
theorem pre0 (h : (Cert.Pre_finite.fn (F := Ideal) X0 X1 X2 X3).1 = fun _ => 1#1) (i) : (X0 i : EReal) ≠ ⊤ ∧ (X0 i : EReal) ≠ ⊥ := by
  have := congrFun h i
  refine fin_of ?_ this
  rfl

/-- The precondition's second part. -/
theorem pre1 (h : (Cert.Pre_finite.fn (F := Ideal) X0 X1 X2 X3).2.1 = fun _ => 1#1) (i) : (X1 i : EReal) ≠ ⊤ ∧ (X1 i : EReal) ≠ ⊥ := by
  have := congrFun h i
  refine fin_of ?_ this
  rfl

/-- The precondition's third part. -/
theorem pre2 (h : (Cert.Pre_finite.fn (F := Ideal) X0 X1 X2 X3).2.2.1 = fun _ => 1#1) (i) : (X2 i : EReal) ≠ ⊤ ∧ (X2 i : EReal) ≠ ⊥ := by
  have := congrFun h i
  refine fin_of ?_ this
  rfl

/-- The precondition's fourth part. -/
theorem pre3 (h : (Cert.Pre_finite.fn (F := Ideal) X0 X1 X2 X3).2.2.2 = fun _ => 1#1) (i) : (X3 i : EReal) ≠ ⊤ ∧ (X3 i : EReal) ≠ ⊥ := by
  have := congrFun h i
  refine fin_of ?_ this
  rfl

open Cert.KernelIdeal Cert.KernelIdeal.Gen in
/-- The two programs start from the same arguments on a core. -/
abbrev Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)

open Cert.KernelIdeal Cert.KernelIdeal.Gen in
/-- After the run the kernel's output array is the reference's result, where the arguments are real. -/
theorem final (m : (ℓ : Loc nD τ sig) → Buf (Elt Ideal) ℓ) (c : Dev nD)
    (m' : (ℓ : Loc Cert.ReferenceIdeal.nD Cert.ReferenceIdeal.τ Cert.ReferenceIdeal.sig) → Buf (Elt Ideal) ℓ) (h : Agree m m' c)
    (h0 : ∀ b t j, E0 m c b t j ≠ ⊤ ∧ E0 m c b t j ≠ ⊥) (h1 : ∀ b i j l, E1 m c b i j l ≠ ⊤ ∧ E1 m c b i j l ≠ ⊥)
    (h2 : ∀ b t j, E2 m c b t j ≠ ⊤ ∧ E2 m c b t j ≠ ⊥) (h3 : ∀ b t j, E3 m c b t j ≠ ⊤ ∧ E3 m c b t j ≠ ⊥) :
    (dats m 0 c).arrAt 5 cfg0.N = Cert.ReferenceIdeal.Value.out_main_v36 (Cert.ReferenceIdeal.Value.STEP^[64] (StableHlo.entryContents Cert.ReferenceIdeal.Value.preI m' c)) := by
  have e0 : A0 m' c = E0 m c := by funext b t j; exact congrFun h.1 _
  have e1 : A1 m' c = E1 m c := by funext b t j l; exact congrFun h.2.1 _
  have e2 : A2 m' c = E2 m c := by funext b t j; exact congrFun h.2.2.1 _
  have e3 : A3 m' c = E3 m c := by funext b t j; exact congrFun h.2.2.2 _
  refine final_out m c h0 h1 h2 h3 _ fun x t j => (ref_at m' c (e0 ▸ h0) (e1 ▸ h1) (e2 ▸ h2) (e3 ▸ h3) x t j).trans ?_
  rw [e0, e1, e2, e3]

end Cert.Mlstm

end
-- ==== Proof.InConvL.lean ====
/- The convolution's two scratch buffers as lists of what the projection kernel stores into them. -/
module

public import proofs.«01_k».proof.Proof.Gen.Kernel3Ideal.Value
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Inp

open Cert.Kernel3Ideal Cert.Kernel3Ideal.Gen

/-- The stores `f (n - 1), …, f 0`, the newest first. -/
def stores {s : Shape} {e : EltTy} (f : ℕ → View.Piece (Elt Ideal) s e) : ℕ → List (View.Piece (Elt Ideal) s e)
  | 0 => []
  | n + 1 => f n :: stores f n

/-- A store of `n` is among the first `N`. -/
theorem mem_stores {s : Shape} {e : EltTy} (f : ℕ → View.Piece (Elt Ideal) s e) (n : ℕ) : ∀ N : ℕ, n < N → f n ∈ stores f N
  | 0, h => absurd h (Nat.not_lt_zero n)
  | N + 1, h => by
    rcases Nat.lt_succ_iff_lt_or_eq.mp h with h | rfl
    · exact List.mem_cons_of_mem _ (mem_stores f n N h)
    · exact List.mem_cons_self

/-- What is among the stores is one of them. -/
theorem of_mem_stores {s : Shape} {e : EltTy} (f : ℕ → View.Piece (Elt Ideal) s e) (p : View.Piece (Elt Ideal) s e) :
    ∀ N : ℕ, p ∈ stores f N → ∃ n, p = f n
  | 0, h => absurd h List.not_mem_nil
  | N + 1, h => by
    rcases List.mem_cons.mp h with rfl | h
    · exact ⟨N, rfl⟩
    · exact of_mem_stores f p N h

/-- What a buffer holds after the stores, where one of them stores, when they all store the values of `G`. -/
theorem canon_stores {s : Shape} {e : EltTy} (f : ℕ → View.Piece (Elt Ideal) s e) (N : ℕ) (G : s.Idx → Elt Ideal e)
    (h : ∀ n x, (f n).2 x = G ((f n).1.emb x)) (y : s.Idx) (n : ℕ) (hn : n < N) (hy : y ∈ (f n).1.set) :
    View.canon (stores f N) y = G y :=
  View.canon_apply_of_pieces G _ (fun p hp x => by obtain ⟨k, rfl⟩ := of_mem_stores f p N hp; exact h k x) y
    ⟨f n, mem_stores f n N hn, hy⟩

/-- The slab's columns are among the sixteen rows' own. -/
theorem haloSlices (a : ℕ) : S16x1024.Slices ![0, 128 * (a % 8)] S16x128 :=
  ⟨rfl, by intro i; fin_cases i <;> simp [S16x1024, S16x128] <;> omega⟩

/-- The slab's columns are among the block's own. -/
theorem mainSlices (a : ℕ) : S256x1024.Slices ![0, 128 * (a % 8)] S256x128 :=
  ⟨rfl, by intro i; fin_cases i <;> simp [S256x1024, S256x128] <;> omega⟩

/-- The sixteen rows' place within the buffer. -/
theorem haloIn (a : ℕ) : ∀ i, (![a % 8, 0, 0] : Fin 3 → ℕ) i + (![1, 16, 128] : Fin 3 → ℕ) i ≤ S8x272x128.size i := by
  intro i; fin_cases i <;> simp [S8x272x128] <;> omega

/-- The block's place within the buffer. -/
theorem mainIn (a : ℕ) : ∀ i, (![a % 8, 16, 0] : Fin 3 → ℕ) i + (![1, 256, 128] : Fin 3 → ℕ) i ≤ S8x272x128.size i := by
  intro i; fin_cases i <;> simp [S8x272x128] <;> omega

/-- The first columns of slab `a` of the sixteen rows before the block. -/
def haloPiece (H : FVec Ideal S16x1024 .f32) (a : ℕ) : View.Piece (Elt Ideal) S8x272x128 .f32 :=
  ⟨Rect.unit (s := S8x272x128) ![a % 8, 0, 0] ![1, 16, 128] (haloIn a),
    shapeCast S1x16x128 (extractStridedSlice S16x128 ![0, 128 * (a % 8)] H (haloSlices a)) shapeCasts_S16x128_S1x16x128⟩

/-- Slab `a`'s columns of the block's rows. -/
def mainPiece (M : FVec Ideal S256x1024 .f32) (a : ℕ) : View.Piece (Elt Ideal) S8x272x128 .f32 :=
  ⟨Rect.unit (s := S8x272x128) ![a % 8, 16, 0] ![1, 256, 128] (mainIn a),
    shapeCast S1x256x128 (extractStridedSlice S256x128 ![0, 128 * (a % 8)] M (mainSlices a)) shapeCasts_S256x128_S1x256x128⟩

/-- The first scratch buffer's stores: for every slab the rows before the block, then the block's. -/
def extPiece (H : FVec Ideal S16x1024 .f32) (M : FVec Ideal S256x1024 .f32) (n : ℕ) : View.Piece (Elt Ideal) S8x272x128 .f32 :=
  if n % 2 = 0 then haloPiece H (n / 2) else mainPiece M (n / 2)

/-- Store `n` of the second scratch buffer: the row it starts at within slab `n / 32`. -/
def row0 (n : ℕ) : ℕ := n / 4 % 8 * 32 + n % 4

/-- The eight rows tap `j` reads for store `n`. -/
def tapRows (E : List (View.Piece (Elt Ideal) S8x272x128 .f32)) (n : ℕ) (j : ℕ) (hj : j < 4) : Vec Ideal S1x8x128 .f32 :=
  (View.whole cc0_scratch0).readCov E
    (⟨![n / 32 % 8, 13 + row0 n + j, 0], S1x8x128.size, ![1, 4, 1], by
      intro i; fin_cases i <;> simp [S8x272x128, S1x8x128, row0] <;> omega⟩ : LoadRect S8x272x128)

/-- Tap `j`'s weights, of the slab's four rows of them, along the eight rows. -/
def tapWeights (C : FVec Ideal S4x1024 .f32) (a : ℕ) (j : ℕ) (hj : j < 4) : FVec Ideal S8x128 .f32 :=
  broadcastTo S8x128 (extractStridedSlice S1x128 ![j, 0]
    (extractStridedSlice S4x128 ![0, 128 * (a % 8)] C ⟨rfl, by intro i; fin_cases i <;> simp [S4x1024, S4x128] <;> omega⟩)
    ⟨rfl, by intro i; fin_cases i <;> simp [S1x128, S4x128] <;> omega⟩) broadcasts_S1x128_S8x128

/-- One tap's product. -/
def tapMul (C : FVec Ideal S4x1024 .f32) (E : List (View.Piece (Elt Ideal) S8x272x128 .f32)) (n : ℕ) (j : ℕ) (hj : j < 4) :
    FVec Ideal S8x128 .f32 :=
  mulf (tapWeights C (n / 32) j hj) (shapeCast S8x128 (tapRows E n j hj) shapeCasts_S1x8x128_S8x128)

/-- The four taps' sum. -/
def tapSum (C : FVec Ideal S4x1024 .f32) (E : List (View.Piece (Elt Ideal) S8x272x128 .f32)) (n : ℕ) : FVec Ideal S8x128 .f32 :=
  addf (addf (addf (tapMul C E n 0 (by omega)) (tapMul C E n 1 (by omega))) (tapMul C E n 2 (by omega))) (tapMul C E n 3 (by omega))

/-- The gated linear unit of eight rows. -/
def siluRows (z : FVec Ideal S8x128 .f32) : FVec Ideal S1x8x128 .f32 :=
  shapeCast S1x8x128 (mulf z (divf (broadcast S8x128 (Scalar.ofBits .f32 0x3F800000#32 : Ideal .f32))
    (addf (broadcast S8x128 (Scalar.ofBits .f32 0x3F800000#32 : Ideal .f32))
      (exp (subf (broadcast S8x128 (Scalar.ofBits .f32 0x00000000#32 : Ideal .f32)) z))))) shapeCasts_S8x128_S1x8x128

/-- The second scratch buffer's stores: every fourth row of 32, eight rows at a time. -/
def actPiece (C : FVec Ideal S4x1024 .f32) (E : List (View.Piece (Elt Ideal) S8x272x128 .f32)) (n : ℕ) :
    View.Piece (Elt Ideal) S8x256x128 .f32 :=
  ⟨{ off := ![n / 32 % 8, row0 n, 0], size := S1x8x128.size, stride := ![1, 4, 1],
     inb := by intro i; fin_cases i <;> simp [S8x256x128, S1x8x128, row0] <;> omega
     stride_pos := spos_1_4_1 }, siluRows (tapSum C E n)⟩

/-- A slab of the second scratch buffer, read back. -/
def slab (L : List (View.Piece (Elt Ideal) S8x256x128 .f32)) (a : ℕ) (ha : a < 8) : Vec Ideal S1x256x128 .f32 :=
  (View.whole cc0_scratch1).readCov L
    (Rect.unit (s := S8x256x128) ![a, 0, 0] ![1, 256, 128] (by intro i; fin_cases i <;> simp [S8x256x128] <;> omega)).toLoadRect

variable (m : (ℓ : Loc nD τ sig) → Buf (Elt Ideal) ℓ) (c : Dev nD) (t : Fin cfg0.N)

/-- The projected columns of the rows before the block. -/
def haloCols : FVec Ideal S16x1024 .f32 :=
  k0_pay24 (BitVec.ofNat 32 (grid0.coords t 1).val) (k0_pay4 (iblk m c 4 t)) (iblk m c 1 t)
    (View.ld (iblk m c 5 t) (Rect.unit ![0, 1536] ![1024, 1024] inb_S1024x3712_S1024x1024_0_1536))

/-- The projected columns of the block's rows. -/
def mainCols : FVec Ideal S256x1024 .f32 :=
  k0_pay23 (k0_pay5 (iblk m c 4 t) (iblk m c 0 t))
    (View.ld (iblk m c 5 t) (Rect.unit ![0, 1536] ![1024, 1024] inb_S1024x3712_S1024x1024_0_1536))

/-- All of the first scratch buffer's stores. -/
def extL : List (View.Piece (Elt Ideal) S8x272x128 .f32) := stores (extPiece (haloCols m c t) (mainCols m c t)) 16

/-- All of the second scratch buffer's stores. -/
def actL : List (View.Piece (Elt Ideal) S8x256x128 .f32) := stores (actPiece (k0_pay25 (iblk m c 6 t)) (extL m c t)) 256

/-- The queries' block is made of the second scratch buffer's first four slabs. -/
theorem o12_eq :
    (outsAt0 m c t).2.2.2.2.1 = k0_pay1147 (k0_pay1144 (slab (actL m c t) 0 (by omega)) (slab (actL m c t) 1 (by omega))
      (slab (actL m c t) 2 (by omega)) (slab (actL m c t) 3 (by omega))) := by
  unfold outsAt0
  dsimp only
  unfold out0_A_12
  frame_out
  sl_kernel_rfl

/-- The keys' block is made of its last four. -/
theorem o13_eq :
    (outsAt0 m c t).2.2.2.2.2.1 = k0_pay1148 (k0_pay1145 (slab (actL m c t) 4 (by omega))) (k0_pay1146 (slab (actL m c t) 5 (by omega)))
      (slab (actL m c t) 6 (by omega)) (slab (actL m c t) 7 (by omega)) := by
  unfold outsAt0
  dsimp only
  unfold out0_A_13
  frame_out
  sl_kernel_rfl

end Cert.Inp

end
-- ==== Proof.InSpec.lean ====
/- The input projection of the layer on plain rows of extended reals. -/
module

public import proofs.«01_k».proof.Proof.MixSpec

@[expose] public section

set_option maxRecDepth 16384

noncomputable section

open Idealize.ShloMosaic Idealize.ShloMosaic.TcCoe Idealize.SL.Sem

namespace Cert.Inp

open Cert.Mix (rms logi)

/-- One column of a normalised row's product with a weight column `w`. -/
def prj (x g : Fin 1024 → EReal) (w : Fin 1024 → EReal) : EReal :=
  ∑ k, rms (Ideal.ofBits .f32 0x44800000#32) x g k * w k

/-- The rotary embedding of a row of eight heads of 64 columns: each head's two halves of 32 columns are turned
    against each other by the angles whose cosines are `cs` and sines `sn`. -/
def rot (p : Fin 512 → EReal) (cs sn : Fin 32 → EReal) (k : Fin 512) : EReal :=
  if h : (k : ℕ) % 64 < 32 then
    p k * cs ⟨(k : ℕ) % 64, h⟩ - p ⟨k + 32, by omega⟩ * sn ⟨(k : ℕ) % 64, h⟩
  else
    p k * cs ⟨(k : ℕ) % 64 - 32, by omega⟩ + p ⟨k - 32, by omega⟩ * sn ⟨(k : ℕ) % 64 - 32, by omega⟩

/-- The four taps of the causal convolution, summed first to last. -/
def conv4 (w u : Fin 4 → EReal) : EReal := w 0 * u 0 + w 1 * u 1 + w 2 * u 2 + w 3 * u 3

/-- The gated linear unit `z · σ(z)`. -/
def silu (z : EReal) : EReal := z * logi z

/-- The logarithm of the logistic function, by its stable formula. -/
def lsig (z : EReal) : EReal := min z 0 - Ideal.log1p (Ideal.exp (-(FloatOps.absf (F := Ideal) (φ := .f32) z : EReal)))

/-- The angle by which position `p` turns pair `i` of 32: `p · 10000 ^ (-i / 32)`. -/
def angle (p : BitVec 32) (i : Fin 32) : EReal :=
  FloatOps.sitofp (F := Ideal) FTy.f32 p *
    Ideal.pow (Ideal.ofBits .f32 0x461C4000#32)
      (-Ideal.div (FloatOps.sitofp (F := Ideal) FTy.f32 (BitVec.ofNat 32 (i : ℕ))) (Ideal.ofBits .f32 0x42000000#32))

/-- The seven arguments: the rows `x`, their positions, the norm's gain, the projection's weights, the convolution's
    taps and the two gates' biases. -/
structure Args where
  x : Fin 4 → Fin 4096 → Fin 1024 → EReal
  pos : Fin 4 → Fin 4096 → BitVec 32
  g : Fin 1024 → EReal
  w : Fin 1024 → Fin 5640 → EReal
  cw : Fin 4 → Fin 1024 → EReal
  ib : Fin 4 → EReal
  fb : Fin 4 → EReal

variable (A : Args)

/-- Column `c` of the projection at row `s` of batch `b`. -/
def Args.P (b : Fin 4) (s : Fin 4096) (c : Fin 5640) : EReal := prj (A.x b s) A.g fun k => A.w k c

/-- The rotated columns that start at column `o` of the projection. -/
def Args.R (o : ℕ) (ho : o ≤ 512) (b : Fin 4) (s : Fin 4096) (k : Fin 512) : EReal :=
  rot (fun k => A.P b s ⟨o + k, by omega⟩) (fun i => Ideal.cos (angle (A.pos b s) i)) (fun i => Ideal.sin (angle (A.pos b s) i)) k

/-- What tap `i` of the convolution reads for row `s`: row `s + i - 3` of the projection, zero before the first row. -/
def Args.tap (b : Fin 4) (s : Fin 4096) (c : Fin 1024) (i : Fin 4) : EReal :=
  if h : 3 ≤ (s : ℕ) + i then A.P b ⟨s + i - 3, by omega⟩ ⟨1536 + c, by omega⟩ else 0

/-- The convolved and gated columns of the recurrent branch's queries and keys. -/
def Args.act (b : Fin 4) (s : Fin 4096) (c : Fin 1024) : EReal := silu (conv4 (fun i => A.cw i c) (A.tap b s c))

/-- The eight gate columns: four input gates, four logarithms of forget gates. -/
def Args.gate (b : Fin 4) (s : Fin 4096) (c : Fin 8) : EReal :=
  if h : (c : ℕ) < 4 then A.P b s ⟨3584 + c, by omega⟩ + A.ib ⟨c, h⟩
  else lsig (A.P b s ⟨3584 + c, by omega⟩ + A.fb ⟨c - 4, by omega⟩)

end Cert.Inp

end
-- ==== Proof.InKer.lean ====
/- The projection kernel's payloads at an index. -/
module

public import proofs.«01_k».proof.Proof.Gen.Kernel3Ideal.Value
public import proofs.«01_k».proof.Proof.InSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Inp

open Cert.Mix (rms logi)
open Cert.Kernel3Ideal Cert.Kernel3Ideal.Gen

/-- Choosing by a decided bit is choosing by the condition. -/
theorem sel_ite {α : Type} (P : Prop) [Decidable P] (x y : α) : Scalar.select (if P then 1#1 else 0#1) x y = if P then x else y := by
  split <;> rfl

/-- The bit of an equality with zero. -/
theorem cmpi_eq (a : BitVec 32) : Scalar.cmpi CmpIPredicate.eq a 0#32 = if a = 0#32 then 1#1 else 0#1 := by
  by_cases h : a = 0#32
  · subst h; rfl
  · have hb : (a == 0#32) = false := by simpa using h
    rw [if_neg h]
    show BitVec.ofBool (a == 0#32) = 0#1
    rw [hb]; rfl

/-- The normalised rows. -/
theorem pay5_at (g : Vec Ideal S1x1024 .f32) (x : Vec Ideal S1x256x1024 .f32) (r : Fin 256) (k : Fin 1024) :
    k0_pay5 g x (ix2 r k) = rms (Ideal.ofBits .f32 0x44800000#32) (fun j => x (ix3 0 r j)) (fun j => g (ix2 0 j)) k := by
  pointwise [k0_pay5, k0_pay4, rms]

/-- The queries' and keys' columns of the projection. -/
theorem pay11_at (g : Vec Ideal S1x1024 .f32) (x : Vec Ideal S1x256x1024 .f32) (w : Vec Ideal S1024x1024 .bf16) (r : Fin 256) (k : Fin 1024) :
    k0_pay11 (k0_pay5 g x) w (ix2 r k) = prj (fun j => x (ix3 0 r j)) (fun j => g (ix2 0 j)) (fun j => w (ix2 j k)) := by
  pointwise [k0_pay11, pay5_at, prj]

/-- The values' columns, transposed. -/
theorem pay22_at (g : Vec Ideal S1x1024 .f32) (x : Vec Ideal S1x256x1024 .f32) (w : Vec Ideal S1024x512 .bf16) (k : Fin 512) (r : Fin 256) :
    k0_pay22 (k0_pay5 g x) w (ix4 0 0 k r) = prj (fun j => x (ix3 0 r j)) (fun j => g (ix2 0 j)) (fun j => w (ix2 j k)) := by
  pointwise [k0_pay22, pay5_at, prj]

/-- The recurrent branch's projected columns. -/
theorem pay23_at (g : Vec Ideal S1x1024 .f32) (x : Vec Ideal S1x256x1024 .f32) (w : Vec Ideal S1024x1024 .bf16) (r : Fin 256) (k : Fin 1024) :
    k0_pay23 (k0_pay5 g x) w (ix2 r k) = prj (fun j => x (ix3 0 r j)) (fun j => g (ix2 0 j)) (fun j => w (ix2 j k)) := by
  pointwise [k0_pay23, pay5_at, prj]

/-- The recurrent branch's projected columns of the rows before the block; zero in a sequence's first block. -/
theorem pay24_at (a : BitVec 32) (g : Vec Ideal S1x1024 .f32) (x : Vec Ideal S1x16x1024 .f32) (w : Vec Ideal S1024x1024 .bf16) (r : Fin 16) (k : Fin 1024) :
    k0_pay24 a (k0_pay4 g) x w (ix2 r k) =
      if a = 0#32 then 0 else prj (fun j => x (ix3 0 r j)) (fun j => g (ix2 0 j)) (fun j => w (ix2 j k)) := by
  pointwise [k0_pay24, k0_pay4, prj, rms]
  rw [cmpi_eq, sel_ite]

/-- The recurrent branch's values. -/
theorem pay1150_at (g : Vec Ideal S1x1024 .f32) (x : Vec Ideal S1x256x1024 .f32) (w : Vec Ideal S1024x1024 .bf16) (r : Fin 256) (k : Fin 512) :
    k0_pay1150 (k0_pay5 g x) w (ix3 0 r k) = prj (fun j => x (ix3 0 r j)) (fun j => g (ix2 0 j)) (fun j => w (ix2 j ⟨k, by omega⟩)) := by
  pointwise [k0_pay1150, k0_pay1149, pay5_at, prj]

/-- The recurrent branch's output gate. -/
theorem pay1151_at (g : Vec Ideal S1x1024 .f32) (x : Vec Ideal S1x256x1024 .f32) (w : Vec Ideal S1024x1024 .bf16) (r : Fin 256) (k : Fin 512) :
    k0_pay1151 (k0_pay5 g x) w (ix3 0 r k) = prj (fun j => x (ix3 0 r j)) (fun j => g (ix2 0 j)) (fun j => w (ix2 j ⟨512 + k, by omega⟩)) := by
  pointwise [k0_pay1151, k0_pay1149, pay5_at, prj]

/-- The gates' projected columns. -/
theorem pay1152_at (g : Vec Ideal S1x1024 .f32) (x : Vec Ideal S1x256x1024 .f32) (w : Vec Ideal S1024x128 .bf16) (r : Fin 256) (k : Fin 128) :
    k0_pay1152 (k0_pay5 g x) w (ix2 r k) = prj (fun j => x (ix3 0 r j)) (fun j => g (ix2 0 j)) (fun j => w (ix2 j k)) := by
  pointwise [k0_pay1152, pay5_at, prj]

/-- The gates' columns: the first four as they are, of the others the logarithm of the logistic function. -/
theorem pay1_at (p : FVec Ideal S256x128 .f32) (b : Vec Ideal S1x128 .f32) (r : Fin 256) (k : Fin 128) :
    k0_pay1 (iota Kind.tc S256x128 32 [1] iota_S256x128_d1_w32) p b (ix2 r k) =
      if (k : ℕ) < 4 then p (ix2 r k) + b (ix2 0 k) else lsig (p (ix2 r k) + b (ix2 0 k)) := by
  have h : ∀ l : Fin 128, IntOp.cmpi CmpIPredicate.slt (BitVec.ofNat 32 (l : ℕ)) 4#32 = if (l : ℕ) < 4 then 1#1 else 0#1 := by decide +kernel
  pointwise [k0_pay1, lsig]
  rw [h, sel_ite, zero_sub]

/-- The gates' first eight columns. -/
theorem pay2_at (p : FVec Ideal S256x128 .f32) (b : Vec Ideal S1x128 .f32) (r : Fin 256) (k : Fin 8) :
    k0_pay2 (iota Kind.tc S256x128 32 [1] iota_S256x128_d1_w32) p b (ix3 0 r k) =
      if (k : ℕ) < 4 then p (ix2 r ⟨k, by omega⟩) + b (ix2 0 ⟨k, by omega⟩) else lsig (p (ix2 r ⟨k, by omega⟩) + b (ix2 0 ⟨k, by omega⟩)) := by
  pointwise [k0_pay2]
  exact pay1_at p b r ⟨k, by omega⟩

/-- The gates' first eight columns, transposed. -/
theorem pay3_at (p : FVec Ideal S256x128 .f32) (b : Vec Ideal S1x128 .f32) (k : Fin 8) (r : Fin 256) :
    k0_pay3 (iota Kind.tc S256x128 32 [1] iota_S256x128_d1_w32) p b (ix3 0 k r) =
      if (k : ℕ) < 4 then p (ix2 r ⟨k, by omega⟩) + b (ix2 0 ⟨k, by omega⟩) else lsig (p (ix2 r ⟨k, by omega⟩) + b (ix2 0 ⟨k, by omega⟩)) := by
  pointwise [k0_pay3]
  exact pay1_at p b r ⟨k, by omega⟩

/-! ## The rotary embedding -/

/-- The lane's place in its head of 64 columns. -/
theorem pay8_at (r : Fin 256) (l : Fin 128) : k0_pay8 (ix2 r l) = BitVec.ofNat 32 ((l : ℕ) % 64) := by
  have h : ∀ r l, k0_pay8 (ix2 r l) = k0_pay8 (ix2 0 l) := fun r l => by pointwise [k0_pay8]
  rw [h]
  revert l
  decide +kernel

/-- Whether the lane lies in its head's first half. -/
theorem pay9_at (r : Fin 256) (l : Fin 128) : k0_pay9 k0_pay8 (ix2 r l) = if (l : ℕ) % 64 < 32 then 1#1 else 0#1 := by
  pointwise [k0_pay9, pay8_at]
  revert l
  decide +kernel

/-- The sines, negated in each head's first half. -/
theorem pay10_at (s : FVec Ideal S256x128 .f32) (r : Fin 256) (l : Fin 128) :
    k0_pay10 s k0_pay8 (ix2 r l) = if (l : ℕ) % 64 < 32 then -s (ix2 r l) else s (ix2 r l) := by
  pointwise [k0_pay10, pay9_at]
  rw [sel_ite, zero_sub]

/-- The kernel's rotary embedding of a row: each column against its head's other half, by the tables' row. -/
def krot (p : Fin 512 → EReal) (cs sn : Fin 128 → EReal) (k : Fin 512) : EReal :=
  if h : (k : ℕ) % 64 < 32 then
    p k * cs ⟨(k : ℕ) % 128, by omega⟩ + p ⟨k + 32, by omega⟩ * -sn ⟨(k : ℕ) % 128, by omega⟩
  else
    p k * cs ⟨(k : ℕ) % 128, by omega⟩ + p ⟨k - 32, by omega⟩ * sn ⟨(k : ℕ) % 128, by omega⟩

/-- It is the reference's, when the tables' lanes repeat the 32 angles. -/
theorem krot_eq (p : Fin 512 → EReal) (cs sn : Fin 128 → EReal) (cs' sn' : Fin 32 → EReal)
    (hc : ∀ l : Fin 128, cs l = cs' ⟨(l : ℕ) % 32, by omega⟩) (hs : ∀ l : Fin 128, sn l = sn' ⟨(l : ℕ) % 32, by omega⟩) (k : Fin 512) :
    krot p cs sn k = rot p cs' sn' k := by
  unfold krot rot
  split
  · rename_i h
    rw [hc, hs, mul_neg, ← sub_eq_add_neg]
    congr 3 <;> (apply Fin.ext; dsimp only; omega)
  · rename_i h
    rw [hc, hs]
    congr 3 <;> (apply Fin.ext; dsimp only; omega)

/-- The rotated keys, from the projected columns. -/
def ropeK (cs sn : FVec Ideal S256x128 .f32) (p : FVec Ideal S256x1024 .f32) : FVec Ideal S256x512 .f32 :=
  k0_pay17 cs (k0_pay9 k0_pay8) (k0_pay10 sn k0_pay8)
    (extractStridedSlice S256x512 ![0, 512] p slices_S256x1024_o0_512_S256x512)
    (extractStridedSlice S256x128 ![0, 0] (extractStridedSlice S256x512 ![0, 512] p slices_S256x1024_o0_512_S256x512) slices_S256x512_o0_0_S256x128)
    (dynamicRotate 1 96#32 none (extractStridedSlice S256x128 ![0, 0] (extractStridedSlice S256x512 ![0, 512] p slices_S256x1024_o0_512_S256x512) slices_S256x512_o0_0_S256x128) rotates_S256x128_d1)
    (dynamicRotate 1 32#32 none (extractStridedSlice S256x128 ![0, 0] (extractStridedSlice S256x512 ![0, 512] p slices_S256x1024_o0_512_S256x512) slices_S256x512_o0_0_S256x128) rotates_S256x128_d1)

/-- One column of the rotation, spelled with places that name the same columns. -/
theorem krot_place (P : Fin 512 → EReal) (cs sn : Fin 128 → EReal) (k a b b' : Fin 512) (l : Fin 128) (q : ℕ)
    (ha : (a : ℕ) = k) (hl : (l : ℕ) = k % 128) (hq : q % 64 = k % 64)
    (hb : (k : ℕ) % 64 < 32 → (b : ℕ) = k + 32) (hb' : ¬ (k : ℕ) % 64 < 32 → (b' : ℕ) = k - 32) :
    P a * cs l + (if q % 64 < 32 then P b else P b') * (if q % 64 < 32 then -sn l else sn l) = krot P cs sn k := by
  obtain rfl : a = k := Fin.ext ha
  rw [show l = ⟨(a : ℕ) % 128, by omega⟩ from Fin.ext hl]
  unfold krot
  rw [hq]
  by_cases h : (a : ℕ) % 64 < 32
  · obtain rfl : b = ⟨(a : ℕ) + 32, by omega⟩ := Fin.ext (hb h)
    rw [if_pos h, if_pos h, dif_pos h]
  · obtain rfl : b' = ⟨(a : ℕ) - 32, by omega⟩ := Fin.ext (hb' h)
    rw [if_neg h, if_neg h, dif_neg h]

/-- The rotated keys at an index. -/
theorem ropeK_at (cs sn : FVec Ideal S256x128 .f32) (p : FVec Ideal S256x1024 .f32) (r : Fin 256) (k : Fin 512) :
    ropeK cs sn p (ix2 r k) = krot (fun k => p (ix2 r ⟨512 + k, by omega⟩)) (fun l => cs (ix2 r l)) (fun l => sn (ix2 r l)) k := by
  have hk := k.isLt
  pointwise [ropeK, k0_pay17, pay9_at, pay10_at, sel_ite]
  split
  · exact krot_place (fun k => p (ix2 r ⟨512 + k, by omega⟩)) (fun l => cs (ix2 r l)) (fun l => sn (ix2 r l)) k ⟨k, by omega⟩ ⟨(k + 128 - 96) % 128, by omega⟩ ⟨(k + 128 - 32) % 128, by omega⟩ ⟨k, by omega⟩ (k)
      (by first | rfl | (dsimp only; omega)) (by first | rfl | (dsimp only; omega)) (by omega) (fun _ => by first | rfl | (dsimp only; omega)) (fun _ => by first | rfl | (dsimp only; omega))
  · split
    · exact krot_place (fun k => p (ix2 r ⟨512 + k, by omega⟩)) (fun l => cs (ix2 r l)) (fun l => sn (ix2 r l)) k ⟨128 + (k - 128), by omega⟩ ⟨128 + (k - 128 + 128 - 96) % 128, by omega⟩ ⟨128 + (k - 128 + 128 - 32) % 128, by omega⟩ ⟨k - 128, by omega⟩ (k - 128)
        (by first | rfl | (dsimp only; omega)) (by first | rfl | (dsimp only; omega)) (by omega) (fun _ => by first | rfl | (dsimp only; omega)) (fun _ => by first | rfl | (dsimp only; omega))
    · split
      · exact krot_place (fun k => p (ix2 r ⟨512 + k, by omega⟩)) (fun l => cs (ix2 r l)) (fun l => sn (ix2 r l)) k ⟨256 + (k - 128 - 128), by omega⟩ ⟨256 + (k - 128 - 128 + 128 - 96) % 128, by omega⟩ ⟨256 + (k - 128 - 128 + 128 - 32) % 128, by omega⟩ ⟨k - 128 - 128, by omega⟩ (k - 128 - 128)
          (by first | rfl | (dsimp only; omega)) (by first | rfl | (dsimp only; omega)) (by omega) (fun _ => by first | rfl | (dsimp only; omega)) (fun _ => by first | rfl | (dsimp only; omega))
      · exact krot_place (fun k => p (ix2 r ⟨512 + k, by omega⟩)) (fun l => cs (ix2 r l)) (fun l => sn (ix2 r l)) k ⟨384 + (k - 128 - 128 - 128), by omega⟩ ⟨384 + (k - 128 - 128 - 128 + 128 - 96) % 128, by omega⟩ ⟨384 + (k - 128 - 128 - 128 + 128 - 32) % 128, by omega⟩ ⟨k - 128 - 128 - 128, by omega⟩ (k - 128 - 128 - 128)
          (by first | rfl | (dsimp only; omega)) (by first | rfl | (dsimp only; omega)) (by omega) (fun _ => by first | rfl | (dsimp only; omega)) (fun _ => by first | rfl | (dsimp only; omega))

/-- The rotated and scaled queries at an index. -/
theorem pay12_at (h : FVec Ideal S256x1024 .bf16) (cs sn : FVec Ideal S256x128 .f32) (w : Vec Ideal S1024x1024 .bf16) (r : Fin 256) (k : Fin 512) :
    k0_pay12 h cs sn k0_pay8 w (ix2 r k) =
      krot (fun k => k0_pay11 h w (ix2 r ⟨k, by omega⟩)) (fun l => cs (ix2 r l)) (fun l => sn (ix2 r l)) k * Ideal.ofBits .f32 0x3E38AA3B#32 := by
  have hk := k.isLt
  pointwise [k0_pay12, pay9_at, pay10_at, sel_ite]
  congr 1
  split
  · exact krot_place (fun k => k0_pay11 h w (ix2 r ⟨k, by omega⟩)) (fun l => cs (ix2 r l)) (fun l => sn (ix2 r l)) k ⟨k, by omega⟩ ⟨(k + 128 - 96) % 128, by omega⟩ ⟨(k + 128 - 32) % 128, by omega⟩ ⟨k, by omega⟩ (k)
      (by first | rfl | (dsimp only; omega)) (by first | rfl | (dsimp only; omega)) (by omega) (fun _ => by first | rfl | (dsimp only; omega)) (fun _ => by first | rfl | (dsimp only; omega))
  · split
    · exact krot_place (fun k => k0_pay11 h w (ix2 r ⟨k, by omega⟩)) (fun l => cs (ix2 r l)) (fun l => sn (ix2 r l)) k ⟨128 + (k - 128), by omega⟩ ⟨128 + (k - 128 + 128 - 96) % 128, by omega⟩ ⟨128 + (k - 128 + 128 - 32) % 128, by omega⟩ ⟨k - 128, by omega⟩ (k - 128)
        (by first | rfl | (dsimp only; omega)) (by first | rfl | (dsimp only; omega)) (by omega) (fun _ => by first | rfl | (dsimp only; omega)) (fun _ => by first | rfl | (dsimp only; omega))
    · split
      · exact krot_place (fun k => k0_pay11 h w (ix2 r ⟨k, by omega⟩)) (fun l => cs (ix2 r l)) (fun l => sn (ix2 r l)) k ⟨256 + (k - 128 - 128), by omega⟩ ⟨256 + (k - 128 - 128 + 128 - 96) % 128, by omega⟩ ⟨256 + (k - 128 - 128 + 128 - 32) % 128, by omega⟩ ⟨k - 128 - 128, by omega⟩ (k - 128 - 128)
          (by first | rfl | (dsimp only; omega)) (by first | rfl | (dsimp only; omega)) (by omega) (fun _ => by first | rfl | (dsimp only; omega)) (fun _ => by first | rfl | (dsimp only; omega))
      · exact krot_place (fun k => k0_pay11 h w (ix2 r ⟨k, by omega⟩)) (fun l => cs (ix2 r l)) (fun l => sn (ix2 r l)) k ⟨384 + (k - 128 - 128 - 128), by omega⟩ ⟨384 + (k - 128 - 128 - 128 + 128 - 96) % 128, by omega⟩ ⟨384 + (k - 128 - 128 - 128 + 128 - 32) % 128, by omega⟩ ⟨k - 128 - 128 - 128, by omega⟩ (k - 128 - 128 - 128)
          (by first | rfl | (dsimp only; omega)) (by first | rfl | (dsimp only; omega)) (by omega) (fun _ => by first | rfl | (dsimp only; omega)) (fun _ => by first | rfl | (dsimp only; omega))

end Cert.Inp

end
-- ==== Proof.InBlk.lean ====
/- What the projection kernel's eight input blocks hold at a point. -/
module

public import proofs.«01_k».proof.Proof.InKer

@[expose] public section

set_option maxRecDepth 16384

noncomputable section

open Idealize.ShloMosaic Idealize.ShloMosaic.TcCoe Idealize.SL.Sem
open Idealize.ShloMosaic.Pipeline (Dat)

namespace Cert.Inp

open Cert.Mix (rms logi)
open Cert.Kernel3Ideal Cert.Kernel3Ideal.Gen

/-- Where each window's block lies. -/
theorem idx : ∀ t : Fin cfg0.N, win0_0.index t = ![t.val / 16, t.val % 16, 0] ∧ win0_1.index t = ![t.val / 16, t.val % 16 * 16 - 1, 0]
    ∧ win0_2.index t = ![t.val / 16, t.val % 16, 0] ∧ win0_3.index t = ![t.val / 16, t.val % 16, 0]
    ∧ win0_4.index t = ![0, 0] ∧ win0_5.index t = ![0, 0] ∧ win0_6.index t = ![0, 0] ∧ win0_7.index t = ![0, 0]
    ∧ win0_8.index t = ![t.val / 16, t.val % 16, 0, 0] ∧ win0_9.index t = ![t.val / 16, t.val % 16, 0, 0]
    ∧ win0_10.index t = ![t.val, 0, 0] ∧ win0_11.index t = ![t.val / 16, t.val % 16, 0, 0]
    ∧ win0_12.index t = ![t.val / 16, t.val % 16, 0] ∧ win0_13.index t = ![t.val / 16, t.val % 16, 0, 0]
    ∧ win0_14.index t = ![t.val / 16, t.val % 16, 0] ∧ win0_15.index t = ![t.val / 16, t.val % 16, 0]
    ∧ win0_16.index t = ![t.val / 16, t.val % 16, 0] ∧ win0_17.index t = ![t.val / 16, 0, t.val % 16] :=
  (by decide +kernel : ∀ t : Fin grid0.N, _)

/-- Whether a point is its sequence's first. -/
theorem coord1 : ∀ t : Fin cfg0.N, (BitVec.ofNat 32 (grid0.coords t 1).val = 0#32) ↔ t.val % 16 = 0 :=
  (by decide +kernel : ∀ t : Fin grid0.N, _)

variable (m : (ℓ : Loc nD τ sig) → Buf (Elt Ideal) ℓ) (c : Dev nD)

/-- The kernel's seven arguments. -/
def kerArgs : Args where
  x b s j := m ((c.tc : Thread nD τ).loc main_arg0) (ix3 b s j)
  pos b s := m ((c.tc : Thread nD τ).loc main_arg1) (ix2 b s)
  g j := m ((c.tc : Thread nD τ).loc main_arg2) (ix2 0 j)
  w j c' := m ((c.tc : Thread nD τ).loc main_arg3) (ix3 0 j c')
  cw i c' := m ((c.tc : Thread nD τ).loc main_arg4) (ix3 0 i c')
  ib i := m ((c.tc : Thread nD τ).loc main_arg5) (ix2 0 i)
  fb i := m ((c.tc : Thread nD τ).loc main_arg6) (ix2 0 i)

/-! ## The arrays the host prepares -/

/-- The table of the angles. -/
def angT (p : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp (F := Ideal) .f32 p)))
    (broadcastInDim S4x4096x32 ![0, 1, 2] bcast_S1x1x32_S4x4096x32_0_1_2 (broadcastInDim S1x1x32 ![2] bcast_S32_S1x1x32_2
      (Host.powf (broadcastInDim S32 ![] bcast_S_S32 (constant (F := Ideal) S_ .f32 0x461C4000#32))
        (Host.negf (Host.divf (sitofp .f32 (iotaInDim S32 32 0)) (broadcastInDim S32 ![] bcast_S_S32 (constant S_ .f32 0x42000000#32)))))))

/-- The table of the angles at an index. -/
theorem angT_at (p : IVec S4x4096 32) (b : Fin 4) (s : Fin 4096) (i : Fin 32) : angT p (ix3 b s i) = angle (p (ix2 b s)) i := by
  pointwise [angT, angle]

/-- Four copies side by side. -/
def four (x : FVec Ideal S4x4096x32 .f32) : FVec Ideal S4x4096x128 .f32 :=
  concatenate S4x4096x128 2 [⟨S4x4096x32, x⟩, ⟨S4x4096x32, x⟩, ⟨S4x4096x32, x⟩, ⟨S4x4096x32, x⟩] concatenates_S4x4096x32_S4x4096x32_S4x4096x32_S4x4096x32_S4x4096x128_d2

/-- Four copies side by side, at an index. -/
theorem four_at (x : FVec Ideal S4x4096x32 .f32) (b : Fin 4) (s : Fin 4096) (l : Fin 128) :
    four x (ix3 b s l) = x (ix3 b s ⟨(l : ℕ) % 32, by omega⟩) := by
  have hl := l.isLt
  have e (i j : Fin 32) (h : (i : ℕ) = j) : x (ix3 b s i) = x (ix3 b s j) := by rw [Fin.ext h]
  pointwise [four]
  split
  · exact e _ _ (by dsimp only; omega)
  · split
    · exact e _ _ (by dsimp only; omega)
    · split
      · exact e _ _ (by dsimp only; omega)
      · exact e _ _ (by dsimp only; omega)

/-- The cosines' table. -/
theorem V_v13 (b : Fin 4) (s : Fin 4096) (l : Fin 128) :
    (V m c main_v13 : FVec Ideal S4x4096x128 .f32) (ix3 b s l) = Ideal.cos (angle ((kerArgs m c).pos b s) ⟨(l : ℕ) % 32, by omega⟩) := by
  have h : V m c main_v13 = four (Host.cos (angT (m ((c.tc : Thread nD τ).loc main_arg1) : IVec S4x4096 32))) := by
    simp only [V, hostOps0]
    after_results_simp
    rfl
  rw [h, four_at]
  pointwise [angT_at, kerArgs]

/-- The sines' table. -/
theorem V_v15 (b : Fin 4) (s : Fin 4096) (l : Fin 128) :
    (V m c main_v15 : FVec Ideal S4x4096x128 .f32) (ix3 b s l) = Ideal.sin (angle ((kerArgs m c).pos b s) ⟨(l : ℕ) % 32, by omega⟩) := by
  have h : V m c main_v15 = four (Host.sin (angT (m ((c.tc : Thread nD τ).loc main_arg1) : IVec S4x4096 32))) := by
    simp only [V, hostOps0]
    after_results_simp
    rfl
  rw [h, four_at]
  pointwise [angT_at, kerArgs]

/-- The projection's columns the kernel takes: the first 3584, the eight gates' and 120 zeros. -/
def cut (w : FVec Ideal S1x1024x5640 .f32) : FVec Ideal S1024x3712 .bf16 :=
  concatenate S1024x3712 1 [⟨S1024x3584, truncf .bf16 (extractStridedSlice S1024x3584 ![0, 0] (shapeCast S1024x5640 w shapeCasts_S1x1024x5640_S1024x5640) slices_S1024x5640_S1024x3584_0_0) bitsLt_bf16_f32⟩,
    ⟨S1024x8, truncf .bf16 (extractStridedSlice S1024x8 ![0, 3584] (shapeCast S1024x5640 w shapeCasts_S1x1024x5640_S1024x5640) slices_S1024x5640_S1024x8_0_3584) bitsLt_bf16_f32⟩,
    ⟨S1024x120, broadcastInDim S1024x120 ![] bcast_S_S1024x120 (constant S_ .bf16 0x0000#16)⟩] concatenates_S1024x3584_S1024x8_S1024x120_S1024x3712_d1

/-- The first 3592 of them are the weights' own. -/
theorem cut_at (w : FVec Ideal S1x1024x5640 .f32) (j : Fin 1024) (k : Fin 3712) (hk : (k : ℕ) < 3592) :
    cut w (ix2 j k) = w (ix3 0 j ⟨k, by omega⟩) := by
  have e (i i' : Fin 5640) (h : (i : ℕ) = i') : w (ix3 0 j i) = w (ix3 0 j i') := by rw [Fin.ext h]
  pointwise [cut]
  split
  · exact e _ _ (by first | rfl | (dsimp only; omega))
  · split
    · exact e _ _ (by dsimp only; omega)
    · exfalso; omega

/-- The weights as the kernel finds them. -/
theorem V_v22 (j : Fin 1024) (k : Fin 3712) (hk : (k : ℕ) < 3592) :
    (V m c main_v22 : FVec Ideal S1024x3712 .bf16) (ix2 j k) = (kerArgs m c).w j ⟨k, by omega⟩ := by
  have h : V m c main_v22 = cut (m ((c.tc : Thread nD τ).loc main_arg3) : FVec Ideal S1x1024x5640 .f32) := by
    simp only [V, hostOps0]
    after_results_simp
    rfl
  rw [h, cut_at _ _ _ hk]
  rfl

/-- The gates' biases, padded with zeros. -/
def bia (ib fb : FVec Ideal S1x4 .f32) : FVec Ideal S1x128 .f32 :=
  shapeCast S1x128 (concatenate S128 0 [⟨S4, shapeCast S4 ib shapeCasts_S1x4_S4⟩, ⟨S4, shapeCast S4 fb shapeCasts_S1x4_S4⟩,
    ⟨S120, broadcastInDim S120 ![] bcast_S_S120 (constant (F := Ideal) S_ .f32 0x00000000#32)⟩] concatenates_S4_S4_S120_S128_d0) shapeCasts_S128_S1x128

/-- Its first eight entries are the gates' biases. -/
theorem bia_at (ib fb : FVec Ideal S1x4 .f32) (k : Fin 8) :
    bia ib fb (ix2 0 ⟨k, by omega⟩) = if h : (k : ℕ) < 4 then ib (ix2 0 ⟨k, h⟩) else fb (ix2 0 ⟨k - 4, by omega⟩) := by
  pointwise [bia]
  split
  · rfl
  · rw [dif_pos (by omega)]

/-- The biases as the kernel finds them. -/
theorem V_v27 (k : Fin 8) :
    (V m c main_v27 : FVec Ideal S1x128 .f32) (ix2 0 ⟨k, by omega⟩) =
      if h : (k : ℕ) < 4 then (kerArgs m c).ib ⟨k, h⟩ else (kerArgs m c).fb ⟨k - 4, by omega⟩ := by
  have h : V m c main_v27 = bia (m ((c.tc : Thread nD τ).loc main_arg5) : FVec Ideal S1x4 .f32) (m ((c.tc : Thread nD τ).loc main_arg6) : FVec Ideal S1x4 .f32) := by
    simp only [V, hostOps0]
    after_results_simp
    rfl
  rw [h, bia_at]
  rfl

/-- A row laid flat and back. -/
theorem flat_at (g : FVec Ideal S1x1024 .f32) (j : Fin 1024) :
    shapeCast S1x1024 (shapeCast S1024 g shapeCasts_S1x1024_S1024) shapeCasts_S1024_S1x1024 (ix2 0 j) = g (ix2 0 j) := by
  pointwise []

/-- The taps without their leading axis. -/
theorem taps_at (w : FVec Ideal S1x4x1024 .f32) (i : Fin 4) (j : Fin 1024) :
    shapeCast S4x1024 w shapeCasts_S1x4x1024_S4x1024 (ix2 i j) = w (ix3 0 i j) := by
  pointwise []

/-- The gain as the kernel finds it. -/
theorem V_v29 (j : Fin 1024) : (V m c main_v29 : FVec Ideal S1x1024 .f32) (ix2 0 j) = (kerArgs m c).g j := by
  have h : V m c main_v29 = shapeCast S1x1024 (shapeCast S1024 (m ((c.tc : Thread nD τ).loc main_arg2) : FVec Ideal S1x1024 .f32) shapeCasts_S1x1024_S1024) shapeCasts_S1024_S1x1024 := by
    simp only [V, hostOps0]
    after_results_simp
    rfl
  rw [h]
  exact flat_at _ j

/-- The taps as the kernel finds them. -/
theorem V_v30 (i : Fin 4) (j : Fin 1024) : (V m c main_v30 : FVec Ideal S4x1024 .f32) (ix2 i j) = (kerArgs m c).cw i j := by
  have h : V m c main_v30 = shapeCast S4x1024 (m ((c.tc : Thread nD τ).loc main_arg4) : FVec Ideal S1x4x1024 .f32) shapeCasts_S1x4x1024_S4x1024 := by
    simp only [V, hostOps0]
    after_results_simp
    rfl
  rw [h]
  exact taps_at _ i j

/-! ## The blocks -/

/-- The rows' block. -/
theorem blk0 (t : Fin cfg0.N) (ht : t.val < 64) (r : Fin 256) (j : Fin 1024) :
    iblk m c 0 t (ix3 0 r j) = (kerArgs m c).x ⟨t.val / 16, by omega⟩ ⟨t.val % 16 * 256 + r, by omega⟩ j := by
  unfold kerArgs
  blk_ext! [iblk, V, idx t]

/-- The sixteen rows before the block, when it is not its sequence's first. -/
theorem blk1 (t : Fin cfg0.N) (ht : t.val < 64) (h : t.val % 16 ≠ 0) (r : Fin 16) (j : Fin 1024) :
    iblk m c 1 t (ix3 0 r j) = (kerArgs m c).x ⟨t.val / 16, by omega⟩ ⟨t.val % 16 * 256 + r - 16, by omega⟩ j := by
  unfold kerArgs
  blk_ext! [iblk, V, idx t]

/-- The cosines' block. -/
theorem blk2 (t : Fin cfg0.N) (ht : t.val < 64) (r : Fin 256) (l : Fin 128) :
    iblk m c 2 t (ix3 0 r l) = Ideal.cos (angle ((kerArgs m c).pos ⟨t.val / 16, by omega⟩ ⟨t.val % 16 * 256 + r, by omega⟩) ⟨(l : ℕ) % 32, by omega⟩) := by
  rw [← V_v13 m c]
  blk_ext! [iblk, idx t]

/-- The sines' block. -/
theorem blk3 (t : Fin cfg0.N) (ht : t.val < 64) (r : Fin 256) (l : Fin 128) :
    iblk m c 3 t (ix3 0 r l) = Ideal.sin (angle ((kerArgs m c).pos ⟨t.val / 16, by omega⟩ ⟨t.val % 16 * 256 + r, by omega⟩) ⟨(l : ℕ) % 32, by omega⟩) := by
  rw [← V_v15 m c]
  blk_ext! [iblk, idx t]

/-- The gain's block. -/
theorem blk4 (t : Fin cfg0.N) (ht : t.val < 64) (j : Fin 1024) : iblk m c 4 t (ix2 0 j) = (kerArgs m c).g j := by
  rw [← V_v29 m c]
  blk_ext! [iblk, idx t]

/-- The weights' block. -/
theorem blk5 (t : Fin cfg0.N) (ht : t.val < 64) (j : Fin 1024) (k : Fin 3712) (hk : (k : ℕ) < 3592) :
    iblk m c 5 t (ix2 j k) = (kerArgs m c).w j ⟨k, by omega⟩ := by
  rw [← V_v22 m c j k hk]
  blk_ext! [iblk, idx t]

/-- The taps' block. -/
theorem blk6 (t : Fin cfg0.N) (ht : t.val < 64) (i : Fin 4) (j : Fin 1024) : iblk m c 6 t (ix2 i j) = (kerArgs m c).cw i j := by
  rw [← V_v30 m c]
  blk_ext! [iblk, idx t]

/-- The biases' block. -/
theorem blk7 (t : Fin cfg0.N) (ht : t.val < 64) (k : Fin 8) :
    iblk m c 7 t (ix2 0 ⟨k, by omega⟩) = if h : (k : ℕ) < 4 then (kerArgs m c).ib ⟨k, h⟩ else (kerArgs m c).fb ⟨k - 4, by omega⟩ := by
  rw [← V_v27 m c]
  blk_ext! [iblk, idx t]

end Cert.Inp

end
-- ==== Proof.InPoint.lean ====
/- The projection kernel's blocks at a point, but for the two of the convolution. -/
module

public import proofs.«01_k».proof.Proof.InBlk
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Inp

open Cert.Mix (rms logi)
open Cert.Kernel3Ideal Cert.Kernel3Ideal.Gen

variable (m : (ℓ : Loc nD τ sig) → Buf (Elt Ideal) ℓ) (c : Dev nD) (t : Fin cfg0.N)

/-- The weights' first columns, as loaded. -/
theorem ld0_at (ht : t.val < 64) (j k : Fin 1024) :
    View.ld (iblk m c 5 t) (Rect.unit ![0, 0] ![1024, 1024] inb_S1024x3712_S1024x1024_0_0) (ix2 j k) = (kerArgs m c).w j ⟨k, by omega⟩ := by
  rw [← blk5 m c t ht j ⟨k, by omega⟩ (by dsimp only; omega)]
  pointwise []

/-- The values' columns, as loaded. -/
theorem ld1_at (ht : t.val < 64) (j : Fin 1024) (k : Fin 512) :
    View.ld (iblk m c 5 t) (Rect.unit ![0, 1024] ![1024, 512] inb_S1024x3712_S1024x512_0_1024) (ix2 j k) = (kerArgs m c).w j ⟨1024 + k, by omega⟩ := by
  rw [← blk5 m c t ht j ⟨1024 + k, by omega⟩ (by dsimp only; omega)]
  pointwise []

/-- The recurrent branch's queries' and keys' columns, as loaded. -/
theorem ld2_at (ht : t.val < 64) (j k : Fin 1024) :
    View.ld (iblk m c 5 t) (Rect.unit ![0, 1536] ![1024, 1024] inb_S1024x3712_S1024x1024_0_1536) (ix2 j k) = (kerArgs m c).w j ⟨1536 + k, by omega⟩ := by
  rw [← blk5 m c t ht j ⟨1536 + k, by omega⟩ (by dsimp only; omega)]
  pointwise []

/-- The recurrent branch's values' and output gate's columns, as loaded. -/
theorem ld3_at (ht : t.val < 64) (j k : Fin 1024) :
    View.ld (iblk m c 5 t) (Rect.unit ![0, 2560] ![1024, 1024] inb_S1024x3712_S1024x1024_0_2560) (ix2 j k) = (kerArgs m c).w j ⟨2560 + k, by omega⟩ := by
  rw [← blk5 m c t ht j ⟨2560 + k, by omega⟩ (by dsimp only; omega)]
  pointwise []

/-- The gates' columns, as loaded. -/
theorem ld4_at (ht : t.val < 64) (j : Fin 1024) (k : Fin 128) (hk : (k : ℕ) < 8) :
    View.ld (iblk m c 5 t) (Rect.unit ![0, 3584] ![1024, 128] inb_S1024x3712_S1024x128_0_3584) (ix2 j k) = (kerArgs m c).w j ⟨3584 + k, by omega⟩ := by
  rw [← blk5 m c t ht j ⟨3584 + k, by omega⟩ (by dsimp only; omega)]
  pointwise []

/-- The rows' block's product with a weight column is the projection's entry. -/
theorem prj_blk (ht : t.val < 64) (r : Fin 256) (k : Fin 5640) (f : Fin 1024 → EReal) (hf : ∀ j, f j = (kerArgs m c).w j k) :
    prj (fun j => iblk m c 0 t (ix3 0 r j)) (fun j => iblk m c 4 t (ix2 0 j)) f
      = (kerArgs m c).P ⟨t.val / 16, by omega⟩ ⟨t.val % 16 * 256 + r, by omega⟩ k := by
  obtain rfl : f = fun j => (kerArgs m c).w j k := funext hf
  simp only [blk0 m c t ht, blk4 m c t ht]
  rfl

/-- The queries' and keys' columns of the projection. -/
theorem qk_at (ht : t.val < 64) (r : Fin 256) (k : Fin 1024) :
    k0_pay11 (k0_pay5 (iblk m c 4 t) (iblk m c 0 t)) (View.ld (iblk m c 5 t) (Rect.unit ![0, 0] ![1024, 1024] inb_S1024x3712_S1024x1024_0_0)) (ix2 r k)
      = (kerArgs m c).P ⟨t.val / 16, by omega⟩ ⟨t.val % 16 * 256 + r, by omega⟩ ⟨k, by omega⟩ := by
  rw [pay11_at]
  exact prj_blk m c t ht r _ _ fun j => ld0_at m c t ht j k

/-- The cosines' rows. -/
theorem cs_at (ht : t.val < 64) (r : Fin 256) (l : Fin 128) :
    k0_pay6 (iblk m c 2 t) (ix2 r l) = Ideal.cos (angle ((kerArgs m c).pos ⟨t.val / 16, by omega⟩ ⟨t.val % 16 * 256 + r, by omega⟩) ⟨(l : ℕ) % 32, by omega⟩) := by
  rw [← blk2 m c t ht]
  pointwise [k0_pay6]

/-- The sines' rows. -/
theorem sn_at (ht : t.val < 64) (r : Fin 256) (l : Fin 128) :
    k0_pay7 (iblk m c 3 t) (ix2 r l) = Ideal.sin (angle ((kerArgs m c).pos ⟨t.val / 16, by omega⟩ ⟨t.val % 16 * 256 + r, by omega⟩) ⟨(l : ℕ) % 32, by omega⟩) := by
  rw [← blk3 m c t ht]
  pointwise [k0_pay7]

/-- The rotated keys. -/
theorem rK_at (ht : t.val < 64) (r : Fin 256) (k : Fin 512) :
    ropeK (k0_pay6 (iblk m c 2 t)) (k0_pay7 (iblk m c 3 t)) (k0_pay11 (k0_pay5 (iblk m c 4 t) (iblk m c 0 t)) (View.ld (iblk m c 5 t) (Rect.unit ![0, 0] ![1024, 1024] inb_S1024x3712_S1024x1024_0_0))) (ix2 r k)
      = (kerArgs m c).R 512 (by omega) ⟨t.val / 16, by omega⟩ ⟨t.val % 16 * 256 + r, by omega⟩ k := by
  rw [ropeK_at, Args.R, krot_eq _ _ _ (fun i => Ideal.cos (angle ((kerArgs m c).pos ⟨t.val / 16, by omega⟩ ⟨t.val % 16 * 256 + r, by omega⟩) i)) (fun i => Ideal.sin (angle ((kerArgs m c).pos ⟨t.val / 16, by omega⟩ ⟨t.val % 16 * 256 + r, by omega⟩) i)) (fun l => cs_at m c t ht r l) (fun l => sn_at m c t ht r l)]
  simp only [qk_at m c t ht]

/-- The scaled rotated queries' block. -/
theorem o8_at (ht : t.val < 64) (k : Fin 512) (r : Fin 256) :
    (outsAt0 m c t).1 (ix4 0 0 k r)
      = (kerArgs m c).R 0 (by omega) ⟨t.val / 16, by omega⟩ ⟨t.val % 16 * 256 + r, by omega⟩ k * Ideal.ofBits .f32 0x3E38AA3B#32 := by
  unfold outsAt0
  dsimp only
  unfold out0_A_8
  frame_out
  pointwise [k0_pay18, pay12_at]
  rw [Args.R, krot_eq _ _ _ (fun i => Ideal.cos (angle ((kerArgs m c).pos ⟨t.val / 16, by omega⟩ ⟨t.val % 16 * 256 + r, by omega⟩) i)) (fun i => Ideal.sin (angle ((kerArgs m c).pos ⟨t.val / 16, by omega⟩ ⟨t.val % 16 * 256 + r, by omega⟩) i)) (fun l => cs_at m c t ht r l) (fun l => sn_at m c t ht r l)]
  simp only [Nat.zero_add]
  exact congrArg (fun f => rot f _ _ k * _) (funext fun k => qk_at m c t ht r ⟨k, by omega⟩)

/-- The rotated keys' block. -/
theorem o9_at (ht : t.val < 64) (r : Fin 256) (k : Fin 512) :
    (outsAt0 m c t).2.1 (ix4 0 0 r k) = (kerArgs m c).R 512 (by omega) ⟨t.val / 16, by omega⟩ ⟨t.val % 16 * 256 + r, by omega⟩ k := by
  unfold outsAt0
  dsimp only
  unfold out0_A_9
  frame_out
  rw [← rK_at m c t ht r k]
  pointwise [k0_pay19]
  rfl

/-- The keys' mean. -/
theorem o10_at (ht : t.val < 64) (k : Fin 512) :
    (outsAt0 m c t).2.2.1 (ix3 0 0 k)
      = Ideal.div (∑ r : Fin 256, (kerArgs m c).R 512 (by omega) ⟨t.val / 16, by omega⟩ ⟨t.val % 16 * 256 + r, by omega⟩ k) (Ideal.ofBits .f32 0x43800000#32) := by
  unfold outsAt0
  dsimp only
  unfold out0_A_10
  frame_out
  simp only [← rK_at m c t ht]
  pointwise [k0_pay21, k0_pay20]
  rfl

/-- The values' block. -/
theorem o11_at (ht : t.val < 64) (k : Fin 512) (r : Fin 256) :
    (outsAt0 m c t).2.2.2.1 (ix4 0 0 k r) = (kerArgs m c).P ⟨t.val / 16, by omega⟩ ⟨t.val % 16 * 256 + r, by omega⟩ ⟨1024 + k, by omega⟩ := by
  unfold outsAt0
  dsimp only
  unfold out0_A_11
  frame_out
  rw [pay22_at]
  exact prj_blk m c t ht r _ _ fun j => ld1_at m c t ht j k

/-- The recurrent branch's values' block. -/
theorem o14_at (ht : t.val < 64) (r : Fin 256) (k : Fin 512) :
    (outsAt0 m c t).2.2.2.2.2.2.1 (ix3 0 r k) = (kerArgs m c).P ⟨t.val / 16, by omega⟩ ⟨t.val % 16 * 256 + r, by omega⟩ ⟨2560 + k, by omega⟩ := by
  unfold outsAt0
  dsimp only
  unfold out0_A_14
  frame_out
  rw [pay1150_at]
  exact prj_blk m c t ht r _ _ fun j => ld3_at m c t ht j _

/-- The output gate's block. -/
theorem o15_at (ht : t.val < 64) (r : Fin 256) (k : Fin 512) :
    (outsAt0 m c t).2.2.2.2.2.2.2.1 (ix3 0 r k) = (kerArgs m c).P ⟨t.val / 16, by omega⟩ ⟨t.val % 16 * 256 + r, by omega⟩ ⟨3072 + k, by omega⟩ := by
  unfold outsAt0
  dsimp only
  unfold out0_A_15
  frame_out
  rw [pay1151_at]
  refine prj_blk m c t ht r _ _ fun j => (ld3_at m c t ht j _).trans ?_
  congr 2
  dsimp only; omega

/-- The gates' projected columns. -/
theorem gp_at (ht : t.val < 64) (r : Fin 256) (k : Fin 8) :
    k0_pay1152 (k0_pay5 (iblk m c 4 t) (iblk m c 0 t)) (View.ld (iblk m c 5 t) (Rect.unit ![0, 3584] ![1024, 128] inb_S1024x3712_S1024x128_0_3584)) (ix2 r ⟨k, by omega⟩)
      = (kerArgs m c).P ⟨t.val / 16, by omega⟩ ⟨t.val % 16 * 256 + r, by omega⟩ ⟨3584 + k, by omega⟩ := by
  rw [pay1152_at]
  exact prj_blk m c t ht r _ _ fun j => ld4_at m c t ht j _ k.isLt

/-- The gates' block. -/
theorem o16_at (ht : t.val < 64) (r : Fin 256) (k : Fin 8) :
    (outsAt0 m c t).2.2.2.2.2.2.2.2.1 (ix3 0 r k) = (kerArgs m c).gate ⟨t.val / 16, by omega⟩ ⟨t.val % 16 * 256 + r, by omega⟩ k := by
  unfold outsAt0
  dsimp only
  unfold out0_A_16
  frame_out
  refine (pay2_at _ _ _ _).trans ?_
  have h0 := gp_at m c t ht r k
  have h1 := blk7 m c t ht k
  unfold Args.gate
  split
  · rename_i h
    exact congrArg₂ (· + ·) h0 (h1.trans (dif_pos h))
  · rename_i h
    exact congrArg lsig (congrArg₂ (· + ·) h0 (h1.trans (dif_neg h)))

/-- The transposed gates' block. -/
theorem o17_at (ht : t.val < 64) (k : Fin 8) (r : Fin 256) :
    (outsAt0 m c t).2.2.2.2.2.2.2.2.2 (ix3 0 k r) = (kerArgs m c).gate ⟨t.val / 16, by omega⟩ ⟨t.val % 16 * 256 + r, by omega⟩ k := by
  unfold outsAt0
  dsimp only
  unfold out0_A_17
  frame_out
  refine (pay3_at _ _ _ _).trans ?_
  have h0 := gp_at m c t ht r k
  have h1 := blk7 m c t ht k
  unfold Args.gate
  split
  · rename_i h
    exact congrArg₂ (· + ·) h0 (h1.trans (dif_pos h))
  · rename_i h
    exact congrArg lsig (congrArg₂ (· + ·) h0 (h1.trans (dif_neg h)))

end Cert.Inp

end
-- ==== Proof.InConv.lean ====
/- The projection kernel's convolution: its two scratch buffers' values and the two blocks made of them. -/
module

public import proofs.«01_k».proof.Proof.InConvL
public import proofs.«01_k».proof.Proof.InPoint

@[expose] public section

set_option maxRecDepth 16384

noncomputable section

open Idealize.ShloMosaic Idealize.ShloMosaic.TcCoe Idealize.SL.Sem
open Idealize.ShloMosaic.Pipeline (Dat)

namespace Cert.Inp

open Cert.Mix (rms logi)
open Cert.Kernel3Ideal Cert.Kernel3Ideal.Gen

section Values

variable (H : FVec Ideal S16x1024 .f32) (M : FVec Ideal S256x1024 .f32) (C : FVec Ideal S4x1024 .f32)

/-- The first scratch buffer: 16 rows before the block, then the block's 256; eight slabs of 128 columns. -/
def extV (a : Fin 8) (q : Fin 272) (l : Fin 128) : EReal :=
  if h : (q : ℕ) < 16 then H (ix2 ⟨q, h⟩ ⟨128 * a + l, by omega⟩) else M (ix2 ⟨q - 16, by omega⟩ ⟨128 * a + l, by omega⟩)

/-- A slab's columns of the halo, as stored. -/
theorem haloLay_at (a : ℕ) (h : S16x1024.Slices ![0, 128 * (a % 8)] S16x128) (r : Fin 16) (l : Fin 128) :
    shapeCast S1x16x128 (extractStridedSlice S16x128 ![0, 128 * (a % 8)] H h) shapeCasts_S16x128_S1x16x128 (ix3 0 r l)
      = H (ix2 r ⟨128 * (a % 8) + l, by omega⟩) := by
  pointwise []

/-- A slab's columns of the block, as stored. -/
theorem mainLay_at (a : ℕ) (h : S256x1024.Slices ![0, 128 * (a % 8)] S256x128) (r : Fin 256) (l : Fin 128) :
    shapeCast S1x256x128 (extractStridedSlice S256x128 ![0, 128 * (a % 8)] M h) shapeCasts_S256x128_S1x256x128 (ix3 0 r l)
      = M (ix2 r ⟨128 * (a % 8) + l, by omega⟩) := by
  pointwise []

/-- Each of the halo's stores holds the buffer's values where it stores them. -/
theorem halo_ok (a : ℕ) (x : (haloPiece H a).1.shape.Idx) :
    (haloPiece H a).2 x = extV H M ((haloPiece H a).1.emb x 0) ((haloPiece H a).1.emb x 1) ((haloPiece H a).1.emb x 2) := by
  obtain ⟨z, r, l, rfl⟩ : ∃ (z : Fin 1) (r : Fin 16) (l : Fin 128), x = ix3 z r l := ⟨x 0, x 1, x 2, eq_ix3 x⟩
  have e0 : (haloPiece H a).1.emb (ix3 z r l) 0 = (⟨a % 8, by omega⟩ : Fin 8) := Fin.ext (by
    show a % 8 + 1 * z.val = a % 8; omega)
  have e1 : (haloPiece H a).1.emb (ix3 z r l) 1 = (⟨r, by omega⟩ : Fin 272) := Fin.ext (by
    show 0 + 1 * r.val = r; omega)
  have e2 : (haloPiece H a).1.emb (ix3 z r l) 2 = (l : Fin 128) := Fin.ext (by
    show 0 + 1 * l.val = l; omega)
  rw [e0, e1, e2, extV, dif_pos (show (r : ℕ) < 16 from r.isLt)]
  obtain rfl : z = 0 := Subsingleton.elim _ _
  exact haloLay_at H a (haloSlices a) r l

/-- So does each of the block's own. -/
theorem main_ok (a : ℕ) (x : (mainPiece M a).1.shape.Idx) :
    (mainPiece M a).2 x = extV H M ((mainPiece M a).1.emb x 0) ((mainPiece M a).1.emb x 1) ((mainPiece M a).1.emb x 2) := by
  obtain ⟨z, r, l, rfl⟩ : ∃ (z : Fin 1) (r : Fin 256) (l : Fin 128), x = ix3 z r l := ⟨x 0, x 1, x 2, eq_ix3 x⟩
  have e0 : (mainPiece M a).1.emb (ix3 z r l) 0 = (⟨a % 8, by omega⟩ : Fin 8) := Fin.ext (by
    show a % 8 + 1 * z.val = a % 8; omega)
  have e1 : (mainPiece M a).1.emb (ix3 z r l) 1 = (⟨16 + r, by omega⟩ : Fin 272) := Fin.ext (by
    show 16 + 1 * r.val = 16 + r; omega)
  have e2 : (mainPiece M a).1.emb (ix3 z r l) 2 = (l : Fin 128) := Fin.ext (by
    show 0 + 1 * l.val = l; omega)
  rw [e0, e1, e2, extV, dif_neg (show ¬ 16 + (r : ℕ) < 16 by omega)]
  obtain rfl : z = 0 := Subsingleton.elim _ _
  have e : (⟨16 + (r : ℕ) - 16, by omega⟩ : Fin 256) = r := Fin.ext (by dsimp only; omega)
  simp only [e]
  exact mainLay_at M a (mainSlices a) r l

/-- The first scratch buffer's values, by index. -/
def extG (y : S8x272x128.Idx) : Elt Ideal .f32 := extV H M (y 0) (y 1) (y 2)

/-- Each of the first scratch buffer's stores holds the buffer's values where it stores them. -/
theorem ext_ok (n : ℕ) : ∀ x, (extPiece H M n).2 x = extG H M ((extPiece H M n).1.emb x) := by
  rcases Nat.mod_two_eq_zero_or_one n with h | h
  · rw [show extPiece H M n = haloPiece H (n / 2) from if_pos h]
    exact halo_ok H M _
  · rw [show extPiece H M n = mainPiece M (n / 2) from if_neg (by omega)]
    exact main_ok H M _

/-- The first scratch buffer, read after its stores. -/
theorem ext_canon (y : S8x272x128.Idx) : View.canon (stores (extPiece H M) 16) y = extG H M y := by
  have h0 : (y 0 : ℕ) < 8 := (y 0).isLt
  have h1 : (y 1 : ℕ) < 272 := (y 1).isLt
  have h2 : (y 2 : ℕ) < 128 := (y 2).isLt
  by_cases h : (y 1 : ℕ) < 16
  · refine canon_stores _ 16 (extG H M) (ext_ok H M) y (2 * (y 0 : ℕ)) (by omega) ?_
    rw [extPiece, if_pos (by omega)]
    refine (Rect.mem_set_unit (inb := haloIn _)).mpr fun i => ?_
    fin_cases i
    · show 2 * (y 0 : ℕ) / 2 % 8 ≤ (y 0 : ℕ) ∧ (y 0 : ℕ) < 2 * (y 0 : ℕ) / 2 % 8 + 1; omega
    · show 0 ≤ (y 1 : ℕ) ∧ (y 1 : ℕ) < 0 + 16; omega
    · show 0 ≤ (y 2 : ℕ) ∧ (y 2 : ℕ) < 0 + 128; omega
  · refine canon_stores _ 16 (extG H M) (ext_ok H M) y (2 * (y 0 : ℕ) + 1) (by omega) ?_
    rw [extPiece, if_neg (by omega)]
    refine (Rect.mem_set_unit (inb := mainIn _)).mpr fun i => ?_
    fin_cases i
    · show (2 * (y 0 : ℕ) + 1) / 2 % 8 ≤ (y 0 : ℕ) ∧ (y 0 : ℕ) < (2 * (y 0 : ℕ) + 1) / 2 % 8 + 1; omega
    · show 16 ≤ (y 1 : ℕ) ∧ (y 1 : ℕ) < 16 + 256; omega
    · show 0 ≤ (y 2 : ℕ) ∧ (y 2 : ℕ) < 0 + 128; omega

/-- The rows a tap reads. -/
theorem tapRows_at (n j : ℕ) (hj : j < 4) (y : Fin 8) (l : Fin 128) :
    tapRows (stores (extPiece H M) 16) n j hj (ix3 0 y l)
      = extV H M ⟨n / 32 % 8, by omega⟩ ⟨13 + (row0 n + 4 * y) + j, by unfold row0; omega⟩ l := by
  unfold tapRows
  rw [View.readCov_eq_canon']
  dsimp only
  rw [ext_canon, extG]
  refine congr (congr (congrArg (extV H M) (Fin.ext ?_)) (Fin.ext ?_)) (Fin.ext ?_)
  · show n / 32 % 8 + 1 * 0 = n / 32 % 8; omega
  · show 13 + row0 n + j + 4 * (y : ℕ) = 13 + (row0 n + 4 * y) + j; omega
  · show 0 + 1 * (l : ℕ) = l; omega

/-- A tap's weights. -/
theorem tapWeights_at (a j : ℕ) (hj : j < 4) (y : Fin 8) (l : Fin 128) :
    tapWeights C a j hj (ix2 y l) = C (ix2 ⟨j, hj⟩ ⟨128 * (a % 8) + l, by omega⟩) := by
  unfold tapWeights
  pointwise []

/-- The second scratch buffer: the convolved and gated rows of the block. -/
def actV (a : Fin 8) (r : Fin 256) (l : Fin 128) : EReal :=
  silu (conv4 (fun i => C (ix2 i ⟨128 * a + l, by omega⟩)) fun i => extV H M a ⟨13 + r + i, by omega⟩ l)

/-- The four taps' sum. -/
theorem tapSum_at (n : ℕ) (y : Fin 8) (l : Fin 128) :
    tapSum C (stores (extPiece H M) 16) n (ix2 y l)
      = conv4 (fun i => C (ix2 i ⟨128 * (n / 32 % 8) + l, by omega⟩))
          fun i => extV H M ⟨n / 32 % 8, by omega⟩ ⟨13 + (row0 n + 4 * y) + i, by unfold row0; omega⟩ l := by
  unfold tapSum tapMul
  pointwise [tapWeights_at, tapRows_at, conv4]

/-- The gated linear unit of eight rows, at a row. -/
theorem siluRows_at (z : FVec Ideal S8x128 .f32) (y : Fin 8) (l : Fin 128) : siluRows z (ix3 0 y l) = silu (z (ix2 y l)) := by
  unfold siluRows
  pointwise [silu, logi]
  simp only [zero_sub]

/-- Each of the second scratch buffer's stores holds the buffer's values where it stores them. -/
theorem act_ok (n : ℕ) (x : (actPiece C (stores (extPiece H M) 16) n).1.shape.Idx) :
    (actPiece C (stores (extPiece H M) 16) n).2 x
      = actV H M C ((actPiece C (stores (extPiece H M) 16) n).1.emb x 0) ((actPiece C (stores (extPiece H M) 16) n).1.emb x 1)
          ((actPiece C (stores (extPiece H M) 16) n).1.emb x 2) := by
  obtain ⟨z, y, l, rfl⟩ : ∃ (z : Fin 1) (y : Fin 8) (l : Fin 128), x = ix3 z y l := ⟨x 0, x 1, x 2, eq_ix3 x⟩
  have e0 : (actPiece C (stores (extPiece H M) 16) n).1.emb (ix3 z y l) 0 = (⟨n / 32 % 8, by omega⟩ : Fin 8) := Fin.ext (by
    show n / 32 % 8 + 1 * z.val = n / 32 % 8; omega)
  have e1 : (actPiece C (stores (extPiece H M) 16) n).1.emb (ix3 z y l) 1 = (⟨row0 n + 4 * y, by unfold row0; omega⟩ : Fin 256) := Fin.ext (by
    show row0 n + 4 * y.val = row0 n + 4 * y; rfl)
  have e2 : (actPiece C (stores (extPiece H M) 16) n).1.emb (ix3 z y l) 2 = (l : Fin 128) := Fin.ext (by
    show 0 + 1 * l.val = l; omega)
  rw [e0, e1, e2]
  obtain rfl : z = 0 := Subsingleton.elim _ _
  show siluRows (tapSum C (stores (extPiece H M) 16) n) (ix3 0 y l) = _
  rw [siluRows_at, tapSum_at, actV]

/-- The second scratch buffer's values, by index. -/
def actG (y : S8x256x128.Idx) : Elt Ideal .f32 := actV H M C (y 0) (y 1) (y 2)

/-- The second scratch buffer, read after its stores. -/
theorem act_canon (y : S8x256x128.Idx) :
    View.canon (stores (actPiece C (stores (extPiece H M) 16)) 256) y = actG H M C y := by
  have h0 : (y 0 : ℕ) < 8 := (y 0).isLt
  have h1 : (y 1 : ℕ) < 256 := (y 1).isLt
  have h2 : (y 2 : ℕ) < 128 := (y 2).isLt
  refine canon_stores (actPiece C (stores (extPiece H M) 16)) 256 (actG H M C) (act_ok H M C) y
    (32 * (y 0 : ℕ) + (y 1 : ℕ) / 32 * 4 + (y 1 : ℕ) % 4) (by omega) ?_
  refine (LoadRect.mem_set _).mpr fun i => ?_
  fin_cases i
  · refine ⟨0, (by decide : 0 < 1), ?_⟩
    show (y 0 : ℕ) = (32 * (y 0 : ℕ) + (y 1 : ℕ) / 32 * 4 + (y 1 : ℕ) % 4) / 32 % 8 + 1 * 0
    have hv : (y 1 : ℕ) / 32 * 4 + (y 1 : ℕ) % 4 < 32 := by omega
    rw [Nat.add_assoc]
    generalize (y 1 : ℕ) / 32 * 4 + (y 1 : ℕ) % 4 = v at hv ⊢
    omega
  · refine ⟨(y 1 : ℕ) % 32 / 4, (by omega : (y 1 : ℕ) % 32 / 4 < 8), ?_⟩
    show (y 1 : ℕ) = row0 (32 * (y 0 : ℕ) + (y 1 : ℕ) / 32 * 4 + (y 1 : ℕ) % 4) + 4 * ((y 1 : ℕ) % 32 / 4)
    unfold row0; omega
  · refine ⟨(y 2 : ℕ), h2, ?_⟩
    show (y 2 : ℕ) = 0 + 1 * (y 2 : ℕ); omega

/-- A slab of it. -/
theorem slab_at (a : ℕ) (ha : a < 8) (r : Fin 256) (l : Fin 128) :
    slab (stores (actPiece C (stores (extPiece H M) 16)) 256) a ha (ix3 0 r l) = actV H M C ⟨a, ha⟩ r l := by
  unfold slab
  rw [View.readCov_eq_canon']
  dsimp only
  rw [act_canon, actG]
  refine congr (congr (congrArg (actV H M C) (Fin.ext ?_)) (Fin.ext ?_)) (Fin.ext ?_)
  · show a + 1 * 0 = a; omega
  · show 0 + 1 * (r : ℕ) = r; omega
  · show 0 + 1 * (l : ℕ) = l; omega

end Values

variable (m : (ℓ : Loc nD τ sig) → Buf (Elt Ideal) ℓ) (c : Dev nD) (t : Fin cfg0.N)

/-- The columns of the block's rows. -/
theorem mainCols_at (ht : t.val < 64) (r : Fin 256) (k : Fin 1024) :
    mainCols m c t (ix2 r k) = (kerArgs m c).P ⟨t.val / 16, by omega⟩ ⟨t.val % 16 * 256 + r, by omega⟩ ⟨1536 + k, by omega⟩ := by
  refine (pay23_at _ _ _ r k).trans ?_
  exact prj_blk m c t ht r _ _ fun j => ld2_at m c t ht j k

/-- The columns of the rows before the block: zero in a sequence's first block. -/
theorem haloCols_at (ht : t.val < 64) (r : Fin 16) (k : Fin 1024) :
    haloCols m c t (ix2 r k) = if h : t.val % 16 = 0 then 0
      else (kerArgs m c).P ⟨t.val / 16, by omega⟩ ⟨t.val % 16 * 256 + r - 16, by omega⟩ ⟨1536 + k, by omega⟩ := by
  refine (pay24_at _ _ _ _ r k).trans ?_
  by_cases h : t.val % 16 = 0
  · rw [if_pos ((coord1 t).mpr h), dif_pos h]
  · rw [if_neg (fun e => h ((coord1 t).mp e)), dif_neg h]
    simp only [blk1 m c t ht h, blk4 m c t ht, ld2_at m c t ht]
    rfl

/-- What the taps read. -/
theorem ext_tap (ht : t.val < 64) (a : Fin 8) (r : Fin 256) (l : Fin 128) (i : Fin 4) :
    extV (haloCols m c t) (mainCols m c t) a ⟨13 + r + i, by omega⟩ l
      = (kerArgs m c).tap ⟨t.val / 16, by omega⟩ ⟨t.val % 16 * 256 + r, by omega⟩ ⟨128 * a + l, by omega⟩ i := by
  unfold extV Args.tap
  by_cases h : 13 + (r : ℕ) + i < 16
  · rw [dif_pos h, haloCols_at m c t ht]
    by_cases h' : t.val % 16 = 0
    · rw [dif_pos h', dif_neg (by dsimp only; omega)]
    · rw [dif_neg h', dif_pos (by dsimp only; omega)]
      congr 1
      exact Fin.ext (by dsimp only; omega)
  · rw [dif_neg h, mainCols_at m c t ht, dif_pos (by dsimp only; omega)]
    congr 1
    exact Fin.ext (by dsimp only; omega)

/-- The second scratch buffer's slabs. -/
theorem slab_act (ht : t.val < 64) (a : ℕ) (ha : a < 8) (r : Fin 256) (l : Fin 128) :
    slab (actL m c t) a ha (ix3 0 r l)
      = (kerArgs m c).act ⟨t.val / 16, by omega⟩ ⟨t.val % 16 * 256 + r, by omega⟩ ⟨128 * a + l, by omega⟩ := by
  unfold actL extL
  rw [slab_at, actV, Args.act]
  simp only [ext_tap m c t ht]
  refine congrArg (fun f => silu (conv4 f _)) (funext fun i => ?_)
  rw [← blk6 m c t ht]
  pointwise [k0_pay25]

/-- The recurrent branch's queries' block. -/
theorem o12_at (ht : t.val < 64) (r : Fin 256) (k : Fin 512) :
    (outsAt0 m c t).2.2.2.2.1 (ix3 0 r k)
      = (kerArgs m c).act ⟨t.val / 16, by omega⟩ ⟨t.val % 16 * 256 + r, by omega⟩ ⟨k, by omega⟩ * Ideal.ofBits .f32 0x3DB504F3#32 := by
  rw [o12_eq]
  pointwise [k0_pay1147, k0_pay1144, slab_act m c t ht]
  refine congrArg (fun z : EReal => z * Ideal.ofBits .f32 0x3DB504F3#32) ?_
  split
  · exact congrArg ((kerArgs m c).act _ _) (Fin.ext (by first | rfl | (dsimp only; omega)))
  · split
    · exact congrArg ((kerArgs m c).act _ _) (Fin.ext (by first | rfl | (dsimp only; omega)))
    · split
      · exact congrArg ((kerArgs m c).act _ _) (Fin.ext (by first | rfl | (dsimp only; omega)))
      · exact congrArg ((kerArgs m c).act _ _) (Fin.ext (by first | rfl | (dsimp only; omega)))

/-- The recurrent branch's keys' block. -/
theorem o13_at (ht : t.val < 64) (k : Fin 512) (r : Fin 256) :
    (outsAt0 m c t).2.2.2.2.2.1 (ix4 0 0 k r)
      = (kerArgs m c).act ⟨t.val / 16, by omega⟩ ⟨t.val % 16 * 256 + r, by omega⟩ ⟨512 + k, by omega⟩ := by
  rw [o13_eq]
  pointwise [k0_pay1148, k0_pay1145, k0_pay1146, slab_act m c t ht]
  split
  · exact congrArg ((kerArgs m c).act _ _) (Fin.ext (by first | rfl | (dsimp only; omega)))
  · split
    · exact congrArg ((kerArgs m c).act _ _) (Fin.ext (by first | rfl | (dsimp only; omega)))
    · split
      · exact congrArg ((kerArgs m c).act _ _) (Fin.ext (by first | rfl | (dsimp only; omega)))
      · exact congrArg ((kerArgs m c).act _ _) (Fin.ext (by first | rfl | (dsimp only; omega)))

end Cert.Inp

end
-- ==== Proof.InRef.lean ====
/- The input projection's reference at an index. -/
module

public import proofs.«01_k».proof.Proof.Gen.Reference3Ideal.Run
public import proofs.«01_k».proof.Proof.InSpec
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Inp

open Cert.Mix (rms logi)
open Cert.Reference3Ideal Cert.Reference3Ideal.Gen Cert.Reference3Ideal.Value Idealize.ShloMosaic.StableHlo

/-- Integer zero, converted, is zero. -/
theorem sitofp_zero : (FloatOps.sitofp (F := Ideal) FTy.f32 0#32 : EReal) = 0 := by
  show (((0#32 : BitVec 32).toInt : ℝ) : EReal) = 0
  simp

/-- The logarithm of the logistic function as the reference spells it: minus the softplus of the negated argument. -/
theorem lsig_eq (z : EReal) :
    (-if -z ≠ -z then -z else max (-z) 0 + Ideal.log1p (Ideal.exp (-(FloatOps.absf (F := Ideal) (φ := .f32) (-z) : EReal)))) = lsig z := by
  have h0 : Ideal.log1p 0 = 0 := by
    show Ideal.log (1 + 0) = 0
    rw [add_zero]
    show (if (1 : ℝ) ≤ 0 then ⊥ else (Real.log 1 : EReal)) = 0
    rw [if_neg (by norm_num), Real.log_one]; rfl
  have habs (a : EReal) : (FloatOps.absf (F := Ideal) (φ := .f32) a : EReal) = max a (-a) := rfl
  have hb : Ideal.exp (⊥ : EReal) = 0 := rfl
  rw [if_neg (by simp), lsig, habs, habs]
  induction z using EReal.rec with
  | bot => simp [hb, h0]
  | top => simp [hb, h0]
  | coe z =>
    have hE (a : ℝ) : ∃ r : ℝ, Ideal.log1p (Ideal.exp (a : EReal)) = r := by
      refine ⟨Real.log (1 + Real.exp a), ?_⟩
      show Ideal.log (1 + ((Real.exp a : ℝ) : EReal)) = _
      rw [← EReal.coe_one, ← EReal.coe_add]
      show (if 1 + Real.exp a ≤ 0 then ⊥ else (Real.log (1 + Real.exp a) : EReal)) = _
      rw [if_neg (by have := Real.exp_pos a; linarith)]
    have e1 : (-(max (-(z : EReal)) (- -(z : EReal))) : EReal) = ((-(max z (-z)) : ℝ) : EReal) := by
      rw [neg_neg, max_comm]; norm_cast
    have e2 : (-(max (z : EReal) (-(z : EReal))) : EReal) = ((-(max z (-z)) : ℝ) : EReal) := by norm_cast
    rw [e1, e2]
    obtain ⟨r, hr⟩ := hE (-(max z (-z)))
    rw [hr]
    rcases le_total z 0 with h | h
    · have h1 : (z : EReal) ≤ 0 := by exact_mod_cast h
      have h2 : (0 : EReal) ≤ -(z : EReal) := by exact_mod_cast (neg_nonneg.mpr h)
      rw [max_eq_left h2, min_eq_left h1]
      norm_cast; ring
    · have h1 : (0 : EReal) ≤ (z : EReal) := by exact_mod_cast h
      have h2 : -(z : EReal) ≤ 0 := by exact_mod_cast (neg_nonpos.mpr h)
      rw [max_eq_right h2, min_eq_right h1, zero_add, zero_sub]

variable (V0 : Valuation τ sig (Elt Ideal))

/-- The reference's arguments as plain functions. -/
def refArgs : Args where
  x b s j := V0 (Proc.devRef .tc main_arg0) (ix3 b s j)
  pos b s := V0 (Proc.devRef .tc main_arg1) (ix2 b s)
  g j := V0 (Proc.devRef .tc main_arg2) (ix2 0 j)
  w j c := V0 (Proc.devRef .tc main_arg3) (ix3 0 j c)
  cw i c := V0 (Proc.devRef .tc main_arg4) (ix3 0 i c)
  ib i := V0 (Proc.devRef .tc main_arg5) (ix2 0 i)
  fb i := V0 (Proc.devRef .tc main_arg6) (ix2 0 i)

/-- The projection. -/
theorem v15_at (b : Fin 4) (s : Fin 4096) (c : Fin 5640) :
    res_main_v15 V0 (ix3 b s c) = (refArgs V0).P b s c := by
  pointwise [res_main_v15, Args.P, prj, rms, refArgs]

/-- The angles, as the queries' rotation computes them. -/
theorem v38_at (b : Fin 4) (s : Fin 4096) (i : Fin 32) :
    res_main_v38 V0 (ix4 b 0 s i) = angle ((refArgs V0).pos b s) i := by
  pointwise [res_main_v38, angle, refArgs]

/-- The angles, as the keys' rotation computes them. -/
theorem v69_at (b : Fin 4) (s : Fin 4096) (i : Fin 32) :
    res_main_v69 V0 (ix4 b 0 s i) = angle ((refArgs V0).pos b s) i := by
  pointwise [res_main_v69, angle, refArgs]

/-- The queries by head. -/
theorem v26_at (b : Fin 4) (h : Fin 8) (s : Fin 4096) (i : Fin 64) :
    res_main_v26 V0 (ix4 b h s i) = (refArgs V0).P b s ⟨h * 64 + i, by omega⟩ := by
  pointwise [res_main_v26, v15_at]

/-- The keys by head. -/
theorem v57_at (b : Fin 4) (h : Fin 8) (s : Fin 4096) (i : Fin 64) :
    res_main_v57 V0 (ix4 b h s i) = (refArgs V0).P b s ⟨512 + (h * 64 + i), by omega⟩ := by
  pointwise [res_main_v57, v15_at]

/-- The rotated queries, heads side by side. -/
def qa : FVec Ideal S4x4096x512 .f32 :=
  shapeCast _ (transpose S4x4096x8x64 [0, 2, 1, 3] (concatenate S4x8x4096x64 3 [⟨S4x8x4096x32, (subf (F := Ideal) (φ := .f32) (mulf (F := Ideal) (φ := .f32) (res_main_v41 V0) (broadcastInDim S4x8x4096x32 ![0, 1, 2, 3] bcast_S4x1x4096x32_S4x8x4096x32_0_1_2_3 (res_main_v39 V0))) (mulf (F := Ideal) (φ := .f32) (res_main_v42 V0) (broadcastInDim S4x8x4096x32 ![0, 1, 2, 3] bcast_S4x1x4096x32_S4x8x4096x32_0_1_2_3 (res_main_v40 V0))))⟩, ⟨S4x8x4096x32, (addf (F := Ideal) (φ := .f32) (mulf (F := Ideal) (φ := .f32) (res_main_v42 V0) (broadcastInDim S4x8x4096x32 ![0, 1, 2, 3] bcast_S4x1x4096x32_S4x8x4096x32_0_1_2_3 (res_main_v39 V0))) (mulf (F := Ideal) (φ := .f32) (res_main_v41 V0) (broadcastInDim S4x8x4096x32 ![0, 1, 2, 3] bcast_S4x1x4096x32_S4x8x4096x32_0_1_2_3 (res_main_v40 V0))))⟩] concatenates_S4x8x4096x32_S4x8x4096x32_S4x8x4096x64_d3) transposes_S4x8x4096x64_S4x4096x8x64_0_2_1_3) shapeCasts_S4x4096x8x64_S4x4096x512

/-- The rotated queries at an index. -/
theorem qa_at (b : Fin 4) (s : Fin 4096) (k : Fin 512) :
    qa V0 (ix3 b s k) = (refArgs V0).R 0 (by omega) b s k := by
  pointwise [qa, res_main_v39, res_main_v40, res_main_v41, res_main_v42, v38_at, v26_at, Args.R, rot]
  blk_point []
  all_goals (apply Fin.ext; dsimp only; omega)

/-- The rotated keys at an index. -/
theorem v86_at (b : Fin 4) (s : Fin 4096) (k : Fin 512) :
    res_main_v86 V0 (ix3 b s k) = (refArgs V0).R 512 (by omega) b s k := by
  pointwise [res_main_v86, res_main_v70, res_main_v71, res_main_v72, res_main_v73, v69_at, v57_at, Args.R, rot]
  blk_point []
  all_goals (apply Fin.ext; dsimp only; omega)

/-- The padded columns of the recurrent branch's queries and keys. -/
theorem v93_at (b : Fin 4) (s : Fin 4096) (c : Fin 1024) (i : Fin 4) (t : Fin 4099) (ht : (t : ℕ) = i + s) :
    res_main_v93 V0 (ix3 b t c) = (refArgs V0).tap b s c i := by
  pointwise [res_main_v93, v15_at, Args.tap]
  have h1 := i.isLt
  have h2 := s.isLt
  by_cases h : 3 ≤ (s : ℕ) + i
  · rw [dif_pos h, dif_pos ⟨by omega, by omega⟩]
    split <;> (congr 1 <;> apply Fin.ext <;> dsimp only <;> omega)
  · rw [dif_neg h, dif_neg (by omega), sitofp_zero]

/-- The convolution, gated. -/
theorem v121_at (b : Fin 4) (s : Fin 4096) (c : Fin 1024) :
    res_main_v121 V0 (ix3 b s c) = (refArgs V0).act b s c := by
  have h (i : Fin 4) (t : Fin 4099) (ht : (t : ℕ) = i + s) := v93_at V0 b s c i t ht
  pointwise [res_main_v121, res_main_v120, res_main_v92, Args.act, silu, logi, conv4]
  rw [h 0 _ (by simp), h 1 _ rfl, h 2 _ rfl, h 3 _ rfl]
  rfl

/-- The forget gates' logarithms, from the negated gate `z`, the distance `d` and the constant zero. -/
def refLs (z d : FVec Ideal S4x4096x4 .f32) (o : FVec Ideal S_ .f32) : FVec Ideal S4x4096x4 .f32 :=
  Host.negf (select (cmpf .une d d) (addf z (broadcastInDim S4x4096x4 ![] bcast_S_S4x4096x4 o)) (addf (maximumf z (broadcastInDim S4x4096x4 ![] bcast_S_S4x4096x4 o)) (Host.log1p (Host.exp (Host.negf (Host.absf d))))))

/-- The forget gates' logarithms at an index. -/
theorem refLs_at (b : Fin 4) (s : Fin 4096) (c : Fin 4) :
    refLs (res_main_call2_v0 V0) (res_main_call2_call0_v3 V0) (res_main_call2_call0_cst V0) (ix3 b s c)
      = lsig ((refArgs V0).P b s ⟨3588 + c, by omega⟩ + (refArgs V0).fb c) := by
  pointwise [refLs, res_main_call2_call0_v3, res_main_call2_v0, res_main_call2_call0_cst, v15_at]
  exact lsig_eq _

/-- The eight gate columns, from the forget gates' logarithms `f`. -/
def refGate (p : FVec Ideal S4x4096x5640 .f32) (ib : FVec Ideal S1x4 .f32) (f : FVec Ideal S4x4096x4 .f32) : FVec Ideal S4x4096x8 .f32 :=
  concatenate S4x4096x8 2 [⟨S4x4096x4, (addf (extractStridedSlice S4x4096x4 ![0, 0, 3584] p slices_S4x4096x5640_S4x4096x4_0_0_3584) (broadcastInDim S4x4096x4 ![0, 1, 2] bcast_S1x1x4_S4x4096x4_0_1_2 (broadcastInDim S1x1x4 ![2] bcast_S4_S1x1x4_2 (shapeCast _ ib shapeCasts_S1x4_S4))))⟩, ⟨S4x4096x4, f⟩] concatenates_S4x4096x4_S4x4096x4_S4x4096x8_d2

/-- The gate columns of the reference's run. -/
abbrev gates : FVec Ideal S4x4096x8 .f32 :=
  refGate (res_main_v15 V0) (V0 (Proc.devRef .tc main_arg5)) (refLs (res_main_call2_v0 V0) (res_main_call2_call0_v3 V0) (res_main_call2_call0_cst V0))

/-- The gate columns at an index. -/
theorem gates_at (b : Fin 4) (s : Fin 4096) (c : Fin 8) : gates V0 (ix3 b s c) = (refArgs V0).gate b s c := by
  pointwise [refGate, refLs_at, v15_at, Args.gate]
  split
  · rfl
  · congr 2
    congr 1
    apply Fin.ext; dsimp only; omega

end Cert.Inp

end
-- ==== Proof.InRefOut.lean ====
/- The ten results of the projection's reference at their indices. -/
module

public import proofs.«01_k».proof.Proof.InRef

@[expose] public section

set_option maxRecDepth 16384

noncomputable section

open Idealize.ShloMosaic Idealize.ShloMosaic.TcCoe Idealize.SL.Sem

namespace Cert.Inp

open Cert.Reference3Ideal Cert.Reference3Ideal.Gen Cert.Reference3Ideal.Value StableHlo

/-! ## Rows of the sequence laid out by block -/

section Layout

variable (p : FVec Ideal S4x4096x5640 .f32) (x : FVec Ideal S4x4096x512 .f32) (a : FVec Ideal S4x4096x1024 .f32)

/-- Scaled rows, transposed by block. -/
def layQT : FVec Ideal S4x16x512x256 .bf16 :=
  truncf .bf16 (transpose S4x16x512x256 [0, 1, 3, 2] (shapeCast _ (mulf x (broadcastInDim S4x4096x512 ![] bcast_S_S4x4096x512 (constant S_ .f32 0x3E38AA3B#32))) shapeCasts_S4x4096x512_S4x16x256x512) transposes_S4x16x256x512_S4x16x512x256_0_1_3_2) bitsLt_bf16_f32

/-- Scaled rows, transposed by block, at an index. -/
theorem layQT_at (b : Fin 4) (n : Fin 16) (k : Fin 512) (r : Fin 256) :
    layQT x (ix4 b n k r) = x (ix3 b ⟨n * 256 + r, by omega⟩ k) * Ideal.ofBits .f32 0x3E38AA3B#32 := by
  pointwise [layQT]

/-- Rows by block. -/
def layK : FVec Ideal S4x16x256x512 .bf16 := truncf .bf16 (shapeCast _ x shapeCasts_S4x4096x512_S4x16x256x512) bitsLt_bf16_f32

/-- Rows by block at an index. -/
theorem layK_at (b : Fin 4) (n : Fin 16) (r : Fin 256) (k : Fin 512) :
    layK x (ix4 b n r k) = x (ix3 b ⟨n * 256 + r, by omega⟩ k) := by
  pointwise [layK]

/-- The blocks' means by batch. -/
def layMean : FVec Ideal S4x16x512 .f32 :=
  Host.divf (Host.reduceAdd (F := Ideal) (φ := .f32) (shapeCast _ x shapeCasts_S4x4096x512_S4x16x256x512) (constant S_ .f32 0x00000000#32) reducesTo_S4x16x256x512_S4x16x512_d2 h_S_) (broadcastInDim S4x16x512 ![] bcast_S_S4x16x512 (constant S_ .f32 0x43800000#32))

/-- The blocks' means by batch at an index. -/
theorem layMean_at (b : Fin 4) (n : Fin 16) (k : Fin 512) :
    layMean x (ix3 b n k) = Ideal.div (∑ r : Fin 256, x (ix3 b ⟨n * 256 + r, by omega⟩ k)) (Ideal.ofBits .f32 0x43800000#32) := by
  pointwise [layMean]

/-- The blocks' means, block after block. -/
def layKm (y : FVec Ideal S4x16x512 .f32) : FVec Ideal S64x1x512 .f32 := shapeCast _ y shapeCasts_S4x16x512_S64x1x512

/-- The blocks' means, block after block, at an index. -/
theorem layKm_at (y : FVec Ideal S4x16x512 .f32) (t : Fin 64) (k : Fin 512) : layKm y (ix3 t 0 k) = y (ix3 ⟨t / 16, by omega⟩ ⟨t % 16, by omega⟩ k) := by
  pointwise [layKm]

/-- The values' columns, transposed by block. -/
def layVT : FVec Ideal S4x16x512x256 .bf16 :=
  truncf .bf16 (transpose S4x16x512x256 [0, 1, 3, 2] (shapeCast _ (extractStridedSlice S4x4096x512 ![0, 0, 1024] p slices_S4x4096x5640_S4x4096x512_0_0_1024) shapeCasts_S4x4096x512_S4x16x256x512) transposes_S4x16x256x512_S4x16x512x256_0_1_3_2) bitsLt_bf16_f32

/-- The values' columns, transposed by block, at an index. -/
theorem layVT_at (b : Fin 4) (n : Fin 16) (k : Fin 512) (r : Fin 256) :
    layVT p (ix4 b n k r) = p (ix3 b ⟨n * 256 + r, by omega⟩ ⟨1024 + k, by omega⟩) := by
  pointwise [layVT]

/-- The activated first half's columns, scaled. -/
def layQm : FVec Ideal S4x4096x512 .bf16 :=
  truncf .bf16 (mulf (extractStridedSlice S4x4096x512 ![0, 0, 0] a slices_S4x4096x1024_S4x4096x512_0_0_0) (broadcastInDim S4x4096x512 ![] bcast_S_S4x4096x512 (constant S_ .f32 0x3DB504F3#32))) bitsLt_bf16_f32

/-- The activated first half's columns, scaled, at an index. -/
theorem layQm_at (b : Fin 4) (s : Fin 4096) (k : Fin 512) :
    layQm a (ix3 b s k) = a (ix3 b s ⟨k, by omega⟩) * Ideal.ofBits .f32 0x3DB504F3#32 := by
  pointwise [layQm]

/-- The activated second half's columns, transposed by block. -/
def layKmT : FVec Ideal S4x16x512x256 .bf16 :=
  truncf .bf16 (transpose S4x16x512x256 [0, 1, 3, 2] (shapeCast _ (extractStridedSlice S4x4096x512 ![0, 0, 512] a slices_S4x4096x1024_S4x4096x512_0_0_512) shapeCasts_S4x4096x512_S4x16x256x512) transposes_S4x16x256x512_S4x16x512x256_0_1_3_2) bitsLt_bf16_f32

/-- The activated second half's columns, transposed by block, at an index. -/
theorem layKmT_at (b : Fin 4) (n : Fin 16) (k : Fin 512) (r : Fin 256) :
    layKmT a (ix4 b n k r) = a (ix3 b ⟨n * 256 + r, by omega⟩ ⟨512 + k, by omega⟩) := by
  pointwise [layKmT]

/-- The recurrent branch's values' columns. -/
def layVm : FVec Ideal S4x4096x512 .bf16 :=
  truncf .bf16 (extractStridedSlice S4x4096x512 ![0, 0, 2560] p slices_S4x4096x5640_S4x4096x512_0_0_2560) bitsLt_bf16_f32

/-- The recurrent branch's values' columns at an index. -/
theorem layVm_at (b : Fin 4) (s : Fin 4096) (k : Fin 512) : layVm p (ix3 b s k) = p (ix3 b s ⟨2560 + k, by omega⟩) := by
  pointwise [layVm]

/-- The output gate's columns. -/
def layOm : FVec Ideal S4x4096x512 .f32 :=
  extractStridedSlice S4x4096x512 ![0, 0, 3072] p slices_S4x4096x5640_S4x4096x512_0_0_3072

/-- The output gate's columns at an index. -/
theorem layOm_at (b : Fin 4) (s : Fin 4096) (k : Fin 512) : layOm p (ix3 b s k) = p (ix3 b s ⟨3072 + k, by omega⟩) := by
  pointwise [layOm]

/-- The gate columns, transposed. -/
def layGT (g : FVec Ideal S4x4096x8 .f32) : FVec Ideal S4x8x4096 .f32 := transpose S4x8x4096 [0, 2, 1] g transposes_S4x4096x8_S4x8x4096_0_2_1

/-- The gate columns, transposed, at an index. -/
theorem layGT_at (g : FVec Ideal S4x4096x8 .f32) (b : Fin 4) (c : Fin 8) (s : Fin 4096) : layGT g (ix3 b c s) = g (ix3 b s c) := by
  pointwise [layGT]

end Layout

/-! ## The reference's ten results -/

variable (V0 : Valuation τ sig (Elt Ideal))

/-- The scaled rotated queries at an index. -/
theorem refQT_at (b : Fin 4) (n : Fin 16) (k : Fin 512) (r : Fin 256) :
    layQT (qa V0) (ix4 b n k r) = (refArgs V0).R 0 (by omega) b ⟨n * 256 + r, by omega⟩ k * Ideal.ofBits .f32 0x3E38AA3B#32 := by
  rw [layQT_at, qa_at]

/-- The rotated keys at an index. -/
theorem refK_at (b : Fin 4) (n : Fin 16) (r : Fin 256) (k : Fin 512) :
    layK (res_main_v86 V0) (ix4 b n r k) = (refArgs V0).R 512 (by omega) b ⟨n * 256 + r, by omega⟩ k := by
  rw [layK_at, v86_at]

/-- The keys' block means at an index. -/
theorem refKm_at (t : Fin 64) (k : Fin 512) :
    layKm (layMean (res_main_v86 V0)) (ix3 t 0 k) =
      Ideal.div (∑ r : Fin 256, (refArgs V0).R 512 (by omega) ⟨t / 16, by omega⟩ ⟨t % 16 * 256 + r, by omega⟩ k) (Ideal.ofBits .f32 0x43800000#32) := by
  rw [layKm_at, layMean_at]
  simp only [v86_at]

/-- The values at an index. -/
theorem refVT_at (b : Fin 4) (n : Fin 16) (k : Fin 512) (r : Fin 256) :
    layVT (res_main_v15 V0) (ix4 b n k r) = (refArgs V0).P b ⟨n * 256 + r, by omega⟩ ⟨1024 + k, by omega⟩ := by
  rw [layVT_at, v15_at]

/-- The recurrent branch's scaled queries at an index. -/
theorem refQm_at (b : Fin 4) (s : Fin 4096) (k : Fin 512) :
    layQm (res_main_v121 V0) (ix3 b s k) = (refArgs V0).act b s ⟨k, by omega⟩ * Ideal.ofBits .f32 0x3DB504F3#32 := by
  rw [layQm_at, v121_at]

/-- The recurrent branch's keys at an index. -/
theorem refKmT_at (b : Fin 4) (n : Fin 16) (k : Fin 512) (r : Fin 256) :
    layKmT (res_main_v121 V0) (ix4 b n k r) = (refArgs V0).act b ⟨n * 256 + r, by omega⟩ ⟨512 + k, by omega⟩ := by
  rw [layKmT_at, v121_at]

/-- The recurrent branch's values at an index. -/
theorem refVm_at (b : Fin 4) (s : Fin 4096) (k : Fin 512) : layVm (res_main_v15 V0) (ix3 b s k) = (refArgs V0).P b s ⟨2560 + k, by omega⟩ := by
  rw [layVm_at, v15_at]

/-- The recurrent branch's output gate at an index. -/
theorem refOm_at (b : Fin 4) (s : Fin 4096) (k : Fin 512) : layOm (res_main_v15 V0) (ix3 b s k) = (refArgs V0).P b s ⟨3072 + k, by omega⟩ := by
  rw [layOm_at, v15_at]

/-- The transposed gate columns at an index. -/
theorem refGT_at (b : Fin 4) (c : Fin 8) (s : Fin 4096) : layGT (gates V0) (ix3 b c s) = (refArgs V0).gate b s c := by
  rw [layGT_at, gates_at]

end Cert.Inp

end
-- ==== Proof.In.lean ====
/- The projection: each of the kernel's ten result arrays is the reference's term over the same arguments. -/
module

public import proofs.«01_k».proof.Proof.InConv
public import proofs.«01_k».proof.Proof.InRefOut
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Inp

open Cert.Kernel3Ideal Cert.Kernel3Ideal.Gen
open StableHlo
open Cert.Reference3Ideal.Value (res_main_v15 res_main_v86 res_main_v121)

/-- The two memories hold the same seven arguments. -/
abbrev Agree (m : (ℓ : Loc nD τ sig) → Buf (Elt Ideal) ℓ)
    (m' : (ℓ : Loc Cert.Reference3Ideal.nD Cert.Reference3Ideal.τ Cert.Reference3Ideal.sig) → Buf (Elt Ideal) ℓ) (c : Dev nD) : Prop :=
  m' ((c.tc : Thread Cert.Reference3Ideal.nD Cert.Reference3Ideal.τ).loc Cert.Reference3Ideal.main_arg0) = m ((c.tc : Thread nD τ).loc main_arg0)
  ∧ m' ((c.tc : Thread Cert.Reference3Ideal.nD Cert.Reference3Ideal.τ).loc Cert.Reference3Ideal.main_arg1) = m ((c.tc : Thread nD τ).loc main_arg1)
  ∧ m' ((c.tc : Thread Cert.Reference3Ideal.nD Cert.Reference3Ideal.τ).loc Cert.Reference3Ideal.main_arg2) = m ((c.tc : Thread nD τ).loc main_arg2)
  ∧ m' ((c.tc : Thread Cert.Reference3Ideal.nD Cert.Reference3Ideal.τ).loc Cert.Reference3Ideal.main_arg3) = m ((c.tc : Thread nD τ).loc main_arg3)
  ∧ m' ((c.tc : Thread Cert.Reference3Ideal.nD Cert.Reference3Ideal.τ).loc Cert.Reference3Ideal.main_arg4) = m ((c.tc : Thread nD τ).loc main_arg4)
  ∧ m' ((c.tc : Thread Cert.Reference3Ideal.nD Cert.Reference3Ideal.τ).loc Cert.Reference3Ideal.main_arg5) = m ((c.tc : Thread nD τ).loc main_arg5)
  ∧ m' ((c.tc : Thread Cert.Reference3Ideal.nD Cert.Reference3Ideal.τ).loc Cert.Reference3Ideal.main_arg6) = m ((c.tc : Thread nD τ).loc main_arg6)

variable (m : (ℓ : Loc nD τ sig) → Buf (Elt Ideal) ℓ) (c : Dev nD)
  (m' : (ℓ : Loc Cert.Reference3Ideal.nD Cert.Reference3Ideal.τ Cert.Reference3Ideal.sig) → Buf (Elt Ideal) ℓ)

/-- What the reference starts from on a device. -/
abbrev V' : Valuation Cert.Reference3Ideal.τ Cert.Reference3Ideal.sig (Elt Ideal) := launchContents m' c

/-- From equal arguments the two sides' plain functions are the same. -/
theorem args_eq (h : Agree m m' c) : kerArgs m c = refArgs (V' c m') := by
  obtain ⟨h0, h1, h2, h3, h4, h5, h6⟩ := h
  unfold kerArgs refArgs
  rw [← h0, ← h1, ← h2, ← h3, ← h4, ← h5, ← h6]

/-- After the run the kernel's array of the scaled, rotated queries is the reference's. -/
theorem final8 (h : Agree m m' c) : (dats m 0 c).arrAt 8 (cfgs 0).N = layQT (qa (V' c m')) := by
  refine (dats m 0 c).arrAt_eq_of_covers 8 _ (by decide +kernel) fun t _ y => ?_
  blk_simp
  rw [after0_8]
  have ht : t.val < 64 := t.isLt
  obtain ⟨z, w, k, r, rfl⟩ : ∃ (z w : Fin 1) (k : Fin 512) (r : Fin 256), y = ix4 z w k r := ⟨y 0, y 1, y 2, y 3, eq_ix4 y⟩
  obtain rfl : z = 0 := Subsingleton.elim _ _
  obtain rfl : w = 0 := Subsingleton.elim _ _
  refine (o8_at m c t ht k r).trans ?_
  rw [args_eq m c m' h]
  refine (refQT_at (V' c m') ⟨t.val / 16, by omega⟩ ⟨t.val % 16, by omega⟩ k r).symm.trans (congrArg _ ?_)
  blk_ext [idx t]

/-- After the run the kernel's array of the rotated keys is the reference's. -/
theorem final9 (h : Agree m m' c) : (dats m 0 c).arrAt 9 (cfgs 0).N = layK (res_main_v86 (V' c m')) := by
  refine (dats m 0 c).arrAt_eq_of_covers 9 _ (by decide +kernel) fun t _ y => ?_
  blk_simp
  rw [after0_9]
  have ht : t.val < 64 := t.isLt
  obtain ⟨z, w, r, k, rfl⟩ : ∃ (z w : Fin 1) (r : Fin 256) (k : Fin 512), y = ix4 z w r k := ⟨y 0, y 1, y 2, y 3, eq_ix4 y⟩
  obtain rfl : z = 0 := Subsingleton.elim _ _
  obtain rfl : w = 0 := Subsingleton.elim _ _
  refine (o9_at m c t ht r k).trans ?_
  rw [args_eq m c m' h]
  refine (refK_at (V' c m') ⟨t.val / 16, by omega⟩ ⟨t.val % 16, by omega⟩ r k).symm.trans (congrArg _ ?_)
  blk_ext [idx t]

/-- After the run the kernel's array of the values is the reference's. -/
theorem final11 (h : Agree m m' c) : (dats m 0 c).arrAt 11 (cfgs 0).N = layVT (res_main_v15 (V' c m')) := by
  refine (dats m 0 c).arrAt_eq_of_covers 11 _ (by decide +kernel) fun t _ y => ?_
  blk_simp
  rw [after0_11]
  have ht : t.val < 64 := t.isLt
  obtain ⟨z, w, k, r, rfl⟩ : ∃ (z w : Fin 1) (k : Fin 512) (r : Fin 256), y = ix4 z w k r := ⟨y 0, y 1, y 2, y 3, eq_ix4 y⟩
  obtain rfl : z = 0 := Subsingleton.elim _ _
  obtain rfl : w = 0 := Subsingleton.elim _ _
  refine (o11_at m c t ht k r).trans ?_
  rw [args_eq m c m' h]
  refine (refVT_at (V' c m') ⟨t.val / 16, by omega⟩ ⟨t.val % 16, by omega⟩ k r).symm.trans (congrArg _ ?_)
  blk_ext [idx t]

/-- After the run the kernel's array of the recurrent branch's keys is the reference's. -/
theorem final13 (h : Agree m m' c) : (dats m 0 c).arrAt 13 (cfgs 0).N = layKmT (res_main_v121 (V' c m')) := by
  refine (dats m 0 c).arrAt_eq_of_covers 13 _ (by decide +kernel) fun t _ y => ?_
  blk_simp
  rw [after0_13]
  have ht : t.val < 64 := t.isLt
  obtain ⟨z, w, k, r, rfl⟩ : ∃ (z w : Fin 1) (k : Fin 512) (r : Fin 256), y = ix4 z w k r := ⟨y 0, y 1, y 2, y 3, eq_ix4 y⟩
  obtain rfl : z = 0 := Subsingleton.elim _ _
  obtain rfl : w = 0 := Subsingleton.elim _ _
  refine (o13_at m c t ht k r).trans ?_
  rw [args_eq m c m' h]
  refine (refKmT_at (V' c m') ⟨t.val / 16, by omega⟩ ⟨t.val % 16, by omega⟩ k r).symm.trans (congrArg _ ?_)
  blk_ext [idx t]

/-- After the run the kernel's array of the recurrent branch's queries is the reference's. -/
theorem final12 (h : Agree m m' c) : (dats m 0 c).arrAt 12 (cfgs 0).N = layQm (res_main_v121 (V' c m')) := by
  refine (dats m 0 c).arrAt_eq_of_covers 12 _ (by decide +kernel) fun t _ y => ?_
  blk_simp
  rw [after0_12]
  have ht : t.val < 64 := t.isLt
  obtain ⟨z, r, k, rfl⟩ : ∃ (z : Fin 1) (r : Fin 256) (k : Fin 512), y = ix3 z r k := ⟨y 0, y 1, y 2, eq_ix3 y⟩
  obtain rfl : z = 0 := Subsingleton.elim _ _
  refine (o12_at m c t ht r k).trans ?_
  rw [args_eq m c m' h]
  refine (refQm_at (V' c m') ⟨t.val / 16, by omega⟩ ⟨t.val % 16 * 256 + r, by omega⟩ k).symm.trans (congrArg _ ?_)
  blk_ext [idx t]

/-- After the run the kernel's array of the recurrent branch's values is the reference's. -/
theorem final14 (h : Agree m m' c) : (dats m 0 c).arrAt 14 (cfgs 0).N = layVm (res_main_v15 (V' c m')) := by
  refine (dats m 0 c).arrAt_eq_of_covers 14 _ (by decide +kernel) fun t _ y => ?_
  blk_simp
  rw [after0_14]
  have ht : t.val < 64 := t.isLt
  obtain ⟨z, r, k, rfl⟩ : ∃ (z : Fin 1) (r : Fin 256) (k : Fin 512), y = ix3 z r k := ⟨y 0, y 1, y 2, eq_ix3 y⟩
  obtain rfl : z = 0 := Subsingleton.elim _ _
  refine (o14_at m c t ht r k).trans ?_
  rw [args_eq m c m' h]
  refine (refVm_at (V' c m') ⟨t.val / 16, by omega⟩ ⟨t.val % 16 * 256 + r, by omega⟩ k).symm.trans (congrArg _ ?_)
  blk_ext [idx t]

/-- After the run the kernel's array of the output gate's columns is the reference's. -/
theorem final15 (h : Agree m m' c) : (dats m 0 c).arrAt 15 (cfgs 0).N = layOm (res_main_v15 (V' c m')) := by
  refine (dats m 0 c).arrAt_eq_of_covers 15 _ (by decide +kernel) fun t _ y => ?_
  blk_simp
  rw [after0_15]
  have ht : t.val < 64 := t.isLt
  obtain ⟨z, r, k, rfl⟩ : ∃ (z : Fin 1) (r : Fin 256) (k : Fin 512), y = ix3 z r k := ⟨y 0, y 1, y 2, eq_ix3 y⟩
  obtain rfl : z = 0 := Subsingleton.elim _ _
  refine (o15_at m c t ht r k).trans ?_
  rw [args_eq m c m' h]
  refine (refOm_at (V' c m') ⟨t.val / 16, by omega⟩ ⟨t.val % 16 * 256 + r, by omega⟩ k).symm.trans (congrArg _ ?_)
  blk_ext [idx t]

/-- After the run the kernel's array of the gates is the reference's. -/
theorem final16 (h : Agree m m' c) : (dats m 0 c).arrAt 16 (cfgs 0).N = gates (V' c m') := by
  refine (dats m 0 c).arrAt_eq_of_covers 16 _ (by decide +kernel) fun t _ y => ?_
  blk_simp
  rw [after0_16]
  have ht : t.val < 64 := t.isLt
  obtain ⟨z, r, k, rfl⟩ : ∃ (z : Fin 1) (r : Fin 256) (k : Fin 8), y = ix3 z r k := ⟨y 0, y 1, y 2, eq_ix3 y⟩
  obtain rfl : z = 0 := Subsingleton.elim _ _
  refine (o16_at m c t ht r k).trans ?_
  rw [args_eq m c m' h]
  refine (gates_at (V' c m') ⟨t.val / 16, by omega⟩ ⟨t.val % 16 * 256 + r, by omega⟩ k).symm.trans (congrArg _ ?_)
  blk_ext [idx t]

/-- After the run the kernel's array of the transposed gates is the reference's. -/
theorem final17 (h : Agree m m' c) : (dats m 0 c).arrAt 17 (cfgs 0).N = layGT (gates (V' c m')) := by
  refine (dats m 0 c).arrAt_eq_of_covers 17 _ (by decide +kernel) fun t _ y => ?_
  blk_simp
  rw [after0_17]
  have ht : t.val < 64 := t.isLt
  obtain ⟨z, k, r, rfl⟩ : ∃ (z : Fin 1) (k : Fin 8) (r : Fin 256), y = ix3 z k r := ⟨y 0, y 1, y 2, eq_ix3 y⟩
  obtain rfl : z = 0 := Subsingleton.elim _ _
  refine (o17_at m c t ht k r).trans ?_
  rw [args_eq m c m' h]
  refine (refGT_at (V' c m') ⟨t.val / 16, by omega⟩ k ⟨t.val % 16 * 256 + r, by omega⟩).symm.trans (congrArg _ ?_)
  blk_ext [idx t]

/-- After the run the kernel's array of the blocks' mean keys is the reference's. -/
theorem final10 (h : Agree m m' c) : (dats m 0 c).arrAt 10 (cfgs 0).N = layKm (layMean (res_main_v86 (V' c m'))) := by
  refine (dats m 0 c).arrAt_eq_of_covers 10 _ (by decide +kernel) fun t _ y => ?_
  blk_simp
  rw [after0_10]
  have ht : t.val < 64 := t.isLt
  obtain ⟨z, w, k, rfl⟩ : ∃ (z w : Fin 1) (k : Fin 512), y = ix3 z w k := ⟨y 0, y 1, y 2, eq_ix3 y⟩
  obtain rfl : z = 0 := Subsingleton.elim _ _
  obtain rfl : w = 0 := Subsingleton.elim _ _
  refine (o10_at m c t ht k).trans ?_
  rw [args_eq m c m' h]
  refine (refKm_at (V' c m') ⟨t.val, ht⟩ k).symm.trans (congrArg _ ?_)
  blk_ext [idx t]

end Cert.Inp

end
-- ==== Proof.FfnSpec.lean ====
/- The feed-forward half of the layer and its last norm, entry by entry, over plain functions. -/
module

public import proofs.«01_k».proof.Proof.InSpec

@[expose] public section

noncomputable section

open Idealize.ShloMosaic

namespace Cert.Ffn

open Cert.Mix (rms logi)
open Cert.Inp (prj silu)

/-- The six arguments: the rows `x`, the first norm's gain, the weights up, the convolution's taps, the weights down and
    the last norm's gain. -/
structure Args where
  x : Fin 4 → Fin 4096 → Fin 1024 → EReal
  g : Fin 1024 → EReal
  wu : Fin 1024 → Fin 5632 → EReal
  cw : Fin 3 → Fin 5632 → EReal
  wd : Fin 2816 → Fin 1024 → EReal
  gf : Fin 1024 → EReal

variable (A : Args)

/-- Column `c` of the product up at row `s` of batch `b`. -/
def Args.U (b : Fin 4) (s : Fin 4096) (c : Fin 5632) : EReal := prj (A.x b s) A.g fun k => A.wu k c

/-- What tap `i` of the convolution reads for row `s`: row `s + i - 2` of the product, zero before the first row. -/
def Args.tap (b : Fin 4) (s : Fin 4096) (c : Fin 5632) (i : Fin 3) : EReal :=
  if h : 2 ≤ (s : ℕ) + i then A.U b ⟨s + i - 2, by omega⟩ c else 0

/-- The three taps of the causal convolution, summed first to last. -/
def conv3 (w u : Fin 3 → EReal) : EReal := w 0 * u 0 + w 1 * u 1 + w 2 * u 2

/-- The convolved column. -/
def Args.cv (b : Fin 4) (s : Fin 4096) (c : Fin 5632) : EReal := conv3 (fun i => A.cw i c) (A.tap b s c)

/-- The gated column. -/
def Args.act (b : Fin 4) (s : Fin 4096) (c : Fin 2816) : EReal :=
  silu (A.cv b s ⟨c, by omega⟩) * A.cv b s ⟨2816 + c, by omega⟩

/-- The row with the feed-forward's product added. -/
def Args.y (b : Fin 4) (s : Fin 4096) (k : Fin 1024) : EReal := A.x b s k + ∑ c, A.act b s c * A.wd c k

/-- The layer's result. -/
def Args.out (b : Fin 4) (s : Fin 4096) (k : Fin 1024) : EReal :=
  rms (Ideal.ofBits .f32 0x44800000#32) (A.y b s) A.gf k

end Cert.Ffn

end
-- ==== Proof.FfnBlk.lean ====
/- What the feed-forward kernel's eight input blocks hold at a point. -/
module

public import proofs.«01_k».proof.Proof.Gen.Kernel4Ideal.Value
public import proofs.«01_k».proof.Proof.FfnSpec
public import Idealize.ShloMosaic.Lib.Pipeline.ReadBack
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

open Cert.Mix (rms logi)
open Cert.Kernel4Ideal Cert.Kernel4Ideal.Gen

/-- Where each window's block lies. -/
theorem idx : ∀ t : Fin cfg0.N, win0_0.index t = ![t.val / 4, t.val % 4, 0] ∧ win0_1.index t = ![t.val / 4, t.val % 4 * 64 - 1, 0]
    ∧ win0_2.index t = ![0, 0] ∧ win0_3.index t = ![0, 0] ∧ win0_4.index t = ![0, 0, 0] ∧ win0_5.index t = ![0, 0, 0]
    ∧ win0_6.index t = ![0, 0] ∧ win0_7.index t = ![0, 0] ∧ win0_8.index t = ![t.val / 4, t.val % 4, 0] :=
  (by decide +kernel : ∀ t : Fin grid0.N, _)

/-- Whether a point is its batch's first. -/
theorem coord1 : ∀ t : Fin cfg0.N, (BitVec.ofNat 32 (grid0.coords t 1).val = 0#32) ↔ t.val % 4 = 0 :=
  (by decide +kernel : ∀ t : Fin grid0.N, _)

variable (m : (ℓ : Loc nD τ sig) → Buf (Elt Ideal) ℓ) (c : Dev nD)

/-- The kernel's six arguments. -/
def kerArgs : Args where
  x b s j := m ((c.tc : Thread nD τ).loc main_arg0) (ix3 b s j)
  g j := m ((c.tc : Thread nD τ).loc main_arg1) (ix2 0 j)
  wu j k := m ((c.tc : Thread nD τ).loc main_arg2) (ix3 0 j k)
  cw i k := m ((c.tc : Thread nD τ).loc main_arg3) (ix3 0 i k)
  wd j k := m ((c.tc : Thread nD τ).loc main_arg4) (ix3 0 j k)
  gf k := m ((c.tc : Thread nD τ).loc main_arg5) (ix1 k)

/-! ## The arrays the host prepares -/

/-- A row laid flat and back. -/
theorem flat_at (g : FVec Ideal S1x1024 .f32) (j : Fin 1024) :
    shapeCast S1x1024 (shapeCast S1024 g shapeCasts_S1x1024_S1024) shapeCasts_S1024_S1x1024 (ix2 0 j) = g (ix2 0 j) := by
  pointwise []

/-- The weights up without their leading axis. -/
theorem up_at (w : FVec Ideal S1x1024x5632 .f32) (j : Fin 1024) (k : Fin 5632) :
    (truncf .bf16 (shapeCast S1024x5632 w shapeCasts_S1x1024x5632_S1024x5632) bitsLt_bf16_f32 : FVec Ideal S1024x5632 .bf16) (ix2 j k) = w (ix3 0 j k) := by
  pointwise []

/-- The weights down without their leading axis. -/
theorem down_at (w : FVec Ideal S1x2816x1024 .f32) (j : Fin 2816) (k : Fin 1024) :
    (truncf .bf16 (shapeCast S2816x1024 w shapeCasts_S1x2816x1024_S2816x1024) bitsLt_bf16_f32 : FVec Ideal S2816x1024 .bf16) (ix2 j k) = w (ix3 0 j k) := by
  pointwise []

/-- The last norm's gain as a row. -/
theorem row_at (g : FVec Ideal S1024 .f32) (j : Fin 1024) : shapeCast S1x1024 g shapeCasts_S1024_S1x1024 (ix2 0 j) = g (ix1 j) := by
  pointwise []

/-- The gate's taps, chunk by chunk. -/
theorem gateTaps_at (w : FVec Ideal S1x3x5632 .f32) (a : Fin 11) (i : Fin 3) (l : Fin 256) :
    transpose S11x3x256 [1, 0, 2] (shapeCast S3x11x256 (extractStridedSlice S3x2816 ![0, 0] (shapeCast S3x5632 w shapeCasts_S1x3x5632_S3x5632) slices_S3x5632_S3x2816_0_0) shapeCasts_S3x2816_S3x11x256) transposes_S3x11x256_S11x3x256_1_0_2 (ix3 a i l)
      = w (ix3 0 i ⟨256 * a + l, by omega⟩) := by
  pointwise []
  congr 1
  exact congrArg (ix3 0 i) (Fin.ext (by dsimp only; omega))

/-- The other half's taps, chunk by chunk. -/
theorem upTaps_at (w : FVec Ideal S1x3x5632 .f32) (a : Fin 11) (i : Fin 3) (l : Fin 256) :
    transpose S11x3x256 [1, 0, 2] (shapeCast S3x11x256 (extractStridedSlice S3x2816 ![0, 2816] (shapeCast S3x5632 w shapeCasts_S1x3x5632_S3x5632) slices_S3x5632_S3x2816_0_2816) shapeCasts_S3x2816_S3x11x256) transposes_S3x11x256_S11x3x256_1_0_2 (ix3 a i l)
      = w (ix3 0 i ⟨2816 + (256 * a + l), by omega⟩) := by
  pointwise []
  congr 1
  exact congrArg (ix3 0 i) (Fin.ext (by dsimp only; omega))

/-- The weights up as the kernel finds them. -/
theorem V_v1 (j : Fin 1024) (k : Fin 5632) : (V m c main_v1 : FVec Ideal S1024x5632 .bf16) (ix2 j k) = (kerArgs m c).wu j k := by
  have h : V m c main_v1 = (truncf (F := Ideal) .bf16 (shapeCast S1024x5632 (m ((c.tc : Thread nD τ).loc main_arg2) : FVec Ideal S1x1024x5632 .f32) shapeCasts_S1x1024x5632_S1024x5632) bitsLt_bf16_f32 : FVec Ideal S1024x5632 .bf16) := by
    simp only [V, hostOps0]
    after_results_simp
    rfl
  rw [h]
  exact up_at _ j k

/-- The gain as the kernel finds it. -/
theorem V_v4 (j : Fin 1024) : (V m c main_v4 : FVec Ideal S1x1024 .f32) (ix2 0 j) = (kerArgs m c).g j := by
  have h : V m c main_v4 = shapeCast S1x1024 (shapeCast S1024 (m ((c.tc : Thread nD τ).loc main_arg1) : FVec Ideal S1x1024 .f32) shapeCasts_S1x1024_S1024) shapeCasts_S1024_S1x1024 := by
    simp only [V, hostOps0]
    after_results_simp
    rfl
  rw [h]
  exact flat_at _ j

/-- The gate's taps as the kernel finds them. -/
theorem V_v7 (a : Fin 11) (i : Fin 3) (l : Fin 256) :
    (V m c main_v7 : FVec Ideal S11x3x256 .f32) (ix3 a i l) = (kerArgs m c).cw i ⟨256 * a + l, by omega⟩ := by
  have h : V m c main_v7 = transpose S11x3x256 [1, 0, 2] (shapeCast S3x11x256 (extractStridedSlice S3x2816 ![0, 0] (shapeCast S3x5632 (m ((c.tc : Thread nD τ).loc main_arg3) : FVec Ideal S1x3x5632 .f32) shapeCasts_S1x3x5632_S3x5632) slices_S3x5632_S3x2816_0_0) shapeCasts_S3x2816_S3x11x256) transposes_S3x11x256_S11x3x256_1_0_2 := by
    simp only [V, hostOps0]
    after_results_simp
    rfl
  rw [h]
  exact gateTaps_at _ a i l

/-- The other half's taps as the kernel finds them. -/
theorem V_v10 (a : Fin 11) (i : Fin 3) (l : Fin 256) :
    (V m c main_v10 : FVec Ideal S11x3x256 .f32) (ix3 a i l) = (kerArgs m c).cw i ⟨2816 + (256 * a + l), by omega⟩ := by
  have h : V m c main_v10 = transpose S11x3x256 [1, 0, 2] (shapeCast S3x11x256 (extractStridedSlice S3x2816 ![0, 2816] (shapeCast S3x5632 (m ((c.tc : Thread nD τ).loc main_arg3) : FVec Ideal S1x3x5632 .f32) shapeCasts_S1x3x5632_S3x5632) slices_S3x5632_S3x2816_0_2816) shapeCasts_S3x2816_S3x11x256) transposes_S3x11x256_S11x3x256_1_0_2 := by
    simp only [V, hostOps0]
    after_results_simp
    rfl
  rw [h]
  exact upTaps_at _ a i l

/-- The weights down as the kernel finds them. -/
theorem V_v12 (j : Fin 2816) (k : Fin 1024) : (V m c main_v12 : FVec Ideal S2816x1024 .bf16) (ix2 j k) = (kerArgs m c).wd j k := by
  have h : V m c main_v12 = (truncf (F := Ideal) .bf16 (shapeCast S2816x1024 (m ((c.tc : Thread nD τ).loc main_arg4) : FVec Ideal S1x2816x1024 .f32) shapeCasts_S1x2816x1024_S2816x1024) bitsLt_bf16_f32 : FVec Ideal S2816x1024 .bf16) := by
    simp only [V, hostOps0]
    after_results_simp
    rfl
  rw [h]
  exact down_at _ j k

/-- The last norm's gain as the kernel finds it. -/
theorem V_v13 (j : Fin 1024) : (V m c main_v13 : FVec Ideal S1x1024 .f32) (ix2 0 j) = (kerArgs m c).gf j := by
  have h : V m c main_v13 = shapeCast S1x1024 (m ((c.tc : Thread nD τ).loc main_arg5) : FVec Ideal S1024 .f32) shapeCasts_S1024_S1x1024 := by
    simp only [V, hostOps0]
    after_results_simp
    rfl
  rw [h]
  exact row_at _ j

/-! ## The blocks -/

/-- The rows' block. -/
theorem blk0 (t : Fin cfg0.N) (ht : t.val < 16) (r : Fin 1024) (j : Fin 1024) :
    iblk m c 0 t (ix3 0 r j) = (kerArgs m c).x ⟨t.val / 4, by omega⟩ ⟨t.val % 4 * 1024 + r, by omega⟩ j := by
  unfold kerArgs
  blk_ext! [iblk, V, idx t]

/-- The sixteen rows before the block, when it is not its batch's first. -/
theorem blk1 (t : Fin cfg0.N) (ht : t.val < 16) (h : t.val % 4 ≠ 0) (r : Fin 16) (j : Fin 1024) :
    iblk m c 1 t (ix3 0 r j) = (kerArgs m c).x ⟨t.val / 4, by omega⟩ ⟨t.val % 4 * 1024 + r - 16, by omega⟩ j := by
  unfold kerArgs
  blk_ext! [iblk, V, idx t]

/-- The gain's block. -/
theorem blk2 (t : Fin cfg0.N) (j : Fin 1024) : iblk m c 2 t (ix2 0 j) = (kerArgs m c).g j := by
  rw [← V_v4 m c]
  blk_ext! [iblk, idx t]

/-- The weights up. -/
theorem blk3 (t : Fin cfg0.N) (j : Fin 1024) (k : Fin 5632) : iblk m c 3 t (ix2 j k) = (kerArgs m c).wu j k := by
  rw [← V_v1 m c j k]
  blk_ext! [iblk, idx t]

/-- The gate's taps. -/
theorem blk4 (t : Fin cfg0.N) (a : Fin 11) (i : Fin 3) (l : Fin 256) :
    iblk m c 4 t (ix3 a i l) = (kerArgs m c).cw i ⟨256 * a + l, by omega⟩ := by
  rw [← V_v7 m c]
  blk_ext! [iblk, idx t]

/-- The other half's taps. -/
theorem blk5 (t : Fin cfg0.N) (a : Fin 11) (i : Fin 3) (l : Fin 256) :
    iblk m c 5 t (ix3 a i l) = (kerArgs m c).cw i ⟨2816 + (256 * a + l), by omega⟩ := by
  rw [← V_v10 m c]
  blk_ext! [iblk, idx t]

/-- The weights down. -/
theorem blk6 (t : Fin cfg0.N) (j : Fin 2816) (k : Fin 1024) : iblk m c 6 t (ix2 j k) = (kerArgs m c).wd j k := by
  rw [← V_v12 m c j k]
  blk_ext! [iblk, idx t]

/-- The last norm's gain. -/
theorem blk7 (t : Fin cfg0.N) (j : Fin 1024) : iblk m c 7 t (ix2 0 j) = (kerArgs m c).gf j := by
  rw [← V_v13 m c]
  blk_ext! [iblk, idx t]

end Cert.Ffn

end
-- ==== Proof.FfnConvL.lean ====
/- The feed-forward kernel's scratch buffers as lists of what the kernel stores into them. -/
module

public import proofs.«01_k».proof.Proof.FfnBlk
public import proofs.«01_k».proof.Proof.InConvL

@[expose] public section

set_option maxRecDepth 16384

noncomputable section

open Idealize.ShloMosaic Idealize.ShloMosaic.TcCoe Idealize.SL.Sem
open Idealize.ShloMosaic.Pipeline (Dat)

namespace Cert.Ffn

open Cert.Inp (stores)
open Cert.Kernel4Ideal Cert.Kernel4Ideal.Gen

/-- The row within its slab that store `n` of the gated buffer starts at. -/
def row0 (n : ℕ) : ℕ := n / 4 % 32 * 32 + n % 4

/-- The eight rows tap `j` reads for store `n`. -/
def tapRect (n j : ℕ) (hj : j < 3) : LoadRect S2x1040x128 :=
  ⟨![n / 128 % 2, 14 + row0 n + j, 0], S1x8x128.size, ![1, 4, 1], by
    intro i; fin_cases i <;> simp [S2x1040x128, S1x8x128, row0] <;> omega⟩

/-- Those rows of a buffer. -/
def tapRows (V : S2x1040x128.Idx → EReal) (n j : ℕ) (hj : j < 3) : Vec Ideal S1x8x128 .f32 :=
  fun x => V ((tapRect n j hj).idx x)

/-- Tap `j`'s weights, of the slab's three rows of them, along the eight rows. -/
def tapWeights (C : Vec Ideal S1x3x256 .f32) (a j : ℕ) (hj : j < 3) : FVec Ideal S8x128 .f32 :=
  broadcastTo S8x128 (extractStridedSlice S1x128 ![j, 0]
    (extractStridedSlice S3x128 ![0, 128 * (a % 2)] (shapeCast S3x256 C shapeCasts_S1x3x256_S3x256)
      ⟨rfl, by intro i; fin_cases i <;> simp [S3x256, S3x128] <;> omega⟩)
    ⟨rfl, by intro i; fin_cases i <;> simp [S1x128, S3x128] <;> omega⟩) broadcasts_S1x128_S8x128

/-- One tap's product. -/
def tapMul (C : Vec Ideal S1x3x256 .f32) (V : S2x1040x128.Idx → EReal) (n j : ℕ) (hj : j < 3) : FVec Ideal S8x128 .f32 :=
  mulf (tapWeights C (n / 128) j hj) (shapeCast S8x128 (tapRows V n j hj) shapeCasts_S1x8x128_S8x128)

/-- The three taps' sum. -/
def tapSum (C : Vec Ideal S1x3x256 .f32) (V : S2x1040x128.Idx → EReal) (n : ℕ) : FVec Ideal S8x128 .f32 :=
  addf (addf (tapMul C V n 0 (by omega)) (tapMul C V n 1 (by omega))) (tapMul C V n 2 (by omega))

/-- The gated product of eight rows. -/
def gateRows (z w : FVec Ideal S8x128 .f32) : FVec Ideal S1x8x1x128 .f32 :=
  shapeCast S1x8x1x128 (mulf (mulf z (divf (broadcast S8x128 (Scalar.ofBits .f32 0x3F800000#32 : Ideal .f32))
    (addf (broadcast S8x128 (Scalar.ofBits .f32 0x3F800000#32 : Ideal .f32))
      (exp (subf (broadcast S8x128 (Scalar.ofBits .f32 0x00000000#32 : Ideal .f32)) z))))) w) shapeCasts_S8x128_S1x8x1x128

/-- Where store `n` of the gated buffer lies. -/
theorem actIn (n : ℕ) : ∀ i, (![n / 128 % 2, n / 4 % 32 * 8, n % 4, 0] : Fin 4 → ℕ) i + (![1, 8, 1, 128] : Fin 4 → ℕ) i ≤ S2x256x4x128.size i := by
  intro i; fin_cases i <;> simp [S2x256x4x128] <;> omega

/-- The gated buffer's stores: every fourth row of 32, eight rows at a time. -/
def actPiece (CG CU : Vec Ideal S1x3x256 .f32) (G U : S2x1040x128.Idx → EReal) (n : ℕ) : View.Piece (Elt Ideal) S2x256x4x128 .f32 :=
  ⟨Rect.unit (s := S2x256x4x128) ![n / 128 % 2, n / 4 % 32 * 8, n % 4, 0] ![1, 8, 1, 128] (actIn n),
    gateRows (tapSum CG G n) (tapSum CU U n)⟩

/-- A slab's place within the gated buffer. -/
theorem slabIn (a : ℕ) (ha : a < 2) : ∀ i, (![a, 0, 0, 0] : Fin 4 → ℕ) i + (![1, 256, 4, 128] : Fin 4 → ℕ) i ≤ S2x256x4x128.size i := by
  intro i; fin_cases i <;> simp [S2x256x4x128] <;> omega

/-- A slab of the gated buffer, read back. -/
def slab (L : List (View.Piece (Elt Ideal) S2x256x4x128 .f32)) (a : ℕ) (ha : a < 2) : Vec Ideal S1x256x4x128 .f32 :=
  (View.whole cc0_scratch3).readCov L (Rect.unit (s := S2x256x4x128) ![a, 0, 0, 0] ![1, 256, 4, 128] (slabIn a ha)).toLoadRect

/-- What a buffer of products holds. -/
def rd1 (f : BufTy.Contents (Elt Ideal) (View.whole cc0_scratch1).ty) : S2x1040x128.Idx → EReal :=
  (View.whole cc0_scratch1).read (Elt Ideal) f

/-- What the other buffer of products holds. -/
def rd2 (f : BufTy.Contents (Elt Ideal) (View.whole cc0_scratch2).ty) : S2x1040x128.Idx → EReal :=
  (View.whole cc0_scratch2).read (Elt Ideal) f

variable (m : (ℓ : Loc nD τ sig) → Buf (Elt Ideal) ℓ) (c : Dev nD) (t : Fin cfg0.N)

/-- The stores of the normed rows: the block's, then the sixteen before it. -/
def hextL : List (View.Piece (Elt Ideal) S1040x1024 .bf16) :=
  [⟨Rect.unit ![0, 0] ![16, 1024] inb_S1040x1024_S16x1024_0_0, k0_pay1697 (k0_pay1696 (grid0.coords t) (iblk m c 2 t) (iblk m c 1 t))⟩,
   ⟨Rect.unit ![16, 0] ![1024, 1024] inb_S1040x1024_S1024x1024_16_0, k0_pay1695 (iblk m c 0 t) (iblk m c 2 t)⟩]

/-- The normed rows. -/
def hext : Vec Ideal S1040x1024 .bf16 :=
  (View.whole cc0_scratch0).readCov (hextL m c t) (Rect.unit (s := S1040x1024) ![0, 0] ![1040, 1024] inb_S1040x1024_S1040x1024_0_0).toLoadRect

/-- The gate's weights of the first chunk. -/
def wg0 : Vec Ideal S1024x256 .bf16 := View.ld (iblk m c 3 t) (Rect.unit ![0, 0] ![1024, 256] inb_S1024x5632_S1024x256_0_0)

/-- The other half's weights of the first chunk. -/
def wu0 : Vec Ideal S1024x256 .bf16 := View.ld (iblk m c 3 t) (Rect.unit ![0, 2816] ![1024, 256] inb_S1024x5632_S1024x256_0_2816)

/-- The first chunk's stores of the gate's products. -/
def g0 : List (View.Piece (Elt Ideal) S2x1040x128 .f32) :=
  [⟨Rect.unit ![1, 0, 0] ![1, 1040, 128] inb_S2x1040x128_S1x1040x128_1_0_0, k0_pay1704 (k0_pay1700 (hext m c t) (wg0 m c t))⟩,
   ⟨Rect.unit ![0, 0, 0] ![1, 1040, 128] inb_S2x1040x128_S1x1040x128_0_0_0, k0_pay1702 (hext m c t) (wg0 m c t)⟩]

/-- The first chunk's stores of the other half's products. -/
def u0 : List (View.Piece (Elt Ideal) S2x1040x128 .f32) :=
  [⟨Rect.unit ![1, 0, 0] ![1, 1040, 128] inb_S2x1040x128_S1x1040x128_1_0_0, k0_pay1705 (k0_pay1701 (hext m c t) (wu0 m c t))⟩,
   ⟨Rect.unit ![0, 0, 0] ![1, 1040, 128] inb_S2x1040x128_S1x1040x128_0_0_0, k0_pay1703 (hext m c t) (wu0 m c t)⟩]

/-- The gated columns' buffer is cleared before anything else is stored into it. -/
def z4 : List (View.Piece (Elt Ideal) S1024x2816 .bf16) :=
  [⟨Rect.unit ![0, 0] ![1024, 2816] inb_S1024x2816_S1024x2816_0_0, k0_pay1699 (F := Ideal)⟩]

/-- So is the gated rows' buffer. -/
def z3 : List (View.Piece (Elt Ideal) S2x256x4x128 .f32) :=
  [⟨Rect.unit ![0, 0, 0, 0] ![2, 256, 4, 128] inb_S2x256x4x128_S2x256x4x128_0_0_0_0, k0_pay1698 (F := Ideal)⟩]

/-- What the buffers hold when the loop begins: the gate's products. -/
def G1 : BufTy.Contents (Elt Ideal) (View.whole cc0_scratch1).ty := (View.whole cc0_scratch1).writes (Elt Ideal) (View.whole cc0_scratch1).junk (g0 m c t)

/-- The other half's products. -/
def G2 : BufTy.Contents (Elt Ideal) (View.whole cc0_scratch2).ty := (View.whole cc0_scratch2).writes (Elt Ideal) (View.whole cc0_scratch2).junk (u0 m c t)

/-- The gated rows. -/
def G3 : BufTy.Contents (Elt Ideal) (View.whole cc0_scratch3).ty := (View.whole cc0_scratch3).writes (Elt Ideal) (View.whole cc0_scratch3).junk z3

/-- The gated columns. -/
def G4 : BufTy.Contents (Elt Ideal) (View.whole cc0_scratch4).ty := (View.whole cc0_scratch4).writes (Elt Ideal) (View.whole cc0_scratch4).junk z4

/-- The normed rows' buffer. -/
def X0 : BufTy.Contents (Elt Ideal) (View.whole cc0_scratch0).ty := (View.whole cc0_scratch0).writes (Elt Ideal) (View.whole cc0_scratch0).junk (hextL m c t)

/-- The stores of the loop's first `n` trips. -/
def pbT (n : ℕ) : List (View.Piece (Elt Ideal) S2x1040x128 .f32) × List (View.Piece (Elt Ideal) S2x1040x128 .f32)
    × List (View.Piece (Elt Ideal) S2x256x4x128 .f32) × List (View.Piece (Elt Ideal) S1024x2816 .bf16) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)
    (k0_pay1700 (hext m c t) (wg0 m c t)) (k0_pay1701 (hext m c t) (wu0 m c t)) (k0_pay1703 (hext m c t) (wu0 m c t))
    ((hs0_3 t).unread (iblk m c 3 t)) ((hs0_4 t).unread (iblk m c 4 t)) ((hs0_5 t).unread (iblk m c 5 t)) (X0 m c t)
    (G1 m c t) (G2 m c t) G3 G4 n

/-- One trip's stores over what it finds. -/
def trT (k : Fin k0_t1_loop.trips) (f12 : BufTy.Contents (Elt Ideal) (View.whole cc0_scratch1).ty)
    (f13 : BufTy.Contents (Elt Ideal) (View.whole cc0_scratch2).ty) (f14 : BufTy.Contents (Elt Ideal) (View.whole cc0_scratch3).ty)
    (f15 : BufTy.Contents (Elt Ideal) (View.whole cc0_scratch4).ty) :
    List (View.Piece (Elt Ideal) S2x1040x128 .f32) × List (View.Piece (Elt Ideal) S2x1040x128 .f32)
    × List (View.Piece (Elt Ideal) S2x256x4x128 .f32) × List (View.Piece (Elt Ideal) S1024x2816 .bf16) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)
    (k0_pay1700 (hext m c t) (wg0 m c t)) (k0_pay1701 (hext m c t) (wu0 m c t)) (k0_pay1703 (hext m c t) (wu0 m c t))
    ((hs0_3 t).unread (iblk m c 3 t)) ((hs0_4 t).unread (iblk m c 4 t)) ((hs0_5 t).unread (iblk m c 5 t)) (X0 m c t) k f12 f13 f14 f15

/-- What the gate's products' buffer holds after `n` trips. -/
def F1 (n : ℕ) : BufTy.Contents (Elt Ideal) (View.whole cc0_scratch1).ty := (View.whole cc0_scratch1).writes (Elt Ideal) (G1 m c t) (pbT m c t n).1

/-- The other half's. -/
def F2 (n : ℕ) : BufTy.Contents (Elt Ideal) (View.whole cc0_scratch2).ty := (View.whole cc0_scratch2).writes (Elt Ideal) (G2 m c t) (pbT m c t n).2.1

/-- The gated rows'. -/
def F3 (n : ℕ) : BufTy.Contents (Elt Ideal) (View.whole cc0_scratch3).ty := (View.whole cc0_scratch3).writes (Elt Ideal) G3 (pbT m c t n).2.2.1

/-- The gated columns'. -/
def F4 (n : ℕ) : BufTy.Contents (Elt Ideal) (View.whole cc0_scratch4).ty := (View.whole cc0_scratch4).writes (Elt Ideal) G4 (pbT m c t n).2.2.2

/-- No trip yet. -/
theorem pbT_zero : pbT m c t 0 = ([], [], [], []) := by
  unfold pbT
  rfl

/-- One trip more. -/
theorem pbT_succ (k : Fin k0_t1_loop.trips) :
    pbT m c t (k.val + 1) = ((trT m c t k (F1 m c t k.val) (F2 m c t k.val) (F3 m c t k.val) (F4 m c t k.val)).1 ++ (pbT m c t k.val).1,
      (trT m c t k (F1 m c t k.val) (F2 m c t k.val) (F3 m c t k.val) (F4 m c t k.val)).2.1 ++ (pbT m c t k.val).2.1,
      (trT m c t k (F1 m c t k.val) (F2 m c t k.val) (F3 m c t k.val) (F4 m c t k.val)).2.2.1 ++ (pbT m c t k.val).2.2.1,
      (trT m c t k (F1 m c t k.val) (F2 m c t k.val) (F3 m c t k.val) (F4 m c t k.val)).2.2.2 ++ (pbT m c t k.val).2.2.2) := by
  unfold F1 F2 F3 F4 pbT trT
  exact pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _)
    (k0_pay1700 (hext m c t) (wg0 m c t)) (k0_pay1701 (hext m c t) (wu0 m c t)) (k0_pay1703 (hext m c t) (wu0 m c t))
    ((hs0_3 t).unread (iblk m c 3 t)) ((hs0_4 t).unread (iblk m c 4 t)) ((hs0_5 t).unread (iblk m c 5 t)) (X0 m c t)
    (G1 m c t) (G2 m c t) G3 G4 k

/-- The gate's weights of the chunk after trip `k`'s. -/
def wgK (k : Fin k0_t1_loop.trips) : Vec Ideal S1024x256 .bf16 :=
  View.readAt (Elt Ideal) (ms0_3 t).view (Rect.unit (s := S1024x5632) (k0_off3 k) ![1024, 256] (k0_off3_inb k)).toLoadRect ((hs0_3 t).unread (iblk m c 3 t))

/-- The other half's. -/
def wuK (k : Fin k0_t1_loop.trips) : Vec Ideal S1024x256 .bf16 :=
  View.readAt (Elt Ideal) (ms0_3 t).view (Rect.unit (s := S1024x5632) (k0_off4 k) ![1024, 256] (k0_off4_inb k)).toLoadRect ((hs0_3 t).unread (iblk m c 3 t))

/-- The gate's taps of trip `k`'s chunk. -/
def cgK (k : Fin k0_t1_loop.trips) : Vec Ideal S1x3x256 .f32 :=
  View.readAt (Elt Ideal) (ms0_4 t).view (Rect.unit (s := S11x3x256) (k0_off1 k) ![1, 3, 256] (k0_off1_inb k)).toLoadRect ((hs0_4 t).unread (iblk m c 4 t))

/-- The other half's. -/
def cuK (k : Fin k0_t1_loop.trips) : Vec Ideal S1x3x256 .f32 :=
  View.readAt (Elt Ideal) (ms0_5 t).view (Rect.unit (s := S11x3x256) (k0_off1 k) ![1, 3, 256] (k0_off1_inb k)).toLoadRect ((hs0_5 t).unread (iblk m c 5 t))

/-- The normed rows, as a trip loads them. -/
def hextK : Vec Ideal S1040x1024 .bf16 :=
  View.readAt (Elt Ideal) (View.whole cc0_scratch0) (Rect.unit (s := S1040x1024) ![0, 0] ![1040, 1024] inb_S1040x1024_S1040x1024_0_0).toLoadRect (X0 m c t)

/-- A trip's stores of the next chunk's products of the gate. -/
theorem trT_1 (k : Fin k0_t1_loop.trips) (f12 f13 f14 f15) : (trT m c t k f12 f13 f14 f15).1
    = [⟨Rect.unit ![1, 0, 0] ![1, 1040, 128] inb_S2x1040x128_S1x1040x128_1_0_0, k0_pay1691 (hextK m c t) (wgK m c t k)⟩,
       ⟨Rect.unit ![0, 0, 0] ![1, 1040, 128] inb_S2x1040x128_S1x1040x128_0_0_0, k0_pay1689 (hextK m c t) (wgK m c t k)⟩] := by
  unfold trT
  dsimp only
  unfold trip_k0_t1
  sl_kernel_rfl

/-- The other half's. -/
theorem trT_2 (k : Fin k0_t1_loop.trips) (f12 f13 f14 f15) : (trT m c t k f12 f13 f14 f15).2.1
    = [⟨Rect.unit ![1, 0, 0] ![1, 1040, 128] inb_S2x1040x128_S1x1040x128_1_0_0, k0_pay1706 (k0_pay1692 (hextK m c t) (wuK m c t k))⟩,
       ⟨Rect.unit ![0, 0, 0] ![1, 1040, 128] inb_S2x1040x128_S1x1040x128_0_0_0, k0_pay1690 (hextK m c t) (wuK m c t k)⟩] := by
  unfold trT
  dsimp only
  unfold trip_k0_t1
  sl_kernel_rfl

/-- A trip's store of its chunk's gated columns. -/
theorem trT_4 (k : Fin k0_t1_loop.trips) (f12 f13 f14 f15) : (trT m c t k f12 f13 f14 f15).2.2.2
    = [⟨Rect.unit (s := S1024x2816) (k0_off2 k) ![1024, 256] (k0_off2_inb k), k0_pay1686 (k0_pay1685
        (slab (stores (actPiece (cgK m c t k) (cuK m c t k) (rd1 f12) (rd2 f13)) 256) 0 (by omega))
        (slab (stores (actPiece (cgK m c t k) (cuK m c t k) (rd1 f12) (rd2 f13)) 256) 1 (by omega)))⟩] := by
  unfold trT
  dsimp only
  unfold trip_k0_t1
  sl_kernel_rfl

end Cert.Ffn

end
-- ==== Proof.FfnOutL.lean ====
/- The feed-forward kernel's scratch buffers after the loop, and the result's block. -/
module

public import proofs.«01_k».proof.Proof.FfnConvL

@[expose] public section

set_option maxRecDepth 16384

noncomputable section

open Idealize.ShloMosaic Idealize.ShloMosaic.TcCoe Idealize.SL.Sem
open Idealize.ShloMosaic.Pipeline (Dat)

namespace Cert.Ffn

open Cert.Inp (stores)
open Cert.Kernel4Ideal Cert.Kernel4Ideal.Gen

variable (m : (ℓ : Loc nD τ sig) → Buf (Elt Ideal) ℓ) (c : Dev nD) (t : Fin cfg0.N)

/-- The gate's taps of the last chunk. -/
def cgL : Vec Ideal S1x3x256 .f32 := View.ld (iblk m c 4 t) (Rect.unit ![10, 0, 0] ![1, 3, 256] inb_S11x3x256_S1x3x256_10_0_0)

/-- The other half's. -/
def cuL : Vec Ideal S1x3x256 .f32 := View.ld (iblk m c 5 t) (Rect.unit ![10, 0, 0] ![1, 3, 256] inb_S11x3x256_S1x3x256_10_0_0)

/-- The gated rows of the last chunk, over what the loop left. -/
def lastL : List (View.Piece (Elt Ideal) S2x256x4x128 .f32) :=
  stores (actPiece (cgL m c t) (cuL m c t)
    (rd1 ((View.whole cc0_scratch1).writes (Elt Ideal) (View.whole cc0_scratch1).junk ((pbT m c t 10).1 ++ g0 m c t)))
    (rd2 ((View.whole cc0_scratch2).writes (Elt Ideal) (View.whole cc0_scratch2).junk ((pbT m c t 10).2.1 ++ u0 m c t)))) 256
    ++ ((pbT m c t 10).2.2.1 ++ z3)

/-- All the gated columns. -/
def actall : Vec Ideal S1024x2816 .bf16 :=
  (View.whole cc0_scratch4).readCov (⟨Rect.unit ![0, 2560] ![1024, 256] inb_S1024x2816_S1024x256_0_2560,
      k0_pay3376 (slab (lastL m c t) 0 (by omega)) (slab (lastL m c t) 1 (by omega))⟩ :: ((pbT m c t 10).2.2.2 ++ z4))
    (Rect.unit (s := S1024x2816) ![0, 0] ![1024, 2816] inb_S1024x2816_S1024x2816_0_0).toLoadRect

/-- What a point leaves in the result's block. -/
theorem out_eq : outsAt0 m c t = k0_pay1 (k0_pay3377 (k0_pay1693 (iblk m c 0 t)) (actall m c t) (iblk m c 6 t) (iblk m c 7 t)) := by
  unfold outsAt0
  unfold out0_A_8
  frame_out
  sl_kernel_rfl

end Cert.Ffn

end
-- ==== Proof.FfnKer.lean ====
/- The feed-forward kernel's payloads at an index. -/
module

public import proofs.«01_k».proof.Proof.FfnOutL
public import proofs.«01_k».proof.Proof.InKer

@[expose] public section

set_option maxRecDepth 16384

noncomputable section

open Idealize.ShloMosaic Idealize.ShloMosaic.TcCoe Idealize.SL.Sem
open Idealize.ShloMosaic.Pipeline (Dat)

namespace Cert.Ffn

open Cert.Mix (rms logi)
open Cert.Inp (prj silu)
open Cert.Kernel4Ideal Cert.Kernel4Ideal.Gen

/-- The block's normed rows. -/
theorem pay1695_at (x : Vec Ideal S1x1024x1024 .f32) (g : Vec Ideal S1x1024 .f32) (r k : Fin 1024) :
    k0_pay1695 x g (ix2 r k) = rms (Ideal.ofBits .f32 0x44800000#32) (fun j => x (ix3 0 r j)) (fun j => g (ix2 0 j)) k := by
  pointwise [k0_pay1695, k0_pay1693, k0_pay1694, rms]

/-- The normed rows before the block; zero in a sequence's first block. -/
theorem pay1697_at (i : grid0.Coords) (g : Vec Ideal S1x1024 .f32) (x : Vec Ideal S1x16x1024 .f32) (r : Fin 16) (k : Fin 1024) :
    k0_pay1697 (k0_pay1696 i g x) (ix2 r k) =
      if BitVec.ofNat 32 (i 1).val = 0#32 then 0
      else rms (Ideal.ofBits .f32 0x44800000#32) (fun j => x (ix3 0 r j)) (fun j => g (ix2 0 j)) k := by
  pointwise [k0_pay1697, k0_pay1696, k0_pay1694, rms]
  rw [Cert.Inp.cmpi_eq, Cert.Inp.sel_ite]

variable (X : Vec Ideal S1040x1024 .bf16) (w : Vec Ideal S1024x256 .bf16)

/-- The first 128 columns of the gate's first chunk. -/
theorem pay1702_at (q : Fin 1040) (l : Fin 128) :
    k0_pay1702 X w (ix3 0 q l) = ∑ k, X (ix2 q k) * w (ix2 k ⟨l, by omega⟩) := by
  pointwise [k0_pay1702, k0_pay1700]

/-- The other 128. -/
theorem pay1704_at (q : Fin 1040) (l : Fin 128) :
    k0_pay1704 (k0_pay1700 X w) (ix3 0 q l) = ∑ k, X (ix2 q k) * w (ix2 k ⟨128 + l, by omega⟩) := by
  pointwise [k0_pay1704, k0_pay1700]

/-- The first 128 columns of the other half's first chunk. -/
theorem pay1703_at (q : Fin 1040) (l : Fin 128) :
    k0_pay1703 X w (ix3 0 q l) = ∑ k, X (ix2 q k) * w (ix2 k ⟨l, by omega⟩) := by
  pointwise [k0_pay1703, k0_pay1701]

/-- The other 128. -/
theorem pay1705_at (q : Fin 1040) (l : Fin 128) :
    k0_pay1705 (k0_pay1701 X w) (ix3 0 q l) = ∑ k, X (ix2 q k) * w (ix2 k ⟨128 + l, by omega⟩) := by
  pointwise [k0_pay1705, k0_pay1701]

/-- The first 128 columns of the gate's next chunk. -/
theorem pay1689_at (q : Fin 1040) (l : Fin 128) :
    k0_pay1689 X w (ix3 0 q l) = ∑ k, X (ix2 q k) * w (ix2 k ⟨l, by omega⟩) := by
  pointwise [k0_pay1689, k0_pay1687]

/-- The other 128. -/
theorem pay1691_at (q : Fin 1040) (l : Fin 128) :
    k0_pay1691 X w (ix3 0 q l) = ∑ k, X (ix2 q k) * w (ix2 k ⟨128 + l, by omega⟩) := by
  pointwise [k0_pay1691, k0_pay1687]

/-- The first 128 columns of the other half's next chunk. -/
theorem pay1690_at (q : Fin 1040) (l : Fin 128) :
    k0_pay1690 X w (ix3 0 q l) = ∑ k, X (ix2 q k) * w (ix2 k ⟨l, by omega⟩) := by
  pointwise [k0_pay1690, k0_pay1688]

/-- The other 128. -/
theorem pay1706_at (q : Fin 1040) (l : Fin 128) :
    k0_pay1706 (k0_pay1692 X w) (ix3 0 q l) = ∑ k, X (ix2 q k) * w (ix2 k ⟨128 + l, by omega⟩) := by
  pointwise [k0_pay1706, k0_pay1692, k0_pay1688]

/-- Two slabs of the gated rows side by side, the first. -/
theorem pay1685_lt (a b : Vec Ideal S1x256x4x128 .f32) (r : Fin 1024) (l : Fin 256) (h : (l : ℕ) < 128) :
    k0_pay1686 (k0_pay1685 a b) (ix2 r l) = a (ix4 0 ⟨(r : ℕ) / 4, by omega⟩ ⟨(r : ℕ) % 4, by omega⟩ ⟨l, h⟩) := by
  pointwise [k0_pay1686, k0_pay1685]
  rw [dif_pos h]

/-- The second. -/
theorem pay1685_ge (a b : Vec Ideal S1x256x4x128 .f32) (r : Fin 1024) (l : Fin 256) (h : ¬ (l : ℕ) < 128) :
    k0_pay1686 (k0_pay1685 a b) (ix2 r l) = b (ix4 0 ⟨(r : ℕ) / 4, by omega⟩ ⟨(r : ℕ) % 4, by omega⟩ ⟨l - 128, by omega⟩) := by
  pointwise [k0_pay1686, k0_pay1685]
  rw [dif_neg h]

/-- The last chunk's are laid the same. -/
theorem pay3376_eq (a b : Vec Ideal S1x256x4x128 .f32) : k0_pay3376 a b = k0_pay1686 (k0_pay1685 a b) := rfl

/-- The last norm of the rows with the product down added. -/
theorem pay3377_at (x : Vec Ideal S1x1024x1024 .f32) (a : Vec Ideal S1024x2816 .bf16) (w : Vec Ideal S2816x1024 .bf16) (g : Vec Ideal S1x1024 .f32) (r k : Fin 1024) :
    k0_pay1 (k0_pay3377 (k0_pay1693 x) a w g) (ix3 0 r k)
      = rms (Ideal.ofBits .f32 0x44800000#32) (fun k => x (ix3 0 r k) + ∑ c, a (ix2 r c) * w (ix2 c k)) (fun j => g (ix2 0 j)) k := by
  pointwise [k0_pay1, k0_pay3377, k0_pay1693, rms]

end Cert.Ffn

end
-- ==== Proof.FfnConv.lean ====
/- The feed-forward kernel's scratch buffers' values, chunk by chunk. -/
module

public import proofs.«01_k».proof.Proof.FfnKer
public import Idealize.ShloMosaic.Lib.WritesUnit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.Ffn

open Cert.Mix (rms logi)
open Cert.Inp (prj silu stores of_mem_stores mem_stores)
open Cert.Kernel4Ideal Cert.Kernel4Ideal.Gen

section Values

variable (C CG CU : Vec Ideal S1x3x256 .f32) (V G U : S2x1040x128.Idx → EReal)

/-- The rows a tap reads. -/
theorem tapRows_at (n j : ℕ) (hj : j < 3) (y : Fin 8) (l : Fin 128) :
    tapRows V n j hj (ix3 0 y l) = V (ix3 ⟨n / 128 % 2, by omega⟩ ⟨14 + (row0 n + 4 * y) + j, by unfold row0; omega⟩ l) := by
  unfold tapRows
  refine congrArg V ?_
  funext i
  fin_cases i <;> refine Fin.ext ?_
  · show n / 128 % 2 + 1 * 0 = n / 128 % 2; omega
  · show 14 + row0 n + j + 4 * (y : ℕ) = 14 + (row0 n + 4 * y) + j; omega
  · show 0 + 1 * (l : ℕ) = l; omega

/-- A tap's weights. -/
theorem tapWeights_at (a j : ℕ) (hj : j < 3) (y : Fin 8) (l : Fin 128) :
    tapWeights C a j hj (ix2 y l) = C (ix3 0 ⟨j, hj⟩ ⟨128 * (a % 2) + l, by omega⟩) := by
  unfold tapWeights
  pointwise []

/-- The three taps' sum. -/
theorem tapSum_at (n : ℕ) (y : Fin 8) (l : Fin 128) :
    tapSum C V n (ix2 y l)
      = conv3 (fun i => C (ix3 0 i ⟨128 * (n / 128 % 2) + l, by omega⟩))
          fun i => V (ix3 ⟨n / 128 % 2, by omega⟩ ⟨14 + (row0 n + 4 * y) + i, by unfold row0; omega⟩ l) := by
  unfold tapSum tapMul
  pointwise [tapWeights_at, tapRows_at, conv3]

/-- The gated product of eight rows, at a row. -/
theorem gateRows_at (z w : FVec Ideal S8x128 .f32) (y : Fin 8) (l : Fin 128) :
    gateRows z w (ix4 0 y 0 l) = silu (z (ix2 y l)) * w (ix2 y l) := by
  unfold gateRows
  pointwise [silu, logi]
  simp only [zero_sub]

/-- The gated buffer: row `4 p + k` of slab `a`. -/
def actV (a : Fin 2) (p : Fin 256) (k : Fin 4) (l : Fin 128) : EReal :=
  silu (conv3 (fun i => CG (ix3 0 i ⟨128 * a + l, by omega⟩)) fun i => G (ix3 a ⟨14 + (4 * p + k) + i, by omega⟩ l))
    * conv3 (fun i => CU (ix3 0 i ⟨128 * a + l, by omega⟩)) fun i => U (ix3 a ⟨14 + (4 * p + k) + i, by omega⟩ l)

/-- The gated buffer's values, by index. -/
def actG (y : S2x256x4x128.Idx) : Elt Ideal .f32 := actV CG CU G U (y 0) (y 1) (y 2) (y 3)

/-- Each of the gated buffer's stores holds the buffer's values where it stores them. -/
theorem act_ok (n : ℕ) (x : (actPiece CG CU G U n).1.shape.Idx) :
    (actPiece CG CU G U n).2 x = actG CG CU G U ((actPiece CG CU G U n).1.emb x) := by
  obtain ⟨z, y, w, l, rfl⟩ : ∃ (z : Fin 1) (y : Fin 8) (w : Fin 1) (l : Fin 128), x = ix4 z y w l := ⟨x 0, x 1, x 2, x 3, eq_ix4 x⟩
  have e0 : (actPiece CG CU G U n).1.emb (ix4 z y w l) 0 = (⟨n / 128 % 2, by omega⟩ : Fin 2) := Fin.ext (by
    show n / 128 % 2 + 1 * z.val = n / 128 % 2; omega)
  have e1 : (actPiece CG CU G U n).1.emb (ix4 z y w l) 1 = (⟨n / 4 % 32 * 8 + y, by omega⟩ : Fin 256) := Fin.ext (by
    show n / 4 % 32 * 8 + 1 * y.val = n / 4 % 32 * 8 + y; omega)
  have e2 : (actPiece CG CU G U n).1.emb (ix4 z y w l) 2 = (⟨n % 4, by omega⟩ : Fin 4) := Fin.ext (by
    show n % 4 + 1 * w.val = n % 4; omega)
  have e3 : (actPiece CG CU G U n).1.emb (ix4 z y w l) 3 = (l : Fin 128) := Fin.ext (by
    show 0 + 1 * l.val = l; omega)
  rw [actG, e0, e1, e2, e3]
  obtain rfl : z = 0 := Subsingleton.elim _ _
  obtain rfl : w = 0 := Subsingleton.elim _ _
  show gateRows (tapSum CG G n) (tapSum CU U n) (ix4 0 y 0 l) = _
  have er : row0 n + 4 * (y : ℕ) = 4 * (n / 4 % 32 * 8 + y) + n % 4 := by unfold row0; omega
  rw [gateRows_at, tapSum_at, tapSum_at, actV]
  simp only [er]

/-- A slab of it, read back over whatever was stored before. -/
theorem slab_at (L : List (View.Piece (Elt Ideal) S2x256x4x128 .f32)) (a : ℕ) (ha : a < 2) (p : Fin 256) (k : Fin 4) (l : Fin 128) :
    slab (stores (actPiece CG CU G U) 256 ++ L) a ha (ix4 0 p k l) = actV CG CU G U ⟨a, ha⟩ p k l := by
  unfold slab
  rw [View.readCov_eq_canon']
  dsimp only
  have e0 : (Rect.unit (s := S2x256x4x128) ![a, 0, 0, 0] ![1, 256, 4, 128] (slabIn a ha)).toLoadRect.idx (ix4 0 p k l) = ix4 ⟨a, ha⟩ p k l := by
    funext i
    fin_cases i <;> refine Fin.ext ?_
    · show a + 1 * 0 = a; omega
    · show 0 + 1 * (p : ℕ) = p; omega
    · show 0 + 1 * (k : ℕ) = k; omega
    · show 0 + 1 * (l : ℕ) = l; omega
  refine (congrArg _ e0).trans ?_
  refine View.canon_append_of_pieces (actG CG CU G U) L _ (fun q hq x => ?_) _ ⟨_, mem_stores _ (128 * a + p / 8 * 4 + k) 256 (by omega), ?_⟩
  · obtain ⟨j, rfl⟩ := of_mem_stores _ _ _ hq
    exact act_ok CG CU G U j x
  · refine (Rect.mem_set_unit (inb := actIn _)).mpr fun i => ?_
    have hp : (p : ℕ) < 256 := p.isLt
    have hk : (k : ℕ) < 4 := k.isLt
    have hl : (l : ℕ) < 128 := l.isLt
    fin_cases i
    · show (128 * a + p / 8 * 4 + k) / 128 % 2 ≤ a ∧ a < (128 * a + p / 8 * 4 + k) / 128 % 2 + 1; omega
    · show (128 * a + p / 8 * 4 + k) / 4 % 32 * 8 ≤ (p : ℕ) ∧ (p : ℕ) < (128 * a + p / 8 * 4 + k) / 4 % 32 * 8 + 8; omega
    · show (128 * a + p / 8 * 4 + k) % 4 ≤ (k : ℕ) ∧ (k : ℕ) < (128 * a + p / 8 * 4 + k) % 4 + 1; omega
    · show 0 ≤ (l : ℕ) ∧ (l : ℕ) < 0 + 128; omega

/-- A buffer of products whose two slabs were stored last, read. -/
theorem two_at {κ : Kind} {sp : Space} (v : View sig κ sp S2x1040x128 .f32) (f : v.ty.Contents (Elt Ideal))
    (w0 w1 : FVec Ideal S1x1040x128 .f32) (L : List (View.Piece (Elt Ideal) S2x1040x128 .f32)) (a : Fin 2) (q : Fin 1040) (l : Fin 128) :
    v.read (Elt Ideal) (v.writes (Elt Ideal) f (⟨Rect.unit ![1, 0, 0] ![1, 1040, 128] inb_S2x1040x128_S1x1040x128_1_0_0, w1⟩
        :: ⟨Rect.unit ![0, 0, 0] ![1, 1040, 128] inb_S2x1040x128_S1x1040x128_0_0_0, w0⟩ :: L)) (ix3 a q l)
      = if a = 0 then w0 (ix3 0 q l) else w1 (ix3 0 q l) := by
  have ha : a = 0 ∨ a = 1 := by omega
  rcases ha with rfl | rfl
  · rw [if_pos rfl]
    refine (View.read_writes_cons_unit_of_not_mem v f inb_S2x1040x128_S1x1040x128_1_0_0 w1 _ _ rfl (0 : Fin 3) (Or.inl ?_)).trans ?_
    · show 0 < 1; omega
    · refine View.read_writes_cons_unit_of_mem v f inb_S2x1040x128_S1x1040x128_0_0_0 w0 _ _ (ix3 0 q l) rfl fun i => ?_
      fin_cases i
      · rfl
      · show (q : ℕ) = 0 + q; omega
      · show (l : ℕ) = 0 + l; omega
  · rw [if_neg (by decide)]
    refine View.read_writes_cons_unit_of_mem v f inb_S2x1040x128_S1x1040x128_1_0_0 w1 _ _ (ix3 0 q l) rfl fun i => ?_
    fin_cases i
    · rfl
    · show (q : ℕ) = 0 + q; omega
    · show (l : ℕ) = 0 + l; omega

end Values

variable (m : (ℓ : Loc nD τ sig) → Buf (Elt Ideal) ℓ) (c : Dev nD) (t : Fin cfg0.N)

/-- Row `q` of the block with the 16 rows before it, of the product up; zero before a sequence's first row. -/
def Uq (ht : t.val < 16) (q : Fin 1040) (col : Fin 5632) : EReal :=
  if h : (q : ℕ) < 16 ∧ t.val % 4 = 0 then 0
  else (kerArgs m c).U ⟨t.val / 4, by omega⟩ ⟨t.val % 4 * 1024 + q - 16, by omega⟩ col

/-- The same rows, normed. -/
def Xq (ht : t.val < 16) (q : Fin 1040) (k : Fin 1024) : EReal :=
  if h : (q : ℕ) < 16 ∧ t.val % 4 = 0 then 0
  else rms (Ideal.ofBits .f32 0x44800000#32) ((kerArgs m c).x ⟨t.val / 4, by omega⟩ ⟨t.val % 4 * 1024 + q - 16, by omega⟩) (kerArgs m c).g k

/-- The normed rows' buffer, read. -/
theorem hext_at (ht : t.val < 16) (q : Fin 1040) (k : Fin 1024) : hext m c t (ix2 q k) = Xq m c t ht q k := by
  show (View.whole cc0_scratch0).read (Elt Ideal) ((View.whole cc0_scratch0).writes (Elt Ideal) (View.whole cc0_scratch0).junk (hextL m c t))
    ((Rect.unit (s := S1040x1024) ![0, 0] ![1040, 1024] inb_S1040x1024_S1040x1024_0_0).toLoadRect.idx (ix2 q k)) = _
  unfold hextL
  have hq : (q : ℕ) < 1040 := q.isLt
  by_cases h : (q : ℕ) < 16
  · refine (View.read_writes_cons_unit_of_mem _ _ inb_S1040x1024_S16x1024_0_0 _ _ _ (ix2 ⟨q, h⟩ k) rfl fun i => ?_).trans ?_
    · fin_cases i
      · show 0 + 1 * (q : ℕ) = 0 + q; omega
      · show 0 + 1 * (k : ℕ) = 0 + k; omega
    · refine (pay1697_at _ _ _ _ _).trans ?_
      unfold Xq
      by_cases h4 : t.val % 4 = 0
      · rw [if_pos ((coord1 t).mpr h4), dif_pos ⟨h, h4⟩]
      · rw [if_neg (fun e => h4 ((coord1 t).mp e)), dif_neg (fun e => h4 e.2)]
        simp only [blk1 m c t ht h4, blk2 m c t]
  · refine (View.read_writes_cons_unit_of_not_mem _ _ inb_S1040x1024_S16x1024_0_0 _ _ _ rfl (0 : Fin 2) (Or.inr ?_)).trans ?_
    · show 0 + 16 ≤ 0 + 1 * (q : ℕ); omega
    refine (View.read_writes_cons_unit_of_mem _ _ inb_S1040x1024_S1024x1024_16_0 _ _ _ (ix2 ⟨q - 16, by omega⟩ k) rfl fun i => ?_).trans ?_
    · fin_cases i
      · show 0 + 1 * (q : ℕ) = 16 + (q - 16); omega
      · show 0 + 1 * (k : ℕ) = 0 + k; omega
    · refine (pay1695_at _ _ _ _).trans ?_
      unfold Xq
      rw [dif_neg (fun e => h e.1)]
      simp only [blk0 m c t ht, blk2 m c t]
      have e : t.val % 4 * 1024 + ((q : ℕ) - 16) = t.val % 4 * 1024 + q - 16 := by omega
      simp only [e]

/-- The normed rows times a column of weights up. -/
theorem up_sum (ht : t.val < 16) (q : Fin 1040) (col : Fin 5632) (f : Fin 1024 → EReal) (hf : ∀ k, f k = (kerArgs m c).wu k col) :
    ∑ k, hext m c t (ix2 q k) * f k = Uq m c t ht q col := by
  simp only [hext_at m c t ht, hf]
  unfold Xq Uq
  by_cases h : (q : ℕ) < 16 ∧ t.val % 4 = 0
  · simp only [dif_pos h, zero_mul, Finset.sum_const_zero]
  · simp only [dif_neg h]
    rfl

/-- What the convolution's tap reads is a row of the buffer of products. -/
theorem tap_eq (ht : t.val < 16) (r : Fin 1024) (col : Fin 5632) (i : Fin 3) :
    Uq m c t ht ⟨14 + r + i, by omega⟩ col = (kerArgs m c).tap ⟨t.val / 4, by omega⟩ ⟨t.val % 4 * 1024 + r, by omega⟩ col i := by
  unfold Uq Args.tap
  dsimp only
  by_cases h : 14 + (r : ℕ) + i < 16 ∧ t.val % 4 = 0
  · rw [dif_pos h, dif_neg (by omega)]
  · rw [dif_neg h, dif_pos (by omega)]
    have e : t.val % 4 * 1024 + (14 + (r : ℕ) + i) - 16 = t.val % 4 * 1024 + r + i - 2 := by omega
    simp only [e]

/-- A chunk of gated columns, from the chunk's products and taps. -/
theorem chunk_at (ht : t.val < 16) (n : ℕ) (hn : n ≤ 10) (CG CU : Vec Ideal S1x3x256 .f32) (G U : S2x1040x128.Idx → EReal)
    (L : List (View.Piece (Elt Ideal) S2x256x4x128 .f32))
    (hCG : ∀ (i : Fin 3) (l : Fin 256), CG (ix3 0 i l) = (kerArgs m c).cw i ⟨256 * n + l, by omega⟩)
    (hCU : ∀ (i : Fin 3) (l : Fin 256), CU (ix3 0 i l) = (kerArgs m c).cw i ⟨2816 + (256 * n + l), by omega⟩)
    (hG : ∀ a q l, G (ix3 a q l) = Uq m c t ht q ⟨256 * n + (128 * a + l), by omega⟩)
    (hU : ∀ a q l, U (ix3 a q l) = Uq m c t ht q ⟨2816 + (256 * n + (128 * a + l)), by omega⟩)
    (r : Fin 1024) (l : Fin 256) :
    k0_pay1686 (k0_pay1685 (slab (stores (actPiece CG CU G U) 256 ++ L) 0 (by omega)) (slab (stores (actPiece CG CU G U) 256 ++ L) 1 (by omega))) (ix2 r l)
      = (kerArgs m c).act ⟨t.val / 4, by omega⟩ ⟨t.val % 4 * 1024 + r, by omega⟩ ⟨256 * n + l, by omega⟩ := by
  have key : ∀ (a : Fin 2) (l' : Fin 128) (hl : 128 * (a : ℕ) + l' = l), actV CG CU G U a ⟨(r : ℕ) / 4, by omega⟩ ⟨(r : ℕ) % 4, by omega⟩ l'
      = (kerArgs m c).act ⟨t.val / 4, by omega⟩ ⟨t.val % 4 * 1024 + r, by omega⟩ ⟨256 * n + l, by omega⟩ := by
    intro a l' hl
    unfold actV
    have er : 4 * ((r : ℕ) / 4) + (r : ℕ) % 4 = r := by omega
    simp only [hCG, hCU, hG, hU, er, hl, tap_eq m c t ht]
    rfl
  by_cases h : (l : ℕ) < 128
  · rw [pay1685_lt _ _ _ _ h, slab_at]
    exact key _ _ (by show 128 * 0 + (l : ℕ) = l; omega)
  · rw [pay1685_ge _ _ _ _ h, slab_at]
    exact key _ _ (by show 128 * 1 + ((l : ℕ) - 128) = l; omega)

end Cert.Ffn

end
-- ==== Proof.FfnLoop.lean ====
/- The feed-forward kernel's loop: after `n` trips the first `n` chunks of gated columns are done; and the result's block. -/
module

public import proofs.«01_k».proof.Proof.FfnConv

@[expose] public section

set_option maxRecDepth 16384

noncomputable section

open Idealize.ShloMosaic Idealize.ShloMosaic.TcCoe Idealize.SL.Sem
open Idealize.ShloMosaic.Pipeline (Dat)

namespace Cert.Ffn

open Cert.Mix (rms logi)
open Cert.Inp (prj silu stores of_mem_stores mem_stores)
open Cert.Kernel4Ideal Cert.Kernel4Ideal.Gen

variable (m : (ℓ : Loc nD τ sig) → Buf (Elt Ideal) ℓ) (c : Dev nD) (t : Fin cfg0.N)

/-- Where a trip loads its taps. -/
theorem off1_eq : ∀ k : Fin k0_t1_loop.trips, k0_off1 k = ![k.val, 0, 0] := by decide +kernel

/-- Where a trip stores its gated columns. -/
theorem off2_eq : ∀ k : Fin k0_t1_loop.trips, k0_off2 k = ![0, 256 * k.val] := by decide +kernel

/-- Where a trip loads the gate's next weights. -/
theorem off3_eq : ∀ k : Fin k0_t1_loop.trips, k0_off3 k = ![0, 256 * k.val + 256] := by decide +kernel

/-- Where a trip loads the other half's. -/
theorem off4_eq : ∀ k : Fin k0_t1_loop.trips, k0_off4 k = ![0, 2816 + (256 * k.val + 256)] := by decide +kernel

/-- The loop's trips are ten. -/
theorem trips_eq : k0_t1_loop.trips = 10 := by decide +kernel

/-- An index of a loaded rectangle of weights. -/
theorem widx (off : Fin 2 → ℕ) (o : ℕ) (h : off = ![0, o]) (inb : ∀ a, off a + (![1024, 256] : Fin 2 → ℕ) a ≤ S1024x5632.size a) (j : Fin 1024) (l : Fin 256)
    (col : Fin 5632) (hc : o + (l : ℕ) = col) :
    (Rect.unit (s := S1024x5632) off ![1024, 256] inb).toLoadRect.idx (ix2 j l) = ix2 j col := by
  subst h
  funext i
  fin_cases i <;> refine Fin.ext ?_
  · show 0 + 1 * (j : ℕ) = j; omega
  · show o + 1 * (l : ℕ) = col; omega

/-- An index of a loaded rectangle of taps. -/
theorem cidx (off : Fin 3 → ℕ) (a : Fin 11) (h : off = ![a.val, 0, 0]) (inb : ∀ i, off i + (![1, 3, 256] : Fin 3 → ℕ) i ≤ S11x3x256.size i) (i : Fin 3) (l : Fin 256) :
    (Rect.unit (s := S11x3x256) off ![1, 3, 256] inb).toLoadRect.idx (ix3 0 i l) = ix3 a i l := by
  subst h
  funext d
  fin_cases d <;> refine Fin.ext ?_
  · show a.val + 1 * 0 = a.val; omega
  · show 0 + 1 * (i : ℕ) = i; omega
  · show 0 + 1 * (l : ℕ) = l; omega

/-- The gate's first weights. -/
theorem wg0_at (j : Fin 1024) (l : Fin 256) (col : Fin 5632) (hc : (l : ℕ) = col) : wg0 m c t (ix2 j l) = (kerArgs m c).wu j col := by
  rw [← blk3 m c t]
  exact congrArg (iblk m c 3 t) (widx _ 0 rfl inb_S1024x5632_S1024x256_0_0 j l col (by omega))

/-- The other half's. -/
theorem wu0_at (j : Fin 1024) (l : Fin 256) (col : Fin 5632) (hc : 2816 + (l : ℕ) = col) : wu0 m c t (ix2 j l) = (kerArgs m c).wu j col := by
  rw [← blk3 m c t]
  exact congrArg (iblk m c 3 t) (widx _ 2816 rfl inb_S1024x5632_S1024x256_0_2816 j l col (by omega))

/-- The gate's weights of a trip. -/
theorem wgK_at (k : Fin k0_t1_loop.trips) (j : Fin 1024) (l : Fin 256) (col : Fin 5632) (hc : 256 * k.val + 256 + (l : ℕ) = col) :
    wgK m c t k (ix2 j l) = (kerArgs m c).wu j col := by
  rw [← blk3 m c t]
  exact (Memref.IsWhole.readAt_unread (hs0_3 t) (iblk m c 3 t) _ _).trans (congrArg (iblk m c 3 t) (widx _ _ (off3_eq k) _ j l col hc))

/-- The other half's. -/
theorem wuK_at (k : Fin k0_t1_loop.trips) (j : Fin 1024) (l : Fin 256) (col : Fin 5632) (hc : 2816 + (256 * k.val + 256) + (l : ℕ) = col) :
    wuK m c t k (ix2 j l) = (kerArgs m c).wu j col := by
  rw [← blk3 m c t]
  exact (Memref.IsWhole.readAt_unread (hs0_3 t) (iblk m c 3 t) _ _).trans (congrArg (iblk m c 3 t) (widx _ _ (off4_eq k) _ j l col hc))

/-- The gate's taps of a trip. -/
theorem cgK_at (k : Fin k0_t1_loop.trips) (hk : k.val < 10) (i : Fin 3) (l : Fin 256) :
    cgK m c t k (ix3 0 i l) = (kerArgs m c).cw i ⟨256 * k.val + l, by omega⟩ := by
  rw [← blk4 m c t ⟨k.val, by omega⟩]
  exact (Memref.IsWhole.readAt_unread (hs0_4 t) (iblk m c 4 t) _ _).trans (congrArg (iblk m c 4 t) (cidx _ ⟨k.val, by omega⟩ (off1_eq k) _ i l))

/-- The other half's. -/
theorem cuK_at (k : Fin k0_t1_loop.trips) (hk : k.val < 10) (i : Fin 3) (l : Fin 256) :
    cuK m c t k (ix3 0 i l) = (kerArgs m c).cw i ⟨2816 + (256 * k.val + l), by omega⟩ := by
  rw [← blk5 m c t ⟨k.val, by omega⟩]
  exact (Memref.IsWhole.readAt_unread (hs0_5 t) (iblk m c 5 t) _ _).trans (congrArg (iblk m c 5 t) (cidx _ ⟨k.val, by omega⟩ (off1_eq k) _ i l))

/-- The gate's taps of the last chunk. -/
theorem cgL_at (i : Fin 3) (l : Fin 256) : cgL m c t (ix3 0 i l) = (kerArgs m c).cw i ⟨256 * 10 + l, by omega⟩ := by
  rw [← blk4 m c t ⟨10, by omega⟩]
  exact congrArg (iblk m c 4 t) (cidx _ ⟨10, by omega⟩ rfl inb_S11x3x256_S1x3x256_10_0_0 i l)

/-- The other half's. -/
theorem cuL_at (i : Fin 3) (l : Fin 256) : cuL m c t (ix3 0 i l) = (kerArgs m c).cw i ⟨2816 + (256 * 10 + l), by omega⟩ := by
  rw [← blk5 m c t ⟨10, by omega⟩]
  exact congrArg (iblk m c 5 t) (cidx _ ⟨10, by omega⟩ rfl inb_S11x3x256_S1x3x256_10_0_0 i l)

/-- A trip finds the normed rows as they were stored. -/
theorem hextK_eq : hextK m c t = hext m c t := rfl

/-- Before the first trip the gate's buffer holds the first chunk's products. -/
theorem F1_zero : F1 m c t 0 = G1 m c t := by
  unfold F1
  rw [pbT_zero, View.writes_nil]

/-- So does the other half's. -/
theorem F2_zero : F2 m c t 0 = G2 m c t := by
  unfold F2
  rw [pbT_zero, View.writes_nil]

/-- After `n` trips the gate's buffer holds chunk `n`'s products. -/
theorem F1_at (ht : t.val < 16) : ∀ (n : ℕ) (hn : n ≤ 10) (a : Fin 2) (q : Fin 1040) (l : Fin 128),
    rd1 (F1 m c t n) (ix3 a q l) = Uq m c t ht q ⟨256 * n + (128 * a + l), by omega⟩ := by
  intro n hn a q l
  rcases n with _ | n
  · rw [F1_zero]
    unfold rd1 G1 g0
    refine (two_at _ _ _ _ [] a q l).trans ?_
    have ha : a = 0 ∨ a = 1 := by omega
    rcases ha with rfl | rfl
    · rw [if_pos rfl, pay1702_at]
      exact up_sum m c t ht q _ _ fun k => wg0_at m c t _ _ _ (by show (l : ℕ) = 256 * 0 + (128 * 0 + l); omega)
    · rw [if_neg (by decide), pay1704_at]
      exact up_sum m c t ht q _ _ fun k => wg0_at m c t _ _ _ (by show 128 + (l : ℕ) = 256 * 0 + (128 * 1 + l); omega)
  · have hk : n < k0_t1_loop.trips := by rw [trips_eq]; omega
    unfold rd1 F1
    rw [show pbT m c t (n + 1) = _ from pbT_succ m c t ⟨n, hk⟩]
    dsimp only
    rw [trT_1]
    refine (two_at _ _ _ _ _ a q l).trans ?_
    rw [hextK_eq]
    have ha : a = 0 ∨ a = 1 := by omega
    rcases ha with rfl | rfl
    · rw [if_pos rfl, pay1689_at]
      exact up_sum m c t ht q _ _ fun k => wgK_at m c t ⟨n, hk⟩ _ _ _ (by show 256 * n + 256 + (l : ℕ) = 256 * (n + 1) + (128 * 0 + l); omega)
    · rw [if_neg (by decide), pay1691_at]
      exact up_sum m c t ht q _ _ fun k => wgK_at m c t ⟨n, hk⟩ _ _ _ (by show 256 * n + 256 + (128 + (l : ℕ)) = 256 * (n + 1) + (128 * 1 + l); omega)

/-- The other half's too. -/
theorem F2_at (ht : t.val < 16) : ∀ (n : ℕ) (hn : n ≤ 10) (a : Fin 2) (q : Fin 1040) (l : Fin 128),
    rd2 (F2 m c t n) (ix3 a q l) = Uq m c t ht q ⟨2816 + (256 * n + (128 * a + l)), by omega⟩ := by
  intro n hn a q l
  rcases n with _ | n
  · rw [F2_zero]
    unfold rd2 G2 u0
    refine (two_at _ _ _ _ [] a q l).trans ?_
    have ha : a = 0 ∨ a = 1 := by omega
    rcases ha with rfl | rfl
    · rw [if_pos rfl, pay1703_at]
      exact up_sum m c t ht q _ _ fun k => wu0_at m c t _ _ _ (by show 2816 + (l : ℕ) = 2816 + (256 * 0 + (128 * 0 + l)); omega)
    · rw [if_neg (by decide), pay1705_at]
      exact up_sum m c t ht q _ _ fun k => wu0_at m c t _ _ _ (by show 2816 + (128 + (l : ℕ)) = 2816 + (256 * 0 + (128 * 1 + l)); omega)
  · have hk : n < k0_t1_loop.trips := by rw [trips_eq]; omega
    unfold rd2 F2
    rw [show pbT m c t (n + 1) = _ from pbT_succ m c t ⟨n, hk⟩]
    dsimp only
    rw [trT_2]
    refine (two_at _ _ _ _ _ a q l).trans ?_
    rw [hextK_eq]
    have ha : a = 0 ∨ a = 1 := by omega
    rcases ha with rfl | rfl
    · rw [if_pos rfl, pay1690_at]
      exact up_sum m c t ht q _ _ fun k => wuK_at m c t ⟨n, hk⟩ _ _ _ (by show 2816 + (256 * n + 256) + (l : ℕ) = 2816 + (256 * (n + 1) + (128 * 0 + l)); omega)
    · rw [if_neg (by decide), pay1706_at]
      exact up_sum m c t ht q _ _ fun k => wuK_at m c t ⟨n, hk⟩ _ _ _ (by show 2816 + (256 * n + 256) + (128 + (l : ℕ)) = 2816 + (256 * (n + 1) + (128 * 1 + l)); omega)

/-- After `n` trips the first `n` chunks of gated columns are done. -/
theorem F4_at (ht : t.val < 16) (r : Fin 1024) (col : Fin 2816) : ∀ (n : ℕ) (hn : n ≤ 10) (hc : (col : ℕ) < 256 * n),
    (View.whole cc0_scratch4).read (Elt Ideal) (F4 m c t n) (ix2 r col)
      = (kerArgs m c).act ⟨t.val / 4, by omega⟩ ⟨t.val % 4 * 1024 + r, by omega⟩ col := by
  intro n
  induction n with
  | zero => intro _ hc; omega
  | succ n ih =>
    intro hn hc
    have hk : n < k0_t1_loop.trips := by rw [trips_eq]; omega
    unfold F4
    rw [show pbT m c t (n + 1) = _ from pbT_succ m c t ⟨n, hk⟩]
    dsimp only
    rw [trT_4]
    by_cases h : (col : ℕ) < 256 * n
    · refine (View.read_writes_cons_unit_of_not_mem _ _ (k0_off2_inb ⟨n, hk⟩) _ _ _ (off2_eq ⟨n, hk⟩) (1 : Fin 2) (Or.inl ?_)).trans (ih (by omega) h)
      exact h
    · refine (View.read_writes_cons_unit_of_mem _ _ (k0_off2_inb ⟨n, hk⟩) _ _ _ (ix2 r ⟨col - 256 * n, by omega⟩) (off2_eq ⟨n, hk⟩) fun i => ?_).trans ?_
      · fin_cases i
        · show (r : ℕ) = 0 + r; omega
        · show (col : ℕ) = 256 * n + (col - 256 * n); omega
      · have hg := chunk_at m c t ht n (by omega) (cgK m c t ⟨n, hk⟩) (cuK m c t ⟨n, hk⟩) (rd1 (F1 m c t n)) (rd2 (F2 m c t n)) []
          (cgK_at m c t ⟨n, hk⟩ (by dsimp only; omega)) (cuK_at m c t ⟨n, hk⟩ (by dsimp only; omega))
          (F1_at m c t ht n (by omega)) (F2_at m c t ht n (by omega)) r ⟨col - 256 * n, by omega⟩
        rw [List.append_nil] at hg
        refine hg.trans (congrArg _ (Fin.ext ?_))
        show 256 * n + ((col : ℕ) - 256 * n) = col; omega

/-- All the gated columns. -/
theorem actall_at (ht : t.val < 16) (r : Fin 1024) (col : Fin 2816) :
    actall m c t (ix2 r col) = (kerArgs m c).act ⟨t.val / 4, by omega⟩ ⟨t.val % 4 * 1024 + r, by omega⟩ col := by
  have hcol : (col : ℕ) < 2816 := col.isLt
  have e0 : (Rect.unit (s := S1024x2816) ![0, 0] ![1024, 2816] inb_S1024x2816_S1024x2816_0_0).toLoadRect.idx (ix2 r col) = ix2 r col := by
    funext i
    fin_cases i <;> refine Fin.ext ?_
    · show 0 + 1 * (r : ℕ) = r; omega
    · show 0 + 1 * (col : ℕ) = col; omega
  show (View.whole cc0_scratch4).read (Elt Ideal) ((View.whole cc0_scratch4).writes (Elt Ideal) (View.whole cc0_scratch4).junk (_ :: ((pbT m c t 10).2.2.2 ++ z4)))
    ((Rect.unit (s := S1024x2816) ![0, 0] ![1024, 2816] inb_S1024x2816_S1024x2816_0_0).toLoadRect.idx (ix2 r col)) = _
  rw [e0]
  by_cases h : (col : ℕ) < 2560
  · refine (View.read_writes_cons_unit_of_not_mem _ _ inb_S1024x2816_S1024x256_0_2560 _ _ _ rfl (1 : Fin 2) (Or.inl h)).trans ?_
    rw [View.writes_append]
    exact F4_at m c t ht r col 10 le_rfl h
  · refine (View.read_writes_cons_unit_of_mem _ _ inb_S1024x2816_S1024x256_0_2560 _ _ _ (ix2 r ⟨col - 2560, by omega⟩) rfl fun i => ?_).trans ?_
    · fin_cases i
      · show (r : ℕ) = 0 + r; omega
      · show (col : ℕ) = 2560 + (col - 2560); omega
    · rw [pay3376_eq]
      unfold lastL
      rw [View.writes_append, View.writes_append]
      refine (chunk_at m c t ht 10 le_rfl (cgL m c t) (cuL m c t) (rd1 (F1 m c t 10)) (rd2 (F2 m c t 10)) _ (cgL_at m c t) (cuL_at m c t)
        (F1_at m c t ht 10 le_rfl) (F2_at m c t ht 10 le_rfl) r ⟨col - 2560, by omega⟩).trans (congrArg _ (Fin.ext ?_))
      show 256 * 10 + ((col : ℕ) - 2560) = col; omega

/-- The result's block. -/
theorem out_at (ht : t.val < 16) (r k : Fin 1024) :
    outsAt0 m c t (ix3 0 r k) = (kerArgs m c).out ⟨t.val / 4, by omega⟩ ⟨t.val % 4 * 1024 + r, by omega⟩ k := by
  rw [out_eq, pay3377_at]
  simp only [blk0 m c t ht, actall_at m c t ht, blk6 m c t, blk7 m c t]
  rfl

end Cert.Ffn

end
-- ==== Proof.FfnRef.lean ====
/- The feed-forward's reference at an index. -/
module

public import proofs.«01_k».proof.Proof.Gen.Reference4Ideal.Run
public import proofs.«01_k».proof.Proof.FfnSpec
public import proofs.«01_k».proof.Proof.InRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Ffn

open Cert.Mix (rms logi)
open Cert.Inp (prj silu sitofp_zero)
open Cert.Reference4Ideal Cert.Reference4Ideal.Gen

/-- The reference's product up of the normalised rows, two rows of zeros before each batch's. -/
def refP (a0 : FVec Ideal S4x4096x1024 .f32) (a1 : FVec Ideal S1x1024 .f32) (a2 : FVec Ideal S1x1024x5632 .f32) :
    FVec Ideal S4x4098x5632 .f32 :=
  (pad S4x4098x5632 ![0, 2, 0] ![0, 0, 0] ![0, 0, 0] (Host.dotGeneral dot_S4x4096x1024_S1024x5632_S4x4096x5632_2_0_01_1_n_n none (mulf (mulf a0 (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf a0 a0) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ a1 shapeCasts_S1x1024_S1024)))) (shapeCast _ a2 shapeCasts_S1x1024x5632_S1024x5632)) (sitofp .f32 (constantI S_ 32 0#32)) pads_S4x4096x5632_S4x4098x5632_000_200_000 h_S_)

/-- The reference's convolution of the padded product `p`. -/
def refC (p : FVec Ideal S4x4098x5632 .f32) (a3 : FVec Ideal S1x3x5632 .f32) : FVec Ideal S4x4096x5632 .f32 :=
  (addf (addf (mulf (broadcastInDim S4x4096x5632 ![0, 1, 2] bcast_S1x1x5632_S4x4096x5632_0_1_2 (broadcastInDim S1x1x5632 ![2] bcast_S5632_S1x1x5632_2 (shapeCast _ (extractStridedSlice S1x5632 ![0, 0] (shapeCast _ a3 shapeCasts_S1x3x5632_S3x5632) slices_S3x5632_S1x5632_0_0) shapeCasts_S1x5632_S5632))) (extractStridedSlice S4x4096x5632 ![0, 0, 0] p slices_S4x4098x5632_S4x4096x5632_0_0_0)) (mulf (broadcastInDim S4x4096x5632 ![0, 1, 2] bcast_S1x1x5632_S4x4096x5632_0_1_2 (broadcastInDim S1x1x5632 ![2] bcast_S5632_S1x1x5632_2 (shapeCast _ (extractStridedSlice S1x5632 ![1, 0] (shapeCast _ a3 shapeCasts_S1x3x5632_S3x5632) slices_S3x5632_S1x5632_1_0) shapeCasts_S1x5632_S5632))) (extractStridedSlice S4x4096x5632 ![0, 1, 0] p slices_S4x4098x5632_S4x4096x5632_0_1_0))) (mulf (broadcastInDim S4x4096x5632 ![0, 1, 2] bcast_S1x1x5632_S4x4096x5632_0_1_2 (broadcastInDim S1x1x5632 ![2] bcast_S5632_S1x1x5632_2 (shapeCast _ (extractStridedSlice S1x5632 ![2, 0] (shapeCast _ a3 shapeCasts_S1x3x5632_S3x5632) slices_S3x5632_S1x5632_2_0) shapeCasts_S1x5632_S5632))) (extractStridedSlice S4x4096x5632 ![0, 2, 0] p slices_S4x4098x5632_S4x4096x5632_0_2_0)))

/-- The reference's rows before the last norm, from the convolved columns `v`. -/
def refY (v : FVec Ideal S4x4096x5632 .f32) (a0 : FVec Ideal S4x4096x1024 .f32) (a4 : FVec Ideal S1x2816x1024 .f32) :
    FVec Ideal S4x4096x1024 .f32 :=
  (addf a0 (Host.dotGeneral dot_S4x4096x2816_S2816x1024_S4x4096x1024_2_0_01_1_n_n none (mulf (mulf (extractStridedSlice S4x4096x2816 ![0, 0, 0] v slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] v slices_S4x4096x5632_S4x4096x2816_0_0_0)))))) (extractStridedSlice S4x4096x2816 ![0, 0, 2816] v slices_S4x4096x5632_S4x4096x2816_0_0_2816)) (shapeCast _ a4 shapeCasts_S1x2816x1024_S2816x1024)))

/-- The reference's last norm of the rows `y`. -/
def refO (y : FVec Ideal S4x4096x1024 .f32) (a5 : FVec Ideal S1024 .f32) : FVec Ideal S4x4096x1024 .f32 :=
  mulf (mulf y (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf y y) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a5))

variable (a0 : FVec Ideal S4x4096x1024 .f32) (a1 : FVec Ideal S1x1024 .f32) (a2 : FVec Ideal S1x1024x5632 .f32)
  (a3 : FVec Ideal S1x3x5632 .f32) (a4 : FVec Ideal S1x2816x1024 .f32) (a5 : FVec Ideal S1024 .f32)

/-- The reference's arguments as plain functions. -/
def refArgs : Args where
  x b s j := a0 (ix3 b s j)
  g j := a1 (ix2 0 j)
  wu j c := a2 (ix3 0 j c)
  cw i c := a3 (ix3 0 i c)
  wd c k := a4 (ix3 0 c k)
  gf k := a5 (ix1 k)

/-- The reference's result. -/
def refOut : FVec Ideal S4x4096x1024 .f32 := refO (refY (refC (refP a0 a1 a2) a3) a0 a4) a5

/-- The padded product at an index. -/
theorem refP_at (b : Fin 4) (s : Fin 4096) (c : Fin 5632) (i : Fin 3) (t : Fin 4098) (ht : (t : ℕ) = i + s) :
    refP a0 a1 a2 (ix3 b t c) = (refArgs a0 a1 a2 a3 a4 a5).tap b s c i := by
  pointwise [refP, refArgs, Args.tap, Args.U, prj, rms]
  have h1 := i.isLt
  have h2 := s.isLt
  by_cases h : 2 ≤ (s : ℕ) + i
  · rw [dif_pos h, dif_pos ⟨by omega, by omega⟩]
    have e : (⟨(t : ℕ) - 2, by omega⟩ : Fin 4096) = ⟨(s : ℕ) + i - 2, by omega⟩ := Fin.ext (by dsimp only; omega)
    simp only [e]
  · rw [dif_neg h, dif_neg (by omega), sitofp_zero]

/-- The convolution at an index. -/
theorem refC_at (b : Fin 4) (s : Fin 4096) (c : Fin 5632) :
    refC (refP a0 a1 a2) a3 (ix3 b s c) = (refArgs a0 a1 a2 a3 a4 a5).cv b s c := by
  have h (i : Fin 3) (t : Fin 4098) (ht : (t : ℕ) = i + s) := refP_at a0 a1 a2 a3 a4 a5 b s c i t ht
  unfold Args.cv
  generalize (refArgs a0 a1 a2 a3 a4 a5).tap b s c = T at h ⊢
  generalize refP a0 a1 a2 = p at h ⊢
  pointwise [refC, conv3, refArgs]
  rw [h 0 _ (by simp), h 1 _ rfl, h 2 _ rfl]

/-- The rows before the last norm at an index. -/
theorem refY_at (b : Fin 4) (s : Fin 4096) (k : Fin 1024) :
    refY (refC (refP a0 a1 a2) a3) a0 a4 (ix3 b s k) = (refArgs a0 a1 a2 a3 a4 a5).y b s k := by
  pointwise [refY, refC_at a0 a1 a2 a3 a4 a5, Args.y, Args.act, silu, logi]
  rfl

/-- The reference's result at an index. -/
theorem refOut_at (b : Fin 4) (s : Fin 4096) (k : Fin 1024) :
    refOut a0 a1 a2 a3 a4 a5 (ix3 b s k) = (refArgs a0 a1 a2 a3 a4 a5).out b s k := by
  pointwise [refOut, refO, refY_at a0 a1 a2 a3 a4 a5, Args.out, rms]
  rfl

/-- The run's term is `refOut` of the arguments. -/
theorem res_eq (m : (ℓ : Loc nD τ sig) → Buf (Elt Ideal) ℓ) (c : Dev nD) :
    Value.res_main_v57 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

end Cert.Ffn

end
-- ==== Proof.Ffn.lean ====
/- The feed-forward call: the kernel's result array is the reference's term over the same arguments. -/
module

public import proofs.«01_k».proof.Proof.FfnLoop
public import proofs.«01_k».proof.Proof.FfnRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ffn

open Cert.Kernel4Ideal Cert.Kernel4Ideal.Gen

/-- The two memories hold the same six arguments. -/
abbrev Agree (m : (ℓ : Loc nD τ sig) → Buf (Elt Ideal) ℓ)
    (m' : (ℓ : Loc Cert.Reference4Ideal.nD Cert.Reference4Ideal.τ Cert.Reference4Ideal.sig) → Buf (Elt Ideal) ℓ) (c : Dev nD) : Prop :=
  m' ((c.tc : Thread Cert.Reference4Ideal.nD Cert.Reference4Ideal.τ).loc Cert.Reference4Ideal.main_arg0) = m ((c.tc : Thread nD τ).loc main_arg0)
  ∧ m' ((c.tc : Thread Cert.Reference4Ideal.nD Cert.Reference4Ideal.τ).loc Cert.Reference4Ideal.main_arg1) = m ((c.tc : Thread nD τ).loc main_arg1)
  ∧ m' ((c.tc : Thread Cert.Reference4Ideal.nD Cert.Reference4Ideal.τ).loc Cert.Reference4Ideal.main_arg2) = m ((c.tc : Thread nD τ).loc main_arg2)
  ∧ m' ((c.tc : Thread Cert.Reference4Ideal.nD Cert.Reference4Ideal.τ).loc Cert.Reference4Ideal.main_arg3) = m ((c.tc : Thread nD τ).loc main_arg3)
  ∧ m' ((c.tc : Thread Cert.Reference4Ideal.nD Cert.Reference4Ideal.τ).loc Cert.Reference4Ideal.main_arg4) = m ((c.tc : Thread nD τ).loc main_arg4)
  ∧ m' ((c.tc : Thread Cert.Reference4Ideal.nD Cert.Reference4Ideal.τ).loc Cert.Reference4Ideal.main_arg5) = m ((c.tc : Thread nD τ).loc main_arg5)

variable (m : (ℓ : Loc nD τ sig) → Buf (Elt Ideal) ℓ) (c : Dev nD)
  (m' : (ℓ : Loc Cert.Reference4Ideal.nD Cert.Reference4Ideal.τ Cert.Reference4Ideal.sig) → Buf (Elt Ideal) ℓ)

/-- After the run the kernel's result array is the reference's. -/
theorem final (h : Agree m m' c) : (dats m 0 c).arrAt 8 (cfgs 0).N = Cert.Reference4Ideal.Value.res_main_v57 m' c := by
  rw [res_eq]
  obtain ⟨h0, h1, h2, h3, h4, h5⟩ := h
  rw [h0, h1, h2, h3, h4, h5]
  refine (dats m 0 c).arrAt_eq_of_covers 8 _ (by decide +kernel) fun t _ y => ?_
  blk_simp
  rw [after0_8]
  have ht : t.val < 16 := t.isLt
  obtain ⟨z, r, k, rfl⟩ : ∃ (z : Fin 1) (r k : Fin 1024), y = ix3 z r k := ⟨y 0, y 1, y 2, eq_ix3 y⟩
  obtain rfl : z = 0 := Subsingleton.elim _ _
  refine (out_at m c t ht r k).trans ?_
  refine (refOut_at _ _ _ _ _ _ ⟨t.val / 4, by omega⟩ ⟨t.val % 4 * 1024 + r, by omega⟩ k).symm.trans (congrArg _ ?_)
  blk_ext [idx t]

end Cert.Ffn

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite
public import proofs.«01_k».proof.Proof.Consts
public import proofs.«01_k».proof.Proof.Mix
public import proofs.«01_k».proof.Proof.Mlstm
public import proofs.«01_k».proof.Proof.In
public import proofs.«01_k».proof.Proof.Ffn
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The bit-level mLSTM kernel runs, leaves its arguments as they were and every semaphore at zero. -/
theorem quiescent_Kernel : Cert.quiescent_Kernel := fun m ρ _ => Cert.Kernel.Gen.frame m ρ

/-- The same of the mLSTM kernel over the extended reals. -/
theorem quiescent_KernelIdeal : Cert.quiescent_KernelIdeal := fun m ρ _ => Cert.KernelIdeal.Gen.frame m ρ

/-- The same, from finite arguments. -/
theorem quiescent_KernelIdeal_pre_finite : Cert.quiescent_KernelIdeal_pre_finite := fun m ρ _ => Cert.KernelIdeal.Gen.frame m ρ

/-- The mLSTM reference runs and leaves its arguments as they were. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, from finite arguments. -/
theorem quiescent_ReferenceIdeal_pre_finite : Cert.quiescent_ReferenceIdeal_pre_finite := fun m ρ _ =>
  quiescent_ReferenceIdeal m ρ trivial

/-- The bit-level merge kernel runs, leaves its arguments as they were and every semaphore at zero. -/
theorem quiescent_Kernel2 : Cert.quiescent_Kernel2 := fun m ρ _ => Cert.Kernel2.Gen.frame m ρ

/-- The same of the merge kernel over the extended reals. -/
theorem quiescent_Kernel2Ideal : Cert.quiescent_Kernel2Ideal := fun m ρ _ => Cert.Kernel2Ideal.Gen.frame m ρ

/-- The merge's reference runs and leaves its arguments as they were. -/
theorem quiescent_Reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The bit-level projection kernel runs, leaves its arguments as they were and every semaphore at zero. -/
theorem quiescent_Kernel3 : Cert.quiescent_Kernel3 := fun m ρ _ => Cert.Kernel3.Gen.frame m ρ

/-- The same of the projection kernel over the extended reals. -/
theorem quiescent_Kernel3Ideal : Cert.quiescent_Kernel3Ideal := fun m ρ _ => Cert.Kernel3Ideal.Gen.frame m ρ

/-- The projection's reference runs and leaves its arguments as they were. -/
theorem quiescent_Reference3Ideal : Cert.quiescent_Reference3Ideal := fun m ρ _ =>
  (θ_run Cert.Reference3Ideal.defs _ _).mono (fun r h => ⟨fun c => (h c).2.2.2.2.2.2.2.2.2.2, sem_eq_zero_of_no_sems (by decide) r.2⟩)
    (Cert.Reference3Ideal.Value.run (F := Ideal) m ρ)

/-- The bit-level feed-forward kernel runs, leaves its arguments as they were and every semaphore at zero. -/
theorem quiescent_Kernel4 : Cert.quiescent_Kernel4 := fun m ρ _ => Cert.Kernel4.Gen.frame m ρ

/-- The same of the feed-forward kernel over the extended reals. -/
theorem quiescent_Kernel4Ideal : Cert.quiescent_Kernel4Ideal := fun m ρ _ => Cert.Kernel4Ideal.Gen.frame m ρ

/-- The feed-forward's reference runs and leaves its arguments as they were. -/
theorem quiescent_Reference4Ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The constant named `mask` stands for the literal the program carries. -/
theorem preserves_Kernel_KernelIdeal : Cert.preserves_Kernel_KernelIdeal := Cert.Consts.preserves_mask

/-- The mLSTM kernel and its reference end with equal results, from finite arguments. -/
theorem algebraic_KernelIdeal_ReferenceIdeal_pre_finite : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  have hp := hpre c
  exact (h c).1.trans (Cert.Mlstm.final m c m' (hagree c) (fun _ _ _ => Cert.Mlstm.pre0 hp.1 _) (fun _ _ _ _ => Cert.Mlstm.pre1 hp.2.1 _)
    (fun _ _ _ => Cert.Mlstm.pre2 hp.2.2.1 _) (fun _ _ _ => Cert.Mlstm.pre3 hp.2.2.2 _)).symm

/-- The merge kernel and its reference end with equal results. -/
theorem algebraic_Kernel2Ideal_Reference2Ideal : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  exact (h c).1.trans (Cert.Mix.final m c m' (hagree c)).symm

/-- The projection kernel and its reference end with equal results, all ten. -/
theorem algebraic_Kernel3Ideal_Reference3Ideal : Cert.algebraic_Kernel3Ideal_Reference3Ideal := by
  intro m ρ m' ρ' _ hagree
  refine ⟨_, _, _, _, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3, h4, h5, h6, h7, h8, h9, hargs⟩ := h c
  exact ⟨h0.trans (Cert.Inp.final8 m c m' (hagree c)).symm, h1.trans (Cert.Inp.final9 m c m' (hagree c)).symm,
    h2.trans (Cert.Inp.final10 m c m' (hagree c)).symm, h3.trans (Cert.Inp.final11 m c m' (hagree c)).symm,
    h4.trans (Cert.Inp.final12 m c m' (hagree c)).symm, h5.trans (Cert.Inp.final13 m c m' (hagree c)).symm,
    h6.trans (Cert.Inp.final14 m c m' (hagree c)).symm, h7.trans (Cert.Inp.final15 m c m' (hagree c)).symm,
    h8.trans (Cert.Inp.final16 m c m' (hagree c)).symm, h9.trans (Cert.Inp.final17 m c m' (hagree c)).symm, hargs⟩

/-- The feed-forward kernel and its reference end with equal results. -/
theorem algebraic_Kernel4Ideal_Reference4Ideal : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  exact (h c).1.trans (Cert.Ffn.final m c m' (hagree c)).symm

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  quiescent_Kernel, quiescent_KernelIdeal, quiescent_KernelIdeal_pre_finite, quiescent_ReferenceIdeal,
  quiescent_ReferenceIdeal_pre_finite, quiescent_Kernel2, quiescent_Kernel2Ideal, quiescent_Reference2Ideal,
  quiescent_Kernel3, quiescent_Kernel3Ideal, quiescent_Reference3Ideal,
  quiescent_Kernel4, quiescent_Kernel4Ideal, quiescent_Reference4Ideal,
  preserves_Kernel_KernelIdeal, algebraic_KernelIdeal_ReferenceIdeal_pre_finite, trivial,
  algebraic_Kernel2Ideal_Reference2Ideal, trivial, algebraic_Kernel3Ideal_Reference3Ideal,
  trivial, algebraic_Kernel4Ideal_Reference4Ideal⟩

end Cert.Proof

end
